-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v336)) (v1 : (c : Dev Cert.KernelIdeal.nD) → Buf (Elt Ideal) ((c.tc : Thread Cert.KernelIdeal.nD Cert.KernelIdeal.τ).loc Cert.KernelIdeal.main_v256)) (v2 : (c : Dev Cert.KernelIdeal.nD) → Buf (Elt Ideal) ((c.tc : Thread Cert.KernelIdeal.nD Cert.KernelIdeal.τ).loc Cert.KernelIdeal.main_v259)) (v3 : (c : Dev Cert.KernelIdeal.nD) → Buf (Elt Ideal) ((c.tc : Thread Cert.KernelIdeal.nD Cert.KernelIdeal.τ).loc Cert.KernelIdeal.main_arg22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v336) = v0 c
          ∧ r.2.mem ((c.tc : Thread Cert.KernelIdeal.nD Cert.KernelIdeal.τ).loc Cert.KernelIdeal.main_v256) = v1 c
          ∧ r.2.mem ((c.tc : Thread Cert.KernelIdeal.nD Cert.KernelIdeal.τ).loc Cert.KernelIdeal.main_v259) = v2 c
          ∧ r.2.mem ((c.tc : Thread Cert.KernelIdeal.nD Cert.KernelIdeal.τ).loc Cert.KernelIdeal.main_arg22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v498) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v259) = v2 c
          ∧ r.2.mem ((c.tc : Thread Cert.ReferenceIdeal.nD Cert.ReferenceIdeal.τ).loc Cert.ReferenceIdeal.main_arg22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S8x3x1024x1024 : Shape := ⟨4, ![8, 3, 1024, 1024]⟩
abbrev S16x3x3x3 : Shape := ⟨4, ![16, 3, 3, 3]⟩
abbrev S32x16x3x3 : Shape := ⟨4, ![32, 16, 3, 3]⟩
abbrev S64x32x3x3 : Shape := ⟨4, ![64, 32, 3, 3]⟩
abbrev S128x64x3x3 : Shape := ⟨4, ![128, 64, 3, 3]⟩
abbrev S128x128x3x3 : Shape := ⟨4, ![128, 128, 3, 3]⟩
abbrev S16 : Shape := ⟨1, ![16]⟩
abbrev S32 : Shape := ⟨1, ![32]⟩
abbrev S64 : Shape := ⟨1, ![64]⟩
abbrev S128 : Shape := ⟨1, ![128]⟩
abbrev S3x8192 : Shape := ⟨2, ![3, 8192]⟩
abbrev S3 : Shape := ⟨1, ![3]⟩
abbrev S107811x3 : Shape := ⟨2, ![107811, 3]⟩
abbrev S1x3x33 : Shape := ⟨3, ![1, 3, 33]⟩
abbrev S_ : Shape := ⟨0, ![]⟩
abbrev S33 : Shape := ⟨1, ![33]⟩
abbrev S33x33x33 : Shape := ⟨3, ![33, 33, 33]⟩
abbrev S33x1 : Shape := ⟨2, ![33, 1]⟩
abbrev S33x1x1 : Shape := ⟨3, ![33, 1, 1]⟩
abbrev S1x33x33x33 : Shape := ⟨4, ![1, 33, 33, 33]⟩
abbrev S3x33x33x33 : Shape := ⟨4, ![3, 33, 33, 33]⟩
abbrev S107811 : Shape := ⟨1, ![107811]⟩
abbrev S107811x1 : Shape := ⟨2, ![107811, 1]⟩
abbrev S1x1x33 : Shape := ⟨3, ![1, 1, 33]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  bcast_S_S16x3x3x3 : S_.BroadcastsInDim S16x3x3x3 (![] : Fin 0 → Fin S16x3x3x3.rank)
  reducesTo_S16x3x3x3_S_d0_1_2_3 : S16x3x3x3.ReducesTo [0, 1, 2, 3] S_
  bcast_S_S32x16x3x3 : S_.BroadcastsInDim S32x16x3x3 (![] : Fin 0 → Fin S32x16x3x3.rank)
  reducesTo_S32x16x3x3_S_d0_1_2_3 : S32x16x3x3.ReducesTo [0, 1, 2, 3] S_
  bcast_S_S64x32x3x3 : S_.BroadcastsInDim S64x32x3x3 (![] : Fin 0 → Fin S64x32x3x3.rank)
  reducesTo_S64x32x3x3_S_d0_1_2_3 : S64x32x3x3.ReducesTo [0, 1, 2, 3] S_
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S16 : S_.BroadcastsInDim S16 (![] : Fin 0 → Fin S16.rank)
  reducesTo_S16_S_d0 : S16.ReducesTo [0] S_
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S3x8192 : S_.BroadcastsInDim S3x8192 (![] : Fin 0 → Fin S3x8192.rank)
  reducesTo_S3x8192_S_d0_1 : S3x8192.ReducesTo [0, 1] S_
  bcast_S_S3 : S_.BroadcastsInDim S3 (![] : Fin 0 → Fin S3.rank)
  reducesTo_S3_S_d0 : S3.ReducesTo [0] S_
  bcast_S_S107811x3 : S_.BroadcastsInDim S107811x3 (![] : Fin 0 → Fin S107811x3.rank)
  reducesTo_S107811x3_S_d0_1 : S107811x3.ReducesTo [0, 1] S_
  bcast_S_S33 : S_.BroadcastsInDim S33 (![] : Fin 0 → Fin S33.rank)
  bcast_S33_S33x33x33_2 : S33.BroadcastsInDim S33x33x33 (![2] : Fin 1 → Fin S33x33x33.rank)
  bcast_S33_S33x1_0 : S33.BroadcastsInDim S33x1 (![0] : Fin 1 → Fin S33x1.rank)
  bcast_S33x1_S33x33x33_1_2 : S33x1.BroadcastsInDim S33x33x33 (![1, 2] : Fin 2 → Fin S33x33x33.rank)
  bcast_S33_S33x1x1_0 : S33.BroadcastsInDim S33x1x1 (![0] : Fin 1 → Fin S33x1x1.rank)
  bcast_S33x1x1_S33x33x33_0_1_2 : S33x1x1.BroadcastsInDim S33x33x33 (![0, 1, 2] : Fin 3 → Fin S33x33x33.rank)
  bcast_S33x33x33_S1x33x33x33_1_2_3 : S33x33x33.BroadcastsInDim S1x33x33x33 (![1, 2, 3] : Fin 3 → Fin S1x33x33x33.rank)
  concatenates_S1x33x33x33_S1x33x33x33_S1x33x33x33_S3x33x33x33_d0 : Shape.Concatenates [S1x33x33x33, S1x33x33x33, S1x33x33x33] S3x33x33x33 0
  shapeCasts_S3x33x33x33_S107811 : S3x33x33x33.ShapeCasts S107811
  slices_S107811x3_S107811x1_0_0 : S107811x3.Slices ![0, 0] S107811x1
  shapeCasts_S107811x1_S107811 : S107811x1.ShapeCasts S107811
  reducesTo_S107811_S_d0 : S107811.ReducesTo [0] S_
  bcast_S33_S1x1x33_2 : S33.BroadcastsInDim S1x1x33 (![2] : Fin 1 → Fin S1x1x33.rank)
  bcast_S1x1x33_S1x3x33_0_1_2 : S1x1x33.BroadcastsInDim S1x3x33 (![0, 1, 2] : Fin 3 → Fin S1x3x33.rank)
  reducesTo_S1x3x33_S_d0_1_2 : S1x3x33.ReducesTo [0, 1, 2] S_

variable [Facts]

def fn_part7 {F : FTy → Type} [FloatOps F] (main_arg0 : FVec F S8x3x1024x1024 .f32) (main_arg21 : FVec F S107811x3 .f32) (main_arg22 : FVec F S1x3x33 .f32) (main_v108 : IVec S_ 1) (main_v111 : FVec F S33 .f32) (main_v121 : FVec F S107811 .f32) (main_cst_43 : FVec F S_ .f32) : IVec S_ 1 × IVec S_ 1 × IVec S_ 1 × IVec S_ 1 :=
  let main_v122 : FVec F S8x3x1024x1024 .f32 := broadcastInDim S8x3x1024x1024 ![] bcast_S_S8x3x1024x1024 main_cst_43
  let main_v123 : IVec S8x3x1024x1024 1 := cmpf .oge main_arg0 main_v122
  let main_c_44 : IVec S_ 1 := constantI S_ 1 1#1
  let main_v124 : IVec S_ 1 := (fun x v => Host.reduce IntOp.andi x v reducesTo_S8x3x1024x1024_S_d0_1_2_3 h_S_) main_v123 main_c_44
  let main_v125 : FVec F S107811x1 .f32 := (extractStridedSlice S107811x1 ![0, 0] · slices_S107811x3_S107811x1_0_0) main_arg21
  let main_v126 : FVec F S107811 .f32 := shapeCast S107811 main_v125 shapeCasts_S107811x1_S107811
  let main_v127 : IVec S107811 1 := cmpf .oeq main_v126 main_v121
  let main_c_45 : IVec S_ 1 := constantI S_ 1 1#1
  let main_v128 : IVec S_ 1 := (fun x v => Host.reduce IntOp.andi x v reducesTo_S107811_S_d0 h_S_) main_v127 main_c_45
  let main_v129 : FVec F S1x1x33 .f32 := broadcastInDim S1x1x33 ![2] bcast_S33_S1x1x33_2 main_v111
  let main_v130 : FVec F S1x3x33 .f32 := broadcastInDim S1x3x33 ![0, 1, 2] bcast_S1x1x33_S1x3x33_0_1_2 main_v129
  let main_v131 : IVec S1x3x33 1 := cmpf .oeq main_arg22 main_v130
  let main_c_46 : IVec S_ 1 := constantI S_ 1 1#1
  let main_v132 : IVec S_ 1 := (fun x v => Host.reduce IntOp.andi x v reducesTo_S1x3x33_S_d0_1_2 h_S_) main_v131 main_c_46
  (main_v108, main_v124, main_v128, main_v132)

def fn_part6 {F : FTy → Type} [FloatOps F] (main_arg0 : FVec F S8x3x1024x1024 .f32) (main_arg21 : FVec F S107811x3 .f32) (main_arg22 : FVec F S1x3x33 .f32) (main_v98 : IVec S_ 1) (main_v101 : IVec S3 1) (main_c_39 : IVec S_ 1) : IVec S_ 1 × IVec S_ 1 × IVec S_ 1 × IVec S_ 1 :=
  let main_v102 : IVec S_ 1 := (fun x v => Host.reduce IntOp.andi x v reducesTo_S3_S_d0 h_S_) main_v101 main_c_39
  let main_v103 : IVec S_ 1 := andi main_v98 main_v102
  let main_v104 : FVec F S107811x3 .f32 := Host.absf main_arg21
  let main_cst_40 : FVec F S_ .f32 := constant S_ .f32 0x7F800000#32
  let main_v105 : FVec F S107811x3 .f32 := broadcastInDim S107811x3 ![] bcast_S_S107811x3 main_cst_40
  let main_v106 : IVec S107811x3 1 := cmpf .olt main_v104 main_v105
  let main_c_41 : IVec S_ 1 := constantI S_ 1 1#1
  let main_v107 : IVec S_ 1 := (fun x v => Host.reduce IntOp.andi x v reducesTo_S107811x3_S_d0_1 h_S_) main_v106 main_c_41
  let main_v108 : IVec S_ 1 := andi main_v103 main_v107
  let main_v109 : FVec F S33 .f32 := sitofp .f32 (iotaInDim S33 32 0)
  let main_cst_42 : FVec F S_ .f32 := constant S_ .f32 0x42000000#32
  let main_v110 : FVec F S33 .f32 := broadcastInDim S33 ![] bcast_S_S33 main_cst_42
  let main_v111 : FVec F S33 .f32 := Host.divf main_v109 main_v110
  let main_v112 : FVec F S33x33x33 .f32 := broadcastInDim S33x33x33 ![2] bcast_S33_S33x33x33_2 main_v111
  let main_v113 : FVec F S33x1 .f32 := broadcastInDim S33x1 ![0] bcast_S33_S33x1_0 main_v111
  let main_v114 : FVec F S33x33x33 .f32 := broadcastInDim S33x33x33 ![1, 2] bcast_S33x1_S33x33x33_1_2 main_v113
  let main_v115 : FVec F S33x1x1 .f32 := broadcastInDim S33x1x1 ![0] bcast_S33_S33x1x1_0 main_v111
  let main_v116 : FVec F S33x33x33 .f32 := broadcastInDim S33x33x33 ![0, 1, 2] bcast_S33x1x1_S33x33x33_0_1_2 main_v115
  let main_v117 : FVec F S1x33x33x33 .f32 := broadcastInDim S1x33x33x33 ![1, 2, 3] bcast_S33x33x33_S1x33x33x33_1_2_3 main_v112
  let main_v118 : FVec F S1x33x33x33 .f32 := broadcastInDim S1x33x33x33 ![1, 2, 3] bcast_S33x33x33_S1x33x33x33_1_2_3 main_v114
  let main_v119 : FVec F S1x33x33x33 .f32 := broadcastInDim S1x33x33x33 ![1, 2, 3] bcast_S33x33x33_S1x33x33x33_1_2_3 main_v116
  let main_v120 : FVec F S3x33x33x33 .f32 := concatenate S3x33x33x33 0 [⟨S1x33x33x33, main_v117⟩, ⟨S1x33x33x33, main_v118⟩, ⟨S1x33x33x33, main_v119⟩] concatenates_S1x33x33x33_S1x33x33x33_S1x33x33x33_S3x33x33x33_d0
  let main_v121 : FVec F S107811 .f32 := shapeCast S107811 main_v120 shapeCasts_S3x33x33x33_S107811
  let main_cst_43 : FVec F S_ .f32 := constant S_ .f32 0x00000000#32
  fn_part7 (F := F) main_arg0 main_arg21 main_arg22 main_v108 main_v111 main_v121 main_cst_43

def fn_part5 {F : FTy → Type} [FloatOps F] (main_arg0 : FVec F S8x3x1024x1024 .f32) (main_arg18 : FVec F S128 .f32) (main_arg19 : FVec F S3x8192 .f32) (main_arg20 : FVec F S3 .f32) (main_arg21 : FVec F S107811x3 .f32) (main_arg22 : FVec F S1x3x33 .f32) (main_v83 : IVec S_ 1) (main_v84 : FVec F S64 .f32) (main_cst_32 : FVec F S_ .f32) : IVec S_ 1 × IVec S_ 1 × IVec S_ 1 × IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S3x8192 .f32 := Host.absf main_arg19
  let main_cst_36 : FVec F S_ .f32 := constant S_ .f32 0x7F800000#32
  let main_v95 : FVec F S3x8192 .f32 := broadcastInDim S3x8192 ![] bcast_S_S3x8192 main_cst_36
  let main_v96 : IVec S3x8192 1 := cmpf .olt main_v94 main_v95
  let main_c_37 : IVec S_ 1 := constantI S_ 1 1#1
  let main_v97 : IVec S_ 1 := (fun x v => Host.reduce IntOp.andi x v reducesTo_S3x8192_S_d0_1 h_S_) main_v96 main_c_37
  let main_v98 : IVec S_ 1 := andi main_v93 main_v97
  let main_v99 : FVec F S3 .f32 := Host.absf main_arg20
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_arg0 main_arg21 main_arg22 main_v98 main_v101 main_c_39

def fn_part4 {F : FTy → Type} [FloatOps F] (main_arg0 : FVec F S8x3x1024x1024 .f32) (main_arg14 : FVec F S128 .f32) (main_arg15 : FVec F S16 .f32) (main_arg16 : FVec F S32 .f32) (main_arg17 : FVec F S64 .f32) (main_arg18 : FVec F S128 .f32) (main_arg19 : FVec F S3x8192 .f32) (main_arg20 : FVec F S3 .f32) (main_arg21 : FVec F S107811x3 .f32) (main_arg22 : FVec F S1x3x33 .f32) (main_v63 : IVec S_ 1) (main_v67 : IVec S_ 1) : IVec S_ 1 × IVec S_ 1 × IVec S_ 1 × IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg0 main_arg18 main_arg19 main_arg20 main_arg21 main_arg22 main_v83 main_v84 main_cst_32

def fn_part3 {F : FTy → Type} [FloatOps F] (main_arg0 : FVec F S8x3x1024x1024 .f32) (main_arg11 : FVec F S16 .f32) (main_arg12 : FVec F S32 .f32) (main_arg13 : FVec F S64 .f32) (main_arg14 : FVec F S128 .f32) (main_arg15 : FVec F S16 .f32) (main_arg16 : FVec F S32 .f32) (main_arg17 : FVec F S64 .f32) (main_arg18 : FVec F S128 .f32) (main_arg19 : FVec F S3x8192 .f32) (main_arg20 : FVec F S3 .f32) (main_arg21 : FVec F S107811x3 .f32) (main_arg22 : FVec F S1x3x33 .f32) (main_v48 : IVec S_ 1) (main_v49 : FVec F S128 .f32) (main_v50 : FVec F S128 .f32) : IVec S_ 1 × IVec S_ 1 × IVec S_ 1 × IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg14 main_arg15 main_arg16 main_arg17 main_arg18 main_arg19 main_arg20 main_arg21 main_arg22 main_v63 main_v67

def fn_part2 {F : FTy → Type} [FloatOps F] (main_arg0 : FVec F S8x3x1024x1024 .f32) (main_arg7 : FVec F S32 .f32) (main_arg8 : FVec F S64 .f32) (main_arg9 : FVec F S128 .f32) (main_arg10 : FVec F S128 .f32) (main_arg11 : FVec F S16 .f32) (main_arg12 : FVec F S32 .f32) (main_arg13 : FVec F S64 .f32) (main_arg14 : FVec F S128 .f32) (main_arg15 : FVec F S16 .f32) (main_arg16 : FVec F S32 .f32) (main_arg17 : FVec F S64 .f32) (main_arg18 : FVec F S128 .f32) (main_arg19 : FVec F S3x8192 .f32) (main_arg20 : FVec F S3 .f32) (main_arg21 : FVec F S107811x3 .f32) (main_arg22 : FVec F S1x3x33 .f32) (main_v33 : IVec S_ 1) : IVec S_ 1 × IVec S_ 1 × IVec S_ 1 × IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg0 main_arg11 main_arg12 main_arg13 main_arg14 main_arg15 main_arg16 main_arg17 main_arg18 main_arg19 main_arg20 main_arg21 main_arg22 main_v48 main_v49 main_v50

def fn_part1 {F : FTy → Type} [FloatOps F] (main_arg0 : FVec F S8x3x1024x1024 .f32) (main_arg4 : FVec F S128x64x3x3 .f32) (main_arg5 : FVec F S128x128x3x3 .f32) (main_arg6 : FVec F S16 .f32) (main_arg7 : FVec F S32 .f32) (main_arg8 : FVec F S64 .f32) (main_arg9 : FVec F S128 .f32) (main_arg10 : FVec F S128 .f32) (main_arg11 : FVec F S16 .f32) (main_arg12 : FVec F S32 .f32) (main_arg13 : FVec F S64 .f32) (main_arg14 : FVec F S128 .f32) (main_arg15 : FVec F S16 .f32) (main_arg16 : FVec F S32 .f32) (main_arg17 : FVec F S64 .f32) (main_arg18 : FVec F S128 .f32) (main_arg19 : FVec F S3x8192 .f32) (main_arg20 : FVec F S3 .f32) (main_arg21 : FVec F S107811x3 .f32) (main_arg22 : FVec F S1x3x33 .f32) (main_v13 : IVec S_ 1) (main_v16 : IVec S64x32x3x3 1) : IVec S_ 1 × IVec S_ 1 × IVec S_ 1 × IVec S_ 1 :=
  let main_c_5 : IVec S_ 1 := constantI S_ 1 1#1
  let main_v17 : IVec S_ 1 := (fun x v => Host.reduce IntOp.andi x v reducesTo_S64x32x3x3_S_d0_1_2_3 h_S_) main_v16 main_c_5
  let main_v18 : IVec S_ 1 := andi main_v13 main_v17
  let main_v19 : FVec F S128x64x3x3 .f32 := Host.absf main_arg4
  let main_cst_6 : FVec F S_ .f32 := constant S_ .f32 0x7F800000#32
  let main_v20 : FVec F S128x64x3x3 .f32 := broadcastInDim S128x64x3x3 ![] bcast_S_S128x64x3x3 main_cst_6
  let main_v21 : IVec S128x64x3x3 1 := cmpf .olt main_v19 main_v20
  let main_c_7 : IVec S_ 1 := constantI S_ 1 1#1
  let main_v22 : IVec S_ 1 := (fun x v => Host.reduce IntOp.andi x v reducesTo_S128x64x3x3_S_d0_1_2_3 h_S_) main_v21 main_c_7
  let main_v23 : IVec S_ 1 := andi main_v18 main_v22
  let main_v24 : FVec F S128x128x3x3 .f32 := Host.absf main_arg5
  let main_cst_8 : FVec F S_ .f32 := constant S_ .f32 0x7F800000#32
  let main_v25 : FVec F S128x128x3x3 .f32 := broadcastInDim S128x128x3x3 ![] bcast_S_S128x128x3x3 main_cst_8
  let main_v26 : IVec S128x128x3x3 1 := cmpf .olt main_v24 main_v25
  let main_c_9 : IVec S_ 1 := constantI S_ 1 1#1
  let main_v27 : IVec S_ 1 := (fun x v => Host.reduce IntOp.andi x v reducesTo_S128x128x3x3_S_d0_1_2_3 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg0 main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8x3x1024x1024 .f32) (main_arg1 : FVec F S16x3x3x3 .f32) (main_arg2 : FVec F S32x16x3x3 .f32) (main_arg3 : FVec F S64x32x3x3 .f32) (main_arg4 : FVec F S128x64x3x3 .f32) (main_arg5 : FVec F S128x128x3x3 .f32) (main_arg6 : FVec F S16 .f32) (main_arg7 : FVec F S32 .f32) (main_arg8 : FVec F S64 .f32) (main_arg9 : FVec F S128 .f32) (main_arg10 : FVec F S128 .f32) (main_arg11 : FVec F S16 .f32) (main_arg12 : FVec F S32 .f32) (main_arg13 : FVec F S64 .f32) (main_arg14 : FVec F S128 .f32) (main_arg15 : FVec F S16 .f32) (main_arg16 : FVec F S32 .f32) (main_arg17 : FVec F S64 .f32) (main_arg18 : FVec F S128 .f32) (main_arg19 : FVec F S3x8192 .f32) (main_arg20 : FVec F S3 .f32) (main_arg21 : FVec F S107811x3 .f32) (main_arg22 : FVec F S1x3x33 .f32) : IVec S_ 1 × IVec S_ 1 × IVec S_ 1 × IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S16x3x3x3 .f32 := Host.absf main_arg1
  let main_cst_0 : FVec F S_ .f32 := constant S_ .f32 0x7F800000#32
  let main_v5 : FVec F S16x3x3x3 .f32 := broadcastInDim S16x3x3x3 ![] bcast_S_S16x3x3x3 main_cst_0
  let main_v6 : IVec S16x3x3x3 1 := cmpf .olt main_v4 main_v5
  let main_c_1 : IVec S_ 1 := constantI S_ 1 1#1
  let main_v7 : IVec S_ 1 := (fun x v => Host.reduce IntOp.andi x v reducesTo_S16x3x3x3_S_d0_1_2_3 h_S_) main_v6 main_c_1
  let main_v8 : IVec S_ 1 := andi main_v3 main_v7
  let main_v9 : FVec F S32x16x3x3 .f32 := Host.absf main_arg2
  let main_cst_2 : FVec F S_ .f32 := constant S_ .f32 0x7F800000#32
  let main_v10 : FVec F S32x16x3x3 .f32 := broadcastInDim S32x16x3x3 ![] bcast_S_S32x16x3x3 main_cst_2
  let main_v11 : IVec S32x16x3x3 1 := cmpf .olt main_v9 main_v10
  let main_c_3 : IVec S_ 1 := constantI S_ 1 1#1
  let main_v12 : IVec S_ 1 := (fun x v => Host.reduce IntOp.andi x v reducesTo_S32x16x3x3_S_d0_1_2_3 h_S_) main_v11 main_c_3
  let main_v13 : IVec S_ 1 := andi main_v8 main_v12
  let main_v14 : FVec F S64x32x3x3 .f32 := Host.absf main_arg3
  let main_cst_4 : FVec F S_ .f32 := constant S_ .f32 0x7F800000#32
  let main_v15 : FVec F S64x32x3x3 .f32 := broadcastInDim S64x32x3x3 ![] bcast_S_S64x32x3x3 main_cst_4
  let main_v16 : IVec S64x32x3x3 1 := cmpf .olt main_v14 main_v15
  fn_part1 (F := F) main_arg0 main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8x3x1024x1024 : Shape := ⟨4, ![8, 3, 1024, 1024]⟩
abbrev S16x3x3x3 : Shape := ⟨4, ![16, 3, 3, 3]⟩
abbrev S32x16x3x3 : Shape := ⟨4, ![32, 16, 3, 3]⟩
abbrev S64x32x3x3 : Shape := ⟨4, ![64, 32, 3, 3]⟩
abbrev S128x64x3x3 : Shape := ⟨4, ![128, 64, 3, 3]⟩
abbrev S128x128x3x3 : Shape := ⟨4, ![128, 128, 3, 3]⟩
abbrev S16 : Shape := ⟨1, ![16]⟩
abbrev S32 : Shape := ⟨1, ![32]⟩
abbrev S64 : Shape := ⟨1, ![64]⟩
abbrev S128 : Shape := ⟨1, ![128]⟩
abbrev S3x8192 : Shape := ⟨2, ![3, 8192]⟩
abbrev S3 : Shape := ⟨1, ![3]⟩
abbrev S107811x3 : Shape := ⟨2, ![107811, 3]⟩
abbrev S1x3x33 : Shape := ⟨3, ![1, 3, 33]⟩
abbrev S_ : Shape := ⟨0, ![]⟩
abbrev S8x3x1028x1024 : Shape := ⟨4, ![8, 3, 1028, 1024]⟩
abbrev S8x3x257x4x1024 : Shape := ⟨5, ![8, 3, 257, 4, 1024]⟩
abbrev S4 : Shape := ⟨1, ![4]⟩
abbrev S4x1 : Shape := ⟨2, ![4, 1]⟩
abbrev S256 : Shape := ⟨1, ![256]⟩
abbrev S256x1 : Shape := ⟨2, ![256, 1]⟩
abbrev S8x3x256x4x1024 : Shape := ⟨5, ![8, 3, 256, 4, 1024]⟩
abbrev S1x1x1x4x1 : Shape := ⟨5, ![1, 1, 1, 4, 1]⟩
abbrev S8x3x256x1024 : Shape := ⟨4, ![8, 3, 256, 1024]⟩
abbrev S1x1x256x1 : Shape := ⟨4, ![1, 1, 256, 1]⟩
abbrev S8x3x256x1028 : Shape := ⟨4, ![8, 3, 256, 1028]⟩
abbrev S8x3x256x257x4 : Shape := ⟨5, ![8, 3, 256, 257, 4]⟩
abbrev S8x3x256x256x4 : Shape := ⟨5, ![8, 3, 256, 256, 4]⟩
abbrev S1x1x1x1x4 : Shape := ⟨5, ![1, 1, 1, 1, 4]⟩
abbrev S8x3x256x256 : Shape := ⟨4, ![8, 3, 256, 256]⟩
abbrev S1x1x1x256 : Shape := ⟨4, ![1, 1, 1, 256]⟩
abbrev S8x3x258x258 : Shape := ⟨4, ![8, 3, 258, 258]⟩
abbrev S8x3x128x128 : Shape := ⟨4, ![8, 3, 128, 128]⟩
abbrev S8x27x128x128 : Shape := ⟨4, ![8, 27, 128, 128]⟩
abbrev S16x27 : Shape := ⟨2, ![16, 27]⟩
abbrev S16x8x128x128 : Shape := ⟨4, ![16, 8, 128, 128]⟩
abbrev S8x16x128x128 : Shape := ⟨4, ![8, 16, 128, 128]⟩
abbrev S1x16x1x1 : Shape := ⟨4, ![1, 16, 1, 1]⟩
abbrev S8x16 : Shape := ⟨2, ![8, 16]⟩
abbrev S8x16x1x1 : Shape := ⟨4, ![8, 16, 1, 1]⟩
abbrev S8x16x130x130 : Shape := ⟨4, ![8, 16, 130, 130]⟩
abbrev S8x16x64x64 : Shape := ⟨4, ![8, 16, 64, 64]⟩
abbrev S8x144x64x64 : Shape := ⟨4, ![8, 144, 64, 64]⟩
abbrev S32x3x3x16 : Shape := ⟨4, ![32, 3, 3, 16]⟩
abbrev S32x144 : Shape := ⟨2, ![32, 144]⟩
abbrev S32x8x64x64 : Shape := ⟨4, ![32, 8, 64, 64]⟩
abbrev S8x32x64x64 : Shape := ⟨4, ![8, 32, 64, 64]⟩
abbrev S1x32x1x1 : Shape := ⟨4, ![1, 32, 1, 1]⟩
abbrev S8x32 : Shape := ⟨2, ![8, 32]⟩
abbrev S8x32x1x1 : Shape := ⟨4, ![8, 32, 1, 1]⟩
abbrev S8x32x66x66 : Shape := ⟨4, ![8, 32, 66, 66]⟩
abbrev S8x32x32x32 : Shape := ⟨4, ![8, 32, 32, 32]⟩
abbrev S8x288x32x32 : Shape := ⟨4, ![8, 288, 32, 32]⟩
abbrev S64x3x3x32 : Shape := ⟨4, ![64, 3, 3, 32]⟩
abbrev S64x288 : Shape := ⟨2, ![64, 288]⟩
abbrev S64x8x32x32 : Shape := ⟨4, ![64, 8, 32, 32]⟩
abbrev S8x64x32x32 : Shape := ⟨4, ![8, 64, 32, 32]⟩
abbrev S1x64x1x1 : Shape := ⟨4, ![1, 64, 1, 1]⟩
abbrev S8x64 : Shape := ⟨2, ![8, 64]⟩
abbrev S8x64x1x1 : Shape := ⟨4, ![8, 64, 1, 1]⟩
abbrev S8x64x34x34 : Shape := ⟨4, ![8, 64, 34, 34]⟩
abbrev S8x64x16x16 : Shape := ⟨4, ![8, 64, 16, 16]⟩
abbrev S8x576x16x16 : Shape := ⟨4, ![8, 576, 16, 16]⟩
abbrev S128x3x3x64 : Shape := ⟨4, ![128, 3, 3, 64]⟩
abbrev S128x576 : Shape := ⟨2, ![128, 576]⟩
abbrev S128x8x16x16 : Shape := ⟨4, ![128, 8, 16, 16]⟩
abbrev S8x128x16x16 : Shape := ⟨4, ![8, 128, 16, 16]⟩
abbrev S1x128x1x1 : Shape := ⟨4, ![1, 128, 1, 1]⟩
abbrev S8x128 : Shape := ⟨2, ![8, 128]⟩
abbrev S8x128x1x1 : Shape := ⟨4, ![8, 128, 1, 1]⟩
abbrev S8x128x18x18 : Shape := ⟨4, ![8, 128, 18, 18]⟩
abbrev S8x128x8x8 : Shape := ⟨4, ![8, 128, 8, 8]⟩
abbrev S8x1152x8x8 : Shape := ⟨4, ![8, 1152, 8, 8]⟩
abbrev S128x3x3x128 : Shape := ⟨4, ![128, 3, 3, 128]⟩
abbrev S128x1152 : Shape := ⟨2, ![128, 1152]⟩
abbrev S128x8x8x8 : Shape := ⟨4, ![128, 8, 8, 8]⟩
abbrev S8x8192 : Shape := ⟨2, ![8, 8192]⟩
abbrev S8192x3 : Shape := ⟨2, ![8192, 3]⟩
abbrev S8x3 : Shape := ⟨2, ![8, 3]⟩
abbrev S1x3 : Shape := ⟨2, ![1, 3]⟩
abbrev S3x107811 : Shape := ⟨2, ![3, 107811]⟩
abbrev S8x107811 : Shape := ⟨2, ![8, 107811]⟩
abbrev S8x3x33x33x33 : Shape := ⟨5, ![8, 3, 33, 33, 33]⟩
abbrev S107811x2 : Shape := ⟨2, ![107811, 2]⟩
abbrev S2x107811 : Shape := ⟨2, ![2, 107811]⟩
abbrev S2x3x33x33x33 : Shape := ⟨5, ![2, 3, 33, 33, 33]⟩
abbrev S2x3 : Shape := ⟨2, ![2, 3]⟩
abbrev S2x3x1x1x1 : Shape := ⟨5, ![2, 3, 1, 1, 1]⟩
abbrev S2x3x33x34x34 : Shape := ⟨5, ![2, 3, 33, 34, 34]⟩
abbrev S3x33x33x33 : Shape := ⟨4, ![3, 33, 33, 33]⟩
abbrev S1x3x33x33x33 : Shape := ⟨5, ![1, 3, 33, 33, 33]⟩
abbrev S3x35937 : Shape := ⟨2, ![3, 35937]⟩
abbrev S3x36352 : Shape := ⟨2, ![3, 36352]⟩
abbrev S3x284x1x128 : Shape := ⟨4, ![3, 284, 1, 128]⟩
abbrev S8x2 : Shape := ⟨2, ![8, 2]⟩
abbrev S8x2x1 : Shape := ⟨3, ![8, 2, 1]⟩
abbrev S1x2x3 : Shape := ⟨3, ![1, 2, 3]⟩
abbrev S8x2x3 : Shape := ⟨3, ![8, 2, 3]⟩
abbrev S8x1 : Shape := ⟨2, ![8, 1]⟩
abbrev S8x6 : Shape := ⟨2, ![8, 6]⟩
abbrev S8x10 : Shape := ⟨2, ![8, 10]⟩
abbrev S1x3x8x1024 : Shape := ⟨4, ![1, 3, 8, 1024]⟩
abbrev S1x1x8x1024 : Shape := ⟨4, ![1, 1, 8, 1024]⟩
abbrev S8x1024 : Shape := ⟨2, ![8, 1024]⟩
abbrev S16x1024 : Shape := ⟨2, ![16, 1024]⟩
abbrev S1x1x1x128 : Shape := ⟨4, ![1, 1, 1, 128]⟩
abbrev S1x128 : Shape := ⟨2, ![1, 128]⟩
abbrev S16x128 : Shape := ⟨2, ![16, 128]⟩
abbrev S16x128x1 : Shape := ⟨3, ![16, 128, 1]⟩
abbrev S1x1 : Shape := ⟨2, ![1, 1]⟩

abbrev nBuf : Space → Nat
  | .hbm => 536
  | .vmem => 5
  | .smem => 1
  | _ => 0

abbrev hbmTy0_0 (i : Nat) : BufTy := match i % 128 with
  | 0 => ⟨S8x3x1024x1024, .f32⟩
  | 1 => ⟨S16x3x3x3, .f32⟩
  | 2 => ⟨S32x16x3x3, .f32⟩
  | 3 => ⟨S64x32x3x3, .f32⟩
  | 4 => ⟨S128x64x3x3, .f32⟩
  | 5 => ⟨S128x128x3x3, .f32⟩
  | 6 => ⟨S16, .f32⟩
  | 7 => ⟨S32, .f32⟩
  | 8 => ⟨S64, .f32⟩
  | 9 => ⟨S128, .f32⟩
  | 10 => ⟨S128, .f32⟩
  | 11 => ⟨S16, .f32⟩
  | 12 => ⟨S32, .f32⟩
  | 13 => ⟨S64, .f32⟩
  | 14 => ⟨S128, .f32⟩
  | 15 => ⟨S16, .f32⟩
  | 16 => ⟨S32, .f32⟩
  | 17 => ⟨S64, .f32⟩
  | 18 => ⟨S128, .f32⟩
  | 19 => ⟨S3x8192, .f32⟩
  | 20 => ⟨S3, .f32⟩
  | 21 => ⟨S107811x3, .f32⟩
  | 22 => ⟨S1x3x33, .f32⟩
  | 23 => ⟨S_, .i32⟩
  | 24 => ⟨S_, .f32⟩
  | 25 => ⟨S8x3x1028x1024, .f32⟩
  | 26 => ⟨S8x3x257x4x1024, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4x1, .f32⟩
  | 35 => ⟨S256, .i32⟩
  | 36 => ⟨S256x1, .i32⟩
  | 37 => ⟨S8x3x256x4x1024, .f32⟩
  | 38 => ⟨S1x1x1x4x1, .f32⟩
  | 39 => ⟨S8x3x256x4x1024, .f32⟩
  | 40 => ⟨S8x3x256x4x1024, .f32⟩
  | 41 => ⟨S_, .f32⟩
  | 42 => ⟨S8x3x256x1024, .f32⟩
  | 43 => ⟨S8x3x256x4x1024, .f32⟩
  | 44 => ⟨S_, .f32⟩
  | 45 => ⟨S4x1, .f32⟩
  | 46 => ⟨S4x1, .f32⟩
  | 47 => ⟨S1x1x1x4x1, .f32⟩
  | 48 => ⟨S8x3x256x4x1024, .f32⟩
  | 49 => ⟨S8x3x256x4x1024, .f32⟩
  | 50 => ⟨S_, .f32⟩
  | 51 => ⟨S8x3x256x1024, .f32⟩
  | 52 => ⟨S8x3x256x1024, .f32⟩
  | 53 => ⟨S_, .i32⟩
  | 54 => ⟨S256x1, .i32⟩
  | 55 => ⟨S256x1, .i1⟩
  | 56 => ⟨S_, .i32⟩
  | 57 => ⟨S256x1, .i32⟩
  | 58 => ⟨S256x1, .i1⟩
  | 59 => ⟨S256x1, .i1⟩
  | 60 => ⟨S_, .f32⟩
  | 61 => ⟨S_, .f32⟩
  | 62 => ⟨S256x1, .f32⟩
  | 63 => ⟨S256x1, .f32⟩
  | 64 => ⟨S256x1, .f32⟩
  | 65 => ⟨S256x1, .f32⟩
  | 66 => ⟨S1x1x256x1, .f32⟩
  | 67 => ⟨S8x3x256x1024, .f32⟩
  | 68 => ⟨S8x3x256x1024, .f32⟩
  | 69 => ⟨S_, .i32⟩
  | 70 => ⟨S_, .f32⟩
  | 71 => ⟨S8x3x256x1028, .f32⟩
  | 72 => ⟨S8x3x256x257x4, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S256, .i32⟩
  | 81 => ⟨S8x3x256x256x4, .f32⟩
  | 82 => ⟨S1x1x1x1x4, .f32⟩
  | 83 => ⟨S8x3x256x256x4, .f32⟩
  | 84 => ⟨S8x3x256x256x4, .f32⟩
  | 85 => ⟨S_, .f32⟩
  | 86 => ⟨S8x3x256x256, .f32⟩
  | 87 => ⟨S8x3x256x256x4, .f32⟩
  | 88 => ⟨S_, .f32⟩
  | 89 => ⟨S4, .f32⟩
  | 90 => ⟨S4, .f32⟩
  | 91 => ⟨S1x1x1x1x4, .f32⟩
  | 92 => ⟨S8x3x256x256x4, .f32⟩
  | 93 => ⟨S8x3x256x256x4, .f32⟩
  | 94 => ⟨S_, .f32⟩
  | 95 => ⟨S8x3x256x256, .f32⟩
  | 96 => ⟨S8x3x256x256, .f32⟩
  | 97 => ⟨S_, .i32⟩
  | 98 => ⟨S256, .i32⟩
  | 99 => ⟨S256, .i1⟩
  | 100 => ⟨S_, .i32⟩
  | 101 => ⟨S256, .i32⟩
  | 102 => ⟨S256, .i1⟩
  | 103 => ⟨S256, .i1⟩
  | 104 => ⟨S_, .f32⟩
  | 105 => ⟨S_, .f32⟩
  | 106 => ⟨S256, .f32⟩
  | 107 => ⟨S256, .f32⟩
  | 108 => ⟨S256, .f32⟩
  | 109 => ⟨S256, .f32⟩
  | 110 => ⟨S1x1x1x256, .f32⟩
  | 111 => ⟨S8x3x256x256, .f32⟩
  | 112 => ⟨S8x3x256x256, .f32⟩
  | 113 => ⟨S_, .i32⟩
  | 114 => ⟨S_, .f32⟩
  | 115 => ⟨S8x3x258x258, .f32⟩
  | 116 => ⟨S8x3x128x128, .f32⟩
  | 117 => ⟨S8x3x128x128, .f32⟩
  | 118 => ⟨S8x3x128x128, .f32⟩
  | 119 => ⟨S8x3x128x128, .f32⟩
  | 120 => ⟨S8x3x128x128, .f32⟩
  | 121 => ⟨S8x3x128x128, .f32⟩
  | 122 => ⟨S8x3x128x128, .f32⟩
  | 123 => ⟨S8x3x128x128, .f32⟩
  | 124 => ⟨S8x3x128x128, .f32⟩
  | 125 => ⟨S8x27x128x128, .f32⟩
  | 126 => ⟨S16x3x3x3, .f32⟩
  | 127 => ⟨S16x27, .f32⟩
  | _ => ⟨S8x3x1024x1024, .f32⟩

abbrev hbmTy0_1 (i : Nat) : BufTy := match i % 128 with
  | 0 => ⟨S16x8x128x128, .f32⟩
  | 1 => ⟨S8x16x128x128, .f32⟩
  | 2 => ⟨S1x16x1x1, .f32⟩
  | 3 => ⟨S8x16x128x128, .f32⟩
  | 4 => ⟨S8x16x128x128, .f32⟩
  | 5 => ⟨S_, .f32⟩
  | 6 => ⟨S8x16x128x128, .f32⟩
  | 7 => ⟨S8x16x128x128, .i1⟩
  | 8 => ⟨S_, .f32⟩
  | 9 => ⟨S8x16x128x128, .f32⟩
  | 10 => ⟨S8x16x128x128, .f32⟩
  | 11 => ⟨S8x16x128x128, .f32⟩
  | 12 => ⟨S_, .f32⟩
  | 13 => ⟨S8x16, .f32⟩
  | 14 => ⟨S8x16x1x1, .f32⟩
  | 15 => ⟨S_, .f32⟩
  | 16 => ⟨S8x16x1x1, .f32⟩
  | 17 => ⟨S8x16x1x1, .f32⟩
  | 18 => ⟨S_, .i32⟩
  | 19 => ⟨S_, .f32⟩
  | 20 => ⟨S8x16, .f32⟩
  | 21 => ⟨S8x16x1x1, .f32⟩
  | 22 => ⟨S_, .f32⟩
  | 23 => ⟨S8x16x1x1, .f32⟩
  | 24 => ⟨S8x16x1x1, .f32⟩
  | 25 => ⟨S8x16x128x128, .f32⟩
  | 26 => ⟨S8x16x128x128, .f32⟩
  | 27 => ⟨S8x16x128x128, .f32⟩
  | 28 => ⟨S_, .f32⟩
  | 29 => ⟨S_, .f32⟩
  | 30 => ⟨S_, .f32⟩
  | 31 => ⟨S_, .f32⟩
  | 32 => ⟨S8x16, .f32⟩
  | 33 => ⟨S8x16x1x1, .f32⟩
  | 34 => ⟨S8x16x1x1, .f32⟩
  | 35 => ⟨S8x16x1x1, .f32⟩
  | 36 => ⟨S_, .f32⟩
  | 37 => ⟨S_, .i1⟩
  | 38 => ⟨S_, .f32⟩
  | 39 => ⟨S_, .f32⟩
  | 40 => ⟨S8x16x1x1, .f32⟩
  | 41 => ⟨S8x16x1x1, .f32⟩
  | 42 => ⟨S8x16x128x128, .f32⟩
  | 43 => ⟨S8x16x128x128, .f32⟩
  | 44 => ⟨S_, .f32⟩
  | 45 => ⟨S8x16x1x1, .f32⟩
  | 46 => ⟨S8x16x1x1, .f32⟩
  | 47 => ⟨S8x16x1x1, .f32⟩
  | 48 => ⟨S8x16x128x128, .f32⟩
  | 49 => ⟨S8x16x128x128, .f32⟩
  | 50 => ⟨S1x16x1x1, .f32⟩
  | 51 => ⟨S8x16x128x128, .f32⟩
  | 52 => ⟨S8x16x128x128, .f32⟩
  | 53 => ⟨S1x16x1x1, .f32⟩
  | 54 => ⟨S8x16x128x128, .f32⟩
  | 55 => ⟨S8x16x128x128, .f32⟩
  | 56 => ⟨S_, .i32⟩
  | 57 => ⟨S_, .f32⟩
  | 58 => ⟨S8x16x130x130, .f32⟩
  | 59 => ⟨S8x16x64x64, .f32⟩
  | 60 => ⟨S8x16x64x64, .f32⟩
  | 61 => ⟨S8x16x64x64, .f32⟩
  | 62 => ⟨S8x16x64x64, .f32⟩
  | 63 => ⟨S8x16x64x64, .f32⟩
  | 64 => ⟨S8x16x64x64, .f32⟩
  | 65 => ⟨S8x16x64x64, .f32⟩
  | 66 => ⟨S8x16x64x64, .f32⟩
  | 67 => ⟨S8x16x64x64, .f32⟩
  | 68 => ⟨S8x144x64x64, .f32⟩
  | 69 => ⟨S32x3x3x16, .f32⟩
  | 70 => ⟨S32x144, .f32⟩
  | 71 => ⟨S32x8x64x64, .f32⟩
  | 72 => ⟨S8x32x64x64, .f32⟩
  | 73 => ⟨S1x32x1x1, .f32⟩
  | 74 => ⟨S8x32x64x64, .f32⟩
  | 75 => ⟨S8x32x64x64, .f32⟩
  | 76 => ⟨S_, .f32⟩
  | 77 => ⟨S8x32x64x64, .f32⟩
  | 78 => ⟨S8x32x64x64, .i1⟩
  | 79 => ⟨S_, .f32⟩
  | 80 => ⟨S8x32x64x64, .f32⟩
  | 81 => ⟨S8x32x64x64, .f32⟩
  | 82 => ⟨S8x32x64x64, .f32⟩
  | 83 => ⟨S_, .f32⟩
  | 84 => ⟨S8x32, .f32⟩
  | 85 => ⟨S8x32x1x1, .f32⟩
  | 86 => ⟨S_, .f32⟩
  | 87 => ⟨S8x32x1x1, .f32⟩
  | 88 => ⟨S8x32x1x1, .f32⟩
  | 89 => ⟨S_, .i32⟩
  | 90 => ⟨S_, .f32⟩
  | 91 => ⟨S8x32, .f32⟩
  | 92 => ⟨S8x32x1x1, .f32⟩
  | 93 => ⟨S_, .f32⟩
  | 94 => ⟨S8x32x1x1, .f32⟩
  | 95 => ⟨S8x32x1x1, .f32⟩
  | 96 => ⟨S8x32x64x64, .f32⟩
  | 97 => ⟨S8x32x64x64, .f32⟩
  | 98 => ⟨S8x32x64x64, .f32⟩
  | 99 => ⟨S_, .f32⟩
  | 100 => ⟨S_, .f32⟩
  | 101 => ⟨S_, .f32⟩
  | 102 => ⟨S_, .f32⟩
  | 103 => ⟨S8x32, .f32⟩
  | 104 => ⟨S8x32x1x1, .f32⟩
  | 105 => ⟨S8x32x1x1, .f32⟩
  | 106 => ⟨S8x32x1x1, .f32⟩
  | 107 => ⟨S_, .f32⟩
  | 108 => ⟨S_, .i1⟩
  | 109 => ⟨S_, .f32⟩
  | 110 => ⟨S_, .f32⟩
  | 111 => ⟨S8x32x1x1, .f32⟩
  | 112 => ⟨S8x32x1x1, .f32⟩
  | 113 => ⟨S8x32x64x64, .f32⟩
  | 114 => ⟨S8x32x64x64, .f32⟩
  | 115 => ⟨S_, .f32⟩
  | 116 => ⟨S8x32x1x1, .f32⟩
  | 117 => ⟨S8x32x1x1, .f32⟩
  | 118 => ⟨S8x32x1x1, .f32⟩
  | 119 => ⟨S8x32x64x64, .f32⟩
  | 120 => ⟨S8x32x64x64, .f32⟩
  | 121 => ⟨S1x32x1x1, .f32⟩
  | 122 => ⟨S8x32x64x64, .f32⟩
  | 123 => ⟨S8x32x64x64, .f32⟩
  | 124 => ⟨S1x32x1x1, .f32⟩
  | 125 => ⟨S8x32x64x64, .f32⟩
  | 126 => ⟨S8x32x64x64, .f32⟩
  | 127 => ⟨S_, .i32⟩
  | _ => ⟨S8x3x1024x1024, .f32⟩

abbrev hbmTy0_2 (i : Nat) : BufTy := match i % 128 with
  | 0 => ⟨S_, .f32⟩
  | 1 => ⟨S8x32x66x66, .f32⟩
  | 2 => ⟨S8x32x32x32, .f32⟩
  | 3 => ⟨S8x32x32x32, .f32⟩
  | 4 => ⟨S8x32x32x32, .f32⟩
  | 5 => ⟨S8x32x32x32, .f32⟩
  | 6 => ⟨S8x32x32x32, .f32⟩
  | 7 => ⟨S8x32x32x32, .f32⟩
  | 8 => ⟨S8x32x32x32, .f32⟩
  | 9 => ⟨S8x32x32x32, .f32⟩
  | 10 => ⟨S8x32x32x32, .f32⟩
  | 11 => ⟨S8x288x32x32, .f32⟩
  | 12 => ⟨S64x3x3x32, .f32⟩
  | 13 => ⟨S64x288, .f32⟩
  | 14 => ⟨S64x8x32x32, .f32⟩
  | 15 => ⟨S8x64x32x32, .f32⟩
  | 16 => ⟨S1x64x1x1, .f32⟩
  | 17 => ⟨S8x64x32x32, .f32⟩
  | 18 => ⟨S8x64x32x32, .f32⟩
  | 19 => ⟨S_, .f32⟩
  | 20 => ⟨S8x64x32x32, .f32⟩
  | 21 => ⟨S8x64x32x32, .i1⟩
  | 22 => ⟨S_, .f32⟩
  | 23 => ⟨S8x64x32x32, .f32⟩
  | 24 => ⟨S8x64x32x32, .f32⟩
  | 25 => ⟨S8x64x32x32, .f32⟩
  | 26 => ⟨S_, .f32⟩
  | 27 => ⟨S8x64, .f32⟩
  | 28 => ⟨S8x64x1x1, .f32⟩
  | 29 => ⟨S_, .f32⟩
  | 30 => ⟨S8x64x1x1, .f32⟩
  | 31 => ⟨S8x64x1x1, .f32⟩
  | 32 => ⟨S_, .i32⟩
  | 33 => ⟨S_, .f32⟩
  | 34 => ⟨S8x64, .f32⟩
  | 35 => ⟨S8x64x1x1, .f32⟩
  | 36 => ⟨S_, .f32⟩
  | 37 => ⟨S8x64x1x1, .f32⟩
  | 38 => ⟨S8x64x1x1, .f32⟩
  | 39 => ⟨S8x64x32x32, .f32⟩
  | 40 => ⟨S8x64x32x32, .f32⟩
  | 41 => ⟨S8x64x32x32, .f32⟩
  | 42 => ⟨S_, .f32⟩
  | 43 => ⟨S_, .f32⟩
  | 44 => ⟨S_, .f32⟩
  | 45 => ⟨S_, .f32⟩
  | 46 => ⟨S8x64, .f32⟩
  | 47 => ⟨S8x64x1x1, .f32⟩
  | 48 => ⟨S8x64x1x1, .f32⟩
  | 49 => ⟨S8x64x1x1, .f32⟩
  | 50 => ⟨S_, .f32⟩
  | 51 => ⟨S_, .i1⟩
  | 52 => ⟨S_, .f32⟩
  | 53 => ⟨S_, .f32⟩
  | 54 => ⟨S8x64x1x1, .f32⟩
  | 55 => ⟨S8x64x1x1, .f32⟩
  | 56 => ⟨S8x64x32x32, .f32⟩
  | 57 => ⟨S8x64x32x32, .f32⟩
  | 58 => ⟨S_, .f32⟩
  | 59 => ⟨S8x64x1x1, .f32⟩
  | 60 => ⟨S8x64x1x1, .f32⟩
  | 61 => ⟨S8x64x1x1, .f32⟩
  | 62 => ⟨S8x64x32x32, .f32⟩
  | 63 => ⟨S8x64x32x32, .f32⟩
  | 64 => ⟨S1x64x1x1, .f32⟩
  | 65 => ⟨S8x64x32x32, .f32⟩
  | 66 => ⟨S8x64x32x32, .f32⟩
  | 67 => ⟨S1x64x1x1, .f32⟩
  | 68 => ⟨S8x64x32x32, .f32⟩
  | 69 => ⟨S8x64x32x32, .f32⟩
  | 70 => ⟨S_, .i32⟩
  | 71 => ⟨S_, .f32⟩
  | 72 => ⟨S8x64x34x34, .f32⟩
  | 73 => ⟨S8x64x16x16, .f32⟩
  | 74 => ⟨S8x64x16x16, .f32⟩
  | 75 => ⟨S8x64x16x16, .f32⟩
  | 76 => ⟨S8x64x16x16, .f32⟩
  | 77 => ⟨S8x64x16x16, .f32⟩
  | 78 => ⟨S8x64x16x16, .f32⟩
  | 79 => ⟨S8x64x16x16, .f32⟩
  | 80 => ⟨S8x64x16x16, .f32⟩
  | 81 => ⟨S8x64x16x16, .f32⟩
  | 82 => ⟨S8x576x16x16, .f32⟩
  | 83 => ⟨S128x3x3x64, .f32⟩
  | 84 => ⟨S128x576, .f32⟩
  | 85 => ⟨S128x8x16x16, .f32⟩
  | 86 => ⟨S8x128x16x16, .f32⟩
  | 87 => ⟨S1x128x1x1, .f32⟩
  | 88 => ⟨S8x128x16x16, .f32⟩
  | 89 => ⟨S8x128x16x16, .f32⟩
  | 90 => ⟨S_, .f32⟩
  | 91 => ⟨S8x128x16x16, .f32⟩
  | 92 => ⟨S8x128x16x16, .i1⟩
  | 93 => ⟨S_, .f32⟩
  | 94 => ⟨S8x128x16x16, .f32⟩
  | 95 => ⟨S8x128x16x16, .f32⟩
  | 96 => ⟨S8x128x16x16, .f32⟩
  | 97 => ⟨S_, .f32⟩
  | 98 => ⟨S8x128, .f32⟩
  | 99 => ⟨S8x128x1x1, .f32⟩
  | 100 => ⟨S_, .f32⟩
  | 101 => ⟨S8x128x1x1, .f32⟩
  | 102 => ⟨S8x128x1x1, .f32⟩
  | 103 => ⟨S_, .i32⟩
  | 104 => ⟨S_, .f32⟩
  | 105 => ⟨S8x128, .f32⟩
  | 106 => ⟨S8x128x1x1, .f32⟩
  | 107 => ⟨S_, .f32⟩
  | 108 => ⟨S8x128x1x1, .f32⟩
  | 109 => ⟨S8x128x1x1, .f32⟩
  | 110 => ⟨S8x128x16x16, .f32⟩
  | 111 => ⟨S8x128x16x16, .f32⟩
  | 112 => ⟨S8x128x16x16, .f32⟩
  | 113 => ⟨S_, .f32⟩
  | 114 => ⟨S_, .f32⟩
  | 115 => ⟨S_, .f32⟩
  | 116 => ⟨S_, .f32⟩
  | 117 => ⟨S8x128, .f32⟩
  | 118 => ⟨S8x128x1x1, .f32⟩
  | 119 => ⟨S8x128x1x1, .f32⟩
  | 120 => ⟨S8x128x1x1, .f32⟩
  | 121 => ⟨S_, .f32⟩
  | 122 => ⟨S_, .i1⟩
  | 123 => ⟨S_, .f32⟩
  | 124 => ⟨S_, .f32⟩
  | 125 => ⟨S8x128x1x1, .f32⟩
  | 126 => ⟨S8x128x1x1, .f32⟩
  | 127 => ⟨S8x128x16x16, .f32⟩
  | _ => ⟨S8x3x1024x1024, .f32⟩

abbrev hbmTy0_3 (i : Nat) : BufTy := match i % 128 with
  | 0 => ⟨S8x128x16x16, .f32⟩
  | 1 => ⟨S_, .f32⟩
  | 2 => ⟨S8x128x1x1, .f32⟩
  | 3 => ⟨S8x128x1x1, .f32⟩
  | 4 => ⟨S8x128x1x1, .f32⟩
  | 5 => ⟨S8x128x16x16, .f32⟩
  | 6 => ⟨S8x128x16x16, .f32⟩
  | 7 => ⟨S1x128x1x1, .f32⟩
  | 8 => ⟨S8x128x16x16, .f32⟩
  | 9 => ⟨S8x128x16x16, .f32⟩
  | 10 => ⟨S1x128x1x1, .f32⟩
  | 11 => ⟨S8x128x16x16, .f32⟩
  | 12 => ⟨S8x128x16x16, .f32⟩
  | 13 => ⟨S_, .i32⟩
  | 14 => ⟨S_, .f32⟩
  | 15 => ⟨S8x128x18x18, .f32⟩
  | 16 => ⟨S8x128x8x8, .f32⟩
  | 17 => ⟨S8x128x8x8, .f32⟩
  | 18 => ⟨S8x128x8x8, .f32⟩
  | 19 => ⟨S8x128x8x8, .f32⟩
  | 20 => ⟨S8x128x8x8, .f32⟩
  | 21 => ⟨S8x128x8x8, .f32⟩
  | 22 => ⟨S8x128x8x8, .f32⟩
  | 23 => ⟨S8x128x8x8, .f32⟩
  | 24 => ⟨S8x128x8x8, .f32⟩
  | 25 => ⟨S8x1152x8x8, .f32⟩
  | 26 => ⟨S128x3x3x128, .f32⟩
  | 27 => ⟨S128x1152, .f32⟩
  | 28 => ⟨S128x8x8x8, .f32⟩
  | 29 => ⟨S8x128x8x8, .f32⟩
  | 30 => ⟨S1x128x1x1, .f32⟩
  | 31 => ⟨S8x128x8x8, .f32⟩
  | 32 => ⟨S8x128x8x8, .f32⟩
  | 33 => ⟨S_, .f32⟩
  | 34 => ⟨S8x128x8x8, .f32⟩
  | 35 => ⟨S8x128x8x8, .i1⟩
  | 36 => ⟨S_, .f32⟩
  | 37 => ⟨S8x128x8x8, .f32⟩
  | 38 => ⟨S8x128x8x8, .f32⟩
  | 39 => ⟨S8x128x8x8, .f32⟩
  | 40 => ⟨S8x8192, .f32⟩
  | 41 => ⟨S8192x3, .f32⟩
  | 42 => ⟨S8x3, .f32⟩
  | 43 => ⟨S1x3, .f32⟩
  | 44 => ⟨S8x3, .f32⟩
  | 45 => ⟨S8x3, .f32⟩
  | 46 => ⟨S3x107811, .f32⟩
  | 47 => ⟨S8x107811, .f32⟩
  | 48 => ⟨S8x3x33x33x33, .f32⟩
  | 49 => ⟨S107811x2, .f32⟩
  | 50 => ⟨S2x107811, .f32⟩
  | 51 => ⟨S2x3x33x33x33, .f32⟩
  | 52 => ⟨S2x3x33x33x33, .f32⟩
  | 53 => ⟨S_, .f32⟩
  | 54 => ⟨S2x3, .f32⟩
  | 55 => ⟨S_, .f32⟩
  | 56 => ⟨S2x3, .f32⟩
  | 57 => ⟨S2x3, .f32⟩
  | 58 => ⟨S_, .f32⟩
  | 59 => ⟨S2x3, .f32⟩
  | 60 => ⟨S2x3, .f32⟩
  | 61 => ⟨S2x3x1x1x1, .f32⟩
  | 62 => ⟨S2x3x33x33x33, .f32⟩
  | 63 => ⟨S2x3x33x33x33, .f32⟩
  | 64 => ⟨S2x3x33x33x33, .f32⟩
  | 65 => ⟨S_, .i32⟩
  | 66 => ⟨S_, .i32⟩
  | 67 => ⟨S_, .f32⟩
  | 68 => ⟨S2x3x33x33x33, .f32⟩
  | 69 => ⟨S2x3x33x33x33, .f32⟩
  | 70 => ⟨S_, .f32⟩
  | 71 => ⟨S2x3x33x33x33, .f32⟩
  | 72 => ⟨S2x3x33x33x33, .f32⟩
  | 73 => ⟨S_, .f32⟩
  | 74 => ⟨S2x3x33x33x33, .f32⟩
  | 75 => ⟨S2x3x33x33x33, .f32⟩
  | 76 => ⟨S2x3x33x33x33, .i32⟩
  | 77 => ⟨S2x3x33x33x33, .i32⟩
  | 78 => ⟨S_, .i32⟩
  | 79 => ⟨S_, .i32⟩
  | 80 => ⟨S2x3x33x34x34, .i32⟩
  | 81 => ⟨S_, .i32⟩
  | 82 => ⟨S3x33x33x33, .i32⟩
  | 83 => ⟨S1x3x33x33x33, .i32⟩
  | 84 => ⟨S3x33x33x33, .i32⟩
  | 85 => ⟨S_, .i32⟩
  | 86 => ⟨S3x33x33x33, .i32⟩
  | 87 => ⟨S3x33x33x33, .i32⟩
  | 88 => ⟨S3x33x33x33, .i32⟩
  | 89 => ⟨S1x3x33x33x33, .i32⟩
  | 90 => ⟨S3x33x33x33, .i32⟩
  | 91 => ⟨S_, .i32⟩
  | 92 => ⟨S3x33x33x33, .i32⟩
  | 93 => ⟨S3x33x33x33, .i32⟩
  | 94 => ⟨S3x33x33x33, .i32⟩
  | 95 => ⟨S1x3x33x33x33, .i32⟩
  | 96 => ⟨S3x33x33x33, .i32⟩
  | 97 => ⟨S_, .i32⟩
  | 98 => ⟨S3x33x33x33, .i32⟩
  | 99 => ⟨S3x33x33x33, .i32⟩
  | 100 => ⟨S3x33x33x33, .i32⟩
  | 101 => ⟨S1x3x33x33x33, .i32⟩
  | 102 => ⟨S3x33x33x33, .i32⟩
  | 103 => ⟨S_, .i32⟩
  | 104 => ⟨S3x33x33x33, .i32⟩
  | 105 => ⟨S3x33x33x33, .i32⟩
  | 106 => ⟨S3x33x33x33, .i32⟩
  | 107 => ⟨S1x3x33x33x33, .i32⟩
  | 108 => ⟨S3x33x33x33, .i32⟩
  | 109 => ⟨S_, .i32⟩
  | 110 => ⟨S3x33x33x33, .i32⟩
  | 111 => ⟨S3x33x33x33, .i32⟩
  | 112 => ⟨S3x33x33x33, .i32⟩
  | 113 => ⟨S1x3x33x33x33, .i32⟩
  | 114 => ⟨S3x33x33x33, .i32⟩
  | 115 => ⟨S_, .i32⟩
  | 116 => ⟨S3x33x33x33, .i32⟩
  | 117 => ⟨S3x33x33x33, .i32⟩
  | 118 => ⟨S3x33x33x33, .i32⟩
  | 119 => ⟨S1x3x33x33x33, .i32⟩
  | 120 => ⟨S3x33x33x33, .i32⟩
  | 121 => ⟨S_, .i32⟩
  | 122 => ⟨S3x33x33x33, .i32⟩
  | 123 => ⟨S3x33x33x33, .i32⟩
  | 124 => ⟨S3x33x33x33, .i32⟩
  | 125 => ⟨S1x3x33x33x33, .i32⟩
  | 126 => ⟨S3x33x33x33, .i32⟩
  | 127 => ⟨S_, .i32⟩
  | _ => ⟨S8x3x1024x1024, .f32⟩

abbrev hbmTy0_4 (i : Nat) : BufTy := match i % 128 with
  | 0 => ⟨S3x33x33x33, .i32⟩
  | 1 => ⟨S3x33x33x33, .i32⟩
  | 2 => ⟨S3x33x33x33, .i32⟩
  | 3 => ⟨S3x35937, .i32⟩
  | 4 => ⟨S_, .i32⟩
  | 5 => ⟨S_, .i32⟩
  | 6 => ⟨S3x36352, .i32⟩
  | 7 => ⟨S3x284x1x128, .i32⟩
  | 8 => ⟨S3x284x1x128, .i32⟩
  | 9 => ⟨S8x2, .f32⟩
  | 10 => ⟨S8x2x1, .f32⟩
  | 11 => ⟨S1x2x3, .f32⟩
  | 12 => ⟨S8x2x3, .f32⟩
  | 13 => ⟨S8x2x3, .f32⟩
  | 14 => ⟨S8x2x3, .f32⟩
  | 15 => ⟨S_, .f32⟩
  | 16 => ⟨S8x3, .f32⟩
  | 17 => ⟨S_, .f32⟩
  | 18 => ⟨S8x3, .f32⟩
  | 19 => ⟨S8x3, .f32⟩
  | 20 => ⟨S8x1, .f32⟩
  | 21 => ⟨S8x6, .f32⟩
  | 22 => ⟨S8x10, .f32⟩
  | 23 => ⟨S8x3x1024x1024, .f32⟩
  | _ => ⟨S8x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x1024x1024, .f32⟩

abbrev bufTy : (tb : Table) → Fin (tcTables nBuf tb) → BufTy
  | .hbm, ⟨i, _⟩ => hbmTy i
  | .local _ .vmem, ⟨0, _⟩ => ⟨S1x3x8x1024, .f32⟩
  | .local _ .vmem, ⟨1, _⟩ => ⟨S1x3x8x1024, .f32⟩
  | .local _ .vmem, ⟨2, _⟩ => ⟨S3x284x1x128, .i32⟩
  | .local _ .vmem, ⟨3, _⟩ => ⟨S1x3x8x1024, .f32⟩
  | .local _ .vmem, ⟨4, _⟩ => ⟨S1x3x8x1024, .f32⟩
  | .local _ .smem, ⟨0, _⟩ => ⟨S8x10, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_v0 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_8 : Ref sig .tc := ⟨.hbm, 69, rfl⟩
abbrev main_call2_v0 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_cst_10 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩
abbrev main_c_14 : Ref sig .tc := ⟨.hbm, 97, rfl⟩
abbrev main_v54 : Ref sig .tc := ⟨.hbm, 98, rfl⟩
abbrev main_v55 : Ref sig .tc := ⟨.hbm, 99, rfl⟩
abbrev main_c_15 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_16 : Ref sig .tc := ⟨.hbm, 104, rfl⟩
abbrev main_cst_17 : Ref sig .tc := ⟨.hbm, 105, rfl⟩
abbrev main_call3_v0 : Ref sig .tc := ⟨.hbm, 106, rfl⟩
abbrev main_call3_v1 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_18 : Ref sig .tc := ⟨.hbm, 113, rfl⟩
abbrev main_call4_v0 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_19 : Ref sig .tc := ⟨.hbm, 133, rfl⟩
abbrev main_v82 : Ref sig .tc := ⟨.hbm, 134, rfl⟩
abbrev main_v83 : Ref sig .tc := ⟨.hbm, 135, rfl⟩
abbrev main_cst_20 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_21 : Ref sig .tc := ⟨.hbm, 140, rfl⟩
abbrev main_v87 : Ref sig .tc := ⟨.hbm, 141, rfl⟩
abbrev main_v88 : Ref sig .tc := ⟨.hbm, 142, rfl⟩
abbrev main_cst_22 : Ref sig .tc := ⟨.hbm, 143, rfl⟩
abbrev main_v89 : Ref sig .tc := ⟨.hbm, 144, rfl⟩
abbrev main_v90 : Ref sig .tc := ⟨.hbm, 145, rfl⟩
abbrev main_c_23 : Ref sig .tc := ⟨.hbm, 146, rfl⟩
abbrev main_call6_cst : Ref sig .tc := ⟨.hbm, 147, rfl⟩
abbrev main_call6_v0 : Ref sig .tc := ⟨.hbm, 148, rfl⟩
abbrev main_call6_v1 : Ref sig .tc := ⟨.hbm, 149, rfl⟩
abbrev main_call6_cst_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_v5 : Ref sig .tc := ⟨.hbm, 154, rfl⟩
abbrev main_call6_v6 : Ref sig .tc := ⟨.hbm, 155, rfl⟩
abbrev main_call6_v7 : Ref sig .tc := ⟨.hbm, 156, rfl⟩
abbrev main_call6_cst_1 : Ref sig .tc := ⟨.hbm, 157, rfl⟩
abbrev main_call6_v8 : Ref sig .tc := ⟨.hbm, 158, rfl⟩
abbrev main_call6_cst_2 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_call6_v12 : Ref sig .tc := ⟨.hbm, 163, rfl⟩
abbrev main_call6_cst_3 : Ref sig .tc := ⟨.hbm, 164, rfl⟩
abbrev main_call6_v13 : Ref sig .tc := ⟨.hbm, 165, rfl⟩
abbrev main_call6_cst_4 : Ref sig .tc := ⟨.hbm, 166, rfl⟩
abbrev main_call6_call0_v0 : Ref sig .tc := ⟨.hbm, 167, rfl⟩
abbrev main_call6_call0_v1 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_cst_24 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_c_25 : Ref sig .tc := ⟨.hbm, 184, rfl⟩
abbrev main_call7_v0 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_cst_26 : Ref sig .tc := ⟨.hbm, 204, rfl⟩
abbrev main_v123 : Ref sig .tc := ⟨.hbm, 205, rfl⟩
abbrev main_v124 : Ref sig .tc := ⟨.hbm, 206, rfl⟩
abbrev main_cst_27 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_28 : Ref sig .tc := ⟨.hbm, 211, rfl⟩
abbrev main_v128 : Ref sig .tc := ⟨.hbm, 212, rfl⟩
abbrev main_v129 : Ref sig .tc := ⟨.hbm, 213, rfl⟩
abbrev main_cst_29 : Ref sig .tc := ⟨.hbm, 214, rfl⟩
abbrev main_v130 : Ref sig .tc := ⟨.hbm, 215, rfl⟩
abbrev main_v131 : Ref sig .tc := ⟨.hbm, 216, rfl⟩
abbrev main_c_30 : Ref sig .tc := ⟨.hbm, 217, rfl⟩
abbrev main_call9_cst : Ref sig .tc := ⟨.hbm, 218, rfl⟩
abbrev main_call9_v0 : Ref sig .tc := ⟨.hbm, 219, rfl⟩
abbrev main_call9_v1 : Ref sig .tc := ⟨.hbm, 220, rfl⟩
abbrev main_call9_cst_0 : Ref sig .tc := ⟨.hbm, 221, rfl⟩
abbrev main_call9_v2 : Ref sig .tc := ⟨.hbm, 222, rfl⟩
abbrev main_call9_v3 : Ref sig .tc := ⟨.hbm, 223, rfl⟩
abbrev main_call9_v4 : Ref sig .tc := ⟨.hbm, 224, rfl⟩
abbrev main_call9_v5 : Ref sig .tc := ⟨.hbm, 225, rfl⟩
abbrev main_call9_v6 : Ref sig .tc := ⟨.hbm, 226, rfl⟩
abbrev main_call9_v7 : Ref sig .tc := ⟨.hbm, 227, rfl⟩
abbrev main_call9_cst_1 : Ref sig .tc := ⟨.hbm, 228, rfl⟩
abbrev main_call9_v8 : Ref sig .tc := ⟨.hbm, 229, rfl⟩
abbrev main_call9_cst_2 : Ref sig .tc := ⟨.hbm, 230, rfl⟩
abbrev main_call9_v9 : Ref sig .tc := ⟨.hbm, 231, rfl⟩
abbrev main_call9_v10 : Ref sig .tc := ⟨.hbm, 232, rfl⟩
abbrev main_call9_v11 : Ref sig .tc := ⟨.hbm, 233, rfl⟩
abbrev main_call9_v12 : Ref sig .tc := ⟨.hbm, 234, rfl⟩
abbrev main_call9_cst_3 : Ref sig .tc := ⟨.hbm, 235, rfl⟩
abbrev main_call9_v13 : Ref sig .tc := ⟨.hbm, 236, rfl⟩
abbrev main_call9_cst_4 : Ref sig .tc := ⟨.hbm, 237, rfl⟩
abbrev main_call9_call0_v0 : Ref sig .tc := ⟨.hbm, 238, rfl⟩
abbrev main_call9_call0_v1 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_cst_31 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_c_32 : Ref sig .tc := ⟨.hbm, 255, rfl⟩
abbrev main_call10_v0 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_cst_33 : Ref sig .tc := ⟨.hbm, 275, rfl⟩
abbrev main_v164 : Ref sig .tc := ⟨.hbm, 276, rfl⟩
abbrev main_v165 : Ref sig .tc := ⟨.hbm, 277, rfl⟩
abbrev main_cst_34 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_cst_35 : Ref sig .tc := ⟨.hbm, 282, rfl⟩
abbrev main_v169 : Ref sig .tc := ⟨.hbm, 283, rfl⟩
abbrev main_v170 : Ref sig .tc := ⟨.hbm, 284, rfl⟩
abbrev main_cst_36 : Ref sig .tc := ⟨.hbm, 285, rfl⟩
abbrev main_v171 : Ref sig .tc := ⟨.hbm, 286, rfl⟩
abbrev main_v172 : Ref sig .tc := ⟨.hbm, 287, rfl⟩
abbrev main_c_37 : Ref sig .tc := ⟨.hbm, 288, rfl⟩
abbrev main_call12_cst : Ref sig .tc := ⟨.hbm, 289, rfl⟩
abbrev main_call12_v0 : Ref sig .tc := ⟨.hbm, 290, rfl⟩
abbrev main_call12_v1 : Ref sig .tc := ⟨.hbm, 291, rfl⟩
abbrev main_call12_cst_0 : Ref sig .tc := ⟨.hbm, 292, rfl⟩
abbrev main_call12_v2 : Ref sig .tc := ⟨.hbm, 293, rfl⟩
abbrev main_call12_v3 : Ref sig .tc := ⟨.hbm, 294, rfl⟩
abbrev main_call12_v4 : Ref sig .tc := ⟨.hbm, 295, rfl⟩
abbrev main_call12_v5 : Ref sig .tc := ⟨.hbm, 296, rfl⟩
abbrev main_call12_v6 : Ref sig .tc := ⟨.hbm, 297, rfl⟩
abbrev main_call12_v7 : Ref sig .tc := ⟨.hbm, 298, rfl⟩
abbrev main_call12_cst_1 : Ref sig .tc := ⟨.hbm, 299, rfl⟩
abbrev main_call12_v8 : Ref sig .tc := ⟨.hbm, 300, rfl⟩
abbrev main_call12_cst_2 : Ref sig .tc := ⟨.hbm, 301, rfl⟩
abbrev main_call12_v9 : Ref sig .tc := ⟨.hbm, 302, rfl⟩
abbrev main_call12_v10 : Ref sig .tc := ⟨.hbm, 303, rfl⟩
abbrev main_call12_v11 : Ref sig .tc := ⟨.hbm, 304, rfl⟩
abbrev main_call12_v12 : Ref sig .tc := ⟨.hbm, 305, rfl⟩
abbrev main_call12_cst_3 : Ref sig .tc := ⟨.hbm, 306, rfl⟩
abbrev main_call12_v13 : Ref sig .tc := ⟨.hbm, 307, rfl⟩
abbrev main_call12_cst_4 : Ref sig .tc := ⟨.hbm, 308, rfl⟩
abbrev main_call12_call0_v0 : Ref sig .tc := ⟨.hbm, 309, rfl⟩
abbrev main_call12_call0_v1 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_38 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_v180 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_c_39 : Ref sig .tc := ⟨.hbm, 326, rfl⟩
abbrev main_call13_v0 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_v203 : Ref sig .tc := ⟨.hbm, 344, rfl⟩
abbrev main_v204 : Ref sig .tc := ⟨.hbm, 345, rfl⟩
abbrev main_cst_40 : Ref sig .tc := ⟨.hbm, 346, rfl⟩
abbrev main_v205 : Ref sig .tc := ⟨.hbm, 347, rfl⟩
abbrev main_v206 : Ref sig .tc := ⟨.hbm, 348, rfl⟩
abbrev main_cst_41 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_cst_42 : Ref sig .tc := ⟨.hbm, 353, rfl⟩
abbrev main_v210 : Ref sig .tc := ⟨.hbm, 354, rfl⟩
abbrev main_v211 : Ref sig .tc := ⟨.hbm, 355, rfl⟩
abbrev main_cst_43 : Ref sig .tc := ⟨.hbm, 356, rfl⟩
abbrev main_v212 : Ref sig .tc := ⟨.hbm, 357, rfl⟩
abbrev main_v213 : Ref sig .tc := ⟨.hbm, 358, rfl⟩
abbrev main_c_44 : Ref sig .tc := ⟨.hbm, 359, rfl⟩
abbrev main_call15_cst : Ref sig .tc := ⟨.hbm, 360, rfl⟩
abbrev main_call15_v0 : Ref sig .tc := ⟨.hbm, 361, rfl⟩
abbrev main_call15_v1 : Ref sig .tc := ⟨.hbm, 362, rfl⟩
abbrev main_call15_cst_0 : Ref sig .tc := ⟨.hbm, 363, rfl⟩
abbrev main_call15_v2 : Ref sig .tc := ⟨.hbm, 364, rfl⟩
abbrev main_call15_v3 : Ref sig .tc := ⟨.hbm, 365, rfl⟩
abbrev main_call15_v4 : Ref sig .tc := ⟨.hbm, 366, rfl⟩
abbrev main_call15_v5 : Ref sig .tc := ⟨.hbm, 367, rfl⟩
abbrev main_call15_v6 : Ref sig .tc := ⟨.hbm, 368, rfl⟩
abbrev main_call15_v7 : Ref sig .tc := ⟨.hbm, 369, rfl⟩
abbrev main_call15_cst_1 : Ref sig .tc := ⟨.hbm, 370, rfl⟩
abbrev main_call15_v8 : Ref sig .tc := ⟨.hbm, 371, rfl⟩
abbrev main_call15_cst_2 : Ref sig .tc := ⟨.hbm, 372, rfl⟩
abbrev main_call15_v9 : Ref sig .tc := ⟨.hbm, 373, rfl⟩
abbrev main_call15_v10 : Ref sig .tc := ⟨.hbm, 374, rfl⟩
abbrev main_call15_v11 : Ref sig .tc := ⟨.hbm, 375, rfl⟩
abbrev main_call15_v12 : Ref sig .tc := ⟨.hbm, 376, rfl⟩
abbrev main_call15_cst_3 : Ref sig .tc := ⟨.hbm, 377, rfl⟩
abbrev main_call15_v13 : Ref sig .tc := ⟨.hbm, 378, rfl⟩
abbrev main_call15_cst_4 : Ref sig .tc := ⟨.hbm, 379, rfl⟩
abbrev main_call15_call0_v0 : Ref sig .tc := ⟨.hbm, 380, rfl⟩
abbrev main_call15_call0_v1 : Ref sig .tc := ⟨.hbm, 381, rfl⟩
abbrev main_v214 : Ref sig .tc := ⟨.hbm, 382, rfl⟩
abbrev main_v215 : Ref sig .tc := ⟨.hbm, 383, rfl⟩
abbrev main_v216 : Ref sig .tc := ⟨.hbm, 384, rfl⟩
abbrev main_cst_45 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_v220 : Ref sig .tc := ⟨.hbm, 389, rfl⟩
abbrev main_v221 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_v227 : Ref sig .tc := ⟨.hbm, 396, rfl⟩
abbrev main_c_46 : Ref sig .tc := ⟨.hbm, 397, rfl⟩
abbrev main_call16_v0 : Ref sig .tc := ⟨.hbm, 398, rfl⟩
abbrev main_v228 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_v232 : Ref sig .tc := ⟨.hbm, 403, rfl⟩
abbrev main_v233 : Ref sig .tc := ⟨.hbm, 404, rfl⟩
abbrev main_v234 : Ref sig .tc := ⟨.hbm, 405, rfl⟩
abbrev main_v235 : Ref sig .tc := ⟨.hbm, 406, rfl⟩
abbrev main_v236 : Ref sig .tc := ⟨.hbm, 407, rfl⟩
abbrev main_v237 : Ref sig .tc := ⟨.hbm, 408, rfl⟩
abbrev main_v238 : Ref sig .tc := ⟨.hbm, 409, rfl⟩
abbrev main_v239 : Ref sig .tc := ⟨.hbm, 410, rfl⟩
abbrev main_v240 : Ref sig .tc := ⟨.hbm, 411, rfl⟩
abbrev main_v241 : Ref sig .tc := ⟨.hbm, 412, rfl⟩
abbrev main_v242 : Ref sig .tc := ⟨.hbm, 413, rfl⟩
abbrev main_v243 : Ref sig .tc := ⟨.hbm, 414, rfl⟩
abbrev main_v244 : Ref sig .tc := ⟨.hbm, 415, rfl⟩
abbrev main_v245 : Ref sig .tc := ⟨.hbm, 416, rfl⟩
abbrev main_cst_47 : Ref sig .tc := ⟨.hbm, 417, rfl⟩
abbrev main_v246 : Ref sig .tc := ⟨.hbm, 418, rfl⟩
abbrev main_v247 : Ref sig .tc := ⟨.hbm, 419, rfl⟩
abbrev main_cst_48 : Ref sig .tc := ⟨.hbm, 420, rfl⟩
abbrev main_v248 : Ref sig .tc := ⟨.hbm, 421, rfl⟩
abbrev main_v249 : Ref sig .tc := ⟨.hbm, 422, rfl⟩
abbrev main_v250 : Ref sig .tc := ⟨.hbm, 423, rfl⟩
abbrev main_v251 : Ref sig .tc := ⟨.hbm, 424, rfl⟩
abbrev main_v252 : Ref sig .tc := ⟨.hbm, 425, rfl⟩
abbrev main_v253 : Ref sig .tc := ⟨.hbm, 426, rfl⟩
abbrev main_v254 : Ref sig .tc := ⟨.hbm, 427, rfl⟩
abbrev main_v255 : Ref sig .tc := ⟨.hbm, 428, rfl⟩
abbrev main_v256 : Ref sig .tc := ⟨.hbm, 429, rfl⟩
abbrev main_v257 : Ref sig .tc := ⟨.hbm, 430, rfl⟩
abbrev main_v258 : Ref sig .tc := ⟨.hbm, 431, rfl⟩
abbrev main_v259 : Ref sig .tc := ⟨.hbm, 432, rfl⟩
abbrev main_v260 : Ref sig .tc := ⟨.hbm, 433, rfl⟩
abbrev main_v261 : Ref sig .tc := ⟨.hbm, 434, rfl⟩
abbrev main_v262 : Ref sig .tc := ⟨.hbm, 435, rfl⟩
abbrev main_v263 : Ref sig .tc := ⟨.hbm, 436, rfl⟩
abbrev main_cst_49 : Ref sig .tc := ⟨.hbm, 437, rfl⟩
abbrev main_v264 : Ref sig .tc := ⟨.hbm, 438, rfl⟩
abbrev main_cst_50 : Ref sig .tc := ⟨.hbm, 439, rfl⟩
abbrev main_v265 : Ref sig .tc := ⟨.hbm, 440, rfl⟩
abbrev main_v266 : Ref sig .tc := ⟨.hbm, 441, rfl⟩
abbrev main_cst_51 : Ref sig .tc := ⟨.hbm, 442, rfl⟩
abbrev main_v267 : Ref sig .tc := ⟨.hbm, 443, rfl⟩
abbrev main_v268 : Ref sig .tc := ⟨.hbm, 444, rfl⟩
abbrev main_v269 : Ref sig .tc := ⟨.hbm, 445, rfl⟩
abbrev main_v270 : Ref sig .tc := ⟨.hbm, 446, rfl⟩
abbrev main_v271 : Ref sig .tc := ⟨.hbm, 447, rfl⟩
abbrev main_v272 : Ref sig .tc := ⟨.hbm, 448, rfl⟩
abbrev main_c_52 : Ref sig .tc := ⟨.hbm, 449, rfl⟩
abbrev main_c_53 : Ref sig .tc := ⟨.hbm, 450, rfl⟩
abbrev main_call19_v0 : Ref sig .tc := ⟨.hbm, 451, rfl⟩
abbrev main_call19_v1 : Ref sig .tc := ⟨.hbm, 452, rfl⟩
abbrev main_call19_v2 : Ref sig .tc := ⟨.hbm, 453, rfl⟩
abbrev main_call19_v3 : Ref sig .tc := ⟨.hbm, 454, rfl⟩
abbrev main_call19_v4 : Ref sig .tc := ⟨.hbm, 455, rfl⟩
abbrev main_v273 : Ref sig .tc := ⟨.hbm, 456, rfl⟩
abbrev main_cst_54 : Ref sig .tc := ⟨.hbm, 457, rfl⟩
abbrev main_v274 : Ref sig .tc := ⟨.hbm, 458, rfl⟩
abbrev main_v275 : Ref sig .tc := ⟨.hbm, 459, rfl⟩
abbrev main_v276 : Ref sig .tc := ⟨.hbm, 460, rfl⟩
abbrev main_v277 : Ref sig .tc := ⟨.hbm, 461, rfl⟩
abbrev main_c_55 : Ref sig .tc := ⟨.hbm, 462, rfl⟩
abbrev main_call20_v0 : Ref sig .tc := ⟨.hbm, 463, rfl⟩
abbrev main_v278 : Ref sig .tc := ⟨.hbm, 464, rfl⟩
abbrev main_c_56 : Ref sig .tc := ⟨.hbm, 465, rfl⟩
abbrev main_v279 : Ref sig .tc := ⟨.hbm, 466, rfl⟩
abbrev main_v280 : Ref sig .tc := ⟨.hbm, 467, rfl⟩
abbrev main_v281 : Ref sig .tc := ⟨.hbm, 468, rfl⟩
abbrev main_c_57 : Ref sig .tc := ⟨.hbm, 469, rfl⟩
abbrev main_v282 : Ref sig .tc := ⟨.hbm, 470, rfl⟩
abbrev main_v283 : Ref sig .tc := ⟨.hbm, 471, rfl⟩
abbrev main_v284 : Ref sig .tc := ⟨.hbm, 472, rfl⟩
abbrev main_v285 : Ref sig .tc := ⟨.hbm, 473, rfl⟩
abbrev main_v286 : Ref sig .tc := ⟨.hbm, 474, rfl⟩
abbrev main_c_58 : Ref sig .tc := ⟨.hbm, 475, rfl⟩
abbrev main_v287 : Ref sig .tc := ⟨.hbm, 476, rfl⟩
abbrev main_v288 : Ref sig .tc := ⟨.hbm, 477, rfl⟩
abbrev main_v289 : Ref sig .tc := ⟨.hbm, 478, rfl⟩
abbrev main_v290 : Ref sig .tc := ⟨.hbm, 479, rfl⟩
abbrev main_v291 : Ref sig .tc := ⟨.hbm, 480, rfl⟩
abbrev main_c_59 : Ref sig .tc := ⟨.hbm, 481, rfl⟩
abbrev main_v292 : Ref sig .tc := ⟨.hbm, 482, rfl⟩
abbrev main_v293 : Ref sig .tc := ⟨.hbm, 483, rfl⟩
abbrev main_v294 : Ref sig .tc := ⟨.hbm, 484, rfl⟩
abbrev main_v295 : Ref sig .tc := ⟨.hbm, 485, rfl⟩
abbrev main_v296 : Ref sig .tc := ⟨.hbm, 486, rfl⟩
abbrev main_c_60 : Ref sig .tc := ⟨.hbm, 487, rfl⟩
abbrev main_v297 : Ref sig .tc := ⟨.hbm, 488, rfl⟩
abbrev main_v298 : Ref sig .tc := ⟨.hbm, 489, rfl⟩
abbrev main_v299 : Ref sig .tc := ⟨.hbm, 490, rfl⟩
abbrev main_v300 : Ref sig .tc := ⟨.hbm, 491, rfl⟩
abbrev main_v301 : Ref sig .tc := ⟨.hbm, 492, rfl⟩
abbrev main_c_61 : Ref sig .tc := ⟨.hbm, 493, rfl⟩
abbrev main_v302 : Ref sig .tc := ⟨.hbm, 494, rfl⟩
abbrev main_v303 : Ref sig .tc := ⟨.hbm, 495, rfl⟩
abbrev main_v304 : Ref sig .tc := ⟨.hbm, 496, rfl⟩
abbrev main_v305 : Ref sig .tc := ⟨.hbm, 497, rfl⟩
abbrev main_v306 : Ref sig .tc := ⟨.hbm, 498, rfl⟩
abbrev main_c_62 : Ref sig .tc := ⟨.hbm, 499, rfl⟩
abbrev main_v307 : Ref sig .tc := ⟨.hbm, 500, rfl⟩
abbrev main_v308 : Ref sig .tc := ⟨.hbm, 501, rfl⟩
abbrev main_v309 : Ref sig .tc := ⟨.hbm, 502, rfl⟩
abbrev main_v310 : Ref sig .tc := ⟨.hbm, 503, rfl⟩
abbrev main_v311 : Ref sig .tc := ⟨.hbm, 504, rfl⟩
abbrev main_c_63 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_v316 : Ref sig .tc := ⟨.hbm, 510, rfl⟩
abbrev main_c_64 : Ref sig .tc := ⟨.hbm, 511, rfl⟩
abbrev main_v317 : Ref sig .tc := ⟨.hbm, 512, rfl⟩
abbrev main_v318 : Ref sig .tc := ⟨.hbm, 513, rfl⟩
abbrev main_v319 : Ref sig .tc := ⟨.hbm, 514, rfl⟩
abbrev main_v320 : Ref sig .tc := ⟨.hbm, 515, rfl⟩
abbrev main_c_65 : Ref sig .tc := ⟨.hbm, 516, rfl⟩
abbrev main_call21_v0 : Ref sig .tc := ⟨.hbm, 517, rfl⟩
abbrev main_v321 : Ref sig .tc := ⟨.hbm, 518, rfl⟩
abbrev main_v322 : Ref sig .tc := ⟨.hbm, 519, rfl⟩
abbrev main_v323 : Ref sig .tc := ⟨.hbm, 520, rfl⟩
abbrev main_v324 : Ref sig .tc := ⟨.hbm, 521, rfl⟩
abbrev main_v325 : Ref sig .tc := ⟨.hbm, 522, rfl⟩
abbrev main_v326 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_cst_66 : Ref sig .tc := ⟨.hbm, 527, rfl⟩
abbrev main_v330 : Ref sig .tc := ⟨.hbm, 528, rfl⟩
abbrev main_cst_67 : Ref sig .tc := ⟨.hbm, 529, rfl⟩
abbrev main_v331 : Ref sig .tc := ⟨.hbm, 530, rfl⟩
abbrev main_v332 : Ref sig .tc := ⟨.hbm, 531, rfl⟩
abbrev main_v333 : Ref sig .tc := ⟨.hbm, 532, rfl⟩
abbrev main_v334 : Ref sig .tc := ⟨.hbm, 533, rfl⟩
abbrev main_v335 : Ref sig .tc := ⟨.hbm, 534, rfl⟩
abbrev main_v336 : Ref sig .tc := ⟨.hbm, 535, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 128], ![false, false]⟩

@[reducible] def k0_t1_loop : Scf.Loop 32 :=
  let c0_i32_16 : BitVec 32 := 0#32
  let c71_i32 : BitVec 32 := 71#32
  let v45 : BitVec 32 := Scalar.addi c0_i32_16 c71_i32
  let c1_i32 : BitVec 32 := 1#32
  ⟨c0_i32_16, v45, c1_i32⟩
def k0_off1 (k0_t1 : Fin k0_t1_loop.trips) (c0_i32_143 : BitVec 32) : Fin 4 → Nat :=
  let c0_144 : Index := 0#32
  let c0_i32_16 : BitVec 32 := 0#32
  let c1_i32 : BitVec 32 := 1#32
  let arg6 : BitVec 32 := Scf.iv c0_i32_16 c1_i32 k0_t1
  let c4_i32_142 : BitVec 32 := 4#32
  let v494 : BitVec 32 := Scalar.muli arg6 c4_i32_142
  let v495 : BitVec 32 := Scalar.addi v494 c0_i32_143
  let v500 : Index := Scalar.indexCast v495
  let c0_145 : Index := 0#32
  let c0_146 : Index := 0#32
  ![0, v500.toNat, 0, 0]
def k0_off2 (k0_t1 : Fin k0_t1_loop.trips) (c0_i32_143 : BitVec 32) : Fin 4 → Nat :=
  let c1_162 : Index := 1#32
  let c0_i32_16 : BitVec 32 := 0#32
  let c1_i32 : BitVec 32 := 1#32
  let arg6 : BitVec 32 := Scf.iv c0_i32_16 c1_i32 k0_t1
  let c4_i32_142 : BitVec 32 := 4#32
  let v494 : BitVec 32 := Scalar.muli arg6 c4_i32_142
  let v495 : BitVec 32 := Scalar.addi v494 c0_i32_143
  let v583 : Index := Scalar.indexCast v495
  let c0_163 : Index := 0#32
  let c0_164 : Index := 0#32
  ![1, v583.toNat, 0, 0]
def k0_off3 (k0_t1 : Fin k0_t1_loop.trips) (c0_i32_143 : BitVec 32) : Fin 4 → Nat :=
  let c2_181 : Index := 2#32
  let c0_i32_16 : BitVec 32 := 0#32
  let c1_i32 : BitVec 32 := 1#32
  let arg6 : BitVec 32 := Scf.iv c0_i32_16 c1_i32 k0_t1
  let c4_i32_142 : BitVec 32 := 4#32
  let v494 : BitVec 32 := Scalar.muli arg6 c4_i32_142
  let v495 : BitVec 32 := Scalar.addi v494 c0_i32_143
  let v666 : Index := Scalar.indexCast v495
  let c0_182 : Index := 0#32
  let c0_183 : Index := 0#32
  ![2, v666.toNat, 0, 0]
def k0_off4 (i : grid0.Coords) : Fin 2 → Nat :=
  let arg0 : BitVec 32 := BitVec.ofNat 32 (i 0).val
  let v57 : Index := Scalar.indexCast arg0
  let c0_21 : Index := 0#32
  ![v57.toNat, 0]
def k0_off5 (i : grid0.Coords) : Fin 2 → Nat :=
  let arg0 : BitVec 32 := BitVec.ofNat 32 (i 0).val
  let v61 : Index := Scalar.indexCast arg0
  let c7 : Index := 7#32
  ![v61.toNat, 7]
def k0_off6 (i : grid0.Coords) : Fin 2 → Nat :=
  let arg0 : BitVec 32 := BitVec.ofNat 32 (i 0).val
  let v65 : Index := Scalar.indexCast arg0
  let c1_22 : Index := 1#32
  ![v65.toNat, 1]
def k0_off7 (i : grid0.Coords) : Fin 2 → Nat :=
  let arg0 : BitVec 32 := BitVec.ofNat 32 (i 0).val
  let v133 : Index := Scalar.indexCast arg0
  let c4 : Index := 4#32
  ![v133.toNat, 4]
def k0_off8 (i : grid0.Coords) : Fin 2 → Nat :=
  let arg0 : BitVec 32 := BitVec.ofNat 32 (i 0).val
  let v206 : Index := Scalar.indexCast arg0
  let c8 : Index := 8#32
  ![v206.toNat, 8]
def k0_off9 (i : grid0.Coords) : Fin 2 → Nat :=
  let arg0 : BitVec 32 := BitVec.ofNat 32 (i 0).val
  let v210 : Index := Scalar.indexCast arg0
  let c2_57 : Index := 2#32
  ![v210.toNat, 2]
def k0_off10 (i : grid0.Coords) : Fin 2 → Nat :=
  let arg0 : BitVec 32 := BitVec.ofNat 32 (i 0).val
  let v278 : Index := Scalar.indexCast arg0
  let c5 : Index := 5#32
  ![v278.toNat, 5]
def k0_off11 (i : grid0.Coords) : Fin 2 → Nat :=
  let arg0 : BitVec 32 := BitVec.ofNat 32 (i 0).val
  let v351 : Index := Scalar.indexCast arg0
  let c9 : Index := 9#32
  ![v351.toNat, 9]
def k0_off12 (i : grid0.Coords) : Fin 2 → Nat :=
  let arg0 : BitVec 32 := BitVec.ofNat 32 (i 0).val
  let v355 : Index := Scalar.indexCast arg0
  let c3 : Index := 3#32
  ![v355.toNat, 3]
def k0_off13 (i : grid0.Coords) : Fin 2 → Nat :=
  let arg0 : BitVec 32 := BitVec.ofNat 32 (i 0).val
  let v423 : Index := Scalar.indexCast arg0
  let c6 : Index := 6#32
  ![v423.toNat, 6]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x284x1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x3x1024x1024 : Shape := ⟨4, ![8, 3, 1024, 1024]⟩
abbrev S16x3x3x3 : Shape := ⟨4, ![16, 3, 3, 3]⟩
abbrev S32x16x3x3 : Shape := ⟨4, ![32, 16, 3, 3]⟩
abbrev S64x32x3x3 : Shape := ⟨4, ![64, 32, 3, 3]⟩
abbrev S128x64x3x3 : Shape := ⟨4, ![128, 64, 3, 3]⟩
abbrev S128x128x3x3 : Shape := ⟨4, ![128, 128, 3, 3]⟩
abbrev S16 : Shape := ⟨1, ![16]⟩
abbrev S32 : Shape := ⟨1, ![32]⟩
abbrev S64 : Shape := ⟨1, ![64]⟩
abbrev S128 : Shape := ⟨1, ![128]⟩
abbrev S3x8192 : Shape := ⟨2, ![3, 8192]⟩
abbrev S3 : Shape := ⟨1, ![3]⟩
abbrev S107811x3 : Shape := ⟨2, ![107811, 3]⟩
abbrev S1x3x33 : Shape := ⟨3, ![1, 3, 33]⟩
abbrev S_ : Shape := ⟨0, ![]⟩
abbrev S8x3x1028x1024 : Shape := ⟨4, ![8, 3, 1028, 1024]⟩
abbrev S8x3x257x4x1024 : Shape := ⟨5, ![8, 3, 257, 4, 1024]⟩
abbrev S4 : Shape := ⟨1, ![4]⟩
abbrev S4x1 : Shape := ⟨2, ![4, 1]⟩
abbrev S256 : Shape := ⟨1, ![256]⟩
abbrev S256x1 : Shape := ⟨2, ![256, 1]⟩
abbrev S8x3x256x4x1024 : Shape := ⟨5, ![8, 3, 256, 4, 1024]⟩
abbrev S1x1x1x4x1 : Shape := ⟨5, ![1, 1, 1, 4, 1]⟩
abbrev S8x3x256x1024 : Shape := ⟨4, ![8, 3, 256, 1024]⟩
abbrev S1x1x256x1 : Shape := ⟨4, ![1, 1, 256, 1]⟩
abbrev S8x3x256x1028 : Shape := ⟨4, ![8, 3, 256, 1028]⟩
abbrev S8x3x256x257x4 : Shape := ⟨5, ![8, 3, 256, 257, 4]⟩
abbrev S8x3x256x256x4 : Shape := ⟨5, ![8, 3, 256, 256, 4]⟩
abbrev S1x1x1x1x4 : Shape := ⟨5, ![1, 1, 1, 1, 4]⟩
abbrev S8x3x256x256 : Shape := ⟨4, ![8, 3, 256, 256]⟩
abbrev S1x1x1x256 : Shape := ⟨4, ![1, 1, 1, 256]⟩
abbrev S8x3x258x258 : Shape := ⟨4, ![8, 3, 258, 258]⟩
abbrev S8x3x128x128 : Shape := ⟨4, ![8, 3, 128, 128]⟩
abbrev S8x27x128x128 : Shape := ⟨4, ![8, 27, 128, 128]⟩
abbrev S16x27 : Shape := ⟨2, ![16, 27]⟩
abbrev S16x8x128x128 : Shape := ⟨4, ![16, 8, 128, 128]⟩
abbrev S8x16x128x128 : Shape := ⟨4, ![8, 16, 128, 128]⟩
abbrev S1x16x1x1 : Shape := ⟨4, ![1, 16, 1, 1]⟩
abbrev S8x16 : Shape := ⟨2, ![8, 16]⟩
abbrev S8x16x1x1 : Shape := ⟨4, ![8, 16, 1, 1]⟩
abbrev S8x16x130x130 : Shape := ⟨4, ![8, 16, 130, 130]⟩
abbrev S8x16x64x64 : Shape := ⟨4, ![8, 16, 64, 64]⟩
abbrev S8x144x64x64 : Shape := ⟨4, ![8, 144, 64, 64]⟩
abbrev S32x3x3x16 : Shape := ⟨4, ![32, 3, 3, 16]⟩
abbrev S32x144 : Shape := ⟨2, ![32, 144]⟩
abbrev S32x8x64x64 : Shape := ⟨4, ![32, 8, 64, 64]⟩
abbrev S8x32x64x64 : Shape := ⟨4, ![8, 32, 64, 64]⟩
abbrev S1x32x1x1 : Shape := ⟨4, ![1, 32, 1, 1]⟩
abbrev S8x32 : Shape := ⟨2, ![8, 32]⟩
abbrev S8x32x1x1 : Shape := ⟨4, ![8, 32, 1, 1]⟩
abbrev S8x32x66x66 : Shape := ⟨4, ![8, 32, 66, 66]⟩
abbrev S8x32x32x32 : Shape := ⟨4, ![8, 32, 32, 32]⟩
abbrev S8x288x32x32 : Shape := ⟨4, ![8, 288, 32, 32]⟩
abbrev S64x3x3x32 : Shape := ⟨4, ![64, 3, 3, 32]⟩
abbrev S64x288 : Shape := ⟨2, ![64, 288]⟩
abbrev S64x8x32x32 : Shape := ⟨4, ![64, 8, 32, 32]⟩
abbrev S8x64x32x32 : Shape := ⟨4, ![8, 64, 32, 32]⟩
abbrev S1x64x1x1 : Shape := ⟨4, ![1, 64, 1, 1]⟩
abbrev S8x64 : Shape := ⟨2, ![8, 64]⟩
abbrev S8x64x1x1 : Shape := ⟨4, ![8, 64, 1, 1]⟩
abbrev S8x64x34x34 : Shape := ⟨4, ![8, 64, 34, 34]⟩
abbrev S8x64x16x16 : Shape := ⟨4, ![8, 64, 16, 16]⟩
abbrev S8x576x16x16 : Shape := ⟨4, ![8, 576, 16, 16]⟩
abbrev S128x3x3x64 : Shape := ⟨4, ![128, 3, 3, 64]⟩
abbrev S128x576 : Shape := ⟨2, ![128, 576]⟩
abbrev S128x8x16x16 : Shape := ⟨4, ![128, 8, 16, 16]⟩
abbrev S8x128x16x16 : Shape := ⟨4, ![8, 128, 16, 16]⟩
abbrev S1x128x1x1 : Shape := ⟨4, ![1, 128, 1, 1]⟩
abbrev S8x128 : Shape := ⟨2, ![8, 128]⟩
abbrev S8x128x1x1 : Shape := ⟨4, ![8, 128, 1, 1]⟩
abbrev S8x128x18x18 : Shape := ⟨4, ![8, 128, 18, 18]⟩
abbrev S8x128x8x8 : Shape := ⟨4, ![8, 128, 8, 8]⟩
abbrev S8x1152x8x8 : Shape := ⟨4, ![8, 1152, 8, 8]⟩
abbrev S128x3x3x128 : Shape := ⟨4, ![128, 3, 3, 128]⟩
abbrev S128x1152 : Shape := ⟨2, ![128, 1152]⟩
abbrev S128x8x8x8 : Shape := ⟨4, ![128, 8, 8, 8]⟩
abbrev S8x8192 : Shape := ⟨2, ![8, 8192]⟩
abbrev S8192x3 : Shape := ⟨2, ![8192, 3]⟩
abbrev S8x3 : Shape := ⟨2, ![8, 3]⟩
abbrev S1x3 : Shape := ⟨2, ![1, 3]⟩
abbrev S3x107811 : Shape := ⟨2, ![3, 107811]⟩
abbrev S8x107811 : Shape := ⟨2, ![8, 107811]⟩
abbrev S8x3x33x33x33 : Shape := ⟨5, ![8, 3, 33, 33, 33]⟩
abbrev S3x3x35937 : Shape := ⟨3, ![3, 3, 35937]⟩
abbrev S1x3x35937 : Shape := ⟨3, ![1, 3, 35937]⟩
abbrev S2x3x35937 : Shape := ⟨3, ![2, 3, 35937]⟩
abbrev S2x3 : Shape := ⟨2, ![2, 3]⟩
abbrev S2x3x1 : Shape := ⟨3, ![2, 3, 1]⟩
abbrev S8x3x33 : Shape := ⟨3, ![8, 3, 33]⟩
abbrev S8x3x1048576 : Shape := ⟨3, ![8, 3, 1048576]⟩
abbrev S8x3x33x1 : Shape := ⟨4, ![8, 3, 33, 1]⟩
abbrev S8x3x1x1048576 : Shape := ⟨4, ![8, 3, 1, 1048576]⟩
abbrev S8x3x33x1048576 : Shape := ⟨4, ![8, 3, 33, 1048576]⟩
abbrev S8x3x1048576x1 : Shape := ⟨4, ![8, 3, 1048576, 1]⟩
abbrev S8x1x1048576 : Shape := ⟨3, ![8, 1, 1048576]⟩
abbrev S8x1048576 : Shape := ⟨2, ![8, 1048576]⟩
abbrev S8x3x35937 : Shape := ⟨3, ![8, 3, 35937]⟩
abbrev S8x1048576x1 : Shape := ⟨3, ![8, 1048576, 1]⟩

abbrev nBuf : Space → Nat
  | .hbm => 825
  | .vmem => 0
  | .smem => 0
  | _ => 0

abbrev hbmTy0_0 (i : Nat) : BufTy := match i % 128 with
  | 0 => ⟨S8x3x1024x1024, .f32⟩
  | 1 => ⟨S16x3x3x3, .f32⟩
  | 2 => ⟨S32x16x3x3, .f32⟩
  | 3 => ⟨S64x32x3x3, .f32⟩
  | 4 => ⟨S128x64x3x3, .f32⟩
  | 5 => ⟨S128x128x3x3, .f32⟩
  | 6 => ⟨S16, .f32⟩
  | 7 => ⟨S32, .f32⟩
  | 8 => ⟨S64, .f32⟩
  | 9 => ⟨S128, .f32⟩
  | 10 => ⟨S128, .f32⟩
  | 11 => ⟨S16, .f32⟩
  | 12 => ⟨S32, .f32⟩
  | 13 => ⟨S64, .f32⟩
  | 14 => ⟨S128, .f32⟩
  | 15 => ⟨S16, .f32⟩
  | 16 => ⟨S32, .f32⟩
  | 17 => ⟨S64, .f32⟩
  | 18 => ⟨S128, .f32⟩
  | 19 => ⟨S3x8192, .f32⟩
  | 20 => ⟨S3, .f32⟩
  | 21 => ⟨S107811x3, .f32⟩
  | 22 => ⟨S1x3x33, .f32⟩
  | 23 => ⟨S_, .i32⟩
  | 24 => ⟨S_, .f32⟩
  | 25 => ⟨S8x3x1028x1024, .f32⟩
  | 26 => ⟨S8x3x257x4x1024, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4x1, .f32⟩
  | 35 => ⟨S256, .i32⟩
  | 36 => ⟨S256x1, .i32⟩
  | 37 => ⟨S8x3x256x4x1024, .f32⟩
  | 38 => ⟨S1x1x1x4x1, .f32⟩
  | 39 => ⟨S8x3x256x4x1024, .f32⟩
  | 40 => ⟨S8x3x256x4x1024, .f32⟩
  | 41 => ⟨S_, .f32⟩
  | 42 => ⟨S8x3x256x1024, .f32⟩
  | 43 => ⟨S8x3x256x4x1024, .f32⟩
  | 44 => ⟨S_, .f32⟩
  | 45 => ⟨S4x1, .f32⟩
  | 46 => ⟨S4x1, .f32⟩
  | 47 => ⟨S1x1x1x4x1, .f32⟩
  | 48 => ⟨S8x3x256x4x1024, .f32⟩
  | 49 => ⟨S8x3x256x4x1024, .f32⟩
  | 50 => ⟨S_, .f32⟩
  | 51 => ⟨S8x3x256x1024, .f32⟩
  | 52 => ⟨S8x3x256x1024, .f32⟩
  | 53 => ⟨S_, .i32⟩
  | 54 => ⟨S256x1, .i32⟩
  | 55 => ⟨S256x1, .i1⟩
  | 56 => ⟨S_, .i32⟩
  | 57 => ⟨S256x1, .i32⟩
  | 58 => ⟨S256x1, .i1⟩
  | 59 => ⟨S256x1, .i1⟩
  | 60 => ⟨S_, .f32⟩
  | 61 => ⟨S_, .f32⟩
  | 62 => ⟨S256x1, .f32⟩
  | 63 => ⟨S256x1, .f32⟩
  | 64 => ⟨S256x1, .f32⟩
  | 65 => ⟨S256x1, .f32⟩
  | 66 => ⟨S1x1x256x1, .f32⟩
  | 67 => ⟨S8x3x256x1024, .f32⟩
  | 68 => ⟨S8x3x256x1024, .f32⟩
  | 69 => ⟨S_, .i32⟩
  | 70 => ⟨S_, .f32⟩
  | 71 => ⟨S8x3x256x1028, .f32⟩
  | 72 => ⟨S8x3x256x257x4, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S256, .i32⟩
  | 81 => ⟨S8x3x256x256x4, .f32⟩
  | 82 => ⟨S1x1x1x1x4, .f32⟩
  | 83 => ⟨S8x3x256x256x4, .f32⟩
  | 84 => ⟨S8x3x256x256x4, .f32⟩
  | 85 => ⟨S_, .f32⟩
  | 86 => ⟨S8x3x256x256, .f32⟩
  | 87 => ⟨S8x3x256x256x4, .f32⟩
  | 88 => ⟨S_, .f32⟩
  | 89 => ⟨S4, .f32⟩
  | 90 => ⟨S4, .f32⟩
  | 91 => ⟨S1x1x1x1x4, .f32⟩
  | 92 => ⟨S8x3x256x256x4, .f32⟩
  | 93 => ⟨S8x3x256x256x4, .f32⟩
  | 94 => ⟨S_, .f32⟩
  | 95 => ⟨S8x3x256x256, .f32⟩
  | 96 => ⟨S8x3x256x256, .f32⟩
  | 97 => ⟨S_, .i32⟩
  | 98 => ⟨S256, .i32⟩
  | 99 => ⟨S256, .i1⟩
  | 100 => ⟨S_, .i32⟩
  | 101 => ⟨S256, .i32⟩
  | 102 => ⟨S256, .i1⟩
  | 103 => ⟨S256, .i1⟩
  | 104 => ⟨S_, .f32⟩
  | 105 => ⟨S_, .f32⟩
  | 106 => ⟨S256, .f32⟩
  | 107 => ⟨S256, .f32⟩
  | 108 => ⟨S256, .f32⟩
  | 109 => ⟨S256, .f32⟩
  | 110 => ⟨S1x1x1x256, .f32⟩
  | 111 => ⟨S8x3x256x256, .f32⟩
  | 112 => ⟨S8x3x256x256, .f32⟩
  | 113 => ⟨S_, .i32⟩
  | 114 => ⟨S_, .f32⟩
  | 115 => ⟨S8x3x258x258, .f32⟩
  | 116 => ⟨S8x3x128x128, .f32⟩
  | 117 => ⟨S8x3x128x128, .f32⟩
  | 118 => ⟨S8x3x128x128, .f32⟩
  | 119 => ⟨S8x3x128x128, .f32⟩
  | 120 => ⟨S8x3x128x128, .f32⟩
  | 121 => ⟨S8x3x128x128, .f32⟩
  | 122 => ⟨S8x3x128x128, .f32⟩
  | 123 => ⟨S8x3x128x128, .f32⟩
  | 124 => ⟨S8x3x128x128, .f32⟩
  | 125 => ⟨S8x27x128x128, .f32⟩
  | 126 => ⟨S16x3x3x3, .f32⟩
  | 127 => ⟨S16x27, .f32⟩
  | _ => ⟨S8x3x1024x1024, .f32⟩

abbrev hbmTy0_1 (i : Nat) : BufTy := match i % 128 with
  | 0 => ⟨S16x8x128x128, .f32⟩
  | 1 => ⟨S8x16x128x128, .f32⟩
  | 2 => ⟨S1x16x1x1, .f32⟩
  | 3 => ⟨S8x16x128x128, .f32⟩
  | 4 => ⟨S8x16x128x128, .f32⟩
  | 5 => ⟨S_, .f32⟩
  | 6 => ⟨S8x16x128x128, .f32⟩
  | 7 => ⟨S8x16x128x128, .i1⟩
  | 8 => ⟨S_, .f32⟩
  | 9 => ⟨S8x16x128x128, .f32⟩
  | 10 => ⟨S8x16x128x128, .f32⟩
  | 11 => ⟨S8x16x128x128, .f32⟩
  | 12 => ⟨S_, .f32⟩
  | 13 => ⟨S8x16, .f32⟩
  | 14 => ⟨S8x16x1x1, .f32⟩
  | 15 => ⟨S_, .f32⟩
  | 16 => ⟨S8x16x1x1, .f32⟩
  | 17 => ⟨S8x16x1x1, .f32⟩
  | 18 => ⟨S_, .i32⟩
  | 19 => ⟨S_, .f32⟩
  | 20 => ⟨S8x16, .f32⟩
  | 21 => ⟨S8x16x1x1, .f32⟩
  | 22 => ⟨S_, .f32⟩
  | 23 => ⟨S8x16x1x1, .f32⟩
  | 24 => ⟨S8x16x1x1, .f32⟩
  | 25 => ⟨S8x16x128x128, .f32⟩
  | 26 => ⟨S8x16x128x128, .f32⟩
  | 27 => ⟨S8x16x128x128, .f32⟩
  | 28 => ⟨S_, .f32⟩
  | 29 => ⟨S_, .f32⟩
  | 30 => ⟨S_, .f32⟩
  | 31 => ⟨S_, .f32⟩
  | 32 => ⟨S8x16, .f32⟩
  | 33 => ⟨S8x16x1x1, .f32⟩
  | 34 => ⟨S8x16x1x1, .f32⟩
  | 35 => ⟨S8x16x1x1, .f32⟩
  | 36 => ⟨S_, .f32⟩
  | 37 => ⟨S_, .i1⟩
  | 38 => ⟨S_, .f32⟩
  | 39 => ⟨S_, .f32⟩
  | 40 => ⟨S8x16x1x1, .f32⟩
  | 41 => ⟨S8x16x1x1, .f32⟩
  | 42 => ⟨S8x16x128x128, .f32⟩
  | 43 => ⟨S8x16x128x128, .f32⟩
  | 44 => ⟨S_, .f32⟩
  | 45 => ⟨S8x16x1x1, .f32⟩
  | 46 => ⟨S8x16x1x1, .f32⟩
  | 47 => ⟨S8x16x1x1, .f32⟩
  | 48 => ⟨S8x16x128x128, .f32⟩
  | 49 => ⟨S8x16x128x128, .f32⟩
  | 50 => ⟨S1x16x1x1, .f32⟩
  | 51 => ⟨S8x16x128x128, .f32⟩
  | 52 => ⟨S8x16x128x128, .f32⟩
  | 53 => ⟨S1x16x1x1, .f32⟩
  | 54 => ⟨S8x16x128x128, .f32⟩
  | 55 => ⟨S8x16x128x128, .f32⟩
  | 56 => ⟨S_, .i32⟩
  | 57 => ⟨S_, .f32⟩
  | 58 => ⟨S8x16x130x130, .f32⟩
  | 59 => ⟨S8x16x64x64, .f32⟩
  | 60 => ⟨S8x16x64x64, .f32⟩
  | 61 => ⟨S8x16x64x64, .f32⟩
  | 62 => ⟨S8x16x64x64, .f32⟩
  | 63 => ⟨S8x16x64x64, .f32⟩
  | 64 => ⟨S8x16x64x64, .f32⟩
  | 65 => ⟨S8x16x64x64, .f32⟩
  | 66 => ⟨S8x16x64x64, .f32⟩
  | 67 => ⟨S8x16x64x64, .f32⟩
  | 68 => ⟨S8x144x64x64, .f32⟩
  | 69 => ⟨S32x3x3x16, .f32⟩
  | 70 => ⟨S32x144, .f32⟩
  | 71 => ⟨S32x8x64x64, .f32⟩
  | 72 => ⟨S8x32x64x64, .f32⟩
  | 73 => ⟨S1x32x1x1, .f32⟩
  | 74 => ⟨S8x32x64x64, .f32⟩
  | 75 => ⟨S8x32x64x64, .f32⟩
  | 76 => ⟨S_, .f32⟩
  | 77 => ⟨S8x32x64x64, .f32⟩
  | 78 => ⟨S8x32x64x64, .i1⟩
  | 79 => ⟨S_, .f32⟩
  | 80 => ⟨S8x32x64x64, .f32⟩
  | 81 => ⟨S8x32x64x64, .f32⟩
  | 82 => ⟨S8x32x64x64, .f32⟩
  | 83 => ⟨S_, .f32⟩
  | 84 => ⟨S8x32, .f32⟩
  | 85 => ⟨S8x32x1x1, .f32⟩
  | 86 => ⟨S_, .f32⟩
  | 87 => ⟨S8x32x1x1, .f32⟩
  | 88 => ⟨S8x32x1x1, .f32⟩
  | 89 => ⟨S_, .i32⟩
  | 90 => ⟨S_, .f32⟩
  | 91 => ⟨S8x32, .f32⟩
  | 92 => ⟨S8x32x1x1, .f32⟩
  | 93 => ⟨S_, .f32⟩
  | 94 => ⟨S8x32x1x1, .f32⟩
  | 95 => ⟨S8x32x1x1, .f32⟩
  | 96 => ⟨S8x32x64x64, .f32⟩
  | 97 => ⟨S8x32x64x64, .f32⟩
  | 98 => ⟨S8x32x64x64, .f32⟩
  | 99 => ⟨S_, .f32⟩
  | 100 => ⟨S_, .f32⟩
  | 101 => ⟨S_, .f32⟩
  | 102 => ⟨S_, .f32⟩
  | 103 => ⟨S8x32, .f32⟩
  | 104 => ⟨S8x32x1x1, .f32⟩
  | 105 => ⟨S8x32x1x1, .f32⟩
  | 106 => ⟨S8x32x1x1, .f32⟩
  | 107 => ⟨S_, .f32⟩
  | 108 => ⟨S_, .i1⟩
  | 109 => ⟨S_, .f32⟩
  | 110 => ⟨S_, .f32⟩
  | 111 => ⟨S8x32x1x1, .f32⟩
  | 112 => ⟨S8x32x1x1, .f32⟩
  | 113 => ⟨S8x32x64x64, .f32⟩
  | 114 => ⟨S8x32x64x64, .f32⟩
  | 115 => ⟨S_, .f32⟩
  | 116 => ⟨S8x32x1x1, .f32⟩
  | 117 => ⟨S8x32x1x1, .f32⟩
  | 118 => ⟨S8x32x1x1, .f32⟩
  | 119 => ⟨S8x32x64x64, .f32⟩
  | 120 => ⟨S8x32x64x64, .f32⟩
  | 121 => ⟨S1x32x1x1, .f32⟩
  | 122 => ⟨S8x32x64x64, .f32⟩
  | 123 => ⟨S8x32x64x64, .f32⟩
  | 124 => ⟨S1x32x1x1, .f32⟩
  | 125 => ⟨S8x32x64x64, .f32⟩
  | 126 => ⟨S8x32x64x64, .f32⟩
  | 127 => ⟨S_, .i32⟩
  | _ => ⟨S8x3x1024x1024, .f32⟩

abbrev hbmTy0_2 (i : Nat) : BufTy := match i % 128 with
  | 0 => ⟨S_, .f32⟩
  | 1 => ⟨S8x32x66x66, .f32⟩
  | 2 => ⟨S8x32x32x32, .f32⟩
  | 3 => ⟨S8x32x32x32, .f32⟩
  | 4 => ⟨S8x32x32x32, .f32⟩
  | 5 => ⟨S8x32x32x32, .f32⟩
  | 6 => ⟨S8x32x32x32, .f32⟩
  | 7 => ⟨S8x32x32x32, .f32⟩
  | 8 => ⟨S8x32x32x32, .f32⟩
  | 9 => ⟨S8x32x32x32, .f32⟩
  | 10 => ⟨S8x32x32x32, .f32⟩
  | 11 => ⟨S8x288x32x32, .f32⟩
  | 12 => ⟨S64x3x3x32, .f32⟩
  | 13 => ⟨S64x288, .f32⟩
  | 14 => ⟨S64x8x32x32, .f32⟩
  | 15 => ⟨S8x64x32x32, .f32⟩
  | 16 => ⟨S1x64x1x1, .f32⟩
  | 17 => ⟨S8x64x32x32, .f32⟩
  | 18 => ⟨S8x64x32x32, .f32⟩
  | 19 => ⟨S_, .f32⟩
  | 20 => ⟨S8x64x32x32, .f32⟩
  | 21 => ⟨S8x64x32x32, .i1⟩
  | 22 => ⟨S_, .f32⟩
  | 23 => ⟨S8x64x32x32, .f32⟩
  | 24 => ⟨S8x64x32x32, .f32⟩
  | 25 => ⟨S8x64x32x32, .f32⟩
  | 26 => ⟨S_, .f32⟩
  | 27 => ⟨S8x64, .f32⟩
  | 28 => ⟨S8x64x1x1, .f32⟩
  | 29 => ⟨S_, .f32⟩
  | 30 => ⟨S8x64x1x1, .f32⟩
  | 31 => ⟨S8x64x1x1, .f32⟩
  | 32 => ⟨S_, .i32⟩
  | 33 => ⟨S_, .f32⟩
  | 34 => ⟨S8x64, .f32⟩
  | 35 => ⟨S8x64x1x1, .f32⟩
  | 36 => ⟨S_, .f32⟩
  | 37 => ⟨S8x64x1x1, .f32⟩
  | 38 => ⟨S8x64x1x1, .f32⟩
  | 39 => ⟨S8x64x32x32, .f32⟩
  | 40 => ⟨S8x64x32x32, .f32⟩
  | 41 => ⟨S8x64x32x32, .f32⟩
  | 42 => ⟨S_, .f32⟩
  | 43 => ⟨S_, .f32⟩
  | 44 => ⟨S_, .f32⟩
  | 45 => ⟨S_, .f32⟩
  | 46 => ⟨S8x64, .f32⟩
  | 47 => ⟨S8x64x1x1, .f32⟩
  | 48 => ⟨S8x64x1x1, .f32⟩
  | 49 => ⟨S8x64x1x1, .f32⟩
  | 50 => ⟨S_, .f32⟩
  | 51 => ⟨S_, .i1⟩
  | 52 => ⟨S_, .f32⟩
  | 53 => ⟨S_, .f32⟩
  | 54 => ⟨S8x64x1x1, .f32⟩
  | 55 => ⟨S8x64x1x1, .f32⟩
  | 56 => ⟨S8x64x32x32, .f32⟩
  | 57 => ⟨S8x64x32x32, .f32⟩
  | 58 => ⟨S_, .f32⟩
  | 59 => ⟨S8x64x1x1, .f32⟩
  | 60 => ⟨S8x64x1x1, .f32⟩
  | 61 => ⟨S8x64x1x1, .f32⟩
  | 62 => ⟨S8x64x32x32, .f32⟩
  | 63 => ⟨S8x64x32x32, .f32⟩
  | 64 => ⟨S1x64x1x1, .f32⟩
  | 65 => ⟨S8x64x32x32, .f32⟩
  | 66 => ⟨S8x64x32x32, .f32⟩
  | 67 => ⟨S1x64x1x1, .f32⟩
  | 68 => ⟨S8x64x32x32, .f32⟩
  | 69 => ⟨S8x64x32x32, .f32⟩
  | 70 => ⟨S_, .i32⟩
  | 71 => ⟨S_, .f32⟩
  | 72 => ⟨S8x64x34x34, .f32⟩
  | 73 => ⟨S8x64x16x16, .f32⟩
  | 74 => ⟨S8x64x16x16, .f32⟩
  | 75 => ⟨S8x64x16x16, .f32⟩
  | 76 => ⟨S8x64x16x16, .f32⟩
  | 77 => ⟨S8x64x16x16, .f32⟩
  | 78 => ⟨S8x64x16x16, .f32⟩
  | 79 => ⟨S8x64x16x16, .f32⟩
  | 80 => ⟨S8x64x16x16, .f32⟩
  | 81 => ⟨S8x64x16x16, .f32⟩
  | 82 => ⟨S8x576x16x16, .f32⟩
  | 83 => ⟨S128x3x3x64, .f32⟩
  | 84 => ⟨S128x576, .f32⟩
  | 85 => ⟨S128x8x16x16, .f32⟩
  | 86 => ⟨S8x128x16x16, .f32⟩
  | 87 => ⟨S1x128x1x1, .f32⟩
  | 88 => ⟨S8x128x16x16, .f32⟩
  | 89 => ⟨S8x128x16x16, .f32⟩
  | 90 => ⟨S_, .f32⟩
  | 91 => ⟨S8x128x16x16, .f32⟩
  | 92 => ⟨S8x128x16x16, .i1⟩
  | 93 => ⟨S_, .f32⟩
  | 94 => ⟨S8x128x16x16, .f32⟩
  | 95 => ⟨S8x128x16x16, .f32⟩
  | 96 => ⟨S8x128x16x16, .f32⟩
  | 97 => ⟨S_, .f32⟩
  | 98 => ⟨S8x128, .f32⟩
  | 99 => ⟨S8x128x1x1, .f32⟩
  | 100 => ⟨S_, .f32⟩
  | 101 => ⟨S8x128x1x1, .f32⟩
  | 102 => ⟨S8x128x1x1, .f32⟩
  | 103 => ⟨S_, .i32⟩
  | 104 => ⟨S_, .f32⟩
  | 105 => ⟨S8x128, .f32⟩
  | 106 => ⟨S8x128x1x1, .f32⟩
  | 107 => ⟨S_, .f32⟩
  | 108 => ⟨S8x128x1x1, .f32⟩
  | 109 => ⟨S8x128x1x1, .f32⟩
  | 110 => ⟨S8x128x16x16, .f32⟩
  | 111 => ⟨S8x128x16x16, .f32⟩
  | 112 => ⟨S8x128x16x16, .f32⟩
  | 113 => ⟨S_, .f32⟩
  | 114 => ⟨S_, .f32⟩
  | 115 => ⟨S_, .f32⟩
  | 116 => ⟨S_, .f32⟩
  | 117 => ⟨S8x128, .f32⟩
  | 118 => ⟨S8x128x1x1, .f32⟩
  | 119 => ⟨S8x128x1x1, .f32⟩
  | 120 => ⟨S8x128x1x1, .f32⟩
  | 121 => ⟨S_, .f32⟩
  | 122 => ⟨S_, .i1⟩
  | 123 => ⟨S_, .f32⟩
  | 124 => ⟨S_, .f32⟩
  | 125 => ⟨S8x128x1x1, .f32⟩
  | 126 => ⟨S8x128x1x1, .f32⟩
  | 127 => ⟨S8x128x16x16, .f32⟩
  | _ => ⟨S8x3x1024x1024, .f32⟩

abbrev hbmTy0_3 (i : Nat) : BufTy := match i % 128 with
  | 0 => ⟨S8x128x16x16, .f32⟩
  | 1 => ⟨S_, .f32⟩
  | 2 => ⟨S8x128x1x1, .f32⟩
  | 3 => ⟨S8x128x1x1, .f32⟩
  | 4 => ⟨S8x128x1x1, .f32⟩
  | 5 => ⟨S8x128x16x16, .f32⟩
  | 6 => ⟨S8x128x16x16, .f32⟩
  | 7 => ⟨S1x128x1x1, .f32⟩
  | 8 => ⟨S8x128x16x16, .f32⟩
  | 9 => ⟨S8x128x16x16, .f32⟩
  | 10 => ⟨S1x128x1x1, .f32⟩
  | 11 => ⟨S8x128x16x16, .f32⟩
  | 12 => ⟨S8x128x16x16, .f32⟩
  | 13 => ⟨S_, .i32⟩
  | 14 => ⟨S_, .f32⟩
  | 15 => ⟨S8x128x18x18, .f32⟩
  | 16 => ⟨S8x128x8x8, .f32⟩
  | 17 => ⟨S8x128x8x8, .f32⟩
  | 18 => ⟨S8x128x8x8, .f32⟩
  | 19 => ⟨S8x128x8x8, .f32⟩
  | 20 => ⟨S8x128x8x8, .f32⟩
  | 21 => ⟨S8x128x8x8, .f32⟩
  | 22 => ⟨S8x128x8x8, .f32⟩
  | 23 => ⟨S8x128x8x8, .f32⟩
  | 24 => ⟨S8x128x8x8, .f32⟩
  | 25 => ⟨S8x1152x8x8, .f32⟩
  | 26 => ⟨S128x3x3x128, .f32⟩
  | 27 => ⟨S128x1152, .f32⟩
  | 28 => ⟨S128x8x8x8, .f32⟩
  | 29 => ⟨S8x128x8x8, .f32⟩
  | 30 => ⟨S1x128x1x1, .f32⟩
  | 31 => ⟨S8x128x8x8, .f32⟩
  | 32 => ⟨S8x128x8x8, .f32⟩
  | 33 => ⟨S_, .f32⟩
  | 34 => ⟨S8x128x8x8, .f32⟩
  | 35 => ⟨S8x128x8x8, .i1⟩
  | 36 => ⟨S_, .f32⟩
  | 37 => ⟨S8x128x8x8, .f32⟩
  | 38 => ⟨S8x128x8x8, .f32⟩
  | 39 => ⟨S8x128x8x8, .f32⟩
  | 40 => ⟨S8x8192, .f32⟩
  | 41 => ⟨S8192x3, .f32⟩
  | 42 => ⟨S8x3, .f32⟩
  | 43 => ⟨S1x3, .f32⟩
  | 44 => ⟨S8x3, .f32⟩
  | 45 => ⟨S8x3, .f32⟩
  | 46 => ⟨S3x107811, .f32⟩
  | 47 => ⟨S8x107811, .f32⟩
  | 48 => ⟨S8x3x33x33x33, .f32⟩
  | 49 => ⟨S3x107811, .f32⟩
  | 50 => ⟨S3x3x35937, .f32⟩
  | 51 => ⟨S1x3x35937, .f32⟩
  | 52 => ⟨S2x3x35937, .f32⟩
  | 53 => ⟨S2x3x35937, .f32⟩
  | 54 => ⟨S_, .f32⟩
  | 55 => ⟨S2x3, .f32⟩
  | 56 => ⟨S2x3x1, .f32⟩
  | 57 => ⟨S_, .f32⟩
  | 58 => ⟨S2x3x1, .f32⟩
  | 59 => ⟨S2x3x1, .f32⟩
  | 60 => ⟨S_, .f32⟩
  | 61 => ⟨S2x3x1, .f32⟩
  | 62 => ⟨S2x3x1, .f32⟩
  | 63 => ⟨S2x3x35937, .f32⟩
  | 64 => ⟨S2x3x35937, .f32⟩
  | 65 => ⟨S2x3x35937, .f32⟩
  | 66 => ⟨S_, .i32⟩
  | 67 => ⟨S_, .i32⟩
  | 68 => ⟨S_, .f32⟩
  | 69 => ⟨S2x3x35937, .f32⟩
  | 70 => ⟨S2x3x35937, .f32⟩
  | 71 => ⟨S_, .f32⟩
  | 72 => ⟨S2x3x35937, .f32⟩
  | 73 => ⟨S2x3x35937, .f32⟩
  | 74 => ⟨S2x3x35937, .f32⟩
  | 75 => ⟨S2x3x35937, .f32⟩
  | 76 => ⟨S3x3x35937, .f32⟩
  | 77 => ⟨S3x107811, .f32⟩
  | 78 => ⟨S8x107811, .f32⟩
  | 79 => ⟨S8x3x33x33x33, .f32⟩
  | 80 => ⟨S8x3x33, .f32⟩
  | 81 => ⟨S8x3x1048576, .f32⟩
  | 82 => ⟨S8x3x33x1, .f32⟩
  | 83 => ⟨S8x3x1x1048576, .f32⟩
  | 84 => ⟨S8x3x33x1048576, .f32⟩
  | 85 => ⟨S8x3x33x1048576, .f32⟩
  | 86 => ⟨S8x3x33x1048576, .i1⟩
  | 87 => ⟨S8x3x33x1048576, .i32⟩
  | 88 => ⟨S_, .i32⟩
  | 89 => ⟨S8x3x1048576, .i32⟩
  | 90 => ⟨S_, .i32⟩
  | 91 => ⟨S8x3x1048576, .i32⟩
  | 92 => ⟨S8x3x1048576, .i32⟩
  | 93 => ⟨S_, .i32⟩
  | 94 => ⟨S_, .i32⟩
  | 95 => ⟨S_, .i32⟩
  | 96 => ⟨S8x3x1048576, .i32⟩
  | 97 => ⟨S8x3x1048576, .i32⟩
  | 98 => ⟨S_, .i32⟩
  | 99 => ⟨S8x3x1048576, .i32⟩
  | 100 => ⟨S8x3x1048576, .i32⟩
  | 101 => ⟨S_, .i32⟩
  | 102 => ⟨S8x3x1048576, .i32⟩
  | 103 => ⟨S8x3x1048576, .i1⟩
  | 104 => ⟨S_, .i32⟩
  | 105 => ⟨S8x3x1048576, .i32⟩
  | 106 => ⟨S8x3x1048576, .i32⟩
  | 107 => ⟨S8x3x1048576, .i32⟩
  | 108 => ⟨S8x3x1048576x1, .i32⟩
  | 109 => ⟨S8x3x1048576, .f32⟩
  | 110 => ⟨S_, .i32⟩
  | 111 => ⟨S8x3x1048576, .i32⟩
  | 112 => ⟨S8x3x1048576, .i32⟩
  | 113 => ⟨S_, .i32⟩
  | 114 => ⟨S8x3x1048576, .i32⟩
  | 115 => ⟨S8x3x1048576, .i1⟩
  | 116 => ⟨S_, .i32⟩
  | 117 => ⟨S8x3x1048576, .i32⟩
  | 118 => ⟨S8x3x1048576, .i32⟩
  | 119 => ⟨S8x3x1048576, .i32⟩
  | 120 => ⟨S8x3x1048576x1, .i32⟩
  | 121 => ⟨S8x3x1048576, .f32⟩
  | 122 => ⟨S8x3x1048576, .f32⟩
  | 123 => ⟨S8x3x1048576, .f32⟩
  | 124 => ⟨S8x3x1048576, .f32⟩
  | 125 => ⟨S8x1x1048576, .i32⟩
  | 126 => ⟨S8x1048576, .i32⟩
  | 127 => ⟨S8x1x1048576, .i32⟩
  | _ => ⟨S8x3x1024x1024, .f32⟩

abbrev hbmTy0_4 (i : Nat) : BufTy := match i % 128 with
  | 0 => ⟨S8x1048576, .i32⟩
  | 1 => ⟨S8x1x1048576, .i32⟩
  | 2 => ⟨S8x1048576, .i32⟩
  | 3 => ⟨S8x1x1048576, .f32⟩
  | 4 => ⟨S8x1048576, .f32⟩
  | 5 => ⟨S8x1x1048576, .f32⟩
  | 6 => ⟨S8x1048576, .f32⟩
  | 7 => ⟨S8x1x1048576, .f32⟩
  | 8 => ⟨S8x1048576, .f32⟩
  | 9 => ⟨S8x3x35937, .f32⟩
  | 10 => ⟨S_, .f32⟩
  | 11 => ⟨S8x3x1048576, .f32⟩
  | 12 => ⟨S_, .f32⟩
  | 13 => ⟨S8x1048576, .f32⟩
  | 14 => ⟨S8x1048576, .f32⟩
  | 15 => ⟨S_, .f32⟩
  | 16 => ⟨S8x1048576, .f32⟩
  | 17 => ⟨S8x1048576, .f32⟩
  | 18 => ⟨S8x1048576, .f32⟩
  | 19 => ⟨S_, .f32⟩
  | 20 => ⟨S8x1048576, .f32⟩
  | 21 => ⟨S8x1048576, .f32⟩
  | 22 => ⟨S8x1048576, .f32⟩
  | 23 => ⟨S_, .i32⟩
  | 24 => ⟨S8x1048576, .i32⟩
  | 25 => ⟨S8x1048576, .i32⟩
  | 26 => ⟨S_, .i32⟩
  | 27 => ⟨S8x1048576, .i32⟩
  | 28 => ⟨S8x1048576, .i32⟩
  | 29 => ⟨S_, .i32⟩
  | 30 => ⟨S8x1048576, .i32⟩
  | 31 => ⟨S8x1048576, .i32⟩
  | 32 => ⟨S8x1048576, .i32⟩
  | 33 => ⟨S_, .i32⟩
  | 34 => ⟨S8x1048576, .i32⟩
  | 35 => ⟨S8x1048576, .i32⟩
  | 36 => ⟨S_, .i32⟩
  | 37 => ⟨S8x1048576, .i32⟩
  | 38 => ⟨S8x1048576, .i32⟩
  | 39 => ⟨S8x1048576, .i32⟩
  | 40 => ⟨S8x1x1048576, .i32⟩
  | 41 => ⟨S_, .i32⟩
  | 42 => ⟨S8x1x1048576, .i32⟩
  | 43 => ⟨S8x1x1048576, .i1⟩
  | 44 => ⟨S_, .i32⟩
  | 45 => ⟨S8x1x1048576, .i32⟩
  | 46 => ⟨S8x1x1048576, .i32⟩
  | 47 => ⟨S8x1x1048576, .i32⟩
  | 48 => ⟨S8x1048576x1, .i32⟩
  | 49 => ⟨S8x3x1048576, .f32⟩
  | 50 => ⟨S8x1x1048576, .f32⟩
  | 51 => ⟨S8x3x1048576, .f32⟩
  | 52 => ⟨S8x3x1048576, .f32⟩
  | 53 => ⟨S8x3x1048576, .f32⟩
  | 54 => ⟨S_, .f32⟩
  | 55 => ⟨S8x1048576, .f32⟩
  | 56 => ⟨S8x1048576, .f32⟩
  | 57 => ⟨S_, .f32⟩
  | 58 => ⟨S8x1048576, .f32⟩
  | 59 => ⟨S8x1048576, .f32⟩
  | 60 => ⟨S8x1048576, .f32⟩
  | 61 => ⟨S8x1048576, .f32⟩
  | 62 => ⟨S_, .i32⟩
  | 63 => ⟨S8x1048576, .i32⟩
  | 64 => ⟨S8x1048576, .i32⟩
  | 65 => ⟨S_, .i32⟩
  | 66 => ⟨S8x1048576, .i32⟩
  | 67 => ⟨S8x1048576, .i32⟩
  | 68 => ⟨S_, .i32⟩
  | 69 => ⟨S8x1048576, .i32⟩
  | 70 => ⟨S8x1048576, .i32⟩
  | 71 => ⟨S8x1048576, .i32⟩
  | 72 => ⟨S_, .i32⟩
  | 73 => ⟨S8x1048576, .i32⟩
  | 74 => ⟨S8x1048576, .i32⟩
  | 75 => ⟨S_, .i32⟩
  | 76 => ⟨S8x1048576, .i32⟩
  | 77 => ⟨S8x1048576, .i32⟩
  | 78 => ⟨S8x1048576, .i32⟩
  | 79 => ⟨S8x1x1048576, .i32⟩
  | 80 => ⟨S_, .i32⟩
  | 81 => ⟨S8x1x1048576, .i32⟩
  | 82 => ⟨S8x1x1048576, .i1⟩
  | 83 => ⟨S_, .i32⟩
  | 84 => ⟨S8x1x1048576, .i32⟩
  | 85 => ⟨S8x1x1048576, .i32⟩
  | 86 => ⟨S8x1x1048576, .i32⟩
  | 87 => ⟨S8x1048576x1, .i32⟩
  | 88 => ⟨S8x3x1048576, .f32⟩
  | 89 => ⟨S8x1x1048576, .f32⟩
  | 90 => ⟨S8x3x1048576, .f32⟩
  | 91 => ⟨S8x3x1048576, .f32⟩
  | 92 => ⟨S8x3x1048576, .f32⟩
  | 93 => ⟨S_, .f32⟩
  | 94 => ⟨S8x1048576, .f32⟩
  | 95 => ⟨S8x1048576, .f32⟩
  | 96 => ⟨S8x1048576, .f32⟩
  | 97 => ⟨S_, .f32⟩
  | 98 => ⟨S8x1048576, .f32⟩
  | 99 => ⟨S8x1048576, .f32⟩
  | 100 => ⟨S8x1048576, .f32⟩
  | 101 => ⟨S_, .i32⟩
  | 102 => ⟨S8x1048576, .i32⟩
  | 103 => ⟨S8x1048576, .i32⟩
  | 104 => ⟨S_, .i32⟩
  | 105 => ⟨S8x1048576, .i32⟩
  | 106 => ⟨S8x1048576, .i32⟩
  | 107 => ⟨S_, .i32⟩
  | 108 => ⟨S8x1048576, .i32⟩
  | 109 => ⟨S8x1048576, .i32⟩
  | 110 => ⟨S8x1048576, .i32⟩
  | 111 => ⟨S_, .i32⟩
  | 112 => ⟨S8x1048576, .i32⟩
  | 113 => ⟨S8x1048576, .i32⟩
  | 114 => ⟨S_, .i32⟩
  | 115 => ⟨S8x1048576, .i32⟩
  | 116 => ⟨S8x1048576, .i32⟩
  | 117 => ⟨S8x1048576, .i32⟩
  | 118 => ⟨S8x1x1048576, .i32⟩
  | 119 => ⟨S_, .i32⟩
  | 120 => ⟨S8x1x1048576, .i32⟩
  | 121 => ⟨S8x1x1048576, .i1⟩
  | 122 => ⟨S_, .i32⟩
  | 123 => ⟨S8x1x1048576, .i32⟩
  | 124 => ⟨S8x1x1048576, .i32⟩
  | 125 => ⟨S8x1x1048576, .i32⟩
  | 126 => ⟨S8x1048576x1, .i32⟩
  | 127 => ⟨S8x3x1048576, .f32⟩
  | _ => ⟨S8x3x1024x1024, .f32⟩

abbrev hbmTy0_5 (i : Nat) : BufTy := match i % 128 with
  | 0 => ⟨S8x1x1048576, .f32⟩
  | 1 => ⟨S8x3x1048576, .f32⟩
  | 2 => ⟨S8x3x1048576, .f32⟩
  | 3 => ⟨S8x3x1048576, .f32⟩
  | 4 => ⟨S_, .f32⟩
  | 5 => ⟨S8x1048576, .f32⟩
  | 6 => ⟨S8x1048576, .f32⟩
  | 7 => ⟨S8x1048576, .f32⟩
  | 8 => ⟨S8x1048576, .f32⟩
  | 9 => ⟨S_, .i32⟩
  | 10 => ⟨S8x1048576, .i32⟩
  | 11 => ⟨S8x1048576, .i32⟩
  | 12 => ⟨S_, .i32⟩
  | 13 => ⟨S8x1048576, .i32⟩
  | 14 => ⟨S8x1048576, .i32⟩
  | 15 => ⟨S_, .i32⟩
  | 16 => ⟨S8x1048576, .i32⟩
  | 17 => ⟨S8x1048576, .i32⟩
  | 18 => ⟨S8x1048576, .i32⟩
  | 19 => ⟨S_, .i32⟩
  | 20 => ⟨S8x1048576, .i32⟩
  | 21 => ⟨S8x1048576, .i32⟩
  | 22 => ⟨S_, .i32⟩
  | 23 => ⟨S8x1048576, .i32⟩
  | 24 => ⟨S8x1048576, .i32⟩
  | 25 => ⟨S8x1048576, .i32⟩
  | 26 => ⟨S8x1x1048576, .i32⟩
  | 27 => ⟨S_, .i32⟩
  | 28 => ⟨S8x1x1048576, .i32⟩
  | 29 => ⟨S8x1x1048576, .i1⟩
  | 30 => ⟨S_, .i32⟩
  | 31 => ⟨S8x1x1048576, .i32⟩
  | 32 => ⟨S8x1x1048576, .i32⟩
  | 33 => ⟨S8x1x1048576, .i32⟩
  | 34 => ⟨S8x1048576x1, .i32⟩
  | 35 => ⟨S8x3x1048576, .f32⟩
  | 36 => ⟨S8x1x1048576, .f32⟩
  | 37 => ⟨S8x3x1048576, .f32⟩
  | 38 => ⟨S8x3x1048576, .f32⟩
  | 39 => ⟨S8x3x1048576, .f32⟩
  | 40 => ⟨S_, .f32⟩
  | 41 => ⟨S8x1048576, .f32⟩
  | 42 => ⟨S8x1048576, .f32⟩
  | 43 => ⟨S8x1048576, .f32⟩
  | 44 => ⟨S_, .f32⟩
  | 45 => ⟨S8x1048576, .f32⟩
  | 46 => ⟨S8x1048576, .f32⟩
  | 47 => ⟨S8x1048576, .f32⟩
  | 48 => ⟨S_, .i32⟩
  | 49 => ⟨S8x1048576, .i32⟩
  | 50 => ⟨S8x1048576, .i32⟩
  | 51 => ⟨S_, .i32⟩
  | 52 => ⟨S8x1048576, .i32⟩
  | 53 => ⟨S8x1048576, .i32⟩
  | 54 => ⟨S_, .i32⟩
  | 55 => ⟨S8x1048576, .i32⟩
  | 56 => ⟨S8x1048576, .i32⟩
  | 57 => ⟨S8x1048576, .i32⟩
  | 58 => ⟨S_, .i32⟩
  | 59 => ⟨S8x1048576, .i32⟩
  | 60 => ⟨S8x1048576, .i32⟩
  | 61 => ⟨S_, .i32⟩
  | 62 => ⟨S8x1048576, .i32⟩
  | 63 => ⟨S8x1048576, .i32⟩
  | 64 => ⟨S8x1048576, .i32⟩
  | 65 => ⟨S8x1x1048576, .i32⟩
  | 66 => ⟨S_, .i32⟩
  | 67 => ⟨S8x1x1048576, .i32⟩
  | 68 => ⟨S8x1x1048576, .i1⟩
  | 69 => ⟨S_, .i32⟩
  | 70 => ⟨S8x1x1048576, .i32⟩
  | 71 => ⟨S8x1x1048576, .i32⟩
  | 72 => ⟨S8x1x1048576, .i32⟩
  | 73 => ⟨S8x1048576x1, .i32⟩
  | 74 => ⟨S8x3x1048576, .f32⟩
  | 75 => ⟨S8x1x1048576, .f32⟩
  | 76 => ⟨S8x3x1048576, .f32⟩
  | 77 => ⟨S8x3x1048576, .f32⟩
  | 78 => ⟨S8x3x1048576, .f32⟩
  | 79 => ⟨S_, .f32⟩
  | 80 => ⟨S8x1048576, .f32⟩
  | 81 => ⟨S8x1048576, .f32⟩
  | 82 => ⟨S8x1048576, .f32⟩
  | 83 => ⟨S8x1048576, .f32⟩
  | 84 => ⟨S_, .i32⟩
  | 85 => ⟨S8x1048576, .i32⟩
  | 86 => ⟨S8x1048576, .i32⟩
  | 87 => ⟨S_, .i32⟩
  | 88 => ⟨S8x1048576, .i32⟩
  | 89 => ⟨S8x1048576, .i32⟩
  | 90 => ⟨S_, .i32⟩
  | 91 => ⟨S8x1048576, .i32⟩
  | 92 => ⟨S8x1048576, .i32⟩
  | 93 => ⟨S8x1048576, .i32⟩
  | 94 => ⟨S_, .i32⟩
  | 95 => ⟨S8x1048576, .i32⟩
  | 96 => ⟨S8x1048576, .i32⟩
  | 97 => ⟨S_, .i32⟩
  | 98 => ⟨S8x1048576, .i32⟩
  | 99 => ⟨S8x1048576, .i32⟩
  | 100 => ⟨S8x1048576, .i32⟩
  | 101 => ⟨S8x1x1048576, .i32⟩
  | 102 => ⟨S_, .i32⟩
  | 103 => ⟨S8x1x1048576, .i32⟩
  | 104 => ⟨S8x1x1048576, .i1⟩
  | 105 => ⟨S_, .i32⟩
  | 106 => ⟨S8x1x1048576, .i32⟩
  | 107 => ⟨S8x1x1048576, .i32⟩
  | 108 => ⟨S8x1x1048576, .i32⟩
  | 109 => ⟨S8x1048576x1, .i32⟩
  | 110 => ⟨S8x3x1048576, .f32⟩
  | 111 => ⟨S8x1x1048576, .f32⟩
  | 112 => ⟨S8x3x1048576, .f32⟩
  | 113 => ⟨S8x3x1048576, .f32⟩
  | 114 => ⟨S8x3x1048576, .f32⟩
  | 115 => ⟨S8x1048576, .f32⟩
  | 116 => ⟨S_, .f32⟩
  | 117 => ⟨S8x1048576, .f32⟩
  | 118 => ⟨S8x1048576, .f32⟩
  | 119 => ⟨S8x1048576, .f32⟩
  | 120 => ⟨S_, .i32⟩
  | 121 => ⟨S8x1048576, .i32⟩
  | 122 => ⟨S8x1048576, .i32⟩
  | 123 => ⟨S_, .i32⟩
  | 124 => ⟨S8x1048576, .i32⟩
  | 125 => ⟨S8x1048576, .i32⟩
  | 126 => ⟨S_, .i32⟩
  | 127 => ⟨S8x1048576, .i32⟩
  | _ => ⟨S8x3x1024x1024, .f32⟩

abbrev hbmTy0_6 (i : Nat) : BufTy := match i % 128 with
  | 0 => ⟨S8x1048576, .i32⟩
  | 1 => ⟨S8x1048576, .i32⟩
  | 2 => ⟨S_, .i32⟩
  | 3 => ⟨S8x1048576, .i32⟩
  | 4 => ⟨S8x1048576, .i32⟩
  | 5 => ⟨S_, .i32⟩
  | 6 => ⟨S8x1048576, .i32⟩
  | 7 => ⟨S8x1048576, .i32⟩
  | 8 => ⟨S8x1048576, .i32⟩
  | 9 => ⟨S8x1x1048576, .i32⟩
  | 10 => ⟨S_, .i32⟩
  | 11 => ⟨S8x1x1048576, .i32⟩
  | 12 => ⟨S8x1x1048576, .i1⟩
  | 13 => ⟨S_, .i32⟩
  | 14 => ⟨S8x1x1048576, .i32⟩
  | 15 => ⟨S8x1x1048576, .i32⟩
  | 16 => ⟨S8x1x1048576, .i32⟩
  | 17 => ⟨S8x1048576x1, .i32⟩
  | 18 => ⟨S8x3x1048576, .f32⟩
  | 19 => ⟨S8x1x1048576, .f32⟩
  | 20 => ⟨S8x3x1048576, .f32⟩
  | 21 => ⟨S8x3x1048576, .f32⟩
  | 22 => ⟨S8x3x1048576, .f32⟩
  | 23 => ⟨S8x1048576, .f32⟩
  | 24 => ⟨S8x1048576, .f32⟩
  | 25 => ⟨S_, .i32⟩
  | 26 => ⟨S8x1048576, .i32⟩
  | 27 => ⟨S8x1048576, .i32⟩
  | 28 => ⟨S_, .i32⟩
  | 29 => ⟨S8x1048576, .i32⟩
  | 30 => ⟨S8x1048576, .i32⟩
  | 31 => ⟨S_, .i32⟩
  | 32 => ⟨S8x1048576, .i32⟩
  | 33 => ⟨S8x1048576, .i32⟩
  | 34 => ⟨S8x1048576, .i32⟩
  | 35 => ⟨S_, .i32⟩
  | 36 => ⟨S8x1048576, .i32⟩
  | 37 => ⟨S8x1048576, .i32⟩
  | 38 => ⟨S_, .i32⟩
  | 39 => ⟨S8x1048576, .i32⟩
  | 40 => ⟨S8x1048576, .i32⟩
  | 41 => ⟨S8x1048576, .i32⟩
  | 42 => ⟨S8x1x1048576, .i32⟩
  | 43 => ⟨S_, .i32⟩
  | 44 => ⟨S8x1x1048576, .i32⟩
  | 45 => ⟨S8x1x1048576, .i1⟩
  | 46 => ⟨S_, .i32⟩
  | 47 => ⟨S8x1x1048576, .i32⟩
  | 48 => ⟨S8x1x1048576, .i32⟩
  | 49 => ⟨S8x1x1048576, .i32⟩
  | 50 => ⟨S8x1048576x1, .i32⟩
  | 51 => ⟨S8x3x1048576, .f32⟩
  | 52 => ⟨S8x1x1048576, .f32⟩
  | 53 => ⟨S8x3x1048576, .f32⟩
  | 54 => ⟨S8x3x1048576, .f32⟩
  | 55 => ⟨S8x3x1048576, .f32⟩
  | 56 => ⟨S8x3x1024x1024, .f32⟩
  | _ => ⟨S8x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_v0 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_8 : Ref sig .tc := ⟨.hbm, 69, rfl⟩
abbrev main_call2_v0 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_cst_10 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_11 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩
abbrev main_c_14 : Ref sig .tc := ⟨.hbm, 97, rfl⟩
abbrev main_v54 : Ref sig .tc := ⟨.hbm, 98, rfl⟩
abbrev main_v55 : Ref sig .tc := ⟨.hbm, 99, rfl⟩
abbrev main_c_15 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_16 : Ref sig .tc := ⟨.hbm, 104, rfl⟩
abbrev main_cst_17 : Ref sig .tc := ⟨.hbm, 105, rfl⟩
abbrev main_call3_v0 : Ref sig .tc := ⟨.hbm, 106, rfl⟩
abbrev main_call3_v1 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_18 : Ref sig .tc := ⟨.hbm, 113, rfl⟩
abbrev main_call4_v0 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_19 : Ref sig .tc := ⟨.hbm, 133, rfl⟩
abbrev main_v82 : Ref sig .tc := ⟨.hbm, 134, rfl⟩
abbrev main_v83 : Ref sig .tc := ⟨.hbm, 135, rfl⟩
abbrev main_cst_20 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_21 : Ref sig .tc := ⟨.hbm, 140, rfl⟩
abbrev main_v87 : Ref sig .tc := ⟨.hbm, 141, rfl⟩
abbrev main_v88 : Ref sig .tc := ⟨.hbm, 142, rfl⟩
abbrev main_cst_22 : Ref sig .tc := ⟨.hbm, 143, rfl⟩
abbrev main_v89 : Ref sig .tc := ⟨.hbm, 144, rfl⟩
abbrev main_v90 : Ref sig .tc := ⟨.hbm, 145, rfl⟩
abbrev main_c_23 : Ref sig .tc := ⟨.hbm, 146, rfl⟩
abbrev main_call6_cst : Ref sig .tc := ⟨.hbm, 147, rfl⟩
abbrev main_call6_v0 : Ref sig .tc := ⟨.hbm, 148, rfl⟩
abbrev main_call6_v1 : Ref sig .tc := ⟨.hbm, 149, rfl⟩
abbrev main_call6_cst_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_v5 : Ref sig .tc := ⟨.hbm, 154, rfl⟩
abbrev main_call6_v6 : Ref sig .tc := ⟨.hbm, 155, rfl⟩
abbrev main_call6_v7 : Ref sig .tc := ⟨.hbm, 156, rfl⟩
abbrev main_call6_cst_1 : Ref sig .tc := ⟨.hbm, 157, rfl⟩
abbrev main_call6_v8 : Ref sig .tc := ⟨.hbm, 158, rfl⟩
abbrev main_call6_cst_2 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_call6_v12 : Ref sig .tc := ⟨.hbm, 163, rfl⟩
abbrev main_call6_cst_3 : Ref sig .tc := ⟨.hbm, 164, rfl⟩
abbrev main_call6_v13 : Ref sig .tc := ⟨.hbm, 165, rfl⟩
abbrev main_call6_cst_4 : Ref sig .tc := ⟨.hbm, 166, rfl⟩
abbrev main_call6_call0_v0 : Ref sig .tc := ⟨.hbm, 167, rfl⟩
abbrev main_call6_call0_v1 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_cst_24 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_c_25 : Ref sig .tc := ⟨.hbm, 184, rfl⟩
abbrev main_call7_v0 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_cst_26 : Ref sig .tc := ⟨.hbm, 204, rfl⟩
abbrev main_v123 : Ref sig .tc := ⟨.hbm, 205, rfl⟩
abbrev main_v124 : Ref sig .tc := ⟨.hbm, 206, rfl⟩
abbrev main_cst_27 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_28 : Ref sig .tc := ⟨.hbm, 211, rfl⟩
abbrev main_v128 : Ref sig .tc := ⟨.hbm, 212, rfl⟩
abbrev main_v129 : Ref sig .tc := ⟨.hbm, 213, rfl⟩
abbrev main_cst_29 : Ref sig .tc := ⟨.hbm, 214, rfl⟩
abbrev main_v130 : Ref sig .tc := ⟨.hbm, 215, rfl⟩
abbrev main_v131 : Ref sig .tc := ⟨.hbm, 216, rfl⟩
abbrev main_c_30 : Ref sig .tc := ⟨.hbm, 217, rfl⟩
abbrev main_call9_cst : Ref sig .tc := ⟨.hbm, 218, rfl⟩
abbrev main_call9_v0 : Ref sig .tc := ⟨.hbm, 219, rfl⟩
abbrev main_call9_v1 : Ref sig .tc := ⟨.hbm, 220, rfl⟩
abbrev main_call9_cst_0 : Ref sig .tc := ⟨.hbm, 221, rfl⟩
abbrev main_call9_v2 : Ref sig .tc := ⟨.hbm, 222, rfl⟩
abbrev main_call9_v3 : Ref sig .tc := ⟨.hbm, 223, rfl⟩
abbrev main_call9_v4 : Ref sig .tc := ⟨.hbm, 224, rfl⟩
abbrev main_call9_v5 : Ref sig .tc := ⟨.hbm, 225, rfl⟩
abbrev main_call9_v6 : Ref sig .tc := ⟨.hbm, 226, rfl⟩
abbrev main_call9_v7 : Ref sig .tc := ⟨.hbm, 227, rfl⟩
abbrev main_call9_cst_1 : Ref sig .tc := ⟨.hbm, 228, rfl⟩
abbrev main_call9_v8 : Ref sig .tc := ⟨.hbm, 229, rfl⟩
abbrev main_call9_cst_2 : Ref sig .tc := ⟨.hbm, 230, rfl⟩
abbrev main_call9_v9 : Ref sig .tc := ⟨.hbm, 231, rfl⟩
abbrev main_call9_v10 : Ref sig .tc := ⟨.hbm, 232, rfl⟩
abbrev main_call9_v11 : Ref sig .tc := ⟨.hbm, 233, rfl⟩
abbrev main_call9_v12 : Ref sig .tc := ⟨.hbm, 234, rfl⟩
abbrev main_call9_cst_3 : Ref sig .tc := ⟨.hbm, 235, rfl⟩
abbrev main_call9_v13 : Ref sig .tc := ⟨.hbm, 236, rfl⟩
abbrev main_call9_cst_4 : Ref sig .tc := ⟨.hbm, 237, rfl⟩
abbrev main_call9_call0_v0 : Ref sig .tc := ⟨.hbm, 238, rfl⟩
abbrev main_call9_call0_v1 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_cst_31 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_c_32 : Ref sig .tc := ⟨.hbm, 255, rfl⟩
abbrev main_call10_v0 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_cst_33 : Ref sig .tc := ⟨.hbm, 275, rfl⟩
abbrev main_v164 : Ref sig .tc := ⟨.hbm, 276, rfl⟩
abbrev main_v165 : Ref sig .tc := ⟨.hbm, 277, rfl⟩
abbrev main_cst_34 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_cst_35 : Ref sig .tc := ⟨.hbm, 282, rfl⟩
abbrev main_v169 : Ref sig .tc := ⟨.hbm, 283, rfl⟩
abbrev main_v170 : Ref sig .tc := ⟨.hbm, 284, rfl⟩
abbrev main_cst_36 : Ref sig .tc := ⟨.hbm, 285, rfl⟩
abbrev main_v171 : Ref sig .tc := ⟨.hbm, 286, rfl⟩
abbrev main_v172 : Ref sig .tc := ⟨.hbm, 287, rfl⟩
abbrev main_c_37 : Ref sig .tc := ⟨.hbm, 288, rfl⟩
abbrev main_call12_cst : Ref sig .tc := ⟨.hbm, 289, rfl⟩
abbrev main_call12_v0 : Ref sig .tc := ⟨.hbm, 290, rfl⟩
abbrev main_call12_v1 : Ref sig .tc := ⟨.hbm, 291, rfl⟩
abbrev main_call12_cst_0 : Ref sig .tc := ⟨.hbm, 292, rfl⟩
abbrev main_call12_v2 : Ref sig .tc := ⟨.hbm, 293, rfl⟩
abbrev main_call12_v3 : Ref sig .tc := ⟨.hbm, 294, rfl⟩
abbrev main_call12_v4 : Ref sig .tc := ⟨.hbm, 295, rfl⟩
abbrev main_call12_v5 : Ref sig .tc := ⟨.hbm, 296, rfl⟩
abbrev main_call12_v6 : Ref sig .tc := ⟨.hbm, 297, rfl⟩
abbrev main_call12_v7 : Ref sig .tc := ⟨.hbm, 298, rfl⟩
abbrev main_call12_cst_1 : Ref sig .tc := ⟨.hbm, 299, rfl⟩
abbrev main_call12_v8 : Ref sig .tc := ⟨.hbm, 300, rfl⟩
abbrev main_call12_cst_2 : Ref sig .tc := ⟨.hbm, 301, rfl⟩
abbrev main_call12_v9 : Ref sig .tc := ⟨.hbm, 302, rfl⟩
abbrev main_call12_v10 : Ref sig .tc := ⟨.hbm, 303, rfl⟩
abbrev main_call12_v11 : Ref sig .tc := ⟨.hbm, 304, rfl⟩
abbrev main_call12_v12 : Ref sig .tc := ⟨.hbm, 305, rfl⟩
abbrev main_call12_cst_3 : Ref sig .tc := ⟨.hbm, 306, rfl⟩
abbrev main_call12_v13 : Ref sig .tc := ⟨.hbm, 307, rfl⟩
abbrev main_call12_cst_4 : Ref sig .tc := ⟨.hbm, 308, rfl⟩
abbrev main_call12_call0_v0 : Ref sig .tc := ⟨.hbm, 309, rfl⟩
abbrev main_call12_call0_v1 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_38 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_v180 : Ref sig .tc := ⟨.hbm, 319, rfl⟩
abbrev main_v181 : Ref sig .tc := ⟨.hbm, 320, rfl⟩
abbrev main_v182 : Ref sig .tc := ⟨.hbm, 321, rfl⟩
abbrev main_v183 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_c_39 : Ref sig .tc := ⟨.hbm, 326, rfl⟩
abbrev main_call13_v0 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_v203 : Ref sig .tc := ⟨.hbm, 344, rfl⟩
abbrev main_v204 : Ref sig .tc := ⟨.hbm, 345, rfl⟩
abbrev main_cst_40 : Ref sig .tc := ⟨.hbm, 346, rfl⟩
abbrev main_v205 : Ref sig .tc := ⟨.hbm, 347, rfl⟩
abbrev main_v206 : Ref sig .tc := ⟨.hbm, 348, rfl⟩
abbrev main_cst_41 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_cst_42 : Ref sig .tc := ⟨.hbm, 353, rfl⟩
abbrev main_v210 : Ref sig .tc := ⟨.hbm, 354, rfl⟩
abbrev main_v211 : Ref sig .tc := ⟨.hbm, 355, rfl⟩
abbrev main_cst_43 : Ref sig .tc := ⟨.hbm, 356, rfl⟩
abbrev main_v212 : Ref sig .tc := ⟨.hbm, 357, rfl⟩
abbrev main_v213 : Ref sig .tc := ⟨.hbm, 358, rfl⟩
abbrev main_c_44 : Ref sig .tc := ⟨.hbm, 359, rfl⟩
abbrev main_call15_cst : Ref sig .tc := ⟨.hbm, 360, rfl⟩
abbrev main_call15_v0 : Ref sig .tc := ⟨.hbm, 361, rfl⟩
abbrev main_call15_v1 : Ref sig .tc := ⟨.hbm, 362, rfl⟩
abbrev main_call15_cst_0 : Ref sig .tc := ⟨.hbm, 363, rfl⟩
abbrev main_call15_v2 : Ref sig .tc := ⟨.hbm, 364, rfl⟩
abbrev main_call15_v3 : Ref sig .tc := ⟨.hbm, 365, rfl⟩
abbrev main_call15_v4 : Ref sig .tc := ⟨.hbm, 366, rfl⟩
abbrev main_call15_v5 : Ref sig .tc := ⟨.hbm, 367, rfl⟩
abbrev main_call15_v6 : Ref sig .tc := ⟨.hbm, 368, rfl⟩
abbrev main_call15_v7 : Ref sig .tc := ⟨.hbm, 369, rfl⟩
abbrev main_call15_cst_1 : Ref sig .tc := ⟨.hbm, 370, rfl⟩
abbrev main_call15_v8 : Ref sig .tc := ⟨.hbm, 371, rfl⟩
abbrev main_call15_cst_2 : Ref sig .tc := ⟨.hbm, 372, rfl⟩
abbrev main_call15_v9 : Ref sig .tc := ⟨.hbm, 373, rfl⟩
abbrev main_call15_v10 : Ref sig .tc := ⟨.hbm, 374, rfl⟩
abbrev main_call15_v11 : Ref sig .tc := ⟨.hbm, 375, rfl⟩
abbrev main_call15_v12 : Ref sig .tc := ⟨.hbm, 376, rfl⟩
abbrev main_call15_cst_3 : Ref sig .tc := ⟨.hbm, 377, rfl⟩
abbrev main_call15_v13 : Ref sig .tc := ⟨.hbm, 378, rfl⟩
abbrev main_call15_cst_4 : Ref sig .tc := ⟨.hbm, 379, rfl⟩
abbrev main_call15_call0_v0 : Ref sig .tc := ⟨.hbm, 380, rfl⟩
abbrev main_call15_call0_v1 : Ref sig .tc := ⟨.hbm, 381, rfl⟩
abbrev main_v214 : Ref sig .tc := ⟨.hbm, 382, rfl⟩
abbrev main_v215 : Ref sig .tc := ⟨.hbm, 383, rfl⟩
abbrev main_v216 : Ref sig .tc := ⟨.hbm, 384, rfl⟩
abbrev main_cst_45 : Ref sig .tc := ⟨.hbm, 385, rfl⟩
abbrev main_v217 : Ref sig .tc := ⟨.hbm, 386, rfl⟩
abbrev main_v218 : Ref sig .tc := ⟨.hbm, 387, rfl⟩
abbrev main_v219 : Ref sig .tc := ⟨.hbm, 388, rfl⟩
abbrev main_v220 : Ref sig .tc := ⟨.hbm, 389, rfl⟩
abbrev main_v221 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_v227 : Ref sig .tc := ⟨.hbm, 396, rfl⟩
abbrev main_c_46 : Ref sig .tc := ⟨.hbm, 397, rfl⟩
abbrev main_call16_v0 : Ref sig .tc := ⟨.hbm, 398, rfl⟩
abbrev main_v228 : Ref sig .tc := ⟨.hbm, 399, rfl⟩
abbrev main_v229 : Ref sig .tc := ⟨.hbm, 400, rfl⟩
abbrev main_v230 : Ref sig .tc := ⟨.hbm, 401, rfl⟩
abbrev main_v231 : Ref sig .tc := ⟨.hbm, 402, rfl⟩
abbrev main_v232 : Ref sig .tc := ⟨.hbm, 403, rfl⟩
abbrev main_v233 : Ref sig .tc := ⟨.hbm, 404, rfl⟩
abbrev main_v234 : Ref sig .tc := ⟨.hbm, 405, rfl⟩
abbrev main_v235 : Ref sig .tc := ⟨.hbm, 406, rfl⟩
abbrev main_v236 : Ref sig .tc := ⟨.hbm, 407, rfl⟩
abbrev main_v237 : Ref sig .tc := ⟨.hbm, 408, rfl⟩
abbrev main_v238 : Ref sig .tc := ⟨.hbm, 409, rfl⟩
abbrev main_v239 : Ref sig .tc := ⟨.hbm, 410, rfl⟩
abbrev main_v240 : Ref sig .tc := ⟨.hbm, 411, rfl⟩
abbrev main_v241 : Ref sig .tc := ⟨.hbm, 412, rfl⟩
abbrev main_v242 : Ref sig .tc := ⟨.hbm, 413, rfl⟩
abbrev main_v243 : Ref sig .tc := ⟨.hbm, 414, rfl⟩
abbrev main_v244 : Ref sig .tc := ⟨.hbm, 415, rfl⟩
abbrev main_v245 : Ref sig .tc := ⟨.hbm, 416, rfl⟩
abbrev main_cst_47 : Ref sig .tc := ⟨.hbm, 417, rfl⟩
abbrev main_v246 : Ref sig .tc := ⟨.hbm, 418, rfl⟩
abbrev main_v247 : Ref sig .tc := ⟨.hbm, 419, rfl⟩
abbrev main_cst_48 : Ref sig .tc := ⟨.hbm, 420, rfl⟩
abbrev main_v248 : Ref sig .tc := ⟨.hbm, 421, rfl⟩
abbrev main_v249 : Ref sig .tc := ⟨.hbm, 422, rfl⟩
abbrev main_v250 : Ref sig .tc := ⟨.hbm, 423, rfl⟩
abbrev main_v251 : Ref sig .tc := ⟨.hbm, 424, rfl⟩
abbrev main_v252 : Ref sig .tc := ⟨.hbm, 425, rfl⟩
abbrev main_v253 : Ref sig .tc := ⟨.hbm, 426, rfl⟩
abbrev main_v254 : Ref sig .tc := ⟨.hbm, 427, rfl⟩
abbrev main_v255 : Ref sig .tc := ⟨.hbm, 428, rfl⟩
abbrev main_v256 : Ref sig .tc := ⟨.hbm, 429, rfl⟩
abbrev main_v257 : Ref sig .tc := ⟨.hbm, 430, rfl⟩
abbrev main_v258 : Ref sig .tc := ⟨.hbm, 431, rfl⟩
abbrev main_v259 : Ref sig .tc := ⟨.hbm, 432, rfl⟩
abbrev main_v260 : Ref sig .tc := ⟨.hbm, 433, rfl⟩
abbrev main_v261 : Ref sig .tc := ⟨.hbm, 434, rfl⟩
abbrev main_v262 : Ref sig .tc := ⟨.hbm, 435, rfl⟩
abbrev main_v263 : Ref sig .tc := ⟨.hbm, 436, rfl⟩
abbrev main_v264 : Ref sig .tc := ⟨.hbm, 437, rfl⟩
abbrev main_cst_49 : Ref sig .tc := ⟨.hbm, 438, rfl⟩
abbrev main_v265 : Ref sig .tc := ⟨.hbm, 439, rfl⟩
abbrev main_v266 : Ref sig .tc := ⟨.hbm, 440, rfl⟩
abbrev main_cst_50 : Ref sig .tc := ⟨.hbm, 441, rfl⟩
abbrev main_v267 : Ref sig .tc := ⟨.hbm, 442, rfl⟩
abbrev main_v268 : Ref sig .tc := ⟨.hbm, 443, rfl⟩
abbrev main_cst_51 : Ref sig .tc := ⟨.hbm, 444, rfl⟩
abbrev main_v269 : Ref sig .tc := ⟨.hbm, 445, rfl⟩
abbrev main_v270 : Ref sig .tc := ⟨.hbm, 446, rfl⟩
abbrev main_v271 : Ref sig .tc := ⟨.hbm, 447, rfl⟩
abbrev main_v272 : Ref sig .tc := ⟨.hbm, 448, rfl⟩
abbrev main_v273 : Ref sig .tc := ⟨.hbm, 449, rfl⟩
abbrev main_c_52 : Ref sig .tc := ⟨.hbm, 450, rfl⟩
abbrev main_c_53 : Ref sig .tc := ⟨.hbm, 451, rfl⟩
abbrev main_call19_v0 : Ref sig .tc := ⟨.hbm, 452, rfl⟩
abbrev main_call19_v1 : Ref sig .tc := ⟨.hbm, 453, rfl⟩
abbrev main_call19_v2 : Ref sig .tc := ⟨.hbm, 454, rfl⟩
abbrev main_call19_v3 : Ref sig .tc := ⟨.hbm, 455, rfl⟩
abbrev main_call19_v4 : Ref sig .tc := ⟨.hbm, 456, rfl⟩
abbrev main_v274 : Ref sig .tc := ⟨.hbm, 457, rfl⟩
abbrev main_v275 : Ref sig .tc := ⟨.hbm, 458, rfl⟩
abbrev main_v276 : Ref sig .tc := ⟨.hbm, 459, rfl⟩
abbrev main_v277 : Ref sig .tc := ⟨.hbm, 460, rfl⟩
abbrev main_v278 : Ref sig .tc := ⟨.hbm, 461, rfl⟩
abbrev main_v279 : Ref sig .tc := ⟨.hbm, 462, rfl⟩
abbrev main_v280 : Ref sig .tc := ⟨.hbm, 463, rfl⟩
abbrev main_v281 : Ref sig .tc := ⟨.hbm, 464, rfl⟩
abbrev main_v282 : Ref sig .tc := ⟨.hbm, 465, rfl⟩
abbrev main_v283 : Ref sig .tc := ⟨.hbm, 466, rfl⟩
abbrev main_v284 : Ref sig .tc := ⟨.hbm, 467, rfl⟩
abbrev main_v285 : Ref sig .tc := ⟨.hbm, 468, rfl⟩
abbrev main_v286 : Ref sig .tc := ⟨.hbm, 469, rfl⟩
abbrev main_v287 : Ref sig .tc := ⟨.hbm, 470, rfl⟩
abbrev main_v288 : Ref sig .tc := ⟨.hbm, 471, rfl⟩
abbrev main_c_54 : Ref sig .tc := ⟨.hbm, 472, rfl⟩
abbrev main_v289 : Ref sig .tc := ⟨.hbm, 473, rfl⟩
abbrev main_c_55 : Ref sig .tc := ⟨.hbm, 474, rfl⟩
abbrev main_v290 : Ref sig .tc := ⟨.hbm, 475, rfl⟩
abbrev main_v291 : Ref sig .tc := ⟨.hbm, 476, rfl⟩
abbrev main_c_56 : Ref sig .tc := ⟨.hbm, 477, rfl⟩
abbrev main_c_57 : Ref sig .tc := ⟨.hbm, 478, rfl⟩
abbrev main_call20_v0 : Ref sig .tc := ⟨.hbm, 479, rfl⟩
abbrev main_call20_v1 : Ref sig .tc := ⟨.hbm, 480, rfl⟩
abbrev main_call20_v2 : Ref sig .tc := ⟨.hbm, 481, rfl⟩
abbrev main_call20_v3 : Ref sig .tc := ⟨.hbm, 482, rfl⟩
abbrev main_call20_v4 : Ref sig .tc := ⟨.hbm, 483, rfl⟩
abbrev main_v292 : Ref sig .tc := ⟨.hbm, 484, rfl⟩
abbrev main_call21_c : Ref sig .tc := ⟨.hbm, 485, rfl⟩
abbrev main_call21_v0 : Ref sig .tc := ⟨.hbm, 486, rfl⟩
abbrev main_call21_v1 : Ref sig .tc := ⟨.hbm, 487, rfl⟩
abbrev main_call21_c_0 : Ref sig .tc := ⟨.hbm, 488, rfl⟩
abbrev main_call21_v2 : Ref sig .tc := ⟨.hbm, 489, rfl⟩
abbrev main_call21_v3 : Ref sig .tc := ⟨.hbm, 490, rfl⟩
abbrev main_call21_v4 : Ref sig .tc := ⟨.hbm, 491, rfl⟩
abbrev main_call21_v5 : Ref sig .tc := ⟨.hbm, 492, rfl⟩
abbrev main_v293 : Ref sig .tc := ⟨.hbm, 493, rfl⟩
abbrev main_c_58 : Ref sig .tc := ⟨.hbm, 494, rfl⟩
abbrev main_v294 : Ref sig .tc := ⟨.hbm, 495, rfl⟩
abbrev main_v295 : Ref sig .tc := ⟨.hbm, 496, rfl⟩
abbrev main_call22_c : Ref sig .tc := ⟨.hbm, 497, rfl⟩
abbrev main_call22_v0 : Ref sig .tc := ⟨.hbm, 498, rfl⟩
abbrev main_call22_v1 : Ref sig .tc := ⟨.hbm, 499, rfl⟩
abbrev main_call22_c_0 : Ref sig .tc := ⟨.hbm, 500, rfl⟩
abbrev main_call22_v2 : Ref sig .tc := ⟨.hbm, 501, rfl⟩
abbrev main_call22_v3 : Ref sig .tc := ⟨.hbm, 502, rfl⟩
abbrev main_call22_v4 : Ref sig .tc := ⟨.hbm, 503, rfl⟩
abbrev main_call22_v5 : Ref sig .tc := ⟨.hbm, 504, rfl⟩
abbrev main_v296 : Ref sig .tc := ⟨.hbm, 505, rfl⟩
abbrev main_v297 : Ref sig .tc := ⟨.hbm, 506, rfl⟩
abbrev main_v298 : Ref sig .tc := ⟨.hbm, 507, rfl⟩
abbrev main_v299 : Ref sig .tc := ⟨.hbm, 508, rfl⟩
abbrev main_v300 : Ref sig .tc := ⟨.hbm, 509, rfl⟩
abbrev main_v301 : Ref sig .tc := ⟨.hbm, 510, rfl⟩
abbrev main_v302 : Ref sig .tc := ⟨.hbm, 511, rfl⟩
abbrev main_v303 : Ref sig .tc := ⟨.hbm, 512, rfl⟩
abbrev main_v304 : Ref sig .tc := ⟨.hbm, 513, rfl⟩
abbrev main_v305 : Ref sig .tc := ⟨.hbm, 514, rfl⟩
abbrev main_v306 : Ref sig .tc := ⟨.hbm, 515, rfl⟩
abbrev main_v307 : Ref sig .tc := ⟨.hbm, 516, rfl⟩
abbrev main_v308 : Ref sig .tc := ⟨.hbm, 517, rfl⟩
abbrev main_v309 : Ref sig .tc := ⟨.hbm, 518, rfl⟩
abbrev main_v310 : Ref sig .tc := ⟨.hbm, 519, rfl⟩
abbrev main_v311 : Ref sig .tc := ⟨.hbm, 520, rfl⟩
abbrev main_v312 : Ref sig .tc := ⟨.hbm, 521, rfl⟩
abbrev main_cst_59 : Ref sig .tc := ⟨.hbm, 522, rfl⟩
abbrev main_v313 : Ref sig .tc := ⟨.hbm, 523, rfl⟩
abbrev main_cst_60 : Ref sig .tc := ⟨.hbm, 524, rfl⟩
abbrev main_v314 : Ref sig .tc := ⟨.hbm, 525, rfl⟩
abbrev main_v315 : Ref sig .tc := ⟨.hbm, 526, rfl⟩
abbrev main_cst_61 : Ref sig .tc := ⟨.hbm, 527, rfl⟩
abbrev main_v316 : Ref sig .tc := ⟨.hbm, 528, rfl⟩
abbrev main_v317 : Ref sig .tc := ⟨.hbm, 529, rfl⟩
abbrev main_v318 : Ref sig .tc := ⟨.hbm, 530, rfl⟩
abbrev main_cst_62 : Ref sig .tc := ⟨.hbm, 531, rfl⟩
abbrev main_v319 : Ref sig .tc := ⟨.hbm, 532, rfl⟩
abbrev main_v320 : Ref sig .tc := ⟨.hbm, 533, rfl⟩
abbrev main_v321 : Ref sig .tc := ⟨.hbm, 534, rfl⟩
abbrev main_c_63 : Ref sig .tc := ⟨.hbm, 535, rfl⟩
abbrev main_v322 : Ref sig .tc := ⟨.hbm, 536, rfl⟩
abbrev main_v323 : Ref sig .tc := ⟨.hbm, 537, rfl⟩
abbrev main_c_64 : Ref sig .tc := ⟨.hbm, 538, rfl⟩
abbrev main_v324 : Ref sig .tc := ⟨.hbm, 539, rfl⟩
abbrev main_v325 : Ref sig .tc := ⟨.hbm, 540, rfl⟩
abbrev main_c_65 : Ref sig .tc := ⟨.hbm, 541, rfl⟩
abbrev main_v326 : Ref sig .tc := ⟨.hbm, 542, rfl⟩
abbrev main_v327 : Ref sig .tc := ⟨.hbm, 543, rfl⟩
abbrev main_v328 : Ref sig .tc := ⟨.hbm, 544, rfl⟩
abbrev main_c_66 : Ref sig .tc := ⟨.hbm, 545, rfl⟩
abbrev main_v329 : Ref sig .tc := ⟨.hbm, 546, rfl⟩
abbrev main_v330 : Ref sig .tc := ⟨.hbm, 547, rfl⟩
abbrev main_c_67 : Ref sig .tc := ⟨.hbm, 548, rfl⟩
abbrev main_v331 : Ref sig .tc := ⟨.hbm, 549, rfl⟩
abbrev main_v332 : Ref sig .tc := ⟨.hbm, 550, rfl⟩
abbrev main_v333 : Ref sig .tc := ⟨.hbm, 551, rfl⟩
abbrev main_v334 : Ref sig .tc := ⟨.hbm, 552, rfl⟩
abbrev main_call23_c : Ref sig .tc := ⟨.hbm, 553, rfl⟩
abbrev main_call23_v0 : Ref sig .tc := ⟨.hbm, 554, rfl⟩
abbrev main_call23_v1 : Ref sig .tc := ⟨.hbm, 555, rfl⟩
abbrev main_call23_c_0 : Ref sig .tc := ⟨.hbm, 556, rfl⟩
abbrev main_call23_v2 : Ref sig .tc := ⟨.hbm, 557, rfl⟩
abbrev main_call23_v3 : Ref sig .tc := ⟨.hbm, 558, rfl⟩
abbrev main_call23_v4 : Ref sig .tc := ⟨.hbm, 559, rfl⟩
abbrev main_call23_v5 : Ref sig .tc := ⟨.hbm, 560, rfl⟩
abbrev main_v335 : Ref sig .tc := ⟨.hbm, 561, rfl⟩
abbrev main_v336 : Ref sig .tc := ⟨.hbm, 562, rfl⟩
abbrev main_v337 : Ref sig .tc := ⟨.hbm, 563, rfl⟩
abbrev main_v338 : Ref sig .tc := ⟨.hbm, 564, rfl⟩
abbrev main_v339 : Ref sig .tc := ⟨.hbm, 565, rfl⟩
abbrev main_cst_68 : Ref sig .tc := ⟨.hbm, 566, rfl⟩
abbrev main_v340 : Ref sig .tc := ⟨.hbm, 567, rfl⟩
abbrev main_v341 : Ref sig .tc := ⟨.hbm, 568, rfl⟩
abbrev main_cst_69 : Ref sig .tc := ⟨.hbm, 569, rfl⟩
abbrev main_v342 : Ref sig .tc := ⟨.hbm, 570, rfl⟩
abbrev main_v343 : Ref sig .tc := ⟨.hbm, 571, rfl⟩
abbrev main_v344 : Ref sig .tc := ⟨.hbm, 572, rfl⟩
abbrev main_v345 : Ref sig .tc := ⟨.hbm, 573, rfl⟩
abbrev main_c_70 : Ref sig .tc := ⟨.hbm, 574, rfl⟩
abbrev main_v346 : Ref sig .tc := ⟨.hbm, 575, rfl⟩
abbrev main_v347 : Ref sig .tc := ⟨.hbm, 576, rfl⟩
abbrev main_c_71 : Ref sig .tc := ⟨.hbm, 577, rfl⟩
abbrev main_v348 : Ref sig .tc := ⟨.hbm, 578, rfl⟩
abbrev main_v349 : Ref sig .tc := ⟨.hbm, 579, rfl⟩
abbrev main_c_72 : Ref sig .tc := ⟨.hbm, 580, rfl⟩
abbrev main_v350 : Ref sig .tc := ⟨.hbm, 581, rfl⟩
abbrev main_v351 : Ref sig .tc := ⟨.hbm, 582, rfl⟩
abbrev main_v352 : Ref sig .tc := ⟨.hbm, 583, rfl⟩
abbrev main_c_73 : Ref sig .tc := ⟨.hbm, 584, rfl⟩
abbrev main_v353 : Ref sig .tc := ⟨.hbm, 585, rfl⟩
abbrev main_v354 : Ref sig .tc := ⟨.hbm, 586, rfl⟩
abbrev main_c_74 : Ref sig .tc := ⟨.hbm, 587, rfl⟩
abbrev main_v355 : Ref sig .tc := ⟨.hbm, 588, rfl⟩
abbrev main_v356 : Ref sig .tc := ⟨.hbm, 589, rfl⟩
abbrev main_v357 : Ref sig .tc := ⟨.hbm, 590, rfl⟩
abbrev main_v358 : Ref sig .tc := ⟨.hbm, 591, rfl⟩
abbrev main_call24_c : Ref sig .tc := ⟨.hbm, 592, rfl⟩
abbrev main_call24_v0 : Ref sig .tc := ⟨.hbm, 593, rfl⟩
abbrev main_call24_v1 : Ref sig .tc := ⟨.hbm, 594, rfl⟩
abbrev main_call24_c_0 : Ref sig .tc := ⟨.hbm, 595, rfl⟩
abbrev main_call24_v2 : Ref sig .tc := ⟨.hbm, 596, rfl⟩
abbrev main_call24_v3 : Ref sig .tc := ⟨.hbm, 597, rfl⟩
abbrev main_call24_v4 : Ref sig .tc := ⟨.hbm, 598, rfl⟩
abbrev main_call24_v5 : Ref sig .tc := ⟨.hbm, 599, rfl⟩
abbrev main_v359 : Ref sig .tc := ⟨.hbm, 600, rfl⟩
abbrev main_v360 : Ref sig .tc := ⟨.hbm, 601, rfl⟩
abbrev main_v361 : Ref sig .tc := ⟨.hbm, 602, rfl⟩
abbrev main_v362 : Ref sig .tc := ⟨.hbm, 603, rfl⟩
abbrev main_v363 : Ref sig .tc := ⟨.hbm, 604, rfl⟩
abbrev main_cst_75 : Ref sig .tc := ⟨.hbm, 605, rfl⟩
abbrev main_v364 : Ref sig .tc := ⟨.hbm, 606, rfl⟩
abbrev main_v365 : Ref sig .tc := ⟨.hbm, 607, rfl⟩
abbrev main_v366 : Ref sig .tc := ⟨.hbm, 608, rfl⟩
abbrev main_cst_76 : Ref sig .tc := ⟨.hbm, 609, rfl⟩
abbrev main_v367 : Ref sig .tc := ⟨.hbm, 610, rfl⟩
abbrev main_v368 : Ref sig .tc := ⟨.hbm, 611, rfl⟩
abbrev main_v369 : Ref sig .tc := ⟨.hbm, 612, rfl⟩
abbrev main_c_77 : Ref sig .tc := ⟨.hbm, 613, rfl⟩
abbrev main_v370 : Ref sig .tc := ⟨.hbm, 614, rfl⟩
abbrev main_v371 : Ref sig .tc := ⟨.hbm, 615, rfl⟩
abbrev main_c_78 : Ref sig .tc := ⟨.hbm, 616, rfl⟩
abbrev main_v372 : Ref sig .tc := ⟨.hbm, 617, rfl⟩
abbrev main_v373 : Ref sig .tc := ⟨.hbm, 618, rfl⟩
abbrev main_c_79 : Ref sig .tc := ⟨.hbm, 619, rfl⟩
abbrev main_v374 : Ref sig .tc := ⟨.hbm, 620, rfl⟩
abbrev main_v375 : Ref sig .tc := ⟨.hbm, 621, rfl⟩
abbrev main_v376 : Ref sig .tc := ⟨.hbm, 622, rfl⟩
abbrev main_c_80 : Ref sig .tc := ⟨.hbm, 623, rfl⟩
abbrev main_v377 : Ref sig .tc := ⟨.hbm, 624, rfl⟩
abbrev main_v378 : Ref sig .tc := ⟨.hbm, 625, rfl⟩
abbrev main_c_81 : Ref sig .tc := ⟨.hbm, 626, rfl⟩
abbrev main_v379 : Ref sig .tc := ⟨.hbm, 627, rfl⟩
abbrev main_v380 : Ref sig .tc := ⟨.hbm, 628, rfl⟩
abbrev main_v381 : Ref sig .tc := ⟨.hbm, 629, rfl⟩
abbrev main_v382 : Ref sig .tc := ⟨.hbm, 630, rfl⟩
abbrev main_call25_c : Ref sig .tc := ⟨.hbm, 631, rfl⟩
abbrev main_call25_v0 : Ref sig .tc := ⟨.hbm, 632, rfl⟩
abbrev main_call25_v1 : Ref sig .tc := ⟨.hbm, 633, rfl⟩
abbrev main_call25_c_0 : Ref sig .tc := ⟨.hbm, 634, rfl⟩
abbrev main_call25_v2 : Ref sig .tc := ⟨.hbm, 635, rfl⟩
abbrev main_call25_v3 : Ref sig .tc := ⟨.hbm, 636, rfl⟩
abbrev main_call25_v4 : Ref sig .tc := ⟨.hbm, 637, rfl⟩
abbrev main_call25_v5 : Ref sig .tc := ⟨.hbm, 638, rfl⟩
abbrev main_v383 : Ref sig .tc := ⟨.hbm, 639, rfl⟩
abbrev main_v384 : Ref sig .tc := ⟨.hbm, 640, rfl⟩
abbrev main_v385 : Ref sig .tc := ⟨.hbm, 641, rfl⟩
abbrev main_v386 : Ref sig .tc := ⟨.hbm, 642, rfl⟩
abbrev main_v387 : Ref sig .tc := ⟨.hbm, 643, rfl⟩
abbrev main_cst_82 : Ref sig .tc := ⟨.hbm, 644, rfl⟩
abbrev main_v388 : Ref sig .tc := ⟨.hbm, 645, rfl⟩
abbrev main_v389 : Ref sig .tc := ⟨.hbm, 646, rfl⟩
abbrev main_v390 : Ref sig .tc := ⟨.hbm, 647, rfl⟩
abbrev main_v391 : Ref sig .tc := ⟨.hbm, 648, rfl⟩
abbrev main_c_83 : Ref sig .tc := ⟨.hbm, 649, rfl⟩
abbrev main_v392 : Ref sig .tc := ⟨.hbm, 650, rfl⟩
abbrev main_v393 : Ref sig .tc := ⟨.hbm, 651, rfl⟩
abbrev main_c_84 : Ref sig .tc := ⟨.hbm, 652, rfl⟩
abbrev main_v394 : Ref sig .tc := ⟨.hbm, 653, rfl⟩
abbrev main_v395 : Ref sig .tc := ⟨.hbm, 654, rfl⟩
abbrev main_c_85 : Ref sig .tc := ⟨.hbm, 655, rfl⟩
abbrev main_v396 : Ref sig .tc := ⟨.hbm, 656, rfl⟩
abbrev main_v397 : Ref sig .tc := ⟨.hbm, 657, rfl⟩
abbrev main_v398 : Ref sig .tc := ⟨.hbm, 658, rfl⟩
abbrev main_c_86 : Ref sig .tc := ⟨.hbm, 659, rfl⟩
abbrev main_v399 : Ref sig .tc := ⟨.hbm, 660, rfl⟩
abbrev main_v400 : Ref sig .tc := ⟨.hbm, 661, rfl⟩
abbrev main_c_87 : Ref sig .tc := ⟨.hbm, 662, rfl⟩
abbrev main_v401 : Ref sig .tc := ⟨.hbm, 663, rfl⟩
abbrev main_v402 : Ref sig .tc := ⟨.hbm, 664, rfl⟩
abbrev main_v403 : Ref sig .tc := ⟨.hbm, 665, rfl⟩
abbrev main_v404 : Ref sig .tc := ⟨.hbm, 666, rfl⟩
abbrev main_call26_c : Ref sig .tc := ⟨.hbm, 667, rfl⟩
abbrev main_call26_v0 : Ref sig .tc := ⟨.hbm, 668, rfl⟩
abbrev main_call26_v1 : Ref sig .tc := ⟨.hbm, 669, rfl⟩
abbrev main_call26_c_0 : Ref sig .tc := ⟨.hbm, 670, rfl⟩
abbrev main_call26_v2 : Ref sig .tc := ⟨.hbm, 671, rfl⟩
abbrev main_call26_v3 : Ref sig .tc := ⟨.hbm, 672, rfl⟩
abbrev main_call26_v4 : Ref sig .tc := ⟨.hbm, 673, rfl⟩
abbrev main_call26_v5 : Ref sig .tc := ⟨.hbm, 674, rfl⟩
abbrev main_v405 : Ref sig .tc := ⟨.hbm, 675, rfl⟩
abbrev main_v406 : Ref sig .tc := ⟨.hbm, 676, rfl⟩
abbrev main_v407 : Ref sig .tc := ⟨.hbm, 677, rfl⟩
abbrev main_v408 : Ref sig .tc := ⟨.hbm, 678, rfl⟩
abbrev main_v409 : Ref sig .tc := ⟨.hbm, 679, rfl⟩
abbrev main_cst_88 : Ref sig .tc := ⟨.hbm, 680, rfl⟩
abbrev main_v410 : Ref sig .tc := ⟨.hbm, 681, rfl⟩
abbrev main_v411 : Ref sig .tc := ⟨.hbm, 682, rfl⟩
abbrev main_v412 : Ref sig .tc := ⟨.hbm, 683, rfl⟩
abbrev main_cst_89 : Ref sig .tc := ⟨.hbm, 684, rfl⟩
abbrev main_v413 : Ref sig .tc := ⟨.hbm, 685, rfl⟩
abbrev main_v414 : Ref sig .tc := ⟨.hbm, 686, rfl⟩
abbrev main_v415 : Ref sig .tc := ⟨.hbm, 687, rfl⟩
abbrev main_c_90 : Ref sig .tc := ⟨.hbm, 688, rfl⟩
abbrev main_v416 : Ref sig .tc := ⟨.hbm, 689, rfl⟩
abbrev main_v417 : Ref sig .tc := ⟨.hbm, 690, rfl⟩
abbrev main_c_91 : Ref sig .tc := ⟨.hbm, 691, rfl⟩
abbrev main_v418 : Ref sig .tc := ⟨.hbm, 692, rfl⟩
abbrev main_v419 : Ref sig .tc := ⟨.hbm, 693, rfl⟩
abbrev main_c_92 : Ref sig .tc := ⟨.hbm, 694, rfl⟩
abbrev main_v420 : Ref sig .tc := ⟨.hbm, 695, rfl⟩
abbrev main_v421 : Ref sig .tc := ⟨.hbm, 696, rfl⟩
abbrev main_v422 : Ref sig .tc := ⟨.hbm, 697, rfl⟩
abbrev main_c_93 : Ref sig .tc := ⟨.hbm, 698, rfl⟩
abbrev main_v423 : Ref sig .tc := ⟨.hbm, 699, rfl⟩
abbrev main_v424 : Ref sig .tc := ⟨.hbm, 700, rfl⟩
abbrev main_c_94 : Ref sig .tc := ⟨.hbm, 701, rfl⟩
abbrev main_v425 : Ref sig .tc := ⟨.hbm, 702, rfl⟩
abbrev main_v426 : Ref sig .tc := ⟨.hbm, 703, rfl⟩
abbrev main_v427 : Ref sig .tc := ⟨.hbm, 704, rfl⟩
abbrev main_v428 : Ref sig .tc := ⟨.hbm, 705, rfl⟩
abbrev main_call27_c : Ref sig .tc := ⟨.hbm, 706, rfl⟩
abbrev main_call27_v0 : Ref sig .tc := ⟨.hbm, 707, rfl⟩
abbrev main_call27_v1 : Ref sig .tc := ⟨.hbm, 708, rfl⟩
abbrev main_call27_c_0 : Ref sig .tc := ⟨.hbm, 709, rfl⟩
abbrev main_call27_v2 : Ref sig .tc := ⟨.hbm, 710, rfl⟩
abbrev main_call27_v3 : Ref sig .tc := ⟨.hbm, 711, rfl⟩
abbrev main_call27_v4 : Ref sig .tc := ⟨.hbm, 712, rfl⟩
abbrev main_call27_v5 : Ref sig .tc := ⟨.hbm, 713, rfl⟩
abbrev main_v429 : Ref sig .tc := ⟨.hbm, 714, rfl⟩
abbrev main_v430 : Ref sig .tc := ⟨.hbm, 715, rfl⟩
abbrev main_v431 : Ref sig .tc := ⟨.hbm, 716, rfl⟩
abbrev main_v432 : Ref sig .tc := ⟨.hbm, 717, rfl⟩
abbrev main_v433 : Ref sig .tc := ⟨.hbm, 718, rfl⟩
abbrev main_cst_95 : Ref sig .tc := ⟨.hbm, 719, rfl⟩
abbrev main_v434 : Ref sig .tc := ⟨.hbm, 720, rfl⟩
abbrev main_v435 : Ref sig .tc := ⟨.hbm, 721, rfl⟩
abbrev main_v436 : Ref sig .tc := ⟨.hbm, 722, rfl⟩
abbrev main_v437 : Ref sig .tc := ⟨.hbm, 723, rfl⟩
abbrev main_c_96 : Ref sig .tc := ⟨.hbm, 724, rfl⟩
abbrev main_v438 : Ref sig .tc := ⟨.hbm, 725, rfl⟩
abbrev main_v439 : Ref sig .tc := ⟨.hbm, 726, rfl⟩
abbrev main_c_97 : Ref sig .tc := ⟨.hbm, 727, rfl⟩
abbrev main_v440 : Ref sig .tc := ⟨.hbm, 728, rfl⟩
abbrev main_v441 : Ref sig .tc := ⟨.hbm, 729, rfl⟩
abbrev main_c_98 : Ref sig .tc := ⟨.hbm, 730, rfl⟩
abbrev main_v442 : Ref sig .tc := ⟨.hbm, 731, rfl⟩
abbrev main_v443 : Ref sig .tc := ⟨.hbm, 732, rfl⟩
abbrev main_v444 : Ref sig .tc := ⟨.hbm, 733, rfl⟩
abbrev main_c_99 : Ref sig .tc := ⟨.hbm, 734, rfl⟩
abbrev main_v445 : Ref sig .tc := ⟨.hbm, 735, rfl⟩
abbrev main_v446 : Ref sig .tc := ⟨.hbm, 736, rfl⟩
abbrev main_c_100 : Ref sig .tc := ⟨.hbm, 737, rfl⟩
abbrev main_v447 : Ref sig .tc := ⟨.hbm, 738, rfl⟩
abbrev main_v448 : Ref sig .tc := ⟨.hbm, 739, rfl⟩
abbrev main_v449 : Ref sig .tc := ⟨.hbm, 740, rfl⟩
abbrev main_v450 : Ref sig .tc := ⟨.hbm, 741, rfl⟩
abbrev main_call28_c : Ref sig .tc := ⟨.hbm, 742, rfl⟩
abbrev main_call28_v0 : Ref sig .tc := ⟨.hbm, 743, rfl⟩
abbrev main_call28_v1 : Ref sig .tc := ⟨.hbm, 744, rfl⟩
abbrev main_call28_c_0 : Ref sig .tc := ⟨.hbm, 745, rfl⟩
abbrev main_call28_v2 : Ref sig .tc := ⟨.hbm, 746, rfl⟩
abbrev main_call28_v3 : Ref sig .tc := ⟨.hbm, 747, rfl⟩
abbrev main_call28_v4 : Ref sig .tc := ⟨.hbm, 748, rfl⟩
abbrev main_call28_v5 : Ref sig .tc := ⟨.hbm, 749, rfl⟩
abbrev main_v451 : Ref sig .tc := ⟨.hbm, 750, rfl⟩
abbrev main_v452 : Ref sig .tc := ⟨.hbm, 751, rfl⟩
abbrev main_v453 : Ref sig .tc := ⟨.hbm, 752, rfl⟩
abbrev main_v454 : Ref sig .tc := ⟨.hbm, 753, rfl⟩
abbrev main_v455 : Ref sig .tc := ⟨.hbm, 754, rfl⟩
abbrev main_v456 : Ref sig .tc := ⟨.hbm, 755, rfl⟩
abbrev main_cst_101 : Ref sig .tc := ⟨.hbm, 756, rfl⟩
abbrev main_v457 : Ref sig .tc := ⟨.hbm, 757, rfl⟩
abbrev main_v458 : Ref sig .tc := ⟨.hbm, 758, rfl⟩
abbrev main_v459 : Ref sig .tc := ⟨.hbm, 759, rfl⟩
abbrev main_c_102 : Ref sig .tc := ⟨.hbm, 760, rfl⟩
abbrev main_v460 : Ref sig .tc := ⟨.hbm, 761, rfl⟩
abbrev main_v461 : Ref sig .tc := ⟨.hbm, 762, rfl⟩
abbrev main_c_103 : Ref sig .tc := ⟨.hbm, 763, rfl⟩
abbrev main_v462 : Ref sig .tc := ⟨.hbm, 764, rfl⟩
abbrev main_v463 : Ref sig .tc := ⟨.hbm, 765, rfl⟩
abbrev main_c_104 : Ref sig .tc := ⟨.hbm, 766, rfl⟩
abbrev main_v464 : Ref sig .tc := ⟨.hbm, 767, rfl⟩
abbrev main_v465 : Ref sig .tc := ⟨.hbm, 768, rfl⟩
abbrev main_v466 : Ref sig .tc := ⟨.hbm, 769, rfl⟩
abbrev main_c_105 : Ref sig .tc := ⟨.hbm, 770, rfl⟩
abbrev main_v467 : Ref sig .tc := ⟨.hbm, 771, rfl⟩
abbrev main_v468 : Ref sig .tc := ⟨.hbm, 772, rfl⟩
abbrev main_c_106 : Ref sig .tc := ⟨.hbm, 773, rfl⟩
abbrev main_v469 : Ref sig .tc := ⟨.hbm, 774, rfl⟩
abbrev main_v470 : Ref sig .tc := ⟨.hbm, 775, rfl⟩
abbrev main_v471 : Ref sig .tc := ⟨.hbm, 776, rfl⟩
abbrev main_v472 : Ref sig .tc := ⟨.hbm, 777, rfl⟩
abbrev main_call29_c : Ref sig .tc := ⟨.hbm, 778, rfl⟩
abbrev main_call29_v0 : Ref sig .tc := ⟨.hbm, 779, rfl⟩
abbrev main_call29_v1 : Ref sig .tc := ⟨.hbm, 780, rfl⟩
abbrev main_call29_c_0 : Ref sig .tc := ⟨.hbm, 781, rfl⟩
abbrev main_call29_v2 : Ref sig .tc := ⟨.hbm, 782, rfl⟩
abbrev main_call29_v3 : Ref sig .tc := ⟨.hbm, 783, rfl⟩
abbrev main_call29_v4 : Ref sig .tc := ⟨.hbm, 784, rfl⟩
abbrev main_call29_v5 : Ref sig .tc := ⟨.hbm, 785, rfl⟩
abbrev main_v473 : Ref sig .tc := ⟨.hbm, 786, rfl⟩
abbrev main_v474 : Ref sig .tc := ⟨.hbm, 787, rfl⟩
abbrev main_v475 : Ref sig .tc := ⟨.hbm, 788, rfl⟩
abbrev main_v476 : Ref sig .tc := ⟨.hbm, 789, rfl⟩
abbrev main_v477 : Ref sig .tc := ⟨.hbm, 790, rfl⟩
abbrev main_v478 : Ref sig .tc := ⟨.hbm, 791, rfl⟩
abbrev main_v479 : Ref sig .tc := ⟨.hbm, 792, rfl⟩
abbrev main_c_107 : Ref sig .tc := ⟨.hbm, 793, rfl⟩
abbrev main_v480 : Ref sig .tc := ⟨.hbm, 794, rfl⟩
abbrev main_v481 : Ref sig .tc := ⟨.hbm, 795, rfl⟩
abbrev main_c_108 : Ref sig .tc := ⟨.hbm, 796, rfl⟩
abbrev main_v482 : Ref sig .tc := ⟨.hbm, 797, rfl⟩
abbrev main_v483 : Ref sig .tc := ⟨.hbm, 798, rfl⟩
abbrev main_c_109 : Ref sig .tc := ⟨.hbm, 799, rfl⟩
abbrev main_v484 : Ref sig .tc := ⟨.hbm, 800, rfl⟩
abbrev main_v485 : Ref sig .tc := ⟨.hbm, 801, rfl⟩
abbrev main_v486 : Ref sig .tc := ⟨.hbm, 802, rfl⟩
abbrev main_c_110 : Ref sig .tc := ⟨.hbm, 803, rfl⟩
abbrev main_v487 : Ref sig .tc := ⟨.hbm, 804, rfl⟩
abbrev main_v488 : Ref sig .tc := ⟨.hbm, 805, rfl⟩
abbrev main_c_111 : Ref sig .tc := ⟨.hbm, 806, rfl⟩
abbrev main_v489 : Ref sig .tc := ⟨.hbm, 807, rfl⟩
abbrev main_v490 : Ref sig .tc := ⟨.hbm, 808, rfl⟩
abbrev main_v491 : Ref sig .tc := ⟨.hbm, 809, rfl⟩
abbrev main_v492 : Ref sig .tc := ⟨.hbm, 810, rfl⟩
abbrev main_call30_c : Ref sig .tc := ⟨.hbm, 811, rfl⟩
abbrev main_call30_v0 : Ref sig .tc := ⟨.hbm, 812, rfl⟩
abbrev main_call30_v1 : Ref sig .tc := ⟨.hbm, 813, rfl⟩
abbrev main_call30_c_0 : Ref sig .tc := ⟨.hbm, 814, rfl⟩
abbrev main_call30_v2 : Ref sig .tc := ⟨.hbm, 815, rfl⟩
abbrev main_call30_v3 : Ref sig .tc := ⟨.hbm, 816, rfl⟩
abbrev main_call30_v4 : Ref sig .tc := ⟨.hbm, 817, rfl⟩
abbrev main_call30_v5 : Ref sig .tc := ⟨.hbm, 818, rfl⟩
abbrev main_v493 : Ref sig .tc := ⟨.hbm, 819, rfl⟩
abbrev main_v494 : Ref sig .tc := ⟨.hbm, 820, rfl⟩
abbrev main_v495 : Ref sig .tc := ⟨.hbm, 821, rfl⟩
abbrev main_v496 : Ref sig .tc := ⟨.hbm, 822, rfl⟩
abbrev main_v497 : Ref sig .tc := ⟨.hbm, 823, rfl⟩
abbrev main_v498 : Ref sig .tc := ⟨.hbm, 824, rfl⟩

abbrev nD : Nat := 1
abbrev τ : Topo := Topo.v7x

variable {F : FTy → Type} [FloatOps F]
-- ==== Proof.Segs.lean ====
module
public import proofs.«01_k».proof.Proof.Gen.KernelIdeal.Launch
public import proofs.«01_k».proof.Proof.Gen.ReferenceIdeal.Run
public import Idealize.ShloMosaic.Lib.StableHlo.RunRead
public import Idealize.ShloMosaic.PureOps.Ideal
@[expose] public section
set_option maxRecDepth 16384
set_option maxHeartbeats 4000000
noncomputable section
namespace Cert.Lut
open Idealize.ShloMosaic Idealize.ShloMosaic.TcCoe Idealize.ShloMosaic.StableHlo

/-- The buffer contents of the kernel program. -/
abbrev KV := Valuation Cert.KernelIdeal.τ Cert.KernelIdeal.sig (Elt Ideal)
/-- The buffer contents of the reference program. -/
abbrev RV := Valuation Cert.ReferenceIdeal.τ Cert.ReferenceIdeal.sig (Elt Ideal)
/-- A kernel buffer on its device. -/
abbrev kd (b : Ref Cert.KernelIdeal.sig .tc) : DevRef Cert.KernelIdeal.τ Cert.KernelIdeal.sig := Proc.devRef .tc b
/-- A reference buffer on its device. -/
abbrev rd (b : Ref Cert.ReferenceIdeal.sig .tc) : DevRef Cert.ReferenceIdeal.τ Cert.ReferenceIdeal.sig := Proc.devRef .tc b

/-- The nine windows of a convolution side by side. -/
def catB {F : FTy → Type} [FloatOps F] (a0 : Vec F Cert.KernelIdeal.S8x3x128x128 .f32) (a1 : Vec F Cert.KernelIdeal.S8x3x128x128 .f32) (a2 : Vec F Cert.KernelIdeal.S8x3x128x128 .f32) (a3 : Vec F Cert.KernelIdeal.S8x3x128x128 .f32) (a4 : Vec F Cert.KernelIdeal.S8x3x128x128 .f32) (a5 : Vec F Cert.KernelIdeal.S8x3x128x128 .f32) (a6 : Vec F Cert.KernelIdeal.S8x3x128x128 .f32) (a7 : Vec F Cert.KernelIdeal.S8x3x128x128 .f32) (a8 : Vec F Cert.KernelIdeal.S8x3x128x128 .f32) : Vec F Cert.KernelIdeal.S8x27x128x128 .f32 :=
  open Cert.KernelIdeal Cert.KernelIdeal.Gen in (concatenate S8x27x128x128 1 [⟨S8x3x128x128, (a0 : (⟨S8x3x128x128, .f32⟩ : BufTy).Contents (Elt F))⟩, ⟨S8x3x128x128, (a1 : (⟨S8x3x128x128, .f32⟩ : BufTy).Contents (Elt F))⟩, ⟨S8x3x128x128, (a2 : (⟨S8x3x128x128, .f32⟩ : BufTy).Contents (Elt F))⟩, ⟨S8x3x128x128, (a3 : (⟨S8x3x128x128, .f32⟩ : BufTy).Contents (Elt F))⟩, ⟨S8x3x128x128, (a4 : (⟨S8x3x128x128, .f32⟩ : BufTy).Contents (Elt F))⟩, ⟨S8x3x128x128, (a5 : (⟨S8x3x128x128, .f32⟩ : BufTy).Contents (Elt F))⟩, ⟨S8x3x128x128, (a6 : (⟨S8x3x128x128, .f32⟩ : BufTy).Contents (Elt F))⟩, ⟨S8x3x128x128, (a7 : (⟨S8x3x128x128, .f32⟩ : BufTy).Contents (Elt F))⟩, ⟨S8x3x128x128, (a8 : (⟨S8x3x128x128, .f32⟩ : BufTy).Contents (Elt F))⟩] concatenates_S8x3x128x128_S8x3x128x128_S8x3x128x128_S8x3x128x128_S8x3x128x128_S8x3x128x128_S8x3x128x128_S8x3x128x128_S8x3x128x128_S8x27x128x128_d1 : (⟨S8x27x128x128, .f32⟩ : BufTy).Contents (Elt F))

open Cert.KernelIdeal Cert.KernelIdeal.Gen in
/-- A convolution stage, with the concatenation named. -/
abbrev opsB {F : FTy → Type} [FloatOps F] : List (HloOp τ sig (Elt F)) :=
  [StableHlo.unary main_v64 main_v65 ((Host.slice S8x3x128x128 ![0, 0, 0, 0] ![1, 1, 2, 2] · slicesBy_S8x3x258x258_S8x3x128x128_0s1_0s1_0s2_0s2) : (⟨S8x3x258x258, .f32⟩ : BufTy).Contents (Elt F) → (⟨S8x3x128x128, .f32⟩ : BufTy).Contents (Elt F)),
    StableHlo.unary main_v64 main_v66 ((Host.slice S8x3x128x128 ![0, 0, 0, 1] ![1, 1, 2, 2] · slicesBy_S8x3x258x258_S8x3x128x128_0s1_0s1_0s2_1s2) : (⟨S8x3x258x258, .f32⟩ : BufTy).Contents (Elt F) → (⟨S8x3x128x128, .f32⟩ : BufTy).Contents (Elt F)),
    StableHlo.unary main_v64 main_v67 ((Host.slice S8x3x128x128 ![0, 0, 0, 2] ![1, 1, 2, 2] · slicesBy_S8x3x258x258_S8x3x128x128_0s1_0s1_0s2_2s2) : (⟨S8x3x258x258, .f32⟩ : BufTy).Contents (Elt F) → (⟨S8x3x128x128, .f32⟩ : BufTy).Contents (Elt F)),
    StableHlo.unary main_v64 main_v68 ((Host.slice S8x3x128x128 ![0, 0, 1, 0] ![1, 1, 2, 2] · slicesBy_S8x3x258x258_S8x3x128x128_0s1_0s1_1s2_0s2) : (⟨S8x3x258x258, .f32⟩ : BufTy).Contents (Elt F) → (⟨S8x3x128x128, .f32⟩ : BufTy).Contents (Elt F)),
    StableHlo.unary main_v64 main_v69 ((Host.slice S8x3x128x128 ![0, 0, 1, 1] ![1, 1, 2, 2] · slicesBy_S8x3x258x258_S8x3x128x128_0s1_0s1_1s2_1s2) : (⟨S8x3x258x258, .f32⟩ : BufTy).Contents (Elt F) → (⟨S8x3x128x128, .f32⟩ : BufTy).Contents (Elt F)),
    StableHlo.unary main_v64 main_v70 ((Host.slice S8x3x128x128 ![0, 0, 1, 2] ![1, 1, 2, 2] · slicesBy_S8x3x258x258_S8x3x128x128_0s1_0s1_1s2_2s2) : (⟨S8x3x258x258, .f32⟩ : BufTy).Contents (Elt F) → (⟨S8x3x128x128, .f32⟩ : BufTy).Contents (Elt F)),
    StableHlo.unary main_v64 main_v71 ((Host.slice S8x3x128x128 ![0, 0, 2, 0] ![1, 1, 2, 2] · slicesBy_S8x3x258x258_S8x3x128x128_0s1_0s1_2s2_0s2) : (⟨S8x3x258x258, .f32⟩ : BufTy).Contents (Elt F) → (⟨S8x3x128x128, .f32⟩ : BufTy).Contents (Elt F)),
    StableHlo.unary main_v64 main_v72 ((Host.slice S8x3x128x128 ![0, 0, 2, 1] ![1, 1, 2, 2] · slicesBy_S8x3x258x258_S8x3x128x128_0s1_0s1_2s2_1s2) : (⟨S8x3x258x258, .f32⟩ : BufTy).Contents (Elt F) → (⟨S8x3x128x128, .f32⟩ : BufTy).Contents (Elt F)),
    StableHlo.unary main_v64 main_v73 ((Host.slice S8x3x128x128 ![0, 0, 2, 2] ![1, 1, 2, 2] · slicesBy_S8x3x258x258_S8x3x128x128_0s1_0s1_2s2_2s2) : (⟨S8x3x258x258, .f32⟩ : BufTy).Contents (Elt F) → (⟨S8x3x128x128, .f32⟩ : BufTy).Contents (Elt F)),
    StableHlo.nary ![main_v65, main_v66, main_v67, main_v68, main_v69, main_v70, main_v71, main_v72, main_v73] main_v74 (fun u => catB (F := F) (u 0) (u 1) (u 2) (u 3) (u 4) (u 5) (u 6) (u 7) (u 8)),
    StableHlo.unary main_arg1 main_v75 ((transpose S16x3x3x3 [0, 2, 3, 1] · transposes_S16x3x3x3_S16x3x3x3_0_2_3_1) : (⟨S16x3x3x3, .f32⟩ : BufTy).Contents (Elt F) → (⟨S16x3x3x3, .f32⟩ : BufTy).Contents (Elt F)),
    StableHlo.reshape main_v75 main_v76 (rfl : (.f32 : EltTy) = .f32) shapeCasts_S16x3x3x3_S16x27,
    StableHlo.binary main_v76 main_v74 main_v77 ((fun l r => Host.dotGeneral dot_S16x27_S8x27x128x128_S16x8x128x128_1_1_0_023_n_n none l r) : (⟨S16x27, .f32⟩ : BufTy).Contents (Elt F) → (⟨S8x27x128x128, .f32⟩ : BufTy).Contents (Elt F) → (⟨S16x8x128x128, .f32⟩ : BufTy).Contents (Elt F)),
    StableHlo.unary main_v77 main_v78 ((transpose S8x16x128x128 [1, 0, 2, 3] · transposes_S16x8x128x128_S8x16x128x128_1_0_2_3) : (⟨S16x8x128x128, .f32⟩ : BufTy).Contents (Elt F) → (⟨S8x16x128x128, .f32⟩ : BufTy).Contents (Elt F)),
    StableHlo.unary main_arg6 main_v79 (broadcastInDim S1x16x1x1 ![1] bcast_S16_S1x16x1x1_1 : (⟨S16, .f32⟩ : BufTy).Contents (Elt F) → (⟨S1x16x1x1, .f32⟩ : BufTy).Contents (Elt F)),
    StableHlo.unary main_v79 main_v80 (broadcastInDim S8x16x128x128 ![0, 1, 2, 3] bcast_S1x16x1x1_S8x16x128x128_0_1_2_3 : (⟨S1x16x1x1, .f32⟩ : BufTy).Contents (Elt F) → (⟨S8x16x128x128, .f32⟩ : BufTy).Contents (Elt F)),
    StableHlo.binary main_v78 main_v80 main_v81 (addf : (⟨S8x16x128x128, .f32⟩ : BufTy).Contents (Elt F) → (⟨S8x16x128x128, .f32⟩ : BufTy).Contents (Elt F) → (⟨S8x16x128x128, .f32⟩ : BufTy).Contents (Elt F)),
    StableHlo.nullary main_cst_19 (constant S_ .f32 0x00000000#32),
    StableHlo.unary main_cst_19 main_v82 (broadcastInDim S8x16x128x128 ![] bcast_S_S8x16x128x128 : (⟨S_, .f32⟩ : BufTy).Contents (Elt F) → (⟨S8x16x128x128, .f32⟩ : BufTy).Contents (Elt F)),
    StableHlo.binary main_v81 main_v82 main_v83 (cmpf .oge : (⟨S8x16x128x128, .f32⟩ : BufTy).Contents (Elt F) → (⟨S8x16x128x128, .f32⟩ : BufTy).Contents (Elt F) → (⟨S8x16x128x128, .i1⟩ : BufTy).Contents (Elt F)),
    StableHlo.nullary main_cst_20 (constant S_ .f32 0x3E4CCCCD#32),
    StableHlo.unary main_cst_20 main_v84 (broadcastInDim S8x16x128x128 ![] bcast_S_S8x16x128x128 : (⟨S_, .f32⟩ : BufTy).Contents (Elt F) → (⟨S8x16x128x128, .f32⟩ : BufTy).Contents (Elt F)),
    StableHlo.binary main_v84 main_v81 main_v85 (mulf : (⟨S8x16x128x128, .f32⟩ : BufTy).Contents (Elt F) → (⟨S8x16x128x128, .f32⟩ : BufTy).Contents (Elt F) → (⟨S8x16x128x128, .f32⟩ : BufTy).Contents (Elt F))]

theorem namedB {F : FTy → Type} [FloatOps F] : (Cert.KernelIdeal.Gen.hostOps0_10 : List (HloOp Cert.KernelIdeal.τ Cert.KernelIdeal.sig (Elt F))) = opsB := rfl

/-- The nine windows of a convolution side by side. -/
def catD {F : FTy → Type} [FloatOps F] (a0 : Vec F Cert.KernelIdeal.S8x16x64x64 .f32) (a1 : Vec F Cert.KernelIdeal.S8x16x64x64 .f32) (a2 : Vec F Cert.KernelIdeal.S8x16x64x64 .f32) (a3 : Vec F Cert.KernelIdeal.S8x16x64x64 .f32) (a4 : Vec F Cert.KernelIdeal.S8x16x64x64 .f32) (a5 : Vec F Cert.KernelIdeal.S8x16x64x64 .f32) (a6 : Vec F Cert.KernelIdeal.S8x16x64x64 .f32) (a7 : Vec F Cert.KernelIdeal.S8x16x64x64 .f32) (a8 : Vec F Cert.KernelIdeal.S8x16x64x64 .f32) : Vec F Cert.KernelIdeal.S8x144x64x64 .f32 :=
  open Cert.KernelIdeal Cert.KernelIdeal.Gen in (concatenate S8x144x64x64 1 [⟨S8x16x64x64, (a0 : (⟨S8x16x64x64, .f32⟩ : BufTy).Contents (Elt F))⟩, ⟨S8x16x64x64, (a1 : (⟨S8x16x64x64, .f32⟩ : BufTy).Contents (Elt F))⟩, ⟨S8x16x64x64, (a2 : (⟨S8x16x64x64, .f32⟩ : BufTy).Contents (Elt F))⟩, ⟨S8x16x64x64, (a3 : (⟨S8x16x64x64, .f32⟩ : BufTy).Contents (Elt F))⟩, ⟨S8x16x64x64, (a4 : (⟨S8x16x64x64, .f32⟩ : BufTy).Contents (Elt F))⟩, ⟨S8x16x64x64, (a5 : (⟨S8x16x64x64, .f32⟩ : BufTy).Contents (Elt F))⟩, ⟨S8x16x64x64, (a6 : (⟨S8x16x64x64, .f32⟩ : BufTy).Contents (Elt F))⟩, ⟨S8x16x64x64, (a7 : (⟨S8x16x64x64, .f32⟩ : BufTy).Contents (Elt F))⟩, ⟨S8x16x64x64, (a8 : (⟨S8x16x64x64, .f32⟩ : BufTy).Contents (Elt F))⟩] concatenates_S8x16x64x64_S8x16x64x64_S8x16x64x64_S8x16x64x64_S8x16x64x64_S8x16x64x64_S8x16x64x64_S8x16x64x64_S8x16x64x64_S8x144x64x64_d1 : (⟨S8x144x64x64, .f32⟩ : BufTy).Contents (Elt F))

open Cert.KernelIdeal Cert.KernelIdeal.Gen in
/-- A convolution stage, with the concatenation named. -/
abbrev opsD {F : FTy → Type} [FloatOps F] : List (HloOp τ sig (Elt F)) :=
  [StableHlo.unary main_v105 main_v106 ((Host.slice S8x16x64x64 ![0, 0, 0, 0] ![1, 1, 2, 2] · slicesBy_S8x16x130x130_S8x16x64x64_0s1_0s1_0s2_0s2) : (⟨S8x16x130x130, .f32⟩ : BufTy).Contents (Elt F) → (⟨S8x16x64x64, .f32⟩ : BufTy).Contents (Elt F)),
    StableHlo.unary main_v105 main_v107 ((Host.slice S8x16x64x64 ![0, 0, 0, 1] ![1, 1, 2, 2] · slicesBy_S8x16x130x130_S8x16x64x64_0s1_0s1_0s2_1s2) : (⟨S8x16x130x130, .f32⟩ : BufTy).Contents (Elt F) → (⟨S8x16x64x64, .f32⟩ : BufTy).Contents (Elt F)),
    StableHlo.unary main_v105 main_v108 ((Host.slice S8x16x64x64 ![0, 0, 0, 2] ![1, 1, 2, 2] · slicesBy_S8x16x130x130_S8x16x64x64_0s1_0s1_0s2_2s2) : (⟨S8x16x130x130, .f32⟩ : BufTy).Contents (Elt F) → (⟨S8x16x64x64, .f32⟩ : BufTy).Contents (Elt F)),
    StableHlo.unary main_v105 main_v109 ((Host.slice S8x16x64x64 ![0, 0, 1, 0] ![1, 1, 2, 2] · slicesBy_S8x16x130x130_S8x16x64x64_0s1_0s1_1s2_0s2) : (⟨S8x16x130x130, .f32⟩ : BufTy).Contents (Elt F) → (⟨S8x16x64x64, .f32⟩ : BufTy).Contents (Elt F)),
    StableHlo.unary main_v105 main_v110 ((Host.slice S8x16x64x64 ![0, 0, 1, 1] ![1, 1, 2, 2] · slicesBy_S8x16x130x130_S8x16x64x64_0s1_0s1_1s2_1s2) : (⟨S8x16x130x130, .f32⟩ : BufTy).Contents (Elt F) → (⟨S8x16x64x64, .f32⟩ : BufTy).Contents (Elt F)),
    StableHlo.unary main_v105 main_v111 ((Host.slice S8x16x64x64 ![0, 0, 1, 2] ![1, 1, 2, 2] · slicesBy_S8x16x130x130_S8x16x64x64_0s1_0s1_1s2_2s2) : (⟨S8x16x130x130, .f32⟩ : BufTy).Contents (Elt F) → (⟨S8x16x64x64, .f32⟩ : BufTy).Contents (Elt F)),
    StableHlo.unary main_v105 main_v112 ((Host.slice S8x16x64x64 ![0, 0, 2, 0] ![1, 1, 2, 2] · slicesBy_S8x16x130x130_S8x16x64x64_0s1_0s1_2s2_0s2) : (⟨S8x16x130x130, .f32⟩ : BufTy).Contents (Elt F) → (⟨S8x16x64x64, .f32⟩ : BufTy).Contents (Elt F)),
    StableHlo.unary main_v105 main_v113 ((Host.slice S8x16x64x64 ![0, 0, 2, 1] ![1, 1, 2, 2] · slicesBy_S8x16x130x130_S8x16x64x64_0s1_0s1_2s2_1s2) : (⟨S8x16x130x130, .f32⟩ : BufTy).Contents (Elt F) → (⟨S8x16x64x64, .f32⟩ : BufTy).Contents (Elt F)),
    StableHlo.unary main_v105 main_v114 ((Host.slice S8x16x64x64 ![0, 0, 2, 2] ![1, 1, 2, 2] · slicesBy_S8x16x130x130_S8x16x64x64_0s1_0s1_2s2_2s2) : (⟨S8x16x130x130, .f32⟩ : BufTy).Contents (Elt F) → (⟨S8x16x64x64, .f32⟩ : BufTy).Contents (Elt F)),
    StableHlo.nary ![main_v106, main_v107, main_v108, main_v109, main_v110, main_v111, main_v112, main_v113, main_v114] main_v115 (fun u => catD (F := F) (u 0) (u 1) (u 2) (u 3) (u 4) (u 5) (u 6) (u 7) (u 8)),
    StableHlo.unary main_arg2 main_v116 ((transpose S32x3x3x16 [0, 2, 3, 1] · transposes_S32x16x3x3_S32x3x3x16_0_2_3_1) : (⟨S32x16x3x3, .f32⟩ : BufTy).Contents (Elt F) → (⟨S32x3x3x16, .f32⟩ : BufTy).Contents (Elt F)),
    StableHlo.reshape main_v116 main_v117 (rfl : (.f32 : EltTy) = .f32) shapeCasts_S32x3x3x16_S32x144,
    StableHlo.binary main_v117 main_v115 main_v118 ((fun l r => Host.dotGeneral dot_S32x144_S8x144x64x64_S32x8x64x64_1_1_0_023_n_n none l r) : (⟨S32x144, .f32⟩ : BufTy).Contents (Elt F) → (⟨S8x144x64x64, .f32⟩ : BufTy).Contents (Elt F) → (⟨S32x8x64x64, .f32⟩ : BufTy).Contents (Elt F)),
    StableHlo.unary main_v118 main_v119 ((transpose S8x32x64x64 [1, 0, 2, 3] · transposes_S32x8x64x64_S8x32x64x64_1_0_2_3) : (⟨S32x8x64x64, .f32⟩ : BufTy).Contents (Elt F) → (⟨S8x32x64x64, .f32⟩ : BufTy).Contents (Elt F)),
    StableHlo.unary main_arg7 main_v120 (broadcastInDim S1x32x1x1 ![1] bcast_S32_S1x32x1x1_1 : (⟨S32, .f32⟩ : BufTy).Contents (Elt F) → (⟨S1x32x1x1, .f32⟩ : BufTy).Contents (Elt F)),
    StableHlo.unary main_v120 main_v121 (broadcastInDim S8x32x64x64 ![0, 1, 2, 3] bcast_S1x32x1x1_S8x32x64x64_0_1_2_3 : (⟨S1x32x1x1, .f32⟩ : BufTy).Contents (Elt F) → (⟨S8x32x64x64, .f32⟩ : BufTy).Contents (Elt F)),
    StableHlo.binary main_v119 main_v121 main_v122 (addf : (⟨S8x32x64x64, .f32⟩ : BufTy).Contents (Elt F) → (⟨S8x32x64x64, .f32⟩ : BufTy).Contents (Elt F) → (⟨S8x32x64x64, .f32⟩ : BufTy).Contents (Elt F)),
    StableHlo.nullary main_cst_26 (constant S_ .f32 0x00000000#32),
    StableHlo.unary main_cst_26 main_v123 (broadcastInDim S8x32x64x64 ![] bcast_S_S8x32x64x64 : (⟨S_, .f32⟩ : BufTy).Contents (Elt F) → (⟨S8x32x64x64, .f32⟩ : BufTy).Contents (Elt F)),
    StableHlo.binary main_v122 main_v123 main_v124 (cmpf .oge : (⟨S8x32x64x64, .f32⟩ : BufTy).Contents (Elt F) → (⟨S8x32x64x64, .f32⟩ : BufTy).Contents (Elt F) → (⟨S8x32x64x64, .i1⟩ : BufTy).Contents (Elt F)),
    StableHlo.nullary main_cst_27 (constant S_ .f32 0x3E4CCCCD#32),
    StableHlo.unary main_cst_27 main_v125 (broadcastInDim S8x32x64x64 ![] bcast_S_S8x32x64x64 : (⟨S_, .f32⟩ : BufTy).Contents (Elt F) → (⟨S8x32x64x64, .f32⟩ : BufTy).Contents (Elt F)),
    StableHlo.binary main_v125 main_v122 main_v126 (mulf : (⟨S8x32x64x64, .f32⟩ : BufTy).Contents (Elt F) → (⟨S8x32x64x64, .f32⟩ : BufTy).Contents (Elt F) → (⟨S8x32x64x64, .f32⟩ : BufTy).Contents (Elt F))]

theorem namedD {F : FTy → Type} [FloatOps F] : (Cert.KernelIdeal.Gen.hostOps0_16 : List (HloOp Cert.KernelIdeal.τ Cert.KernelIdeal.sig (Elt F))) = opsD := rfl

/-- The nine windows of a convolution side by side. -/
def catF {F : FTy → Type} [FloatOps F] (a0 : Vec F Cert.KernelIdeal.S8x32x32x32 .f32) (a1 : Vec F Cert.KernelIdeal.S8x32x32x32 .f32) (a2 : Vec F Cert.KernelIdeal.S8x32x32x32 .f32) (a3 : Vec F Cert.KernelIdeal.S8x32x32x32 .f32) (a4 : Vec F Cert.KernelIdeal.S8x32x32x32 .f32) (a5 : Vec F Cert.KernelIdeal.S8x32x32x32 .f32) (a6 : Vec F Cert.KernelIdeal.S8x32x32x32 .f32) (a7 : Vec F Cert.KernelIdeal.S8x32x32x32 .f32) (a8 : Vec F Cert.KernelIdeal.S8x32x32x32 .f32) : Vec F Cert.KernelIdeal.S8x288x32x32 .f32 :=
  open Cert.KernelIdeal Cert.KernelIdeal.Gen in (concatenate S8x288x32x32 1 [⟨S8x32x32x32, (a0 : (⟨S8x32x32x32, .f32⟩ : BufTy).Contents (Elt F))⟩, ⟨S8x32x32x32, (a1 : (⟨S8x32x32x32, .f32⟩ : BufTy).Contents (Elt F))⟩, ⟨S8x32x32x32, (a2 : (⟨S8x32x32x32, .f32⟩ : BufTy).Contents (Elt F))⟩, ⟨S8x32x32x32, (a3 : (⟨S8x32x32x32, .f32⟩ : BufTy).Contents (Elt F))⟩, ⟨S8x32x32x32, (a4 : (⟨S8x32x32x32, .f32⟩ : BufTy).Contents (Elt F))⟩, ⟨S8x32x32x32, (a5 : (⟨S8x32x32x32, .f32⟩ : BufTy).Contents (Elt F))⟩, ⟨S8x32x32x32, (a6 : (⟨S8x32x32x32, .f32⟩ : BufTy).Contents (Elt F))⟩, ⟨S8x32x32x32, (a7 : (⟨S8x32x32x32, .f32⟩ : BufTy).Contents (Elt F))⟩, ⟨S8x32x32x32, (a8 : (⟨S8x32x32x32, .f32⟩ : BufTy).Contents (Elt F))⟩] concatenates_S8x32x32x32_S8x32x32x32_S8x32x32x32_S8x32x32x32_S8x32x32x32_S8x32x32x32_S8x32x32x32_S8x32x32x32_S8x32x32x32_S8x288x32x32_d1 : (⟨S8x288x32x32, .f32⟩ : BufTy).Contents (Elt F))

open Cert.KernelIdeal Cert.KernelIdeal.Gen in
/-- A convolution stage, with the concatenation named. -/
abbrev opsF {F : FTy → Type} [FloatOps F] : List (HloOp τ sig (Elt F)) :=
  [StableHlo.unary main_v146 main_v147 ((Host.slice S8x32x32x32 ![0, 0, 0, 0] ![1, 1, 2, 2] · slicesBy_S8x32x66x66_S8x32x32x32_0s1_0s1_0s2_0s2) : (⟨S8x32x66x66, .f32⟩ : BufTy).Contents (Elt F) → (⟨S8x32x32x32, .f32⟩ : BufTy).Contents (Elt F)),
    StableHlo.unary main_v146 main_v148 ((Host.slice S8x32x32x32 ![0, 0, 0, 1] ![1, 1, 2, 2] · slicesBy_S8x32x66x66_S8x32x32x32_0s1_0s1_0s2_1s2) : (⟨S8x32x66x66, .f32⟩ : BufTy).Contents (Elt F) → (⟨S8x32x32x32, .f32⟩ : BufTy).Contents (Elt F)),
    StableHlo.unary main_v146 main_v149 ((Host.slice S8x32x32x32 ![0, 0, 0, 2] ![1, 1, 2, 2] · slicesBy_S8x32x66x66_S8x32x32x32_0s1_0s1_0s2_2s2) : (⟨S8x32x66x66, .f32⟩ : BufTy).Contents (Elt F) → (⟨S8x32x32x32, .f32⟩ : BufTy).Contents (Elt F)),
    StableHlo.unary main_v146 main_v150 ((Host.slice S8x32x32x32 ![0, 0, 1, 0] ![1, 1, 2, 2] · slicesBy_S8x32x66x66_S8x32x32x32_0s1_0s1_1s2_0s2) : (⟨S8x32x66x66, .f32⟩ : BufTy).Contents (Elt F) → (⟨S8x32x32x32, .f32⟩ : BufTy).Contents (Elt F)),
    StableHlo.unary main_v146 main_v151 ((Host.slice S8x32x32x32 ![0, 0, 1, 1] ![1, 1, 2, 2] · slicesBy_S8x32x66x66_S8x32x32x32_0s1_0s1_1s2_1s2) : (⟨S8x32x66x66, .f32⟩ : BufTy).Contents (Elt F) → (⟨S8x32x32x32, .f32⟩ : BufTy).Contents (Elt F)),
    StableHlo.unary main_v146 main_v152 ((Host.slice S8x32x32x32 ![0, 0, 1, 2] ![1, 1, 2, 2] · slicesBy_S8x32x66x66_S8x32x32x32_0s1_0s1_1s2_2s2) : (⟨S8x32x66x66, .f32⟩ : BufTy).Contents (Elt F) → (⟨S8x32x32x32, .f32⟩ : BufTy).Contents (Elt F)),
    StableHlo.unary main_v146 main_v153 ((Host.slice S8x32x32x32 ![0, 0, 2, 0] ![1, 1, 2, 2] · slicesBy_S8x32x66x66_S8x32x32x32_0s1_0s1_2s2_0s2) : (⟨S8x32x66x66, .f32⟩ : BufTy).Contents (Elt F) → (⟨S8x32x32x32, .f32⟩ : BufTy).Contents (Elt F)),
    StableHlo.unary main_v146 main_v154 ((Host.slice S8x32x32x32 ![0, 0, 2, 1] ![1, 1, 2, 2] · slicesBy_S8x32x66x66_S8x32x32x32_0s1_0s1_2s2_1s2) : (⟨S8x32x66x66, .f32⟩ : BufTy).Contents (Elt F) → (⟨S8x32x32x32, .f32⟩ : BufTy).Contents (Elt F)),
    StableHlo.unary main_v146 main_v155 ((Host.slice S8x32x32x32 ![0, 0, 2, 2] ![1, 1, 2, 2] · slicesBy_S8x32x66x66_S8x32x32x32_0s1_0s1_2s2_2s2) : (⟨S8x32x66x66, .f32⟩ : BufTy).Contents (Elt F) → (⟨S8x32x32x32, .f32⟩ : BufTy).Contents (Elt F)),
    StableHlo.nary ![main_v147, main_v148, main_v149, main_v150, main_v151, main_v152, main_v153, main_v154, main_v155] main_v156 (fun u => catF (F := F) (u 0) (u 1) (u 2) (u 3) (u 4) (u 5) (u 6) (u 7) (u 8)),
    StableHlo.unary main_arg3 main_v157 ((transpose S64x3x3x32 [0, 2, 3, 1] · transposes_S64x32x3x3_S64x3x3x32_0_2_3_1) : (⟨S64x32x3x3, .f32⟩ : BufTy).Contents (Elt F) → (⟨S64x3x3x32, .f32⟩ : BufTy).Contents (Elt F)),
    StableHlo.reshape main_v157 main_v158 (rfl : (.f32 : EltTy) = .f32) shapeCasts_S64x3x3x32_S64x288,
    StableHlo.binary main_v158 main_v156 main_v159 ((fun l r => Host.dotGeneral dot_S64x288_S8x288x32x32_S64x8x32x32_1_1_0_023_n_n none l r) : (⟨S64x288, .f32⟩ : BufTy).Contents (Elt F) → (⟨S8x288x32x32, .f32⟩ : BufTy).Contents (Elt F) → (⟨S64x8x32x32, .f32⟩ : BufTy).Contents (Elt F)),
    StableHlo.unary main_v159 main_v160 ((transpose S8x64x32x32 [1, 0, 2, 3] · transposes_S64x8x32x32_S8x64x32x32_1_0_2_3) : (⟨S64x8x32x32, .f32⟩ : BufTy).Contents (Elt F) → (⟨S8x64x32x32, .f32⟩ : BufTy).Contents (Elt F)),
    StableHlo.unary main_arg8 main_v161 (broadcastInDim S1x64x1x1 ![1] bcast_S64_S1x64x1x1_1 : (⟨S64, .f32⟩ : BufTy).Contents (Elt F) → (⟨S1x64x1x1, .f32⟩ : BufTy).Contents (Elt F)),
    StableHlo.unary main_v161 main_v162 (broadcastInDim S8x64x32x32 ![0, 1, 2, 3] bcast_S1x64x1x1_S8x64x32x32_0_1_2_3 : (⟨S1x64x1x1, .f32⟩ : BufTy).Contents (Elt F) → (⟨S8x64x32x32, .f32⟩ : BufTy).Contents (Elt F)),
    StableHlo.binary main_v160 main_v162 main_v163 (addf : (⟨S8x64x32x32, .f32⟩ : BufTy).Contents (Elt F) → (⟨S8x64x32x32, .f32⟩ : BufTy).Contents (Elt F) → (⟨S8x64x32x32, .f32⟩ : BufTy).Contents (Elt F)),
    StableHlo.nullary main_cst_33 (constant S_ .f32 0x00000000#32),
    StableHlo.unary main_cst_33 main_v164 (broadcastInDim S8x64x32x32 ![] bcast_S_S8x64x32x32 : (⟨S_, .f32⟩ : BufTy).Contents (Elt F) → (⟨S8x64x32x32, .f32⟩ : BufTy).Contents (Elt F)),
    StableHlo.binary main_v163 main_v164 main_v165 (cmpf .oge : (⟨S8x64x32x32, .f32⟩ : BufTy).Contents (Elt F) → (⟨S8x64x32x32, .f32⟩ : BufTy).Contents (Elt F) → (⟨S8x64x32x32, .i1⟩ : BufTy).Contents (Elt F)),
    StableHlo.nullary main_cst_34 (constant S_ .f32 0x3E4CCCCD#32),
    StableHlo.unary main_cst_34 main_v166 (broadcastInDim S8x64x32x32 ![] bcast_S_S8x64x32x32 : (⟨S_, .f32⟩ : BufTy).Contents (Elt F) → (⟨S8x64x32x32, .f32⟩ : BufTy).Contents (Elt F)),
    StableHlo.binary main_v166 main_v163 main_v167 (mulf : (⟨S8x64x32x32, .f32⟩ : BufTy).Contents (Elt F) → (⟨S8x64x32x32, .f32⟩ : BufTy).Contents (Elt F) → (⟨S8x64x32x32, .f32⟩ : BufTy).Contents (Elt F))]

theorem namedF {F : FTy → Type} [FloatOps F] : (Cert.KernelIdeal.Gen.hostOps0_22 : List (HloOp Cert.KernelIdeal.τ Cert.KernelIdeal.sig (Elt F))) = opsF := rfl

/-- The nine windows of a convolution side by side. -/
def catH {F : FTy → Type} [FloatOps F] (a0 : Vec F Cert.KernelIdeal.S8x64x16x16 .f32) (a1 : Vec F Cert.KernelIdeal.S8x64x16x16 .f32) (a2 : Vec F Cert.KernelIdeal.S8x64x16x16 .f32) (a3 : Vec F Cert.KernelIdeal.S8x64x16x16 .f32) (a4 : Vec F Cert.KernelIdeal.S8x64x16x16 .f32) (a5 : Vec F Cert.KernelIdeal.S8x64x16x16 .f32) (a6 : Vec F Cert.KernelIdeal.S8x64x16x16 .f32) (a7 : Vec F Cert.KernelIdeal.S8x64x16x16 .f32) (a8 : Vec F Cert.KernelIdeal.S8x64x16x16 .f32) : Vec F Cert.KernelIdeal.S8x576x16x16 .f32 :=
  open Cert.KernelIdeal Cert.KernelIdeal.Gen in (concatenate S8x576x16x16 1 [⟨S8x64x16x16, (a0 : (⟨S8x64x16x16, .f32⟩ : BufTy).Contents (Elt F))⟩, ⟨S8x64x16x16, (a1 : (⟨S8x64x16x16, .f32⟩ : BufTy).Contents (Elt F))⟩, ⟨S8x64x16x16, (a2 : (⟨S8x64x16x16, .f32⟩ : BufTy).Contents (Elt F))⟩, ⟨S8x64x16x16, (a3 : (⟨S8x64x16x16, .f32⟩ : BufTy).Contents (Elt F))⟩, ⟨S8x64x16x16, (a4 : (⟨S8x64x16x16, .f32⟩ : BufTy).Contents (Elt F))⟩, ⟨S8x64x16x16, (a5 : (⟨S8x64x16x16, .f32⟩ : BufTy).Contents (Elt F))⟩, ⟨S8x64x16x16, (a6 : (⟨S8x64x16x16, .f32⟩ : BufTy).Contents (Elt F))⟩, ⟨S8x64x16x16, (a7 : (⟨S8x64x16x16, .f32⟩ : BufTy).Contents (Elt F))⟩, ⟨S8x64x16x16, (a8 : (⟨S8x64x16x16, .f32⟩ : BufTy).Contents (Elt F))⟩] concatenates_S8x64x16x16_S8x64x16x16_S8x64x16x16_S8x64x16x16_S8x64x16x16_S8x64x16x16_S8x64x16x16_S8x64x16x16_S8x64x16x16_S8x576x16x16_d1 : (⟨S8x576x16x16, .f32⟩ : BufTy).Contents (Elt F))

open Cert.KernelIdeal Cert.KernelIdeal.Gen in
/-- A convolution stage, with the concatenation named. -/
abbrev opsH {F : FTy → Type} [FloatOps F] : List (HloOp τ sig (Elt F)) :=
  [StableHlo.unary main_v187 main_v188 ((Host.slice S8x64x16x16 ![0, 0, 0, 0] ![1, 1, 2, 2] · slicesBy_S8x64x34x34_S8x64x16x16_0s1_0s1_0s2_0s2) : (⟨S8x64x34x34, .f32⟩ : BufTy).Contents (Elt F) → (⟨S8x64x16x16, .f32⟩ : BufTy).Contents (Elt F)),
    StableHlo.unary main_v187 main_v189 ((Host.slice S8x64x16x16 ![0, 0, 0, 1] ![1, 1, 2, 2] · slicesBy_S8x64x34x34_S8x64x16x16_0s1_0s1_0s2_1s2) : (⟨S8x64x34x34, .f32⟩ : BufTy).Contents (Elt F) → (⟨S8x64x16x16, .f32⟩ : BufTy).Contents (Elt F)),
    StableHlo.unary main_v187 main_v190 ((Host.slice S8x64x16x16 ![0, 0, 0, 2] ![1, 1, 2, 2] · slicesBy_S8x64x34x34_S8x64x16x16_0s1_0s1_0s2_2s2) : (⟨S8x64x34x34, .f32⟩ : BufTy).Contents (Elt F) → (⟨S8x64x16x16, .f32⟩ : BufTy).Contents (Elt F)),
    StableHlo.unary main_v187 main_v191 ((Host.slice S8x64x16x16 ![0, 0, 1, 0] ![1, 1, 2, 2] · slicesBy_S8x64x34x34_S8x64x16x16_0s1_0s1_1s2_0s2) : (⟨S8x64x34x34, .f32⟩ : BufTy).Contents (Elt F) → (⟨S8x64x16x16, .f32⟩ : BufTy).Contents (Elt F)),
    StableHlo.unary main_v187 main_v192 ((Host.slice S8x64x16x16 ![0, 0, 1, 1] ![1, 1, 2, 2] · slicesBy_S8x64x34x34_S8x64x16x16_0s1_0s1_1s2_1s2) : (⟨S8x64x34x34, .f32⟩ : BufTy).Contents (Elt F) → (⟨S8x64x16x16, .f32⟩ : BufTy).Contents (Elt F)),
    StableHlo.unary main_v187 main_v193 ((Host.slice S8x64x16x16 ![0, 0, 1, 2] ![1, 1, 2, 2] · slicesBy_S8x64x34x34_S8x64x16x16_0s1_0s1_1s2_2s2) : (⟨S8x64x34x34, .f32⟩ : BufTy).Contents (Elt F) → (⟨S8x64x16x16, .f32⟩ : BufTy).Contents (Elt F)),
    StableHlo.unary main_v187 main_v194 ((Host.slice S8x64x16x16 ![0, 0, 2, 0] ![1, 1, 2, 2] · slicesBy_S8x64x34x34_S8x64x16x16_0s1_0s1_2s2_0s2) : (⟨S8x64x34x34, .f32⟩ : BufTy).Contents (Elt F) → (⟨S8x64x16x16, .f32⟩ : BufTy).Contents (Elt F)),
    StableHlo.unary main_v187 main_v195 ((Host.slice S8x64x16x16 ![0, 0, 2, 1] ![1, 1, 2, 2] · slicesBy_S8x64x34x34_S8x64x16x16_0s1_0s1_2s2_1s2) : (⟨S8x64x34x34, .f32⟩ : BufTy).Contents (Elt F) → (⟨S8x64x16x16, .f32⟩ : BufTy).Contents (Elt F)),
    StableHlo.unary main_v187 main_v196 ((Host.slice S8x64x16x16 ![0, 0, 2, 2] ![1, 1, 2, 2] · slicesBy_S8x64x34x34_S8x64x16x16_0s1_0s1_2s2_2s2) : (⟨S8x64x34x34, .f32⟩ : BufTy).Contents (Elt F) → (⟨S8x64x16x16, .f32⟩ : BufTy).Contents (Elt F)),
    StableHlo.nary ![main_v188, main_v189, main_v190, main_v191, main_v192, main_v193, main_v194, main_v195, main_v196] main_v197 (fun u => catH (F := F) (u 0) (u 1) (u 2) (u 3) (u 4) (u 5) (u 6) (u 7) (u 8)),
    StableHlo.unary main_arg4 main_v198 ((transpose S128x3x3x64 [0, 2, 3, 1] · transposes_S128x64x3x3_S128x3x3x64_0_2_3_1) : (⟨S128x64x3x3, .f32⟩ : BufTy).Contents (Elt F) → (⟨S128x3x3x64, .f32⟩ : BufTy).Contents (Elt F)),
    StableHlo.reshape main_v198 main_v199 (rfl : (.f32 : EltTy) = .f32) shapeCasts_S128x3x3x64_S128x576,
    StableHlo.binary main_v199 main_v197 main_v200 ((fun l r => Host.dotGeneral dot_S128x576_S8x576x16x16_S128x8x16x16_1_1_0_023_n_n none l r) : (⟨S128x576, .f32⟩ : BufTy).Contents (Elt F) → (⟨S8x576x16x16, .f32⟩ : BufTy).Contents (Elt F) → (⟨S128x8x16x16, .f32⟩ : BufTy).Contents (Elt F)),
    StableHlo.unary main_v200 main_v201 ((transpose S8x128x16x16 [1, 0, 2, 3] · transposes_S128x8x16x16_S8x128x16x16_1_0_2_3) : (⟨S128x8x16x16, .f32⟩ : BufTy).Contents (Elt F) → (⟨S8x128x16x16, .f32⟩ : BufTy).Contents (Elt F)),
    StableHlo.unary main_arg9 main_v202 (broadcastInDim S1x128x1x1 ![1] bcast_S128_S1x128x1x1_1 : (⟨S128, .f32⟩ : BufTy).Contents (Elt F) → (⟨S1x128x1x1, .f32⟩ : BufTy).Contents (Elt F)),
    StableHlo.unary main_v202 main_v203 (broadcastInDim S8x128x16x16 ![0, 1, 2, 3] bcast_S1x128x1x1_S8x128x16x16_0_1_2_3 : (⟨S1x128x1x1, .f32⟩ : BufTy).Contents (Elt F) → (⟨S8x128x16x16, .f32⟩ : BufTy).Contents (Elt F)),
    StableHlo.binary main_v201 main_v203 main_v204 (addf : (⟨S8x128x16x16, .f32⟩ : BufTy).Contents (Elt F) → (⟨S8x128x16x16, .f32⟩ : BufTy).Contents (Elt F) → (⟨S8x128x16x16, .f32⟩ : BufTy).Contents (Elt F)),
    StableHlo.nullary main_cst_40 (constant S_ .f32 0x00000000#32),
    StableHlo.unary main_cst_40 main_v205 (broadcastInDim S8x128x16x16 ![] bcast_S_S8x128x16x16 : (⟨S_, .f32⟩ : BufTy).Contents (Elt F) → (⟨S8x128x16x16, .f32⟩ : BufTy).Contents (Elt F)),
    StableHlo.binary main_v204 main_v205 main_v206 (cmpf .oge : (⟨S8x128x16x16, .f32⟩ : BufTy).Contents (Elt F) → (⟨S8x128x16x16, .f32⟩ : BufTy).Contents (Elt F) → (⟨S8x128x16x16, .i1⟩ : BufTy).Contents (Elt F)),
    StableHlo.nullary main_cst_41 (constant S_ .f32 0x3E4CCCCD#32),
    StableHlo.unary main_cst_41 main_v207 (broadcastInDim S8x128x16x16 ![] bcast_S_S8x128x16x16 : (⟨S_, .f32⟩ : BufTy).Contents (Elt F) → (⟨S8x128x16x16, .f32⟩ : BufTy).Contents (Elt F)),
    StableHlo.binary main_v207 main_v204 main_v208 (mulf : (⟨S8x128x16x16, .f32⟩ : BufTy).Contents (Elt F) → (⟨S8x128x16x16, .f32⟩ : BufTy).Contents (Elt F) → (⟨S8x128x16x16, .f32⟩ : BufTy).Contents (Elt F))]

theorem namedH {F : FTy → Type} [FloatOps F] : (Cert.KernelIdeal.Gen.hostOps0_28 : List (HloOp Cert.KernelIdeal.τ Cert.KernelIdeal.sig (Elt F))) = opsH := rfl

/-- The nine windows of a convolution side by side. -/
def catJ {F : FTy → Type} [FloatOps F] (a0 : Vec F Cert.KernelIdeal.S8x128x8x8 .f32) (a1 : Vec F Cert.KernelIdeal.S8x128x8x8 .f32) (a2 : Vec F Cert.KernelIdeal.S8x128x8x8 .f32) (a3 : Vec F Cert.KernelIdeal.S8x128x8x8 .f32) (a4 : Vec F Cert.KernelIdeal.S8x128x8x8 .f32) (a5 : Vec F Cert.KernelIdeal.S8x128x8x8 .f32) (a6 : Vec F Cert.KernelIdeal.S8x128x8x8 .f32) (a7 : Vec F Cert.KernelIdeal.S8x128x8x8 .f32) (a8 : Vec F Cert.KernelIdeal.S8x128x8x8 .f32) : Vec F Cert.KernelIdeal.S8x1152x8x8 .f32 :=
  open Cert.KernelIdeal Cert.KernelIdeal.Gen in (concatenate S8x1152x8x8 1 [⟨S8x128x8x8, (a0 : (⟨S8x128x8x8, .f32⟩ : BufTy).Contents (Elt F))⟩, ⟨S8x128x8x8, (a1 : (⟨S8x128x8x8, .f32⟩ : BufTy).Contents (Elt F))⟩, ⟨S8x128x8x8, (a2 : (⟨S8x128x8x8, .f32⟩ : BufTy).Contents (Elt F))⟩, ⟨S8x128x8x8, (a3 : (⟨S8x128x8x8, .f32⟩ : BufTy).Contents (Elt F))⟩, ⟨S8x128x8x8, (a4 : (⟨S8x128x8x8, .f32⟩ : BufTy).Contents (Elt F))⟩, ⟨S8x128x8x8, (a5 : (⟨S8x128x8x8, .f32⟩ : BufTy).Contents (Elt F))⟩, ⟨S8x128x8x8, (a6 : (⟨S8x128x8x8, .f32⟩ : BufTy).Contents (Elt F))⟩, ⟨S8x128x8x8, (a7 : (⟨S8x128x8x8, .f32⟩ : BufTy).Contents (Elt F))⟩, ⟨S8x128x8x8, (a8 : (⟨S8x128x8x8, .f32⟩ : BufTy).Contents (Elt F))⟩] concatenates_S8x128x8x8_S8x128x8x8_S8x128x8x8_S8x128x8x8_S8x128x8x8_S8x128x8x8_S8x128x8x8_S8x128x8x8_S8x128x8x8_S8x1152x8x8_d1 : (⟨S8x1152x8x8, .f32⟩ : BufTy).Contents (Elt F))

open Cert.KernelIdeal Cert.KernelIdeal.Gen in
/-- A convolution stage, with the concatenation named. -/
abbrev opsJ {F : FTy → Type} [FloatOps F] : List (HloOp τ sig (Elt F)) :=
  [StableHlo.unary main_v228 main_v229 ((Host.slice S8x128x8x8 ![0, 0, 0, 0] ![1, 1, 2, 2] · slicesBy_S8x128x18x18_S8x128x8x8_0s1_0s1_0s2_0s2) : (⟨S8x128x18x18, .f32⟩ : BufTy).Contents (Elt F) → (⟨S8x128x8x8, .f32⟩ : BufTy).Contents (Elt F)),
    StableHlo.unary main_v228 main_v230 ((Host.slice S8x128x8x8 ![0, 0, 0, 1] ![1, 1, 2, 2] · slicesBy_S8x128x18x18_S8x128x8x8_0s1_0s1_0s2_1s2) : (⟨S8x128x18x18, .f32⟩ : BufTy).Contents (Elt F) → (⟨S8x128x8x8, .f32⟩ : BufTy).Contents (Elt F)),
    StableHlo.unary main_v228 main_v231 ((Host.slice S8x128x8x8 ![0, 0, 0, 2] ![1, 1, 2, 2] · slicesBy_S8x128x18x18_S8x128x8x8_0s1_0s1_0s2_2s2) : (⟨S8x128x18x18, .f32⟩ : BufTy).Contents (Elt F) → (⟨S8x128x8x8, .f32⟩ : BufTy).Contents (Elt F)),
    StableHlo.unary main_v228 main_v232 ((Host.slice S8x128x8x8 ![0, 0, 1, 0] ![1, 1, 2, 2] · slicesBy_S8x128x18x18_S8x128x8x8_0s1_0s1_1s2_0s2) : (⟨S8x128x18x18, .f32⟩ : BufTy).Contents (Elt F) → (⟨S8x128x8x8, .f32⟩ : BufTy).Contents (Elt F)),
    StableHlo.unary main_v228 main_v233 ((Host.slice S8x128x8x8 ![0, 0, 1, 1] ![1, 1, 2, 2] · slicesBy_S8x128x18x18_S8x128x8x8_0s1_0s1_1s2_1s2) : (⟨S8x128x18x18, .f32⟩ : BufTy).Contents (Elt F) → (⟨S8x128x8x8, .f32⟩ : BufTy).Contents (Elt F)),
    StableHlo.unary main_v228 main_v234 ((Host.slice S8x128x8x8 ![0, 0, 1, 2] ![1, 1, 2, 2] · slicesBy_S8x128x18x18_S8x128x8x8_0s1_0s1_1s2_2s2) : (⟨S8x128x18x18, .f32⟩ : BufTy).Contents (Elt F) → (⟨S8x128x8x8, .f32⟩ : BufTy).Contents (Elt F)),
    StableHlo.unary main_v228 main_v235 ((Host.slice S8x128x8x8 ![0, 0, 2, 0] ![1, 1, 2, 2] · slicesBy_S8x128x18x18_S8x128x8x8_0s1_0s1_2s2_0s2) : (⟨S8x128x18x18, .f32⟩ : BufTy).Contents (Elt F) → (⟨S8x128x8x8, .f32⟩ : BufTy).Contents (Elt F)),
    StableHlo.unary main_v228 main_v236 ((Host.slice S8x128x8x8 ![0, 0, 2, 1] ![1, 1, 2, 2] · slicesBy_S8x128x18x18_S8x128x8x8_0s1_0s1_2s2_1s2) : (⟨S8x128x18x18, .f32⟩ : BufTy).Contents (Elt F) → (⟨S8x128x8x8, .f32⟩ : BufTy).Contents (Elt F)),
    StableHlo.unary main_v228 main_v237 ((Host.slice S8x128x8x8 ![0, 0, 2, 2] ![1, 1, 2, 2] · slicesBy_S8x128x18x18_S8x128x8x8_0s1_0s1_2s2_2s2) : (⟨S8x128x18x18, .f32⟩ : BufTy).Contents (Elt F) → (⟨S8x128x8x8, .f32⟩ : BufTy).Contents (Elt F)),
    StableHlo.nary ![main_v229, main_v230, main_v231, main_v232, main_v233, main_v234, main_v235, main_v236, main_v237] main_v238 (fun u => catJ (F := F) (u 0) (u 1) (u 2) (u 3) (u 4) (u 5) (u 6) (u 7) (u 8)),
    StableHlo.unary main_arg5 main_v239 ((transpose S128x3x3x128 [0, 2, 3, 1] · transposes_S128x128x3x3_S128x3x3x128_0_2_3_1) : (⟨S128x128x3x3, .f32⟩ : BufTy).Contents (Elt F) → (⟨S128x3x3x128, .f32⟩ : BufTy).Contents (Elt F)),
    StableHlo.reshape main_v239 main_v240 (rfl : (.f32 : EltTy) = .f32) shapeCasts_S128x3x3x128_S128x1152,
    StableHlo.binary main_v240 main_v238 main_v241 ((fun l r => Host.dotGeneral dot_S128x1152_S8x1152x8x8_S128x8x8x8_1_1_0_023_n_n none l r) : (⟨S128x1152, .f32⟩ : BufTy).Contents (Elt F) → (⟨S8x1152x8x8, .f32⟩ : BufTy).Contents (Elt F) → (⟨S128x8x8x8, .f32⟩ : BufTy).Contents (Elt F)),
    StableHlo.unary main_v241 main_v242 ((transpose S8x128x8x8 [1, 0, 2, 3] · transposes_S128x8x8x8_S8x128x8x8_1_0_2_3) : (⟨S128x8x8x8, .f32⟩ : BufTy).Contents (Elt F) → (⟨S8x128x8x8, .f32⟩ : BufTy).Contents (Elt F)),
    StableHlo.unary main_arg10 main_v243 (broadcastInDim S1x128x1x1 ![1] bcast_S128_S1x128x1x1_1 : (⟨S128, .f32⟩ : BufTy).Contents (Elt F) → (⟨S1x128x1x1, .f32⟩ : BufTy).Contents (Elt F)),
    StableHlo.unary main_v243 main_v244 (broadcastInDim S8x128x8x8 ![0, 1, 2, 3] bcast_S1x128x1x1_S8x128x8x8_0_1_2_3 : (⟨S1x128x1x1, .f32⟩ : BufTy).Contents (Elt F) → (⟨S8x128x8x8, .f32⟩ : BufTy).Contents (Elt F)),
    StableHlo.binary main_v242 main_v244 main_v245 (addf : (⟨S8x128x8x8, .f32⟩ : BufTy).Contents (Elt F) → (⟨S8x128x8x8, .f32⟩ : BufTy).Contents (Elt F) → (⟨S8x128x8x8, .f32⟩ : BufTy).Contents (Elt F)),
    StableHlo.nullary main_cst_47 (constant S_ .f32 0x00000000#32),
    StableHlo.unary main_cst_47 main_v246 (broadcastInDim S8x128x8x8 ![] bcast_S_S8x128x8x8 : (⟨S_, .f32⟩ : BufTy).Contents (Elt F) → (⟨S8x128x8x8, .f32⟩ : BufTy).Contents (Elt F)),
    StableHlo.binary main_v245 main_v246 main_v247 (cmpf .oge : (⟨S8x128x8x8, .f32⟩ : BufTy).Contents (Elt F) → (⟨S8x128x8x8, .f32⟩ : BufTy).Contents (Elt F) → (⟨S8x128x8x8, .i1⟩ : BufTy).Contents (Elt F)),
    StableHlo.nullary main_cst_48 (constant S_ .f32 0x3E4CCCCD#32),
    StableHlo.unary main_cst_48 main_v248 (broadcastInDim S8x128x8x8 ![] bcast_S_S8x128x8x8 : (⟨S_, .f32⟩ : BufTy).Contents (Elt F) → (⟨S8x128x8x8, .f32⟩ : BufTy).Contents (Elt F)),
    StableHlo.binary main_v248 main_v245 main_v249 (mulf : (⟨S8x128x8x8, .f32⟩ : BufTy).Contents (Elt F) → (⟨S8x128x8x8, .f32⟩ : BufTy).Contents (Elt F) → (⟨S8x128x8x8, .f32⟩ : BufTy).Contents (Elt F))]

theorem namedJ {F : FTy → Type} [FloatOps F] : (Cert.KernelIdeal.Gen.hostOps0_34 : List (HloOp Cert.KernelIdeal.τ Cert.KernelIdeal.sig (Elt F))) = opsJ := rfl

open Cert.KernelIdeal Cert.KernelIdeal.Gen in
/-- The first part of a list of host operations. -/
abbrev opsJ1 {F : FTy → Type} [FloatOps F] : List (HloOp τ sig (Elt F)) :=
  [StableHlo.reshape main_v250 main_v251 (rfl : (.f32 : EltTy) = .f32) shapeCasts_S8x128x8x8_S8x8192,
    StableHlo.unary main_arg19 main_v252 ((transpose S8192x3 [1, 0] · transposes_S3x8192_S8192x3_1_0) : (⟨S3x8192, .f32⟩ : BufTy).Contents (Elt F) → (⟨S8192x3, .f32⟩ : BufTy).Contents (Elt F)),
    StableHlo.binary main_v251 main_v252 main_v253 ((fun l r => Host.dotGeneral dot_S8x8192_S8192x3_S8x3_1_0_0_1_n_n none l r) : (⟨S8x8192, .f32⟩ : BufTy).Contents (Elt F) → (⟨S8192x3, .f32⟩ : BufTy).Contents (Elt F) → (⟨S8x3, .f32⟩ : BufTy).Contents (Elt F)),
    StableHlo.unary main_arg20 main_v254 (broadcastInDim S1x3 ![1] bcast_S3_S1x3_1 : (⟨S3, .f32⟩ : BufTy).Contents (Elt F) → (⟨S1x3, .f32⟩ : BufTy).Contents (Elt F)),
    StableHlo.unary main_v254 main_v255 (broadcastInDim S8x3 ![0, 1] bcast_S1x3_S8x3_0_1 : (⟨S1x3, .f32⟩ : BufTy).Contents (Elt F) → (⟨S8x3, .f32⟩ : BufTy).Contents (Elt F)),
    StableHlo.binary main_v253 main_v255 main_v256 (addf : (⟨S8x3, .f32⟩ : BufTy).Contents (Elt F) → (⟨S8x3, .f32⟩ : BufTy).Contents (Elt F) → (⟨S8x3, .f32⟩ : BufTy).Contents (Elt F))]

open Cert.KernelIdeal Cert.KernelIdeal.Gen in
/-- The second part of a list of host operations. -/
abbrev opsM {F : FTy → Type} [FloatOps F] : List (HloOp τ sig (Elt F)) :=
  [StableHlo.unary main_arg21 main_v257 ((transpose S3x107811 [1, 0] · transposes_S107811x3_S3x107811_1_0) : (⟨S107811x3, .f32⟩ : BufTy).Contents (Elt F) → (⟨S3x107811, .f32⟩ : BufTy).Contents (Elt F)),
    StableHlo.binary main_v256 main_v257 main_v258 ((fun l r => Host.dotGeneral dot_S8x3_S3x107811_S8x107811_1_0_0_1_n_n none l r) : (⟨S8x3, .f32⟩ : BufTy).Contents (Elt F) → (⟨S3x107811, .f32⟩ : BufTy).Contents (Elt F) → (⟨S8x107811, .f32⟩ : BufTy).Contents (Elt F)),
    StableHlo.reshape main_v258 main_v259 (rfl : (.f32 : EltTy) = .f32) shapeCasts_S8x107811_S8x3x33x33x33,
    StableHlo.unary main_arg21 main_v260 ((extractStridedSlice S107811x2 ![0, 1] · slices_S107811x3_S107811x2_0_1) : (⟨S107811x3, .f32⟩ : BufTy).Contents (Elt F) → (⟨S107811x2, .f32⟩ : BufTy).Contents (Elt F)),
    StableHlo.unary main_v260 main_v261 ((transpose S2x107811 [1, 0] · transposes_S107811x2_S2x107811_1_0) : (⟨S107811x2, .f32⟩ : BufTy).Contents (Elt F) → (⟨S2x107811, .f32⟩ : BufTy).Contents (Elt F)),
    StableHlo.reshape main_v261 main_v262 (rfl : (.f32 : EltTy) = .f32) shapeCasts_S2x107811_S2x3x33x33x33,
    StableHlo.unary main_v262 main_v263 (Host.absf : (⟨S2x3x33x33x33, .f32⟩ : BufTy).Contents (Elt F) → (⟨S2x3x33x33x33, .f32⟩ : BufTy).Contents (Elt F)),
    StableHlo.nullary main_cst_49 (constant S_ .f32 0xFF800000#32),
    StableHlo.binary main_v263 main_cst_49 main_v264 ((fun x v => Host.reduce FloatOps.maximumf x v reducesTo_S2x3x33x33x33_S2x3_d2_3_4 h_S_) : (⟨S2x3x33x33x33, .f32⟩ : BufTy).Contents (Elt F) → (⟨S_, .f32⟩ : BufTy).Contents (Elt F) → (⟨S2x3, .f32⟩ : BufTy).Contents (Elt F)),
    StableHlo.nullary main_cst_50 (constant S_ .f32 0x40E00000#32),
    StableHlo.unary main_cst_50 main_v265 (broadcastInDim S2x3 ![] bcast_S_S2x3 : (⟨S_, .f32⟩ : BufTy).Contents (Elt F) → (⟨S2x3, .f32⟩ : BufTy).Contents (Elt F)),
    StableHlo.binary main_v264 main_v265 main_v266 (Host.divf : (⟨S2x3, .f32⟩ : BufTy).Contents (Elt F) → (⟨S2x3, .f32⟩ : BufTy).Contents (Elt F) → (⟨S2x3, .f32⟩ : BufTy).Contents (Elt F)),
    StableHlo.nullary main_cst_51 (constant S_ .f32 0x1E3CE508#32),
    StableHlo.unary main_cst_51 main_v267 (broadcastInDim S2x3 ![] bcast_S_S2x3 : (⟨S_, .f32⟩ : BufTy).Contents (Elt F) → (⟨S2x3, .f32⟩ : BufTy).Contents (Elt F)),
    StableHlo.binary main_v266 main_v267 main_v268 (maximumf : (⟨S2x3, .f32⟩ : BufTy).Contents (Elt F) → (⟨S2x3, .f32⟩ : BufTy).Contents (Elt F) → (⟨S2x3, .f32⟩ : BufTy).Contents (Elt F)),
    StableHlo.unary main_v268 main_v269 (broadcastInDim S2x3x1x1x1 ![0, 1] bcast_S2x3_S2x3x1x1x1_0_1 : (⟨S2x3, .f32⟩ : BufTy).Contents (Elt F) → (⟨S2x3x1x1x1, .f32⟩ : BufTy).Contents (Elt F)),
    StableHlo.unary main_v269 main_v270 (broadcastInDim S2x3x33x33x33 ![0, 1, 2, 3, 4] bcast_S2x3x1x1x1_S2x3x33x33x33_0_1_2_3_4 : (⟨S2x3x1x1x1, .f32⟩ : BufTy).Contents (Elt F) → (⟨S2x3x33x33x33, .f32⟩ : BufTy).Contents (Elt F)),
    StableHlo.binary main_v262 main_v270 main_v271 (Host.divf : (⟨S2x3x33x33x33, .f32⟩ : BufTy).Contents (Elt F) → (⟨S2x3x33x33x33, .f32⟩ : BufTy).Contents (Elt F) → (⟨S2x3x33x33x33, .f32⟩ : BufTy).Contents (Elt F))]

theorem splitJ1 {F : FTy → Type} [FloatOps F] : (Cert.KernelIdeal.Gen.hostOps0_36 : List (HloOp Cert.KernelIdeal.τ Cert.KernelIdeal.sig (Elt F))) = opsJ1 ++ opsM := rfl

/-- The parameter row: identity weight, six coefficients, three offsets. -/
def catS {F : FTy → Type} [FloatOps F] (a0 : Vec F Cert.KernelIdeal.S8x1 .f32) (a1 : Vec F Cert.KernelIdeal.S8x6 .f32) (a2 : Vec F Cert.KernelIdeal.S8x3 .f32) : Vec F Cert.KernelIdeal.S8x10 .f32 :=
  open Cert.KernelIdeal Cert.KernelIdeal.Gen in (concatenate S8x10 1 [⟨S8x1, (a0 : (⟨S8x1, .f32⟩ : BufTy).Contents (Elt F))⟩, ⟨S8x6, (a1 : (⟨S8x6, .f32⟩ : BufTy).Contents (Elt F))⟩, ⟨S8x3, (a2 : (⟨S8x3, .f32⟩ : BufTy).Contents (Elt F))⟩] concatenates_S8x1_S8x6_S8x3_S8x10_d1 : (⟨S8x10, .f32⟩ : BufTy).Contents (Elt F))

open Cert.KernelIdeal Cert.KernelIdeal.Gen in
/-- The first part of a list of host operations. -/
abbrev opsQ1 {F : FTy → Type} [FloatOps F] : List (HloOp τ sig (Elt F)) :=
  [StableHlo.reshape main_v321 main_v322 (rfl : (.i32 : EltTy) = .i32) shapeCasts_S3x36352_S3x284x1x128,
    StableHlo.unary main_v322 main_v323 (id : (⟨S3x284x1x128, .i32⟩ : BufTy).Contents (Elt F) → (⟨S3x284x1x128, .i32⟩ : BufTy).Contents (Elt F))]

open Cert.KernelIdeal Cert.KernelIdeal.Gen in
/-- The second part of a list of host operations. -/
abbrev opsS {F : FTy → Type} [FloatOps F] : List (HloOp τ sig (Elt F)) :=
  [StableHlo.unary main_v256 main_v324 ((extractStridedSlice S8x2 ![0, 1] · slices_S8x3_S8x2_0_1) : (⟨S8x3, .f32⟩ : BufTy).Contents (Elt F) → (⟨S8x2, .f32⟩ : BufTy).Contents (Elt F)),
    StableHlo.unary main_v324 main_v325 (broadcastInDim S8x2x1 ![0, 1] bcast_S8x2_S8x2x1_0_1 : (⟨S8x2, .f32⟩ : BufTy).Contents (Elt F) → (⟨S8x2x1, .f32⟩ : BufTy).Contents (Elt F)),
    StableHlo.unary main_v268 main_v326 (broadcastInDim S1x2x3 ![1, 2] bcast_S2x3_S1x2x3_1_2 : (⟨S2x3, .f32⟩ : BufTy).Contents (Elt F) → (⟨S1x2x3, .f32⟩ : BufTy).Contents (Elt F)),
    StableHlo.unary main_v325 main_v327 (broadcastInDim S8x2x3 ![0, 1, 2] bcast_S8x2x1_S8x2x3_0_1_2 : (⟨S8x2x1, .f32⟩ : BufTy).Contents (Elt F) → (⟨S8x2x3, .f32⟩ : BufTy).Contents (Elt F)),
    StableHlo.unary main_v326 main_v328 (broadcastInDim S8x2x3 ![0, 1, 2] bcast_S1x2x3_S8x2x3_0_1_2 : (⟨S1x2x3, .f32⟩ : BufTy).Contents (Elt F) → (⟨S8x2x3, .f32⟩ : BufTy).Contents (Elt F)),
    StableHlo.binary main_v327 main_v328 main_v329 (mulf : (⟨S8x2x3, .f32⟩ : BufTy).Contents (Elt F) → (⟨S8x2x3, .f32⟩ : BufTy).Contents (Elt F) → (⟨S8x2x3, .f32⟩ : BufTy).Contents (Elt F)),
    StableHlo.nullary main_cst_66 (constant S_ .f32 0x00000000#32),
    StableHlo.binary main_v329 main_cst_66 main_v330 ((fun x v => Host.reduceAdd x v reducesTo_S8x2x3_S8x3_d1 h_S_) : (⟨S8x2x3, .f32⟩ : BufTy).Contents (Elt F) → (⟨S_, .f32⟩ : BufTy).Contents (Elt F) → (⟨S8x3, .f32⟩ : BufTy).Contents (Elt F)),
    StableHlo.nullary main_cst_67 (constant S_ .f32 0xC1000000#32),
    StableHlo.unary main_cst_67 main_v331 (broadcastInDim S8x3 ![] bcast_S_S8x3 : (⟨S_, .f32⟩ : BufTy).Contents (Elt F) → (⟨S8x3, .f32⟩ : BufTy).Contents (Elt F)),
    StableHlo.binary main_v331 main_v330 main_v332 (mulf : (⟨S8x3, .f32⟩ : BufTy).Contents (Elt F) → (⟨S8x3, .f32⟩ : BufTy).Contents (Elt F) → (⟨S8x3, .f32⟩ : BufTy).Contents (Elt F)),
    StableHlo.unary main_v256 main_v333 ((extractStridedSlice S8x1 ![0, 0] · slices_S8x3_S8x1_0_0) : (⟨S8x3, .f32⟩ : BufTy).Contents (Elt F) → (⟨S8x1, .f32⟩ : BufTy).Contents (Elt F)),
    StableHlo.reshape main_v329 main_v334 (rfl : (.f32 : EltTy) = .f32) shapeCasts_S8x2x3_S8x6,
    StableHlo.nary ![main_v333, main_v334, main_v332] main_v335 (fun u => catS (F := F) (u 0) (u 1) (u 2))]

theorem splitQ1 {F : FTy → Type} [FloatOps F] : (Cert.KernelIdeal.Gen.hostOps0_44 : List (HloOp Cert.KernelIdeal.τ Cert.KernelIdeal.sig (Elt F))) = opsQ1 ++ opsS := rfl

/-- Host operations, stage A. -/
abbrev segA : List (HloOp Cert.KernelIdeal.τ Cert.KernelIdeal.sig (Elt Ideal)) :=
  Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9
/-- What stage A writes. -/
abbrev wrA : List (Ref Cert.KernelIdeal.sig .tc) := open Cert.KernelIdeal in
  [main_c, main_call0_v0, main_v0, main_v1, main_v2, main_cst, main_v3, main_v4, main_cst_0, main_v5, main_v6, main_v7, main_v8, main_v9, main_v10, main_v11, main_v12, main_v13, main_cst_1, main_v14, main_v15, main_cst_2, main_v16, main_v17, main_v18, main_v19, main_v20, main_cst_3, main_v21, main_v22, main_c_4, main_v23, main_v24, main_c_5, main_v25, main_v26, main_v27, main_cst_6, main_cst_7, main_call1_v0, main_call1_v1, main_v28, main_v29, main_v30, main_v31, main_v32, main_c_8, main_call2_v0, main_v33, main_v34, main_v35, main_cst_9, main_v36, main_v37, main_cst_10, main_v38, main_v39, main_v40, main_v41, main_v42, main_v43, main_v44, main_cst_11, main_v45, main_v46, main_cst_12, main_v47, main_v48, main_v49, main_v50, main_v51, main_cst_13, main_v52, main_v53, main_c_14, main_v54, main_v55, main_c_15, main_v56, main_v57, main_v58, main_cst_16, main_cst_17, main_call3_v0, main_call3_v1, main_v59, main_v60, main_v61, main_v62, main_v63, main_c_18, main_call4_v0, main_v64]
theorem writesA : (segA).Forall fun op => op.writes ⊆ (wrA.map (Proc.devRef (τ := Cert.KernelIdeal.τ) .tc)).toFinset := by
  simp only [segA, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepA (W : KV) (a : Ref Cert.KernelIdeal.sig .tc) (h : a ∉ wrA) : after segA W (kd a) = W (kd a) :=
  after_of_writes_sub segA _ writesA h

/-- Host operations, stage B. -/
abbrev segB : List (HloOp Cert.KernelIdeal.τ Cert.KernelIdeal.sig (Elt Ideal)) :=
  opsB ++ Cert.KernelIdeal.Gen.hostOps0_11
/-- What stage B writes. -/
abbrev wrB : List (Ref Cert.KernelIdeal.sig .tc) := open Cert.KernelIdeal in
  [main_v65, main_v66, main_v67, main_v68, main_v69, main_v70, main_v71, main_v72, main_v73, main_v74, main_v75, main_v76, main_v77, main_v78, main_v79, main_v80, main_v81, main_cst_19, main_v82, main_v83, main_cst_20, main_v84, main_v85, main_v86]
theorem writesB : (segB).Forall fun op => op.writes ⊆ (wrB.map (Proc.devRef (τ := Cert.KernelIdeal.τ) .tc)).toFinset := by
  simp only [segB, opsB, Cert.KernelIdeal.Gen.hostOps0_11, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepB (W : KV) (a : Ref Cert.KernelIdeal.sig .tc) (h : a ∉ wrB) : after segB W (kd a) = W (kd a) :=
  after_of_writes_sub segB _ writesB h

/-- Host operations, stage C. -/
abbrev segC : List (HloOp Cert.KernelIdeal.τ Cert.KernelIdeal.sig (Elt Ideal)) :=
  Cert.KernelIdeal.Gen.hostOps0_12 ++ Cert.KernelIdeal.Gen.hostOps0_13 ++ Cert.KernelIdeal.Gen.hostOps0_14 ++ Cert.KernelIdeal.Gen.hostOps0_15
/-- What stage C writes. -/
abbrev wrC : List (Ref Cert.KernelIdeal.sig .tc) := open Cert.KernelIdeal in
  [main_cst_21, main_v87, main_v88, main_cst_22, main_v89, main_v90, main_c_23, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v91, main_v92, main_v93, main_cst_24, main_v94, main_v95, main_v96, main_v97, main_v98, main_v99, main_v100, main_v101, main_v102, main_v103, main_v104, main_c_25, main_call7_v0, main_v105]
theorem writesC : (segC).Forall fun op => op.writes ⊆ (wrC.map (Proc.devRef (τ := Cert.KernelIdeal.τ) .tc)).toFinset := by
  simp only [segC, Cert.KernelIdeal.Gen.hostOps0_12, Cert.KernelIdeal.Gen.hostOps0_13, Cert.KernelIdeal.Gen.hostOps0_14, Cert.KernelIdeal.Gen.hostOps0_15, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepC (W : KV) (a : Ref Cert.KernelIdeal.sig .tc) (h : a ∉ wrC) : after segC W (kd a) = W (kd a) :=
  after_of_writes_sub segC _ writesC h

/-- Host operations, stage D. -/
abbrev segD : List (HloOp Cert.KernelIdeal.τ Cert.KernelIdeal.sig (Elt Ideal)) :=
  opsD ++ Cert.KernelIdeal.Gen.hostOps0_17
/-- What stage D writes. -/
abbrev wrD : List (Ref Cert.KernelIdeal.sig .tc) := open Cert.KernelIdeal in
  [main_v106, main_v107, main_v108, main_v109, main_v110, main_v111, main_v112, main_v113, main_v114, main_v115, main_v116, main_v117, main_v118, main_v119, main_v120, main_v121, main_v122, main_cst_26, main_v123, main_v124, main_cst_27, main_v125, main_v126, main_v127]
theorem writesD : (segD).Forall fun op => op.writes ⊆ (wrD.map (Proc.devRef (τ := Cert.KernelIdeal.τ) .tc)).toFinset := by
  simp only [segD, opsD, Cert.KernelIdeal.Gen.hostOps0_17, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepD (W : KV) (a : Ref Cert.KernelIdeal.sig .tc) (h : a ∉ wrD) : after segD W (kd a) = W (kd a) :=
  after_of_writes_sub segD _ writesD h

/-- Host operations, stage E. -/
abbrev segE : List (HloOp Cert.KernelIdeal.τ Cert.KernelIdeal.sig (Elt Ideal)) :=
  Cert.KernelIdeal.Gen.hostOps0_18 ++ Cert.KernelIdeal.Gen.hostOps0_19 ++ Cert.KernelIdeal.Gen.hostOps0_20 ++ Cert.KernelIdeal.Gen.hostOps0_21
/-- What stage E writes. -/
abbrev wrE : List (Ref Cert.KernelIdeal.sig .tc) := open Cert.KernelIdeal in
  [main_cst_28, main_v128, main_v129, main_cst_29, main_v130, main_v131, main_c_30, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v132, main_v133, main_v134, main_cst_31, main_v135, main_v136, main_v137, main_v138, main_v139, main_v140, main_v141, main_v142, main_v143, main_v144, main_v145, main_c_32, main_call10_v0, main_v146]
theorem writesE : (segE).Forall fun op => op.writes ⊆ (wrE.map (Proc.devRef (τ := Cert.KernelIdeal.τ) .tc)).toFinset := by
  simp only [segE, Cert.KernelIdeal.Gen.hostOps0_18, Cert.KernelIdeal.Gen.hostOps0_19, Cert.KernelIdeal.Gen.hostOps0_20, Cert.KernelIdeal.Gen.hostOps0_21, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepE (W : KV) (a : Ref Cert.KernelIdeal.sig .tc) (h : a ∉ wrE) : after segE W (kd a) = W (kd a) :=
  after_of_writes_sub segE _ writesE h

/-- Host operations, stage F. -/
abbrev segF : List (HloOp Cert.KernelIdeal.τ Cert.KernelIdeal.sig (Elt Ideal)) :=
  opsF ++ Cert.KernelIdeal.Gen.hostOps0_23
/-- What stage F writes. -/
abbrev wrF : List (Ref Cert.KernelIdeal.sig .tc) := open Cert.KernelIdeal in
  [main_v147, main_v148, main_v149, main_v150, main_v151, main_v152, main_v153, main_v154, main_v155, main_v156, main_v157, main_v158, main_v159, main_v160, main_v161, main_v162, main_v163, main_cst_33, main_v164, main_v165, main_cst_34, main_v166, main_v167, main_v168]
theorem writesF : (segF).Forall fun op => op.writes ⊆ (wrF.map (Proc.devRef (τ := Cert.KernelIdeal.τ) .tc)).toFinset := by
  simp only [segF, opsF, Cert.KernelIdeal.Gen.hostOps0_23, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepF (W : KV) (a : Ref Cert.KernelIdeal.sig .tc) (h : a ∉ wrF) : after segF W (kd a) = W (kd a) :=
  after_of_writes_sub segF _ writesF h

/-- Host operations, stage G. -/
abbrev segG : List (HloOp Cert.KernelIdeal.τ Cert.KernelIdeal.sig (Elt Ideal)) :=
  Cert.KernelIdeal.Gen.hostOps0_24 ++ Cert.KernelIdeal.Gen.hostOps0_25 ++ Cert.KernelIdeal.Gen.hostOps0_26 ++ Cert.KernelIdeal.Gen.hostOps0_27
/-- What stage G writes. -/
abbrev wrG : List (Ref Cert.KernelIdeal.sig .tc) := open Cert.KernelIdeal in
  [main_cst_35, main_v169, main_v170, main_cst_36, main_v171, main_v172, main_c_37, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_v12, main_call12_cst_3, main_call12_v13, main_call12_cst_4, main_call12_call0_v0, main_call12_call0_v1, main_v173, main_v174, main_v175, main_cst_38, main_v176, main_v177, main_v178, main_v179, main_v180, main_v181, main_v182, main_v183, main_v184, main_v185, main_v186, main_c_39, main_call13_v0, main_v187]
theorem writesG : (segG).Forall fun op => op.writes ⊆ (wrG.map (Proc.devRef (τ := Cert.KernelIdeal.τ) .tc)).toFinset := by
  simp only [segG, Cert.KernelIdeal.Gen.hostOps0_24, Cert.KernelIdeal.Gen.hostOps0_25, Cert.KernelIdeal.Gen.hostOps0_26, Cert.KernelIdeal.Gen.hostOps0_27, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepG (W : KV) (a : Ref Cert.KernelIdeal.sig .tc) (h : a ∉ wrG) : after segG W (kd a) = W (kd a) :=
  after_of_writes_sub segG _ writesG h

/-- Host operations, stage H. -/
abbrev segH : List (HloOp Cert.KernelIdeal.τ Cert.KernelIdeal.sig (Elt Ideal)) :=
  opsH ++ Cert.KernelIdeal.Gen.hostOps0_29
/-- What stage H writes. -/
abbrev wrH : List (Ref Cert.KernelIdeal.sig .tc) := open Cert.KernelIdeal in
  [main_v188, main_v189, main_v190, main_v191, main_v192, main_v193, main_v194, main_v195, main_v196, main_v197, main_v198, main_v199, main_v200, main_v201, main_v202, main_v203, main_v204, main_cst_40, main_v205, main_v206, main_cst_41, main_v207, main_v208, main_v209]
theorem writesH : (segH).Forall fun op => op.writes ⊆ (wrH.map (Proc.devRef (τ := Cert.KernelIdeal.τ) .tc)).toFinset := by
  simp only [segH, opsH, Cert.KernelIdeal.Gen.hostOps0_29, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepH (W : KV) (a : Ref Cert.KernelIdeal.sig .tc) (h : a ∉ wrH) : after segH W (kd a) = W (kd a) :=
  after_of_writes_sub segH _ writesH h

/-- Host operations, stage I. -/
abbrev segI : List (HloOp Cert.KernelIdeal.τ Cert.KernelIdeal.sig (Elt Ideal)) :=
  Cert.KernelIdeal.Gen.hostOps0_30 ++ Cert.KernelIdeal.Gen.hostOps0_31 ++ Cert.KernelIdeal.Gen.hostOps0_32 ++ Cert.KernelIdeal.Gen.hostOps0_33
/-- What stage I writes. -/
abbrev wrI : List (Ref Cert.KernelIdeal.sig .tc) := open Cert.KernelIdeal in
  [main_cst_42, main_v210, main_v211, main_cst_43, main_v212, main_v213, main_c_44, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_v12, main_call15_cst_3, main_call15_v13, main_call15_cst_4, main_call15_call0_v0, main_call15_call0_v1, main_v214, main_v215, main_v216, main_cst_45, main_v217, main_v218, main_v219, main_v220, main_v221, main_v222, main_v223, main_v224, main_v225, main_v226, main_v227, main_c_46, main_call16_v0, main_v228]
theorem writesI : (segI).Forall fun op => op.writes ⊆ (wrI.map (Proc.devRef (τ := Cert.KernelIdeal.τ) .tc)).toFinset := by
  simp only [segI, Cert.KernelIdeal.Gen.hostOps0_30, Cert.KernelIdeal.Gen.hostOps0_31, Cert.KernelIdeal.Gen.hostOps0_32, Cert.KernelIdeal.Gen.hostOps0_33, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepI (W : KV) (a : Ref Cert.KernelIdeal.sig .tc) (h : a ∉ wrI) : after segI W (kd a) = W (kd a) :=
  after_of_writes_sub segI _ writesI h

/-- Host operations, stage J. -/
abbrev segJ : List (HloOp Cert.KernelIdeal.τ Cert.KernelIdeal.sig (Elt Ideal)) :=
  opsJ ++ Cert.KernelIdeal.Gen.hostOps0_35 ++ opsJ1
/-- What stage J writes. -/
abbrev wrJ : List (Ref Cert.KernelIdeal.sig .tc) := open Cert.KernelIdeal in
  [main_v229, main_v230, main_v231, main_v232, main_v233, main_v234, main_v235, main_v236, main_v237, main_v238, main_v239, main_v240, main_v241, main_v242, main_v243, main_v244, main_v245, main_cst_47, main_v246, main_v247, main_cst_48, main_v248, main_v249, main_v250, main_v251, main_v252, main_v253, main_v254, main_v255, main_v256]
theorem writesJ : (segJ).Forall fun op => op.writes ⊆ (wrJ.map (Proc.devRef (τ := Cert.KernelIdeal.τ) .tc)).toFinset := by
  simp only [segJ, opsJ, Cert.KernelIdeal.Gen.hostOps0_35, opsJ1, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepJ (W : KV) (a : Ref Cert.KernelIdeal.sig .tc) (h : a ∉ wrJ) : after segJ W (kd a) = W (kd a) :=
  after_of_writes_sub segJ _ writesJ h

/-- Host operations, stage M. -/
abbrev segM : List (HloOp Cert.KernelIdeal.τ Cert.KernelIdeal.sig (Elt Ideal)) :=
  opsM
/-- What stage M writes. -/
abbrev wrM : List (Ref Cert.KernelIdeal.sig .tc) := open Cert.KernelIdeal in
  [main_v257, main_v258, main_v259, main_v260, main_v261, main_v262, main_v263, main_cst_49, main_v264, main_cst_50, main_v265, main_v266, main_cst_51, main_v267, main_v268, main_v269, main_v270, main_v271]
theorem writesM : (segM).Forall fun op => op.writes ⊆ (wrM.map (Proc.devRef (τ := Cert.KernelIdeal.τ) .tc)).toFinset := by
  simp only [segM, opsM, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepM (W : KV) (a : Ref Cert.KernelIdeal.sig .tc) (h : a ∉ wrM) : after segM W (kd a) = W (kd a) :=
  after_of_writes_sub segM _ writesM h

/-- Host operations, stage N. -/
abbrev segN : List (HloOp Cert.KernelIdeal.τ Cert.KernelIdeal.sig (Elt Ideal)) :=
  Cert.KernelIdeal.Gen.hostOps0_37 ++ Cert.KernelIdeal.Gen.hostOps0_38 ++ Cert.KernelIdeal.Gen.hostOps0_39 ++ Cert.KernelIdeal.Gen.hostOps0_40 ++ Cert.KernelIdeal.Gen.hostOps0_41
/-- What stage N writes. -/
abbrev wrN : List (Ref Cert.KernelIdeal.sig .tc) := open Cert.KernelIdeal in
  [main_v272, main_c_52, main_c_53, main_call19_v0, main_call19_v1, main_call19_v2, main_call19_v3, main_call19_v4, main_v273, main_cst_54, main_v274, main_v275, main_v276, main_v277, main_c_55, main_call20_v0, main_v278]
theorem writesN : (segN).Forall fun op => op.writes ⊆ (wrN.map (Proc.devRef (τ := Cert.KernelIdeal.τ) .tc)).toFinset := by
  simp only [segN, Cert.KernelIdeal.Gen.hostOps0_37, Cert.KernelIdeal.Gen.hostOps0_38, Cert.KernelIdeal.Gen.hostOps0_39, Cert.KernelIdeal.Gen.hostOps0_40, Cert.KernelIdeal.Gen.hostOps0_41, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepN (W : KV) (a : Ref Cert.KernelIdeal.sig .tc) (h : a ∉ wrN) : after segN W (kd a) = W (kd a) :=
  after_of_writes_sub segN _ writesN h

/-- Host operations, stage Q. -/
abbrev segQ : List (HloOp Cert.KernelIdeal.τ Cert.KernelIdeal.sig (Elt Ideal)) :=
  Cert.KernelIdeal.Gen.hostOps0_42 ++ Cert.KernelIdeal.Gen.hostOps0_43 ++ opsQ1
/-- What stage Q writes. -/
abbrev wrQ : List (Ref Cert.KernelIdeal.sig .tc) := open Cert.KernelIdeal in
  [main_c_56, main_v279, main_v280, main_v281, main_c_57, main_v282, main_v283, main_v284, main_v285, main_v286, main_c_58, main_v287, main_v288, main_v289, main_v290, main_v291, main_c_59, main_v292, main_v293, main_v294, main_v295, main_v296, main_c_60, main_v297, main_v298, main_v299, main_v300, main_v301, main_c_61, main_v302, main_v303, main_v304, main_v305, main_v306, main_c_62, main_v307, main_v308, main_v309, main_v310, main_v311, main_c_63, main_v312, main_v313, main_v314, main_v315, main_v316, main_c_64, main_v317, main_v318, main_v319, main_v320, main_c_65, main_call21_v0, main_v321, main_v322, main_v323]
theorem writesQ : (segQ).Forall fun op => op.writes ⊆ (wrQ.map (Proc.devRef (τ := Cert.KernelIdeal.τ) .tc)).toFinset := by
  simp only [segQ, Cert.KernelIdeal.Gen.hostOps0_42, Cert.KernelIdeal.Gen.hostOps0_43, opsQ1, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepQ (W : KV) (a : Ref Cert.KernelIdeal.sig .tc) (h : a ∉ wrQ) : after segQ W (kd a) = W (kd a) :=
  after_of_writes_sub segQ _ writesQ h

/-- Host operations, stage S. -/
abbrev segS : List (HloOp Cert.KernelIdeal.τ Cert.KernelIdeal.sig (Elt Ideal)) :=
  opsS
/-- What stage S writes. -/
abbrev wrS : List (Ref Cert.KernelIdeal.sig .tc) := open Cert.KernelIdeal in
  [main_v324, main_v325, main_v326, main_v327, main_v328, main_v329, main_cst_66, main_v330, main_cst_67, main_v331, main_v332, main_v333, main_v334, main_v335]
theorem writesS : (segS).Forall fun op => op.writes ⊆ (wrS.map (Proc.devRef (τ := Cert.KernelIdeal.τ) .tc)).toFinset := by
  simp only [segS, opsS, List.cons_append, List.nil_append, List.append_nil, List.Forall, TRef.unary, TRef.binary, TRef.ternary, TRef.nullary]
  repeat' apply And.intro
  all_goals
    simp only [nullary_writes, unary_writes, binary_writes, ternary_writes, reshape_writes, nary_writes, Finset.singleton_subset_iff, List.mem_toFinset]
    exact List.mem_map_of_mem (by decide)
theorem keepS (W : KV) (a : Ref Cert.KernelIdeal.sig .tc) (h : a ∉ wrS) : after segS W (kd a) = W (kd a) :=
  after_of_writes_sub segS _ writesS h

end Cert.Lut
end
-- ==== Proof.Stages.lean ====
module
public import proofs.«01_k».proof.Proof.Gen.KernelIdeal.Launch
public import proofs.«01_k».proof.Proof.Gen.ReferenceIdeal.Run
public import proofs.«01_k».proof.Proof.Segs
public import Idealize.ShloMosaic.PureOps.Ideal
@[expose] public section
set_option maxRecDepth 16384
set_option maxHeartbeats 4000000
noncomputable section
namespace Cert.Lut
open Idealize.ShloMosaic Idealize.ShloMosaic.TcCoe Idealize.ShloMosaic.StableHlo

/-- Stage A computes what the reference computes there. -/
theorem readA (W : KV) (R : RV) (xarg0 : Vec Ideal Cert.KernelIdeal.S8x3x1024x1024 .f32) (y : Vec Ideal Cert.KernelIdeal.S8x3x258x258 .f32)
    (harg0 : W (kd Cert.KernelIdeal.main_arg0) = xarg0)
    (karg0 : R (rd Cert.ReferenceIdeal.main_arg0) = xarg0)
    (hy : Cert.ReferenceIdeal.Value.res_main_v64 R = y) :
    after segA W (kd Cert.KernelIdeal.main_v64) = y := by
  simp only [segA, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, kd, rd, List.cons_append, List.nil_append, List.append_nil, TRef.unary, TRef.binary, TRef.ternary, TRef.nullary, TRef.toBuf, TRef.ofBuf, cast_eq]
  after_reads_simp
  simp only [kd] at harg0
  simp only [rd] at karg0
  rw [harg0, ← hy]
  simp only [Cert.ReferenceIdeal.Value.res_main_v64, Cert.ReferenceIdeal.Value.res_main_v34, Cert.ReferenceIdeal.Value.res_main_v9, Cert.ReferenceIdeal.Value.res_main_v1, Cert.ReferenceIdeal.Value.res_main_v7, Cert.ReferenceIdeal.Value.res_main_v39, Cert.ReferenceIdeal.Value.res_main_v40]
  rw [karg0]
  all_goals rfl

/-- Stage B computes what the reference computes there. -/
theorem readB (W : KV) (R : RV) (xv64 : Vec Ideal Cert.KernelIdeal.S8x3x258x258 .f32) (xarg1 : Vec Ideal Cert.KernelIdeal.S16x3x3x3 .f32) (xarg6 : Vec Ideal Cert.KernelIdeal.S16 .f32) (y : Vec Ideal Cert.KernelIdeal.S8x16x128x128 .f32)
    (hv64 : W (kd Cert.KernelIdeal.main_v64) = xv64)
    (harg1 : W (kd Cert.KernelIdeal.main_arg1) = xarg1)
    (harg6 : W (kd Cert.KernelIdeal.main_arg6) = xarg6)
    (kv64 : Cert.ReferenceIdeal.Value.res_main_v64 R = xv64)
    (karg1 : R (rd Cert.ReferenceIdeal.main_arg1) = xarg1)
    (karg6 : R (rd Cert.ReferenceIdeal.main_arg6) = xarg6)
    (hy : Cert.ReferenceIdeal.Value.res_main_v86 R = y) :
    after segB W (kd Cert.KernelIdeal.main_v86) = y := by
  simp only [segB, opsB, Cert.KernelIdeal.Gen.hostOps0_11, kd, rd, List.cons_append, List.nil_append, List.append_nil, TRef.unary, TRef.binary, TRef.ternary, TRef.nullary, TRef.toBuf, TRef.ofBuf, cast_eq]
  after_reads_simp
  dsimp only [Matrix.cons_val_zero, Matrix.cons_val_one, Matrix.cons_val]
  after_reads_simp
  simp only [kd] at hv64 harg1 harg6
  simp only [rd] at karg1 karg6
  rw [hv64, harg1, harg6, ← hy]
  simp only [Cert.ReferenceIdeal.Value.res_main_v86, Cert.ReferenceIdeal.Value.res_main_v81, catB, Cert.ReferenceIdeal.Value.fn_main_v74]
  rw [kv64, karg1, karg6]
  all_goals rfl

/-- Stage C computes what the reference computes there. -/
theorem readC (W : KV) (R : RV) (xv86 : Vec Ideal Cert.KernelIdeal.S8x16x128x128 .f32) (xarg11 : Vec Ideal Cert.KernelIdeal.S16 .f32) (xarg15 : Vec Ideal Cert.KernelIdeal.S16 .f32) (y : Vec Ideal Cert.KernelIdeal.S8x16x130x130 .f32)
    (hv86 : W (kd Cert.KernelIdeal.main_v86) = xv86)
    (harg11 : W (kd Cert.KernelIdeal.main_arg11) = xarg11)
    (harg15 : W (kd Cert.KernelIdeal.main_arg15) = xarg15)
    (kv86 : Cert.ReferenceIdeal.Value.res_main_v86 R = xv86)
    (karg11 : R (rd Cert.ReferenceIdeal.main_arg11) = xarg11)
    (karg15 : R (rd Cert.ReferenceIdeal.main_arg15) = xarg15)
    (hy : Cert.ReferenceIdeal.Value.res_main_v105 R = y) :
    after segC W (kd Cert.KernelIdeal.main_v105) = y := by
  simp only [segC, Cert.KernelIdeal.Gen.hostOps0_12, Cert.KernelIdeal.Gen.hostOps0_13, Cert.KernelIdeal.Gen.hostOps0_14, Cert.KernelIdeal.Gen.hostOps0_15, kd, rd, List.cons_append, List.nil_append, List.append_nil, TRef.unary, TRef.binary, TRef.ternary, TRef.nullary, TRef.toBuf, TRef.ofBuf, cast_eq]
  after_reads_simp
  simp only [kd] at hv86 harg11 harg15
  simp only [rd] at karg11 karg15
  rw [hv86, harg11, harg15, ← hy]
  simp only [Cert.ReferenceIdeal.Value.res_main_v105, Cert.ReferenceIdeal.Value.res_main_call6_v8, Cert.ReferenceIdeal.Value.res_main_call6_v5]
  rw [kv86, karg11, karg15]
  all_goals rfl

/-- Stage D computes what the reference computes there. -/
theorem readD (W : KV) (R : RV) (xv105 : Vec Ideal Cert.KernelIdeal.S8x16x130x130 .f32) (xarg2 : Vec Ideal Cert.KernelIdeal.S32x16x3x3 .f32) (xarg7 : Vec Ideal Cert.KernelIdeal.S32 .f32) (y : Vec Ideal Cert.KernelIdeal.S8x32x64x64 .f32)
    (hv105 : W (kd Cert.KernelIdeal.main_v105) = xv105)
    (harg2 : W (kd Cert.KernelIdeal.main_arg2) = xarg2)
    (harg7 : W (kd Cert.KernelIdeal.main_arg7) = xarg7)
    (kv105 : Cert.ReferenceIdeal.Value.res_main_v105 R = xv105)
    (karg2 : R (rd Cert.ReferenceIdeal.main_arg2) = xarg2)
    (karg7 : R (rd Cert.ReferenceIdeal.main_arg7) = xarg7)
    (hy : Cert.ReferenceIdeal.Value.res_main_v127 R = y) :
    after segD W (kd Cert.KernelIdeal.main_v127) = y := by
  simp only [segD, opsD, Cert.KernelIdeal.Gen.hostOps0_17, kd, rd, List.cons_append, List.nil_append, List.append_nil, TRef.unary, TRef.binary, TRef.ternary, TRef.nullary, TRef.toBuf, TRef.ofBuf, cast_eq]
  after_reads_simp
  dsimp only [Matrix.cons_val_zero, Matrix.cons_val_one, Matrix.cons_val]
  after_reads_simp
  simp only [kd] at hv105 harg2 harg7
  simp only [rd] at karg2 karg7
  rw [hv105, harg2, harg7, ← hy]
  simp only [Cert.ReferenceIdeal.Value.res_main_v127, Cert.ReferenceIdeal.Value.res_main_v122, catD, Cert.ReferenceIdeal.Value.fn_main_v115]
  rw [kv105, karg2, karg7]
  all_goals rfl

/-- Stage E computes what the reference computes there. -/
theorem readE (W : KV) (R : RV) (xv127 : Vec Ideal Cert.KernelIdeal.S8x32x64x64 .f32) (xarg12 : Vec Ideal Cert.KernelIdeal.S32 .f32) (xarg16 : Vec Ideal Cert.KernelIdeal.S32 .f32) (y : Vec Ideal Cert.KernelIdeal.S8x32x66x66 .f32)
    (hv127 : W (kd Cert.KernelIdeal.main_v127) = xv127)
    (harg12 : W (kd Cert.KernelIdeal.main_arg12) = xarg12)
    (harg16 : W (kd Cert.KernelIdeal.main_arg16) = xarg16)
    (kv127 : Cert.ReferenceIdeal.Value.res_main_v127 R = xv127)
    (karg12 : R (rd Cert.ReferenceIdeal.main_arg12) = xarg12)
    (karg16 : R (rd Cert.ReferenceIdeal.main_arg16) = xarg16)
    (hy : Cert.ReferenceIdeal.Value.res_main_v146 R = y) :
    after segE W (kd Cert.KernelIdeal.main_v146) = y := by
  simp only [segE, Cert.KernelIdeal.Gen.hostOps0_18, Cert.KernelIdeal.Gen.hostOps0_19, Cert.KernelIdeal.Gen.hostOps0_20, Cert.KernelIdeal.Gen.hostOps0_21, kd, rd, List.cons_append, List.nil_append, List.append_nil, TRef.unary, TRef.binary, TRef.ternary, TRef.nullary, TRef.toBuf, TRef.ofBuf, cast_eq]
  after_reads_simp
  simp only [kd] at hv127 harg12 harg16
  simp only [rd] at karg12 karg16
  rw [hv127, harg12, harg16, ← hy]
  simp only [Cert.ReferenceIdeal.Value.res_main_v146, Cert.ReferenceIdeal.Value.res_main_call9_v8, Cert.ReferenceIdeal.Value.res_main_call9_v5]
  rw [kv127, karg12, karg16]
  all_goals rfl

/-- Stage F computes what the reference computes there. -/
theorem readF (W : KV) (R : RV) (xv146 : Vec Ideal Cert.KernelIdeal.S8x32x66x66 .f32) (xarg3 : Vec Ideal Cert.KernelIdeal.S64x32x3x3 .f32) (xarg8 : Vec Ideal Cert.KernelIdeal.S64 .f32) (y : Vec Ideal Cert.KernelIdeal.S8x64x32x32 .f32)
    (hv146 : W (kd Cert.KernelIdeal.main_v146) = xv146)
    (harg3 : W (kd Cert.KernelIdeal.main_arg3) = xarg3)
    (harg8 : W (kd Cert.KernelIdeal.main_arg8) = xarg8)
    (kv146 : Cert.ReferenceIdeal.Value.res_main_v146 R = xv146)
    (karg3 : R (rd Cert.ReferenceIdeal.main_arg3) = xarg3)
    (karg8 : R (rd Cert.ReferenceIdeal.main_arg8) = xarg8)
    (hy : Cert.ReferenceIdeal.Value.res_main_v168 R = y) :
    after segF W (kd Cert.KernelIdeal.main_v168) = y := by
  simp only [segF, opsF, Cert.KernelIdeal.Gen.hostOps0_23, kd, rd, List.cons_append, List.nil_append, List.append_nil, TRef.unary, TRef.binary, TRef.ternary, TRef.nullary, TRef.toBuf, TRef.ofBuf, cast_eq]
  after_reads_simp
  dsimp only [Matrix.cons_val_zero, Matrix.cons_val_one, Matrix.cons_val]
  after_reads_simp
  simp only [kd] at hv146 harg3 harg8
  simp only [rd] at karg3 karg8
  rw [hv146, harg3, harg8, ← hy]
  simp only [Cert.ReferenceIdeal.Value.res_main_v168, Cert.ReferenceIdeal.Value.res_main_v163, catF, Cert.ReferenceIdeal.Value.fn_main_v156]
  rw [kv146, karg3, karg8]
  all_goals rfl

/-- Stage G computes what the reference computes there. -/
theorem readG (W : KV) (R : RV) (xv168 : Vec Ideal Cert.KernelIdeal.S8x64x32x32 .f32) (xarg13 : Vec Ideal Cert.KernelIdeal.S64 .f32) (xarg17 : Vec Ideal Cert.KernelIdeal.S64 .f32) (y : Vec Ideal Cert.KernelIdeal.S8x64x34x34 .f32)
    (hv168 : W (kd Cert.KernelIdeal.main_v168) = xv168)
    (harg13 : W (kd Cert.KernelIdeal.main_arg13) = xarg13)
    (harg17 : W (kd Cert.KernelIdeal.main_arg17) = xarg17)
    (kv168 : Cert.ReferenceIdeal.Value.res_main_v168 R = xv168)
    (karg13 : R (rd Cert.ReferenceIdeal.main_arg13) = xarg13)
    (karg17 : R (rd Cert.ReferenceIdeal.main_arg17) = xarg17)
    (hy : Cert.ReferenceIdeal.Value.res_main_v187 R = y) :
    after segG W (kd Cert.KernelIdeal.main_v187) = y := by
  simp only [segG, Cert.KernelIdeal.Gen.hostOps0_24, Cert.KernelIdeal.Gen.hostOps0_25, Cert.KernelIdeal.Gen.hostOps0_26, Cert.KernelIdeal.Gen.hostOps0_27, kd, rd, List.cons_append, List.nil_append, List.append_nil, TRef.unary, TRef.binary, TRef.ternary, TRef.nullary, TRef.toBuf, TRef.ofBuf, cast_eq]
  after_reads_simp
  simp only [kd] at hv168 harg13 harg17
  simp only [rd] at karg13 karg17
  rw [hv168, harg13, harg17, ← hy]
  simp only [Cert.ReferenceIdeal.Value.res_main_v187, Cert.ReferenceIdeal.Value.res_main_call12_v5, Cert.ReferenceIdeal.Value.res_main_call12_v8]
  rw [kv168, karg13, karg17]
  all_goals rfl

/-- Stage H computes what the reference computes there. -/
theorem readH (W : KV) (R : RV) (xv187 : Vec Ideal Cert.KernelIdeal.S8x64x34x34 .f32) (xarg4 : Vec Ideal Cert.KernelIdeal.S128x64x3x3 .f32) (xarg9 : Vec Ideal Cert.KernelIdeal.S128 .f32) (y : Vec Ideal Cert.KernelIdeal.S8x128x16x16 .f32)
    (hv187 : W (kd Cert.KernelIdeal.main_v187) = xv187)
    (harg4 : W (kd Cert.KernelIdeal.main_arg4) = xarg4)
    (harg9 : W (kd Cert.KernelIdeal.main_arg9) = xarg9)
    (kv187 : Cert.ReferenceIdeal.Value.res_main_v187 R = xv187)
    (karg4 : R (rd Cert.ReferenceIdeal.main_arg4) = xarg4)
    (karg9 : R (rd Cert.ReferenceIdeal.main_arg9) = xarg9)
    (hy : Cert.ReferenceIdeal.Value.res_main_v209 R = y) :
    after segH W (kd Cert.KernelIdeal.main_v209) = y := by
  simp only [segH, opsH, Cert.KernelIdeal.Gen.hostOps0_29, kd, rd, List.cons_append, List.nil_append, List.append_nil, TRef.unary, TRef.binary, TRef.ternary, TRef.nullary, TRef.toBuf, TRef.ofBuf, cast_eq]
  after_reads_simp
  dsimp only [Matrix.cons_val_zero, Matrix.cons_val_one, Matrix.cons_val]
  after_reads_simp
  simp only [kd] at hv187 harg4 harg9
  simp only [rd] at karg4 karg9
  rw [hv187, harg4, harg9, ← hy]
  simp only [Cert.ReferenceIdeal.Value.res_main_v209, Cert.ReferenceIdeal.Value.res_main_v204, catH, Cert.ReferenceIdeal.Value.fn_main_v197]
  rw [kv187, karg4, karg9]
  all_goals rfl

/-- Stage I computes what the reference computes there. -/
theorem readI (W : KV) (R : RV) (xv209 : Vec Ideal Cert.KernelIdeal.S8x128x16x16 .f32) (xarg14 : Vec Ideal Cert.KernelIdeal.S128 .f32) (xarg18 : Vec Ideal Cert.KernelIdeal.S128 .f32) (y : Vec Ideal Cert.KernelIdeal.S8x128x18x18 .f32)
    (hv209 : W (kd Cert.KernelIdeal.main_v209) = xv209)
    (harg14 : W (kd Cert.KernelIdeal.main_arg14) = xarg14)
    (harg18 : W (kd Cert.KernelIdeal.main_arg18) = xarg18)
    (kv209 : Cert.ReferenceIdeal.Value.res_main_v209 R = xv209)
    (karg14 : R (rd Cert.ReferenceIdeal.main_arg14) = xarg14)
    (karg18 : R (rd Cert.ReferenceIdeal.main_arg18) = xarg18)
    (hy : Cert.ReferenceIdeal.Value.res_main_v228 R = y) :
    after segI W (kd Cert.KernelIdeal.main_v228) = y := by
  simp only [segI, Cert.KernelIdeal.Gen.hostOps0_30, Cert.KernelIdeal.Gen.hostOps0_31, Cert.KernelIdeal.Gen.hostOps0_32, Cert.KernelIdeal.Gen.hostOps0_33, kd, rd, List.cons_append, List.nil_append, List.append_nil, TRef.unary, TRef.binary, TRef.ternary, TRef.nullary, TRef.toBuf, TRef.ofBuf, cast_eq]
  after_reads_simp
  simp only [kd] at hv209 harg14 harg18
  simp only [rd] at karg14 karg18
  rw [hv209, harg14, harg18, ← hy]
  simp only [Cert.ReferenceIdeal.Value.res_main_v228, Cert.ReferenceIdeal.Value.res_main_call15_v8, Cert.ReferenceIdeal.Value.res_main_call15_v5]
  rw [kv209, karg14, karg18]
  all_goals rfl

/-- Stage J computes what the reference computes there. -/
theorem readJ (W : KV) (R : RV) (xv228 : Vec Ideal Cert.KernelIdeal.S8x128x18x18 .f32) (xarg10 : Vec Ideal Cert.KernelIdeal.S128 .f32) (xarg19 : Vec Ideal Cert.KernelIdeal.S3x8192 .f32) (xarg20 : Vec Ideal Cert.KernelIdeal.S3 .f32) (xarg5 : Vec Ideal Cert.KernelIdeal.S128x128x3x3 .f32) (y : Vec Ideal Cert.KernelIdeal.S8x3 .f32)
    (hv228 : W (kd Cert.KernelIdeal.main_v228) = xv228)
    (harg10 : W (kd Cert.KernelIdeal.main_arg10) = xarg10)
    (harg19 : W (kd Cert.KernelIdeal.main_arg19) = xarg19)
    (harg20 : W (kd Cert.KernelIdeal.main_arg20) = xarg20)
    (harg5 : W (kd Cert.KernelIdeal.main_arg5) = xarg5)
    (kv228 : Cert.ReferenceIdeal.Value.res_main_v228 R = xv228)
    (karg10 : R (rd Cert.ReferenceIdeal.main_arg10) = xarg10)
    (karg19 : R (rd Cert.ReferenceIdeal.main_arg19) = xarg19)
    (karg20 : R (rd Cert.ReferenceIdeal.main_arg20) = xarg20)
    (karg5 : R (rd Cert.ReferenceIdeal.main_arg5) = xarg5)
    (hy : Cert.ReferenceIdeal.Value.res_main_v256 R = y) :
    after segJ W (kd Cert.KernelIdeal.main_v256) = y := by
  simp only [segJ, opsJ, Cert.KernelIdeal.Gen.hostOps0_35, opsJ1, kd, rd, List.cons_append, List.nil_append, List.append_nil, TRef.unary, TRef.binary, TRef.ternary, TRef.nullary, TRef.toBuf, TRef.ofBuf, cast_eq]
  after_reads_simp
  dsimp only [Matrix.cons_val_zero, Matrix.cons_val_one, Matrix.cons_val]
  after_reads_simp
  simp only [kd] at hv228 harg10 harg19 harg20 harg5
  simp only [rd] at karg10 karg19 karg20 karg5
  rw [hv228, harg10, harg19, harg20, harg5, ← hy]
  simp only [Cert.ReferenceIdeal.Value.res_main_v256, Cert.ReferenceIdeal.Value.res_main_v245, catJ, Cert.ReferenceIdeal.Value.fn_main_v238]
  rw [kv228, karg10, karg19, karg20, karg5]
  all_goals rfl

end Cert.Lut
end
-- ==== Proof.Tail.lean ====
module
public import proofs.«01_k».proof.Proof.Gen.KernelIdeal.Launch
public import Idealize.ShloMosaic.Lib.Pipeline.Frame
public import proofs.«01_k».proof.Proof.Segs
public import Idealize.ShloMosaic.PureOps.Ideal
@[expose] public section
set_option maxRecDepth 16384
set_option maxHeartbeats 4000000
noncomputable section
namespace Cert.Lut
open Idealize.ShloMosaic Idealize.ShloMosaic.TcCoe Idealize.ShloMosaic.StableHlo

section
open Cert.KernelIdeal Cert.KernelIdeal.Gen
/-- The mixed tables of the batch. -/
def lutsOf (w : FVec Ideal S8x3 .f32) (a : FVec Ideal S107811x3 .f32) : FVec Ideal S8x3x33x33x33 .f32 :=
  (shapeCast S8x3x33x33x33 (Host.dotGeneral dot_S8x3_S3x107811_S8x107811_1_0_0_1_n_n none w (transpose S3x107811 [1, 0] a transposes_S107811x3_S3x107811_1_0)) shapeCasts_S8x107811_S8x3x33x33x33)

/-- Basis tables 1 and 2, by rank, channel, blue, green, red. -/
def basis2 (a : FVec Ideal S107811x3 .f32) : FVec Ideal S2x3x33x33x33 .f32 :=
  (shapeCast S2x3x33x33x33 (transpose S2x107811 [1, 0] (extractStridedSlice S107811x2 ![0, 1] a slices_S107811x3_S107811x2_0_1) transposes_S107811x2_S2x107811_1_0) shapeCasts_S2x107811_S2x3x33x33x33)

/-- The step of the quantiser, by rank and channel. -/
def scale2 (a : FVec Ideal S107811x3 .f32) : FVec Ideal S2x3 .f32 :=
  (maximumf (Host.divf (Host.reduce FloatOps.maximumf (Host.absf (basis2 a)) (constant S_ .f32 0xFF800000#32) reducesTo_S2x3x33x33x33_S2x3_d2_3_4 h_S_) (broadcastInDim S2x3 ![] bcast_S_S2x3 (constant S_ .f32 0x40E00000#32))) (broadcastInDim S2x3 ![] bcast_S_S2x3 (constant S_ .f32 0x1E3CE508#32)))

/-- Basis tables 1 and 2 in steps of the quantiser. -/
def ratio2 (a : FVec Ideal S107811x3 .f32) : FVec Ideal S2x3x33x33x33 .f32 :=
  (Host.divf (basis2 a) (broadcastInDim S2x3x33x33x33 ![0, 1, 2, 3, 4] bcast_S2x3x1x1x1_S2x3x33x33x33_0_1_2_3_4 (broadcastInDim S2x3x1x1x1 ![0, 1] bcast_S2x3_S2x3x1x1x1_0_1 (scale2 a))))

/-- The 4-bit codes, moved up by 8. -/
def nibs (q : FVec Ideal S2x3x33x33x33 .f32) : IVec S2x3x33x33x33 32 :=
  (id (fptosi 32 (addf (minimumf (broadcastInDim S2x3x33x33x33 ![] bcast_S_S2x3x33x33x33 (sitofp .f32 (constantI S_ 32 7#32))) (maximumf (broadcastInDim S2x3x33x33x33 ![] bcast_S_S2x3x33x33x33 (sitofp .f32 (constantI S_ 32 4294967289#32))) (Host.roundeven q))) (broadcastInDim S2x3x33x33x33 ![] bcast_S_S2x3x33x33x33 (constant S_ .f32 0x41000000#32)))))

/-- The codes with one more green and red vertex. -/
def padded (q : FVec Ideal S2x3x33x33x33 .f32) : IVec S2x3x33x34x34 32 :=
  (pad S2x3x33x34x34 ![0, 0, 0, 0, 0] ![0, 0, 0, 1, 1] ![0, 0, 0, 0, 0] (nibs q) (id (constantI S_ 32 0#32)) pads_S2x3x33x33x33_S2x3x33x34x34_000_000_000_010_010 h_S_)

/-- Eight codes in one word. -/
def wordsOf (n : IVec S2x3x33x34x34 32) : IVec S3x33x33x33 32 :=
  (ori (ori (ori (ori (ori (ori (ori (ori (broadcastInDim S3x33x33x33 ![] bcast_S_S3x33x33x33 (constantI S_ 32 0#32)) (Host.shli (shapeCast S3x33x33x33 (extractStridedSlice S1x3x33x33x33 ![0, 0, 0, 0, 0] n slices_S2x3x33x34x34_S1x3x33x33x33_0_0_0_0_0) shapeCasts_S1x3x33x33x33_S3x33x33x33) (broadcastInDim S3x33x33x33 ![] bcast_S_S3x33x33x33 (constantI S_ 32 0#32)))) (Host.shli (shapeCast S3x33x33x33 (extractStridedSlice S1x3x33x33x33 ![0, 0, 0, 0, 1] n slices_S2x3x33x34x34_S1x3x33x33x33_0_0_0_0_1) shapeCasts_S1x3x33x33x33_S3x33x33x33) (broadcastInDim S3x33x33x33 ![] bcast_S_S3x33x33x33 (constantI S_ 32 4#32)))) (Host.shli (shapeCast S3x33x33x33 (extractStridedSlice S1x3x33x33x33 ![0, 0, 0, 1, 0] n slices_S2x3x33x34x34_S1x3x33x33x33_0_0_0_1_0) shapeCasts_S1x3x33x33x33_S3x33x33x33) (broadcastInDim S3x33x33x33 ![] bcast_S_S3x33x33x33 (constantI S_ 32 8#32)))) (Host.shli (shapeCast S3x33x33x33 (extractStridedSlice S1x3x33x33x33 ![0, 0, 0, 1, 1] n slices_S2x3x33x34x34_S1x3x33x33x33_0_0_0_1_1) shapeCasts_S1x3x33x33x33_S3x33x33x33) (broadcastInDim S3x33x33x33 ![] bcast_S_S3x33x33x33 (constantI S_ 32 12#32)))) (Host.shli (shapeCast S3x33x33x33 (extractStridedSlice S1x3x33x33x33 ![1, 0, 0, 0, 0] n slices_S2x3x33x34x34_S1x3x33x33x33_1_0_0_0_0) shapeCasts_S1x3x33x33x33_S3x33x33x33) (broadcastInDim S3x33x33x33 ![] bcast_S_S3x33x33x33 (constantI S_ 32 16#32)))) (Host.shli (shapeCast S3x33x33x33 (extractStridedSlice S1x3x33x33x33 ![1, 0, 0, 0, 1] n slices_S2x3x33x34x34_S1x3x33x33x33_1_0_0_0_1) shapeCasts_S1x3x33x33x33_S3x33x33x33) (broadcastInDim S3x33x33x33 ![] bcast_S_S3x33x33x33 (constantI S_ 32 20#32)))) (Host.shli (shapeCast S3x33x33x33 (extractStridedSlice S1x3x33x33x33 ![1, 0, 0, 1, 0] n slices_S2x3x33x34x34_S1x3x33x33x33_1_0_0_1_0) shapeCasts_S1x3x33x33x33_S3x33x33x33) (broadcastInDim S3x33x33x33 ![] bcast_S_S3x33x33x33 (constantI S_ 32 24#32)))) (Host.shli (shapeCast S3x33x33x33 (extractStridedSlice S1x3x33x33x33 ![1, 0, 0, 1, 1] n slices_S2x3x33x34x34_S1x3x33x33x33_1_0_0_1_1) shapeCasts_S1x3x33x33x33_S3x33x33x33) (broadcastInDim S3x33x33x33 ![] bcast_S_S3x33x33x33 (constantI S_ 32 28#32))))

/-- The packed table, in windows of 128 words. -/
def packOf (n : IVec S2x3x33x34x34 32) : IVec S3x284x1x128 32 :=
  (id (shapeCast S3x284x1x128 (pad S3x36352 ![0, 0] ![0, 415] ![0, 0] (shapeCast S3x35937 (wordsOf n) shapeCasts_S3x33x33x33_S3x35937) (id (constantI S_ 32 0#32)) pads_S3x35937_S3x36352_000_04150 h_S_) shapeCasts_S3x36352_S3x284x1x128))

/-- The six coefficients of an image. -/
def coefs (w : FVec Ideal S8x3 .f32) (s : FVec Ideal S2x3 .f32) : FVec Ideal S8x2x3 .f32 :=
  (mulf (broadcastInDim S8x2x3 ![0, 1, 2] bcast_S8x2x1_S8x2x3_0_1_2 (broadcastInDim S8x2x1 ![0, 1] bcast_S8x2_S8x2x1_0_1 (extractStridedSlice S8x2 ![0, 1] w slices_S8x3_S8x2_0_1))) (broadcastInDim S8x2x3 ![0, 1, 2] bcast_S1x2x3_S8x2x3_0_1_2 (broadcastInDim S1x2x3 ![1, 2] bcast_S2x3_S1x2x3_1_2 s)))

/-- The parameter rows. -/
def paramsOf (w : FVec Ideal S8x3 .f32) (s : FVec Ideal S2x3 .f32) : FVec Ideal S8x10 .f32 :=
  catS (extractStridedSlice S8x1 ![0, 0] w slices_S8x3_S8x1_0_0) (shapeCast S8x6 (coefs w s) shapeCasts_S8x2x3_S8x6) (mulf (broadcastInDim S8x3 ![] bcast_S_S8x3 (constant S_ .f32 0xC1000000#32)) (Host.reduceAdd (coefs w s) (constant S_ .f32 0x00000000#32) reducesTo_S8x2x3_S8x3_d1 h_S_))
end

theorem readM_v259 (W : KV) (w : FVec Ideal Cert.KernelIdeal.S8x3 .f32) (a : FVec Ideal Cert.KernelIdeal.S107811x3 .f32) (hw : W (kd Cert.KernelIdeal.main_v256) = w) (ha : W (kd Cert.KernelIdeal.main_arg21) = a) :
    after segM W (kd Cert.KernelIdeal.main_v259) = lutsOf w a := by
  simp only [segM, opsM, kd, rd, List.cons_append, List.nil_append, List.append_nil, TRef.unary, TRef.binary, TRef.ternary, TRef.nullary, TRef.toBuf, TRef.ofBuf, cast_eq]
  after_reads_simp
  simp only [kd] at hw ha
  rw [hw, ha]
  all_goals rfl

theorem readM_v268 (W : KV) (a : FVec Ideal Cert.KernelIdeal.S107811x3 .f32) (ha : W (kd Cert.KernelIdeal.main_arg21) = a) :
    after segM W (kd Cert.KernelIdeal.main_v268) = scale2 a := by
  simp only [segM, opsM, kd, rd, List.cons_append, List.nil_append, List.append_nil, TRef.unary, TRef.binary, TRef.ternary, TRef.nullary, TRef.toBuf, TRef.ofBuf, cast_eq]
  after_reads_simp
  simp only [kd] at ha
  rw [ha]
  all_goals rfl

theorem readM_v271 (W : KV) (a : FVec Ideal Cert.KernelIdeal.S107811x3 .f32) (ha : W (kd Cert.KernelIdeal.main_arg21) = a) :
    after segM W (kd Cert.KernelIdeal.main_v271) = ratio2 a := by
  simp only [segM, opsM, kd, rd, List.cons_append, List.nil_append, List.append_nil, TRef.unary, TRef.binary, TRef.ternary, TRef.nullary, TRef.toBuf, TRef.ofBuf, cast_eq]
  after_reads_simp
  simp only [kd] at ha
  rw [ha]
  all_goals rfl

theorem readN_v278 (W : KV) (q : FVec Ideal Cert.KernelIdeal.S2x3x33x33x33 .f32) (hq : W (kd Cert.KernelIdeal.main_v271) = q) :
    after segN W (kd Cert.KernelIdeal.main_v278) = padded q := by
  simp only [segN, Cert.KernelIdeal.Gen.hostOps0_37, Cert.KernelIdeal.Gen.hostOps0_38, Cert.KernelIdeal.Gen.hostOps0_39, Cert.KernelIdeal.Gen.hostOps0_40, Cert.KernelIdeal.Gen.hostOps0_41, kd, rd, List.cons_append, List.nil_append, List.append_nil, TRef.unary, TRef.binary, TRef.ternary, TRef.nullary, TRef.toBuf, TRef.ofBuf, cast_eq]
  after_reads_simp
  simp only [kd] at hq
  rw [hq]
  all_goals rfl

theorem readQ_v323 (W : KV) (n : IVec Cert.KernelIdeal.S2x3x33x34x34 32) (hn : W (kd Cert.KernelIdeal.main_v278) = n) :
    after segQ W (kd Cert.KernelIdeal.main_v323) = packOf n := by
  simp only [segQ, Cert.KernelIdeal.Gen.hostOps0_42, Cert.KernelIdeal.Gen.hostOps0_43, opsQ1, kd, rd, List.cons_append, List.nil_append, List.append_nil, TRef.unary, TRef.binary, TRef.ternary, TRef.nullary, TRef.toBuf, TRef.ofBuf, cast_eq]
  after_reads_simp
  simp only [kd] at hn
  rw [hn]
  all_goals rfl

theorem readS_v335 (W : KV) (w : FVec Ideal Cert.KernelIdeal.S8x3 .f32) (s : FVec Ideal Cert.KernelIdeal.S2x3 .f32) (hw : W (kd Cert.KernelIdeal.main_v256) = w) (hs : W (kd Cert.KernelIdeal.main_v268) = s) :
    after segS W (kd Cert.KernelIdeal.main_v335) = paramsOf w s := by
  simp only [segS, opsS, kd, rd, List.cons_append, List.nil_append, List.append_nil, TRef.unary, TRef.binary, TRef.ternary, TRef.nullary, TRef.toBuf, TRef.ofBuf, cast_eq]
  after_reads_simp
  dsimp only [Matrix.cons_val_zero, Matrix.cons_val_one, Matrix.cons_val]
  after_reads_simp
  simp only [kd] at hw hs
  rw [hw, hs]
  all_goals rfl

/-- The host operations before the kernel call, stage by stage. -/
theorem stages (W : KV) : after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44]) W = after segS (after segQ (after segN (after segM (after segJ (after segI (after segH (after segG (after segF (after segE (after segD (after segC (after segB (after segA W))))))))))))) := by
  simp only [List.flatten_cons, List.flatten_nil, List.append_nil, segA, segB, segC, segD, segE, segF, segG, segH, segI, segJ, segM, segN, segQ, segS, namedB, namedD, namedF, namedH, namedJ, splitJ1, splitQ1, after_append]

end Cert.Lut
end
-- ==== Proof.Prefix.lean ====
module
public import proofs.«01_k».proof.Proof.Gen.KernelIdeal.Launch
public import proofs.«01_k».proof.Proof.Gen.ReferenceIdeal.Run
public import proofs.«01_k».proof.Proof.Stages
public import proofs.«01_k».proof.Proof.Tail
public import Idealize.ShloMosaic.PureOps.Ideal
@[expose] public section
set_option maxRecDepth 16384
set_option maxHeartbeats 4000000
noncomputable section
namespace Cert.Lut
open Idealize.ShloMosaic Idealize.ShloMosaic.TcCoe Idealize.ShloMosaic.StableHlo

/-- What the four buffers hold when the kernel is called: the weights are the reference's. -/
theorem hostValues (W : KV) (R : RV) (xarg0 : Vec Ideal Cert.KernelIdeal.S8x3x1024x1024 .f32) (xarg1 : Vec Ideal Cert.KernelIdeal.S16x3x3x3 .f32) (xarg2 : Vec Ideal Cert.KernelIdeal.S32x16x3x3 .f32) (xarg3 : Vec Ideal Cert.KernelIdeal.S64x32x3x3 .f32) (xarg4 : Vec Ideal Cert.KernelIdeal.S128x64x3x3 .f32) (xarg5 : Vec Ideal Cert.KernelIdeal.S128x128x3x3 .f32) (xarg6 : Vec Ideal Cert.KernelIdeal.S16 .f32) (xarg7 : Vec Ideal Cert.KernelIdeal.S32 .f32) (xarg8 : Vec Ideal Cert.KernelIdeal.S64 .f32) (xarg9 : Vec Ideal Cert.KernelIdeal.S128 .f32) (xarg10 : Vec Ideal Cert.KernelIdeal.S128 .f32) (xarg11 : Vec Ideal Cert.KernelIdeal.S16 .f32) (xarg12 : Vec Ideal Cert.KernelIdeal.S32 .f32) (xarg13 : Vec Ideal Cert.KernelIdeal.S64 .f32) (xarg14 : Vec Ideal Cert.KernelIdeal.S128 .f32) (xarg15 : Vec Ideal Cert.KernelIdeal.S16 .f32) (xarg16 : Vec Ideal Cert.KernelIdeal.S32 .f32) (xarg17 : Vec Ideal Cert.KernelIdeal.S64 .f32) (xarg18 : Vec Ideal Cert.KernelIdeal.S128 .f32) (xarg19 : Vec Ideal Cert.KernelIdeal.S3x8192 .f32) (xarg20 : Vec Ideal Cert.KernelIdeal.S3 .f32) (xarg21 : Vec Ideal Cert.KernelIdeal.S107811x3 .f32)
    (harg0 : W (kd Cert.KernelIdeal.main_arg0) = xarg0) (karg0 : R (rd Cert.ReferenceIdeal.main_arg0) = xarg0)
    (harg1 : W (kd Cert.KernelIdeal.main_arg1) = xarg1) (karg1 : R (rd Cert.ReferenceIdeal.main_arg1) = xarg1)
    (harg2 : W (kd Cert.KernelIdeal.main_arg2) = xarg2) (karg2 : R (rd Cert.ReferenceIdeal.main_arg2) = xarg2)
    (harg3 : W (kd Cert.KernelIdeal.main_arg3) = xarg3) (karg3 : R (rd Cert.ReferenceIdeal.main_arg3) = xarg3)
    (harg4 : W (kd Cert.KernelIdeal.main_arg4) = xarg4) (karg4 : R (rd Cert.ReferenceIdeal.main_arg4) = xarg4)
    (harg5 : W (kd Cert.KernelIdeal.main_arg5) = xarg5) (karg5 : R (rd Cert.ReferenceIdeal.main_arg5) = xarg5)
    (harg6 : W (kd Cert.KernelIdeal.main_arg6) = xarg6) (karg6 : R (rd Cert.ReferenceIdeal.main_arg6) = xarg6)
    (harg7 : W (kd Cert.KernelIdeal.main_arg7) = xarg7) (karg7 : R (rd Cert.ReferenceIdeal.main_arg7) = xarg7)
    (harg8 : W (kd Cert.KernelIdeal.main_arg8) = xarg8) (karg8 : R (rd Cert.ReferenceIdeal.main_arg8) = xarg8)
    (harg9 : W (kd Cert.KernelIdeal.main_arg9) = xarg9) (karg9 : R (rd Cert.ReferenceIdeal.main_arg9) = xarg9)
    (harg10 : W (kd Cert.KernelIdeal.main_arg10) = xarg10) (karg10 : R (rd Cert.ReferenceIdeal.main_arg10) = xarg10)
    (harg11 : W (kd Cert.KernelIdeal.main_arg11) = xarg11) (karg11 : R (rd Cert.ReferenceIdeal.main_arg11) = xarg11)
    (harg12 : W (kd Cert.KernelIdeal.main_arg12) = xarg12) (karg12 : R (rd Cert.ReferenceIdeal.main_arg12) = xarg12)
    (harg13 : W (kd Cert.KernelIdeal.main_arg13) = xarg13) (karg13 : R (rd Cert.ReferenceIdeal.main_arg13) = xarg13)
    (harg14 : W (kd Cert.KernelIdeal.main_arg14) = xarg14) (karg14 : R (rd Cert.ReferenceIdeal.main_arg14) = xarg14)
    (harg15 : W (kd Cert.KernelIdeal.main_arg15) = xarg15) (karg15 : R (rd Cert.ReferenceIdeal.main_arg15) = xarg15)
    (harg16 : W (kd Cert.KernelIdeal.main_arg16) = xarg16) (karg16 : R (rd Cert.ReferenceIdeal.main_arg16) = xarg16)
    (harg17 : W (kd Cert.KernelIdeal.main_arg17) = xarg17) (karg17 : R (rd Cert.ReferenceIdeal.main_arg17) = xarg17)
    (harg18 : W (kd Cert.KernelIdeal.main_arg18) = xarg18) (karg18 : R (rd Cert.ReferenceIdeal.main_arg18) = xarg18)
    (harg19 : W (kd Cert.KernelIdeal.main_arg19) = xarg19) (karg19 : R (rd Cert.ReferenceIdeal.main_arg19) = xarg19)
    (harg20 : W (kd Cert.KernelIdeal.main_arg20) = xarg20) (karg20 : R (rd Cert.ReferenceIdeal.main_arg20) = xarg20)
    (harg21 : W (kd Cert.KernelIdeal.main_arg21) = xarg21) (karg21 : R (rd Cert.ReferenceIdeal.main_arg21) = xarg21)
    (y : FVec Ideal Cert.KernelIdeal.S8x3 .f32) (hy : Cert.ReferenceIdeal.Value.res_main_v256 R = y) (W' : KV)
    (hW' : W' = after segS (after segQ (after segN (after segM (after segJ (after segI (after segH (after segG (after segF (after segE (after segD (after segC (after segB (after segA W)))))))))))))) :
    W' (kd Cert.KernelIdeal.main_v256) = y ∧ W' (kd Cert.KernelIdeal.main_v259) = lutsOf y xarg21
      ∧ W' (kd Cert.KernelIdeal.main_v323) = packOf (padded (ratio2 xarg21))
      ∧ W' (kd Cert.KernelIdeal.main_v335) = paramsOf y (scale2 xarg21) := by
  have rA := readA W R _ _ harg0 karg0 rfl
  have aAarg1 := (keepA W Cert.KernelIdeal.main_arg1 (by decide)).trans harg1
  have aAarg10 := (keepA W Cert.KernelIdeal.main_arg10 (by decide)).trans harg10
  have aAarg11 := (keepA W Cert.KernelIdeal.main_arg11 (by decide)).trans harg11
  have aAarg12 := (keepA W Cert.KernelIdeal.main_arg12 (by decide)).trans harg12
  have aAarg13 := (keepA W Cert.KernelIdeal.main_arg13 (by decide)).trans harg13
  have aAarg14 := (keepA W Cert.KernelIdeal.main_arg14 (by decide)).trans harg14
  have aAarg15 := (keepA W Cert.KernelIdeal.main_arg15 (by decide)).trans harg15
  have aAarg16 := (keepA W Cert.KernelIdeal.main_arg16 (by decide)).trans harg16
  have aAarg17 := (keepA W Cert.KernelIdeal.main_arg17 (by decide)).trans harg17
  have aAarg18 := (keepA W Cert.KernelIdeal.main_arg18 (by decide)).trans harg18
  have aAarg19 := (keepA W Cert.KernelIdeal.main_arg19 (by decide)).trans harg19
  have aAarg2 := (keepA W Cert.KernelIdeal.main_arg2 (by decide)).trans harg2
  have aAarg20 := (keepA W Cert.KernelIdeal.main_arg20 (by decide)).trans harg20
  have aAarg21 := (keepA W Cert.KernelIdeal.main_arg21 (by decide)).trans harg21
  have aAarg3 := (keepA W Cert.KernelIdeal.main_arg3 (by decide)).trans harg3
  have aAarg4 := (keepA W Cert.KernelIdeal.main_arg4 (by decide)).trans harg4
  have aAarg5 := (keepA W Cert.KernelIdeal.main_arg5 (by decide)).trans harg5
  have aAarg6 := (keepA W Cert.KernelIdeal.main_arg6 (by decide)).trans harg6
  have aAarg7 := (keepA W Cert.KernelIdeal.main_arg7 (by decide)).trans harg7
  have aAarg8 := (keepA W Cert.KernelIdeal.main_arg8 (by decide)).trans harg8
  have aAarg9 := (keepA W Cert.KernelIdeal.main_arg9 (by decide)).trans harg9
  generalize after segA W = WA at aAarg1 aAarg10 aAarg11 aAarg12 aAarg13 aAarg14 aAarg15 aAarg16 aAarg17 aAarg18 aAarg19 aAarg2 aAarg20 aAarg21 aAarg3 aAarg4 aAarg5 aAarg6 aAarg7 aAarg8 aAarg9 rA hW'
  have rB := readB WA R _ _ _ _ rA aAarg1 aAarg6 rfl karg1 karg6 rfl
  have aBarg10 := (keepB WA Cert.KernelIdeal.main_arg10 (by decide)).trans aAarg10
  have aBarg11 := (keepB WA Cert.KernelIdeal.main_arg11 (by decide)).trans aAarg11
  have aBarg12 := (keepB WA Cert.KernelIdeal.main_arg12 (by decide)).trans aAarg12
  have aBarg13 := (keepB WA Cert.KernelIdeal.main_arg13 (by decide)).trans aAarg13
  have aBarg14 := (keepB WA Cert.KernelIdeal.main_arg14 (by decide)).trans aAarg14
  have aBarg15 := (keepB WA Cert.KernelIdeal.main_arg15 (by decide)).trans aAarg15
  have aBarg16 := (keepB WA Cert.KernelIdeal.main_arg16 (by decide)).trans aAarg16
  have aBarg17 := (keepB WA Cert.KernelIdeal.main_arg17 (by decide)).trans aAarg17
  have aBarg18 := (keepB WA Cert.KernelIdeal.main_arg18 (by decide)).trans aAarg18
  have aBarg19 := (keepB WA Cert.KernelIdeal.main_arg19 (by decide)).trans aAarg19
  have aBarg2 := (keepB WA Cert.KernelIdeal.main_arg2 (by decide)).trans aAarg2
  have aBarg20 := (keepB WA Cert.KernelIdeal.main_arg20 (by decide)).trans aAarg20
  have aBarg21 := (keepB WA Cert.KernelIdeal.main_arg21 (by decide)).trans aAarg21
  have aBarg3 := (keepB WA Cert.KernelIdeal.main_arg3 (by decide)).trans aAarg3
  have aBarg4 := (keepB WA Cert.KernelIdeal.main_arg4 (by decide)).trans aAarg4
  have aBarg5 := (keepB WA Cert.KernelIdeal.main_arg5 (by decide)).trans aAarg5
  have aBarg7 := (keepB WA Cert.KernelIdeal.main_arg7 (by decide)).trans aAarg7
  have aBarg8 := (keepB WA Cert.KernelIdeal.main_arg8 (by decide)).trans aAarg8
  have aBarg9 := (keepB WA Cert.KernelIdeal.main_arg9 (by decide)).trans aAarg9
  generalize after segB WA = WB at aBarg10 aBarg11 aBarg12 aBarg13 aBarg14 aBarg15 aBarg16 aBarg17 aBarg18 aBarg19 aBarg2 aBarg20 aBarg21 aBarg3 aBarg4 aBarg5 aBarg7 aBarg8 aBarg9 rB hW'
  have rC := readC WB R _ _ _ _ rB aBarg11 aBarg15 rfl karg11 karg15 rfl
  have aCarg10 := (keepC WB Cert.KernelIdeal.main_arg10 (by decide)).trans aBarg10
  have aCarg12 := (keepC WB Cert.KernelIdeal.main_arg12 (by decide)).trans aBarg12
  have aCarg13 := (keepC WB Cert.KernelIdeal.main_arg13 (by decide)).trans aBarg13
  have aCarg14 := (keepC WB Cert.KernelIdeal.main_arg14 (by decide)).trans aBarg14
  have aCarg16 := (keepC WB Cert.KernelIdeal.main_arg16 (by decide)).trans aBarg16
  have aCarg17 := (keepC WB Cert.KernelIdeal.main_arg17 (by decide)).trans aBarg17
  have aCarg18 := (keepC WB Cert.KernelIdeal.main_arg18 (by decide)).trans aBarg18
  have aCarg19 := (keepC WB Cert.KernelIdeal.main_arg19 (by decide)).trans aBarg19
  have aCarg2 := (keepC WB Cert.KernelIdeal.main_arg2 (by decide)).trans aBarg2
  have aCarg20 := (keepC WB Cert.KernelIdeal.main_arg20 (by decide)).trans aBarg20
  have aCarg21 := (keepC WB Cert.KernelIdeal.main_arg21 (by decide)).trans aBarg21
  have aCarg3 := (keepC WB Cert.KernelIdeal.main_arg3 (by decide)).trans aBarg3
  have aCarg4 := (keepC WB Cert.KernelIdeal.main_arg4 (by decide)).trans aBarg4
  have aCarg5 := (keepC WB Cert.KernelIdeal.main_arg5 (by decide)).trans aBarg5
  have aCarg7 := (keepC WB Cert.KernelIdeal.main_arg7 (by decide)).trans aBarg7
  have aCarg8 := (keepC WB Cert.KernelIdeal.main_arg8 (by decide)).trans aBarg8
  have aCarg9 := (keepC WB Cert.KernelIdeal.main_arg9 (by decide)).trans aBarg9
  generalize after segC WB = WC at aCarg10 aCarg12 aCarg13 aCarg14 aCarg16 aCarg17 aCarg18 aCarg19 aCarg2 aCarg20 aCarg21 aCarg3 aCarg4 aCarg5 aCarg7 aCarg8 aCarg9 rC hW'
  have rD := readD WC R _ _ _ _ rC aCarg2 aCarg7 rfl karg2 karg7 rfl
  have aDarg10 := (keepD WC Cert.KernelIdeal.main_arg10 (by decide)).trans aCarg10
  have aDarg12 := (keepD WC Cert.KernelIdeal.main_arg12 (by decide)).trans aCarg12
  have aDarg13 := (keepD WC Cert.KernelIdeal.main_arg13 (by decide)).trans aCarg13
  have aDarg14 := (keepD WC Cert.KernelIdeal.main_arg14 (by decide)).trans aCarg14
  have aDarg16 := (keepD WC Cert.KernelIdeal.main_arg16 (by decide)).trans aCarg16
  have aDarg17 := (keepD WC Cert.KernelIdeal.main_arg17 (by decide)).trans aCarg17
  have aDarg18 := (keepD WC Cert.KernelIdeal.main_arg18 (by decide)).trans aCarg18
  have aDarg19 := (keepD WC Cert.KernelIdeal.main_arg19 (by decide)).trans aCarg19
  have aDarg20 := (keepD WC Cert.KernelIdeal.main_arg20 (by decide)).trans aCarg20
  have aDarg21 := (keepD WC Cert.KernelIdeal.main_arg21 (by decide)).trans aCarg21
  have aDarg3 := (keepD WC Cert.KernelIdeal.main_arg3 (by decide)).trans aCarg3
  have aDarg4 := (keepD WC Cert.KernelIdeal.main_arg4 (by decide)).trans aCarg4
  have aDarg5 := (keepD WC Cert.KernelIdeal.main_arg5 (by decide)).trans aCarg5
  have aDarg8 := (keepD WC Cert.KernelIdeal.main_arg8 (by decide)).trans aCarg8
  have aDarg9 := (keepD WC Cert.KernelIdeal.main_arg9 (by decide)).trans aCarg9
  generalize after segD WC = WD at aDarg10 aDarg12 aDarg13 aDarg14 aDarg16 aDarg17 aDarg18 aDarg19 aDarg20 aDarg21 aDarg3 aDarg4 aDarg5 aDarg8 aDarg9 rD hW'
  have rE := readE WD R _ _ _ _ rD aDarg12 aDarg16 rfl karg12 karg16 rfl
  have aEarg10 := (keepE WD Cert.KernelIdeal.main_arg10 (by decide)).trans aDarg10
  have aEarg13 := (keepE WD Cert.KernelIdeal.main_arg13 (by decide)).trans aDarg13
  have aEarg14 := (keepE WD Cert.KernelIdeal.main_arg14 (by decide)).trans aDarg14
  have aEarg17 := (keepE WD Cert.KernelIdeal.main_arg17 (by decide)).trans aDarg17
  have aEarg18 := (keepE WD Cert.KernelIdeal.main_arg18 (by decide)).trans aDarg18
  have aEarg19 := (keepE WD Cert.KernelIdeal.main_arg19 (by decide)).trans aDarg19
  have aEarg20 := (keepE WD Cert.KernelIdeal.main_arg20 (by decide)).trans aDarg20
  have aEarg21 := (keepE WD Cert.KernelIdeal.main_arg21 (by decide)).trans aDarg21
  have aEarg3 := (keepE WD Cert.KernelIdeal.main_arg3 (by decide)).trans aDarg3
  have aEarg4 := (keepE WD Cert.KernelIdeal.main_arg4 (by decide)).trans aDarg4
  have aEarg5 := (keepE WD Cert.KernelIdeal.main_arg5 (by decide)).trans aDarg5
  have aEarg8 := (keepE WD Cert.KernelIdeal.main_arg8 (by decide)).trans aDarg8
  have aEarg9 := (keepE WD Cert.KernelIdeal.main_arg9 (by decide)).trans aDarg9
  generalize after segE WD = WE at aEarg10 aEarg13 aEarg14 aEarg17 aEarg18 aEarg19 aEarg20 aEarg21 aEarg3 aEarg4 aEarg5 aEarg8 aEarg9 rE hW'
  have rF := readF WE R _ _ _ _ rE aEarg3 aEarg8 rfl karg3 karg8 rfl
  have aFarg10 := (keepF WE Cert.KernelIdeal.main_arg10 (by decide)).trans aEarg10
  have aFarg13 := (keepF WE Cert.KernelIdeal.main_arg13 (by decide)).trans aEarg13
  have aFarg14 := (keepF WE Cert.KernelIdeal.main_arg14 (by decide)).trans aEarg14
  have aFarg17 := (keepF WE Cert.KernelIdeal.main_arg17 (by decide)).trans aEarg17
  have aFarg18 := (keepF WE Cert.KernelIdeal.main_arg18 (by decide)).trans aEarg18
  have aFarg19 := (keepF WE Cert.KernelIdeal.main_arg19 (by decide)).trans aEarg19
  have aFarg20 := (keepF WE Cert.KernelIdeal.main_arg20 (by decide)).trans aEarg20
  have aFarg21 := (keepF WE Cert.KernelIdeal.main_arg21 (by decide)).trans aEarg21
  have aFarg4 := (keepF WE Cert.KernelIdeal.main_arg4 (by decide)).trans aEarg4
  have aFarg5 := (keepF WE Cert.KernelIdeal.main_arg5 (by decide)).trans aEarg5
  have aFarg9 := (keepF WE Cert.KernelIdeal.main_arg9 (by decide)).trans aEarg9
  generalize after segF WE = WF at aFarg10 aFarg13 aFarg14 aFarg17 aFarg18 aFarg19 aFarg20 aFarg21 aFarg4 aFarg5 aFarg9 rF hW'
  have rG := readG WF R _ _ _ _ rF aFarg13 aFarg17 rfl karg13 karg17 rfl
  have aGarg10 := (keepG WF Cert.KernelIdeal.main_arg10 (by decide)).trans aFarg10
  have aGarg14 := (keepG WF Cert.KernelIdeal.main_arg14 (by decide)).trans aFarg14
  have aGarg18 := (keepG WF Cert.KernelIdeal.main_arg18 (by decide)).trans aFarg18
  have aGarg19 := (keepG WF Cert.KernelIdeal.main_arg19 (by decide)).trans aFarg19
  have aGarg20 := (keepG WF Cert.KernelIdeal.main_arg20 (by decide)).trans aFarg20
  have aGarg21 := (keepG WF Cert.KernelIdeal.main_arg21 (by decide)).trans aFarg21
  have aGarg4 := (keepG WF Cert.KernelIdeal.main_arg4 (by decide)).trans aFarg4
  have aGarg5 := (keepG WF Cert.KernelIdeal.main_arg5 (by decide)).trans aFarg5
  have aGarg9 := (keepG WF Cert.KernelIdeal.main_arg9 (by decide)).trans aFarg9
  generalize after segG WF = WG at aGarg10 aGarg14 aGarg18 aGarg19 aGarg20 aGarg21 aGarg4 aGarg5 aGarg9 rG hW'
  have rH := readH WG R _ _ _ _ rG aGarg4 aGarg9 rfl karg4 karg9 rfl
  have aHarg10 := (keepH WG Cert.KernelIdeal.main_arg10 (by decide)).trans aGarg10
  have aHarg14 := (keepH WG Cert.KernelIdeal.main_arg14 (by decide)).trans aGarg14
  have aHarg18 := (keepH WG Cert.KernelIdeal.main_arg18 (by decide)).trans aGarg18
  have aHarg19 := (keepH WG Cert.KernelIdeal.main_arg19 (by decide)).trans aGarg19
  have aHarg20 := (keepH WG Cert.KernelIdeal.main_arg20 (by decide)).trans aGarg20
  have aHarg21 := (keepH WG Cert.KernelIdeal.main_arg21 (by decide)).trans aGarg21
  have aHarg5 := (keepH WG Cert.KernelIdeal.main_arg5 (by decide)).trans aGarg5
  generalize after segH WG = WH at aHarg10 aHarg14 aHarg18 aHarg19 aHarg20 aHarg21 aHarg5 rH hW'
  have rI := readI WH R _ _ _ _ rH aHarg14 aHarg18 rfl karg14 karg18 rfl
  have aIarg10 := (keepI WH Cert.KernelIdeal.main_arg10 (by decide)).trans aHarg10
  have aIarg19 := (keepI WH Cert.KernelIdeal.main_arg19 (by decide)).trans aHarg19
  have aIarg20 := (keepI WH Cert.KernelIdeal.main_arg20 (by decide)).trans aHarg20
  have aIarg21 := (keepI WH Cert.KernelIdeal.main_arg21 (by decide)).trans aHarg21
  have aIarg5 := (keepI WH Cert.KernelIdeal.main_arg5 (by decide)).trans aHarg5
  generalize after segI WH = WI at aIarg10 aIarg19 aIarg20 aIarg21 aIarg5 rI hW'
  have rJ := readJ WI R _ _ _ _ _ y rI aIarg10 aIarg19 aIarg20 aIarg5 rfl karg10 karg19 karg20 karg5 hy
  have aJarg21 := (keepJ WI Cert.KernelIdeal.main_arg21 (by decide)).trans aIarg21
  generalize after segJ WI = WJ at aJarg21 rJ hW'
  have rM1 := readM_v259 WJ _ _ rJ aJarg21
  have rM2 := readM_v268 WJ _ aJarg21
  have rM3 := readM_v271 WJ _ aJarg21
  have aMv256 := (keepM WJ Cert.KernelIdeal.main_v256 (by decide)).trans rJ
  generalize after segM WJ = WM at aMv256 rM1 rM2 rM3 hW'
  have rN := readN_v278 WM _ rM3
  have aNv256 := (keepN WM Cert.KernelIdeal.main_v256 (by decide)).trans aMv256
  have aNv259 := (keepN WM Cert.KernelIdeal.main_v259 (by decide)).trans rM1
  have aNv268 := (keepN WM Cert.KernelIdeal.main_v268 (by decide)).trans rM2
  generalize after segN WM = WN at aNv256 aNv259 aNv268 rN hW'
  have rQ := readQ_v323 WN _ rN
  have aQv256 := (keepQ WN Cert.KernelIdeal.main_v256 (by decide)).trans aNv256
  have aQv259 := (keepQ WN Cert.KernelIdeal.main_v259 (by decide)).trans aNv259
  have aQv268 := (keepQ WN Cert.KernelIdeal.main_v268 (by decide)).trans aNv268
  generalize after segQ WN = WQ at aQv256 aQv259 aQv268 rQ hW'
  have rS := readS_v335 WQ _ _ aQv256 aQv268
  have aSv256 := (keepS WQ Cert.KernelIdeal.main_v256 (by decide)).trans aQv256
  have aSv259 := (keepS WQ Cert.KernelIdeal.main_v259 (by decide)).trans aQv259
  have aSv323 := (keepS WQ Cert.KernelIdeal.main_v323 (by decide)).trans rQ
  generalize after segS WQ = WS at aSv256 aSv259 aSv323 rS hW'
  subst hW'
  exact ⟨aSv256, aSv259, aSv323, rS⟩

end Cert.Lut
end
-- ==== Proof.Lookup.lean ====
module
public import proofs.«01_k».proof.Proof.Gen.KernelIdeal.Loops
public import Idealize.ShloMosaic.Lib.Pointwise
@[expose] public section
set_option maxRecDepth 16384
noncomputable section
namespace Cert.Lut
open Cert.KernelIdeal Cert.KernelIdeal.Gen Idealize.ShloMosaic Idealize.ShloMosaic.TcCoe Idealize.SL.Sem

/-- One gather of 128 lanes: the row broadcast to 16 sublanes, read at the (wrapped) index word of each lane. -/
def piece (row : IVec S128 32) (idx : IVec S16x1024 32) (o : Nat) (h : S16x1024.Slices ![0, o] S16x128) : IVec S16x128 32 :=
  dynamicGather 1
    (broadcastTo S16x128 (shapeCast S1x128 (shapeCast S1x128 row (by decide)) (by decide)) (by decide))
    (shapeCast S16x128 (shapeCast S16x128x1
      (select (cmpi .slt (extractStridedSlice S16x128 ![0, o] idx h) (broadcast S16x128 0#32))
        (addi (extractStridedSlice S16x128 ![0, o] idx h) (broadcast S16x128 128#32))
        (extractStridedSlice S16x128 ![0, o] idx h)) (by decide)) (by decide))

/-- The offsets of the eight gathers lie inside the 1024 lanes. -/
theorem piece_slices (n : Fin 8) : S16x1024.Slices ![0, 128 * n.val] S16x128 := by
  revert n; decide

/-- The row broadcast to 16 sublanes reads, at any sublane, the row at the lane. -/
theorem row_apply (row : IVec S128 32) (j : S16x128.Idx) (h₁ h₂ h₃) :
    broadcastTo S16x128 (shapeCast S1x128 (shapeCast S1x128 row h₁) h₂) h₃ j = row (ix1 (j 1)) := by
  pointwise

/-- A gather with an index word below 128 reads the row at that word. -/
theorem piece_apply (row : IVec S128 32) (idx : IVec S16x1024 32) (n : Fin 8) (a : Fin 16) (b : Fin 128)
    (q : S16x1024.Idx) (hq0 : (q 0).val = a.val) (hq1 : (q 1).val = 128 * n.val + b.val) (hlt : (idx q).toNat < 128) :
    piece row idx (128 * n.val) (piece_slices n) (ix2 a b) = row (ix1 ⟨(idx q).toNat, hlt⟩) := by
  have e : extractStridedSlice S16x128 ![0, 128 * n.val] idx (piece_slices n) (ix2 a b) = idx q := by
    refine extractStridedSlice_apply _ _ _ _ _ ?_
    intro c
    fin_cases c
    · simpa [ix2] using hq0
    · simpa [ix2] using hq1
  unfold piece
  rw [shapeCast_shapeCast]
  rw [dynamicGather_apply, row_apply]
  have hs : (select (cmpi .slt (extractStridedSlice S16x128 ![0, 128 * n.val] idx (piece_slices n)) (broadcast S16x128 0#32))
      (addi (extractStridedSlice S16x128 ![0, 128 * n.val] idx (piece_slices n)) (broadcast S16x128 128#32))
      (extractStridedSlice S16x128 ![0, 128 * n.val] idx (piece_slices n)) : IVec S16x128 32) (ix2 a b) = idx q := by
    show Scalar.select (IntOp.cmpi .slt (extractStridedSlice S16x128 ![0, 128 * n.val] idx (piece_slices n) (ix2 a b)) 0#32)
      _ (extractStridedSlice S16x128 ![0, 128 * n.val] idx (piece_slices n) (ix2 a b)) = idx q
    rw [e]
    have : IntOp.cmpi .slt (idx q) 0#32 = 0#1 := by
      have hn : (idx q).slt 0#32 = false := by
        rw [BitVec.slt_eq_decide, decide_eq_false_iff_not, BitVec.toInt_eq_toNat_of_lt (by omega)]
        simp
      simp [IntOp.cmpi, hn]
    rw [this]
    rfl
  refine congrArg row (congrArg ix1 (Fin.ext ?_))
  rw [if_pos rfl]
  show _ % 128 = _
  rw [hs]
  exact Nat.mod_eq_of_lt hlt

/-- Eight pieces of 128 lanes make 1024 lanes. -/
theorem eight : Shape.Concatenates [S16x128, S16x128, S16x128, S16x128, S16x128, S16x128, S16x128, S16x128] S16x1024 1 := by
  decide

/-- Eight gathers side by side cover the 1024 lanes. -/
def gather (row : IVec S128 32) (idx : IVec S16x1024 32) : IVec S16x1024 32 :=
  concatenate S16x1024 1
    [⟨S16x128, piece row idx 0 (by decide)⟩, ⟨S16x128, piece row idx 128 (by decide)⟩,
     ⟨S16x128, piece row idx 256 (by decide)⟩, ⟨S16x128, piece row idx 384 (by decide)⟩,
     ⟨S16x128, piece row idx 512 (by decide)⟩, ⟨S16x128, piece row idx 640 (by decide)⟩,
     ⟨S16x128, piece row idx 768 (by decide)⟩, ⟨S16x128, piece row idx 896 (by decide)⟩] eight

/-- The eight gathers read the row at the index word of each lane, when that word is below 128. -/
theorem gather_apply (row : IVec S128 32) (idx : IVec S16x1024 32) (q : S16x1024.Idx) (hlt : (idx q).toNat < 128) :
    gather row idx q = row (ix1 ⟨(idx q).toNat, hlt⟩) := by
  have hq : (q 1).val < 1024 := (q 1).isLt
  have hq0 : (q 0).val < 16 := (q 0).isLt
  have h := concatenate_ofFn_apply (t := S16x1024) (s₁ := S16x128) 1 (N := 8)
    (fun n => piece row idx (128 * n.val) (piece_slices n)) eight rfl 128 rfl q
    ⟨(q 1).val / 128, by omega⟩ rfl (ix2 ⟨(q 0).val, hq0⟩ ⟨(q 1).val % 128, by omega⟩) rfl
    (by intro b hb; fin_cases b
        · rfl
        · exact absurd rfl hb)
  refine Eq.trans h ?_
  exact piece_apply row idx _ _ _ q rfl (by show _ = 128 * ((q 1).val / 128) + (q 1).val % 128; omega) hlt

/-- The row of 128 packed words that window `w` of channel `c` holds. -/
def row (T : S3x284x1x128.Idx → BitVec 32) (c : Fin 3) (w : Fin 284) : IVec S128 32 := fun l => T (ix4 c w 0 (l 0))

variable {𝒱 : Variants} {cd : Dev nD} {bd : Option 𝒱.V} {i : grid0.Coords}
  {arg2 : Memref sig .tc .vmem S1x3x8x1024 .f32} {harg2 : arg2.IsWhole}
  {arg3 : Memref sig .tc .vmem S3x284x1x128 .i32} {harg3 : arg3.IsWhole}
  {arg4 : Memref sig .tc .smem S8x10 .f32} {harg4 : arg4.IsWhole}
  {arg5 : Memref sig .tc .vmem S1x3x8x1024 .f32} {harg5 : arg5.IsWhole}
  {arg0 : BitVec 32} {v1 v12 v19 v26 : FVec Ideal S8x1024 .f32} {v32 v34 v35 : IVec S8x1024 32}
  {X : BufTy.Contents (Elt Ideal) arg3.view.ty}

/-- Reading a window's 128 words through the reference. -/
theorem row_read (T : S3x284x1x128.Idx → BitVec 32) (hT : arg3.view.read (Elt Ideal) X = T) (c : Fin 3) (w : Fin 284)
    (off : Fin 4 → Nat) (ho : off = ![c.val, w.val, 0, 0]) (h) (h') :
    shapeCast S128 (arg3.view.readAt (Elt Ideal) (Rect.unit (s := S3x284x1x128) off S1x1x1x128.size h).toLoadRect X) h'
      = row T c w := by
  subst ho
  funext l
  rw [View.readAt_eq_ld, hT]
  have e := shapeCast_apply (s := S1x1x1x128) (t := S128)
    (View.ld (Val := Elt Ideal) (e' := .i32) T (Rect.unit (s := S3x284x1x128) ![c.val, w.val, 0, 0] S1x1x1x128.size h)) h' l
    (ix4 0 0 0 (l 0)) (by rw [Shape.rowMajor_val_one, Shape.rowMajor_val_four]; simp [ix4])
  refine e.trans ?_
  unfold row
  refine congrArg T ?_
  funext a
  fin_cases a
  all_goals
    refine Fin.ext ?_
    show _ + _ * _ = _
    simp [ix4]

/-- The word of window `4k + d`. -/
theorem win_word (k : Nat) (d : Nat) :
    Scalar.addi (Scalar.muli (Scf.iv 0#32 1#32 k) 4#32) (BitVec.ofNat 32 d) = BitVec.ofNat 32 (4 * k + d) := by
  apply BitVec.eq_of_toNat_eq
  simp [Scalar.addi, Scalar.muli, Scf.iv, IntOp.addi, IntOp.muli]
  omega

/-- One trip's new value of a packed word. Where the pixel's window is one of the trip's four, it is that window's word;
    elsewhere it is the value before. So after trips `0 … k` a pixel whose window is below `4(k+1)` holds its word. -/
theorem comp_val (T : S3x284x1x128.Idx → BitVec 32) (c : Fin 3) (k : Nat) (hk : k < 71)
    (win acc : IVec S8x1024 32) (idx : IVec S16x1024 32) (half : Nat) (hs : S16x1024.Slices ![half, 0] S8x1024)
    (r0 r1 r2 r3 : IVec S128 32)
    (h0 : r0 = row T c ⟨4 * k, by omega⟩) (h1 : r1 = row T c ⟨4 * k + 1, by omega⟩)
    (h2 : r2 = row T c ⟨4 * k + 2, by omega⟩) (h3 : r3 = row T c ⟨4 * k + 3, by omega⟩)
    (p : S8x1024.Idx) (w : Fin 284) (l : Fin 128) (hw : (win p).toNat = w.val)
    (q : S16x1024.Idx) (hq0 : (q 0).val = half + (p 0).val) (hq1 : (q 1).val = (p 1).val) (hl : (idx q).toNat = l.val)
    (ha : acc p = if w.val < 4 * k then T (ix4 c w 0 l) else 0#32) :
    select (cmpi .eq win (broadcast S8x1024 (Scalar.addi (Scalar.muli (Scf.iv 0#32 1#32 k) 4#32) 3#32)))
      (extractStridedSlice S8x1024 ![half, 0] (gather r3 idx) hs)
      (select (cmpi .eq win (broadcast S8x1024 (Scalar.addi (Scalar.muli (Scf.iv 0#32 1#32 k) 4#32) 2#32)))
        (extractStridedSlice S8x1024 ![half, 0] (gather r2 idx) hs)
        (select (cmpi .eq win (broadcast S8x1024 (Scalar.addi (Scalar.muli (Scf.iv 0#32 1#32 k) 4#32) 1#32)))
          (extractStridedSlice S8x1024 ![half, 0] (gather r1 idx) hs)
          (select (cmpi .eq win (broadcast S8x1024 (Scalar.addi (Scalar.muli (Scf.iv 0#32 1#32 k) 4#32) 0#32)))
            (extractStridedSlice S8x1024 ![half, 0] (gather r0 idx) hs) acc))) p
      = if w.val < 4 * (k + 1) then T (ix4 c w 0 l) else 0#32 := by
  have hg : ∀ r : IVec S128 32, extractStridedSlice S8x1024 ![half, 0] (gather r idx) hs p = r (ix1 l) := by
    intro r
    rw [extractStridedSlice_apply _ _ _ p q (by
      intro a
      fin_cases a
      · simpa using hq0
      · simpa using hq1), gather_apply r idx q (by omega)]
    exact congrArg r (congrArg ix1 (Fin.ext hl))
  have hwp : win p = BitVec.ofNat 32 w.val := by
    apply BitVec.eq_of_toNat_eq
    simp [hw]; omega
  have hc : ∀ d : Nat, d < 4 → IntOp.cmpi .eq (win p) (Scalar.addi (Scalar.muli (Scf.iv 0#32 1#32 k) 4#32) (BitVec.ofNat 32 d))
      = if w.val = 4 * k + d then 1#1 else 0#1 := by
    intro d hd
    rw [win_word k d, hwp]
    have : (BitVec.ofNat 32 w.val = BitVec.ofNat 32 (4 * k + d)) ↔ w.val = 4 * k + d := by
      constructor
      · intro h
        have := congrArg BitVec.toNat h
        simp at this
        omega
      · intro h; rw [h]
    by_cases h : w.val = 4 * k + d
    · rw [if_pos h, h]; simp [IntOp.cmpi]
    · rw [if_neg h]
      have := mt this.1 h
      simp only [IntOp.cmpi, beq_eq_false_iff_ne.2 this]
      rfl
  show Scalar.select (IntOp.cmpi .eq (win p) _) (extractStridedSlice S8x1024 ![half, 0] (gather r3 idx) hs p)
    (Scalar.select (IntOp.cmpi .eq (win p) _) (extractStridedSlice S8x1024 ![half, 0] (gather r2 idx) hs p)
    (Scalar.select (IntOp.cmpi .eq (win p) _) (extractStridedSlice S8x1024 ![half, 0] (gather r1 idx) hs p)
    (Scalar.select (IntOp.cmpi .eq (win p) _) (extractStridedSlice S8x1024 ![half, 0] (gather r0 idx) hs p) (acc p)))) = _
  rw [hg, hg, hg, hg]
  erw [hc 3 (by omega), hc 2 (by omega), hc 1 (by omega), hc 0 (by omega)]
  rw [h0, h1, h2, h3, ha]
  have hrow : ∀ v : Fin 284, v.val = w.val → row T c v (ix1 l) = T (ix4 c w 0 l) := by
    intro v hv; rw [Fin.ext hv]; rfl
  have one : ∀ a b : BitVec 32, Scalar.select 1#1 a b = a := fun _ _ => rfl
  have zero : ∀ a b : BitVec 32, Scalar.select 0#1 a b = b := fun _ _ => rfl
  by_cases e3 : w.val = 4 * k + 3
  · rw [if_pos e3, if_pos (by omega : w.val < 4 * (k + 1)), one]; exact hrow _ e3.symm
  rw [if_neg e3, zero]
  by_cases e2 : w.val = 4 * k + 2
  · rw [if_pos e2, if_pos (by omega : w.val < 4 * (k + 1)), one]; exact hrow _ e2.symm
  rw [if_neg e2, zero]
  by_cases e1 : w.val = 4 * k + 1
  · rw [if_pos e1, if_pos (by omega : w.val < 4 * (k + 1)), one]; exact hrow _ e1.symm
  rw [if_neg e1, zero]
  by_cases e0 : w.val = 4 * k + 0
  · rw [if_pos e0, if_pos (by omega : w.val < 4 * (k + 1)), one]; exact hrow _ e0.symm
  rw [if_neg e0, zero]
  by_cases hlt : w.val < 4 * k
  · rw [if_pos hlt, if_pos (by omega : w.val < 4 * (k + 1))]
  · rw [if_neg hlt, if_neg (by omega : ¬ w.val < 4 * (k + 1))]

/-- The offsets at which a trip reads window `4k + d` of channel `c`. -/
theorem off_word (c : Fin 3) (k : Nat) (hk : k < 71) (d : Nat) (hd : d < 4) :
    (![c.val, BitVec.toNat (Scalar.indexCast (Scalar.addi (Scalar.muli (Scf.iv 0#32 1#32 k) 4#32) (BitVec.ofNat 32 d))), 0, 0] : Fin 4 → Nat)
      = ![c.val, 4 * k + d, 0, 0] := by
  have : BitVec.toNat (Scalar.indexCast (Scalar.addi (Scalar.muli (Scf.iv 0#32 1#32 k) 4#32) (BitVec.ofNat 32 d))) = 4 * k + d := by
    rw [win_word]
    show (BitVec.ofNat 32 (4 * k + d)).toNat = _
    rw [BitVec.toNat_ofNat]; omega
  rw [this]

/-- What a packed word holds before trip `k`: the word of the pixel's window once that window has been passed. -/
def held (T : S3x284x1x128.Idx → BitVec 32) (c : Fin 3) (n : Fin 36352) (k : Nat) : BitVec 32 :=
  if n.val / 128 < 4 * k then T (ix4 c ⟨n.val / 128, by omega⟩ 0 ⟨n.val % 128, by omega⟩) else 0#32

/-- The six packed words of a pixel before trip `k`. -/
def Held (T : S3x284x1x128.Idx → BitVec 32) (n0 n1 : Fin 36352) (k : Nat) (p : S8x1024.Idx)
    (acc : IVec S8x1024 32 × IVec S8x1024 32 × IVec S8x1024 32 × IVec S8x1024 32 × IVec S8x1024 32 × IVec S8x1024 32) : Prop :=
  acc.1 p = held T 0 n0 k ∧ acc.2.1 p = held T 0 n1 k ∧ acc.2.2.1 p = held T 1 n0 k ∧ acc.2.2.2.1 p = held T 1 n1 k
    ∧ acc.2.2.2.2.1 p = held T 2 n0 k ∧ acc.2.2.2.2.2 p = held T 2 n1 k

/-- A pixel's place among the 16 sublanes of the index words: first half. -/
def atLow (p : S8x1024.Idx) : S16x1024.Idx := ix2 ⟨(p 0).val, by have : (p 0).val < 8 := (p 0).isLt; omega⟩ (p 1)
/-- A pixel's place among the 16 sublanes of the index words: second half. -/
def atHigh (p : S8x1024.Idx) : S16x1024.Idx := ix2 ⟨8 + (p 0).val, by have : (p 0).val < 8 := (p 0).isLt; omega⟩ (p 1)

/-- One trip passes four more windows. -/
theorem trip_held (T : S3x284x1x128.Idx → BitVec 32) (hT : arg3.view.read (Elt Ideal) X = T) (k : Fin k0_t1_loop.trips)
    (acc : IVec S8x1024 32 × IVec S8x1024 32 × IVec S8x1024 32 × IVec S8x1024 32 × IVec S8x1024 32 × IVec S8x1024 32)
    (p : S8x1024.Idx) (n0 n1 : Fin 36352)
    (hw0 : (k0_pay163 v32 v35 p).toNat = n0.val / 128) (hw1 : (k0_pay164 v34 p).toNat = n1.val / 128)
    (hl0 : (k0_pay165 v32 v34 (atLow p)).toNat = n0.val % 128) (hl1 : (k0_pay165 v32 v34 (atHigh p)).toNat = n1.val % 128)
    (h : Held T n0 n1 k.val p acc) :
    Held T n0 n1 (k.val + 1) p (tripR_k0_t1 (F := Ideal) 𝒱 cd bd i arg2 harg2 arg3 harg3 arg4 harg4 arg5 harg5 arg0 v1 v12 v19 v26 v32 v34 v35 X k acc) := by
  obtain ⟨h0, h1, h2, h3, h4, h5⟩ := h
  have hk : k.val < 71 := k.isLt
  unfold Held tripR_k0_t1 trip_k0_t1
  dsimp only
  sl_unfold_words
  refine ⟨?_, ?_, ?_, ?_, ?_, ?_⟩
  · exact comp_val T 0 k.val hk _ _ _ _ _ _ _ _ _
      (row_read T hT 0 ⟨4 * k.val, by omega⟩ _ (off_word 0 k.val hk 0 (by omega)) _ _)
      (row_read T hT 0 ⟨4 * k.val + 1, by omega⟩ _ (off_word 0 k.val hk 1 (by omega)) _ _)
      (row_read T hT 0 ⟨4 * k.val + 2, by omega⟩ _ (off_word 0 k.val hk 2 (by omega)) _ _)
      (row_read T hT 0 ⟨4 * k.val + 3, by omega⟩ _ (off_word 0 k.val hk 3 (by omega)) _ _)
      p ⟨n0.val / 128, by omega⟩ ⟨n0.val % 128, by omega⟩ hw0 (atLow p) (Nat.zero_add _).symm rfl hl0 h0
  · exact comp_val T 0 k.val hk _ _ _ _ _ _ _ _ _
      (row_read T hT 0 ⟨4 * k.val, by omega⟩ _ (off_word 0 k.val hk 0 (by omega)) _ _)
      (row_read T hT 0 ⟨4 * k.val + 1, by omega⟩ _ (off_word 0 k.val hk 1 (by omega)) _ _)
      (row_read T hT 0 ⟨4 * k.val + 2, by omega⟩ _ (off_word 0 k.val hk 2 (by omega)) _ _)
      (row_read T hT 0 ⟨4 * k.val + 3, by omega⟩ _ (off_word 0 k.val hk 3 (by omega)) _ _)
      p ⟨n1.val / 128, by omega⟩ ⟨n1.val % 128, by omega⟩ hw1 (atHigh p) rfl rfl hl1 h1
  · exact comp_val T 1 k.val hk _ _ _ _ _ _ _ _ _
      (row_read T hT 1 ⟨4 * k.val, by omega⟩ _ (off_word 1 k.val hk 0 (by omega)) _ _)
      (row_read T hT 1 ⟨4 * k.val + 1, by omega⟩ _ (off_word 1 k.val hk 1 (by omega)) _ _)
      (row_read T hT 1 ⟨4 * k.val + 2, by omega⟩ _ (off_word 1 k.val hk 2 (by omega)) _ _)
      (row_read T hT 1 ⟨4 * k.val + 3, by omega⟩ _ (off_word 1 k.val hk 3 (by omega)) _ _)
      p ⟨n0.val / 128, by omega⟩ ⟨n0.val % 128, by omega⟩ hw0 (atLow p) (Nat.zero_add _).symm rfl hl0 h2
  · exact comp_val T 1 k.val hk _ _ _ _ _ _ _ _ _
      (row_read T hT 1 ⟨4 * k.val, by omega⟩ _ (off_word 1 k.val hk 0 (by omega)) _ _)
      (row_read T hT 1 ⟨4 * k.val + 1, by omega⟩ _ (off_word 1 k.val hk 1 (by omega)) _ _)
      (row_read T hT 1 ⟨4 * k.val + 2, by omega⟩ _ (off_word 1 k.val hk 2 (by omega)) _ _)
      (row_read T hT 1 ⟨4 * k.val + 3, by omega⟩ _ (off_word 1 k.val hk 3 (by omega)) _ _)
      p ⟨n1.val / 128, by omega⟩ ⟨n1.val % 128, by omega⟩ hw1 (atHigh p) rfl rfl hl1 h3
  · exact comp_val T 2 k.val hk _ _ _ _ _ _ _ _ _
      (row_read T hT 2 ⟨4 * k.val, by omega⟩ _ (off_word 2 k.val hk 0 (by omega)) _ _)
      (row_read T hT 2 ⟨4 * k.val + 1, by omega⟩ _ (off_word 2 k.val hk 1 (by omega)) _ _)
      (row_read T hT 2 ⟨4 * k.val + 2, by omega⟩ _ (off_word 2 k.val hk 2 (by omega)) _ _)
      (row_read T hT 2 ⟨4 * k.val + 3, by omega⟩ _ (off_word 2 k.val hk 3 (by omega)) _ _)
      p ⟨n0.val / 128, by omega⟩ ⟨n0.val % 128, by omega⟩ hw0 (atLow p) (Nat.zero_add _).symm rfl hl0 h4
  · exact comp_val T 2 k.val hk _ _ _ _ _ _ _ _ _
      (row_read T hT 2 ⟨4 * k.val, by omega⟩ _ (off_word 2 k.val hk 0 (by omega)) _ _)
      (row_read T hT 2 ⟨4 * k.val + 1, by omega⟩ _ (off_word 2 k.val hk 1 (by omega)) _ _)
      (row_read T hT 2 ⟨4 * k.val + 2, by omega⟩ _ (off_word 2 k.val hk 2 (by omega)) _ _)
      (row_read T hT 2 ⟨4 * k.val + 3, by omega⟩ _ (off_word 2 k.val hk 3 (by omega)) _ _)
      p ⟨n1.val / 128, by omega⟩ ⟨n1.val % 128, by omega⟩ hw1 (atHigh p) rfl rfl hl1 h5

/-- After all trips every packed word is the table's word at the pixel's index. -/
theorem loop_held (T : S3x284x1x128.Idx → BitVec 32) (hT : arg3.view.read (Elt Ideal) X = T)
    (init : IVec S8x1024 32 × IVec S8x1024 32 × IVec S8x1024 32 × IVec S8x1024 32 × IVec S8x1024 32 × IVec S8x1024 32)
    (p : S8x1024.Idx) (n0 n1 : Fin 36352)
    (hw0 : (k0_pay163 v32 v35 p).toNat = n0.val / 128) (hw1 : (k0_pay164 v34 p).toNat = n1.val / 128)
    (hl0 : (k0_pay165 v32 v34 (atLow p)).toNat = n0.val % 128) (hl1 : (k0_pay165 v32 v34 (atHigh p)).toNat = n1.val % 128)
    (h : Held T n0 n1 0 p init) (k : Nat) (hk : k ≤ k0_t1_loop.trips) :
    Held T n0 n1 k p (st_k0_t1 (F := Ideal) 𝒱 cd bd i arg2 harg2 arg3 harg3 arg4 harg4 arg5 harg5 arg0 v1 v12 v19 v26 v32 v34 v35 X init k) := by
  induction k with
  | zero => exact h
  | succ k ih =>
    rw [st_k0_t1_succ (k := ⟨k, hk⟩)]
    exact trip_held T hT ⟨k, hk⟩ _ p n0 n1 hw0 hw1 hl0 hl1 (ih (by omega))
end Cert.Lut
end
-- ==== Proof.Block.lean ====
module
public import proofs.«01_k».proof.Proof.Gen.KernelIdeal.Value
public import proofs.«01_k».proof.Proof.Lookup
public import Idealize.ShloMosaic.Lib.Pointwise
public import Idealize.ShloMosaic.Lib.WritesUnit
@[expose] public section
set_option maxRecDepth 16384
noncomputable section
namespace Cert.Lut
open Cert.KernelIdeal Cert.KernelIdeal.Gen Idealize.ShloMosaic Idealize.ShloMosaic.TcCoe Idealize.SL.Sem

/-- The grid cell of a channel value, as the kernel's word: the truncation of `32 x`, at most 31. -/
def cellWord (x : Ideal .f32) : BitVec 32 :=
  IntOp.minsi (FloatOps.fptosi 32 (x * Ideal.ofBits FTy.f32 1107296256#32 : Ideal .f32)) 31#32

/-- The place inside the cell: `32 x` less the cell. -/
def fracOf (x : Ideal .f32) : EReal :=
  x * Ideal.ofBits FTy.f32 1107296256#32 - (FloatOps.sitofp FTy.f32 (cellWord x) : Ideal .f32)

/-- One four-bit field of a packed word, as a number. -/
def field (w : BitVec 32) (s : BitVec 32) : EReal :=
  (FloatOps.sitofp FTy.f32 (IntOp.andi (IntOp.shrsi ArithUnit.vector w s) 15#32) : Ideal .f32)

/-- The four corners of one plane, weighted; the fields start at the four shifts. -/
def plane4 (dg dr : EReal) (w s0 s1 s2 s3 : BitVec 32) : EReal :=
  (1 - dg) * (1 - dr) * field w s0 + (1 - dg) * dr * field w s1 + dg * (1 - dr) * field w s2 + dg * dr * field w s3

/-- What the kernel stores at a pixel: from the four numbers of the scalar table, the pixel's value, the three places in
    the cell and the two packed words. -/
def pixel (w0 bias c1 c2 x dr dg db : EReal) (P0 P1 : BitVec 32) : EReal :=
  w0 * x + bias + c1 * ((1 - db) * plane4 dg dr P0 0#32 4#32 8#32 12#32 + db * plane4 dg dr P1 0#32 4#32 8#32 12#32)
    + c2 * ((1 - db) * plane4 dg dr P0 16#32 20#32 24#32 28#32 + db * plane4 dg dr P1 16#32 20#32 24#32 28#32)

theorem pixel_congr {w0 w0' bias bias' c1 c1' c2 c2' x dr dg db : EReal} {P0 P1 : BitVec 32} (h0 : w0 = w0') (hb : bias = bias')
    (h1 : c1 = c1') (h2 : c2 = c2') : pixel w0 bias c1 c2 x dr dg db P0 P1 = pixel w0' bias' c1' c2' x dr dg db P0 P1 := by
  rw [h0, hb, h1, h2]

variable {c : Dev nD} {i : grid0.Coords} {arg2 : Memref sig .tc .vmem S1x3x8x1024 .f32} {harg2 : arg2.IsWhole}
  {arg3 : Memref sig .tc .vmem S3x284x1x128 .i32} {harg3 : arg3.IsWhole} {arg4 : Memref sig .tc .smem S8x10 .f32}
  {harg4 : arg4.IsWhole} {arg5 : Memref sig .tc .vmem S1x3x8x1024 .f32} {harg5 : arg5.IsWhole}
  {x0 : Vec Ideal S1x3x8x1024 .f32} {x1 : Vec Ideal S3x284x1x128 .i32} {x2 : Vec Ideal S8x10 .f32}

/-- Channel 0 of the block, as loaded. -/
def red (arg2 : Memref sig .tc .vmem S1x3x8x1024 .f32) (harg2 : arg2.IsWhole) (x0 : Vec Ideal S1x3x8x1024 .f32) : Vec Ideal S1x1x8x1024 .f32 :=
  View.readAt (Elt Ideal) arg2.view (Rect.unit (s := S1x3x8x1024) ![0, 0, 0, 0] S1x1x8x1024.size inb_S1x3x8x1024_S1x1x8x1024_0_0_0_0).toLoadRect (harg2.unread x0)

theorem red_apply (a : Fin 8) (b : Fin 1024) : red arg2 harg2 x0 (ix4 0 0 a b) = x0 (ix4 0 0 a b) := by
  unfold red
  rw [View.readAt_eq_ld, harg2.read_unread]
  refine congrArg x0 (funext fun d => Fin.ext ?_)
  fin_cases d
  all_goals
    show _ + _ * _ = _
    simp [ix4]

/-- Channel 1 of the block, as loaded. -/
def green (arg2 : Memref sig .tc .vmem S1x3x8x1024 .f32) (harg2 : arg2.IsWhole) (x0 : Vec Ideal S1x3x8x1024 .f32) : Vec Ideal S1x1x8x1024 .f32 :=
  View.readAt (Elt Ideal) arg2.view (Rect.unit (s := S1x3x8x1024) ![0, 1, 0, 0] S1x1x8x1024.size inb_S1x3x8x1024_S1x1x8x1024_0_1_0_0).toLoadRect (harg2.unread x0)

theorem green_apply (a : Fin 8) (b : Fin 1024) : green arg2 harg2 x0 (ix4 0 0 a b) = x0 (ix4 0 1 a b) := by
  unfold green
  rw [View.readAt_eq_ld, harg2.read_unread]
  refine congrArg x0 (funext fun d => Fin.ext ?_)
  fin_cases d
  all_goals
    show _ + _ * _ = _
    simp [ix4]

/-- Channel 2 of the block, as loaded. -/
def blue (arg2 : Memref sig .tc .vmem S1x3x8x1024 .f32) (harg2 : arg2.IsWhole) (x0 : Vec Ideal S1x3x8x1024 .f32) : Vec Ideal S1x1x8x1024 .f32 :=
  View.readAt (Elt Ideal) arg2.view (Rect.unit (s := S1x3x8x1024) ![0, 2, 0, 0] S1x1x8x1024.size inb_S1x3x8x1024_S1x1x8x1024_0_2_0_0).toLoadRect (harg2.unread x0)

theorem blue_apply (a : Fin 8) (b : Fin 1024) : blue arg2 harg2 x0 (ix4 0 0 a b) = x0 (ix4 0 2 a b) := by
  unfold blue
  rw [View.readAt_eq_ld, harg2.read_unread]
  refine congrArg x0 (funext fun d => Fin.ext ?_)
  fin_cases d
  all_goals
    show _ + _ * _ = _
    simp [ix4]

/-- The six packed words after the loop. -/
def words (c : Dev nD) (i : grid0.Coords) (arg2 : Memref sig .tc .vmem S1x3x8x1024 .f32) (harg2 : arg2.IsWhole)
    (arg3 : Memref sig .tc .vmem S3x284x1x128 .i32) (harg3 : arg3.IsWhole) (arg4 : Memref sig .tc .smem S8x10 .f32)
    (harg4 : arg4.IsWhole) (arg5 : Memref sig .tc .vmem S1x3x8x1024 .f32) (harg5 : arg5.IsWhole)
    (x0 : Vec Ideal S1x3x8x1024 .f32) (x1 : Vec Ideal S3x284x1x128 .i32) :=
  st_k0_t1 (F := Ideal) Variants.none c none i arg2 harg2 arg3 harg3 arg4 harg4 arg5 harg5 (BitVec.ofNat 32 (i 0).val)
    (k0_pay148 (F := Ideal) (red arg2 harg2 x0)) (k0_pay153 (F := Ideal) (red arg2 harg2 x0)) (k0_pay156 (F := Ideal) (green arg2 harg2 x0)) (k0_pay159 (F := Ideal) (blue arg2 harg2 x0))
    (k0_pay160 (F := Ideal) (red arg2 harg2 x0) (green arg2 harg2 x0) (blue arg2 harg2 x0))
    (k0_pay161 (F := Ideal) (red arg2 harg2 x0) (green arg2 harg2 x0) (blue arg2 harg2 x0))
    k0_pay162 (harg3.unread x1) (k0_pay166, k0_pay166, k0_pay166, k0_pay166, k0_pay166, k0_pay166)
    (Scf.trips k0_t1_loop.lb k0_t1_loop.ub k0_t1_loop.st)

/-- The grid point's batch row. -/
def rowOf (i : grid0.Coords) : Fin 8 := ⟨(i 0).val, (i 0).isLt⟩

/-- A number of the scalar table, as loaded at the grid point's batch row. -/
theorem scalar_apply (k : Nat) (hk : k < 10) (h) (y : (Rect.unit (s := S8x10) ![BitVec.toNat (Scalar.indexCast (BitVec.ofNat 32 (i 0).val)), k] ![1, 1] h).shape.Idx) :
    View.readAt (Elt Ideal) arg4.view (Rect.unit (s := S8x10) ![BitVec.toNat (Scalar.indexCast (BitVec.ofNat 32 (i 0).val)), k] ![1, 1] h).toLoadRect
      (harg4.unread x2) y = x2 (ix2 (rowOf i) ⟨k, hk⟩) := by
  rw [View.readAt_eq_ld, harg4.read_unread]
  have hi : (i 0).val < 8 := (i 0).isLt
  have e : BitVec.toNat (Scalar.indexCast (BitVec.ofNat 32 (i 0).val)) = (i 0).val := by
    show (BitVec.ofNat 32 (i 0).val).toNat = _
    rw [BitVec.toNat_ofNat]; omega
  refine congrArg x2 (funext fun d => Fin.ext ?_)
  have hy0 : (y 0).val = 0 := Nat.lt_one_iff.1 (y 0).isLt
  have hy1 : (y 1).val = 0 := Nat.lt_one_iff.1 (y 1).isLt
  fin_cases d
  · show _ + _ * _ = _
    dsimp [ix2, rowOf]
    rw [e]; omega
  · show _ + _ * _ = _
    dsimp [ix2, rowOf]
    omega

/-- Channel 0 of the block that the kernel stores, at a pixel. -/
theorem stored_red (a : Fin 8) (b : Fin 1024) :
    out0_A_3 c i arg2 harg2 arg3 harg3 arg4 harg4 arg5 harg5 x0 x1 x2 (ix4 0 0 a b)
      = pixel (x2 (ix2 (rowOf i) 0)) (x2 (ix2 (rowOf i) 7))
          (x2 (ix2 (rowOf i) 1)) (x2 (ix2 (rowOf i) 4)) (x0 (ix4 0 0 a b))
          (fracOf (x0 (ix4 0 0 a b))) (fracOf (x0 (ix4 0 1 a b))) (fracOf (x0 (ix4 0 2 a b)))
          ((words c i arg2 harg2 arg3 harg3 arg4 harg4 arg5 harg5 x0 x1).1 (ix2 a b))
          ((words c i arg2 harg2 arg3 harg3 arg4 harg4 arg5 harg5 x0 x1).2.1 (ix2 a b)) := by
  rw [← red_apply (x0 := x0) (arg2 := arg2) (harg2 := harg2) a b, ← green_apply (x0 := x0) (arg2 := arg2) (harg2 := harg2) a b,
    ← blue_apply (x0 := x0) (arg2 := arg2) (harg2 := harg2) a b]
  unfold out0_A_3 kernelRun0_A
  dsimp only
  refine (View.read_writes_cons_unit_of_not_mem _ _ _ _ _ _ rfl (1 : Fin 4) (Or.inl (by show 0 < 2; omega))).trans ?_
  refine (View.read_writes_cons_unit_of_not_mem _ _ _ _ _ _ rfl (1 : Fin 4) (Or.inl (by show 0 < 1; omega))).trans ?_
  refine (View.read_writes_cons_unit_of_mem _ _ _ _ _ _ (ix4 0 0 a b) rfl (by intro d; fin_cases d <;> simp [ix4])).trans ?_
  sl_unfold_words
  change _ = pixel _ _ _ _ _ _ _ _ _ _
  generalize hS : words c i arg2 harg2 arg3 harg3 arg4 harg4 arg5 harg5 x0 x1 = S
  unfold words red green blue at hS
  rw [hS]
  clear hS
  unfold_payloads
  pointwise
  refine (show _ = pixel _ _ _ _ _ _ _ _ _ _ from rfl).trans ?_
  refine pixel_congr ?_ ?_ ?_ ?_
  · exact scalar_apply 0 (by decide) _ _
  · exact scalar_apply 7 (by decide) _ _
  · exact scalar_apply 1 (by decide) _ _
  · exact scalar_apply 4 (by decide) _ _

/-- Channel 1 of the block that the kernel stores, at a pixel. -/
theorem stored_green (a : Fin 8) (b : Fin 1024) :
    out0_A_3 c i arg2 harg2 arg3 harg3 arg4 harg4 arg5 harg5 x0 x1 x2 (ix4 0 1 a b)
      = pixel (x2 (ix2 (rowOf i) 0)) (x2 (ix2 (rowOf i) 8))
          (x2 (ix2 (rowOf i) 2)) (x2 (ix2 (rowOf i) 5)) (x0 (ix4 0 1 a b))
          (fracOf (x0 (ix4 0 0 a b))) (fracOf (x0 (ix4 0 1 a b))) (fracOf (x0 (ix4 0 2 a b)))
          ((words c i arg2 harg2 arg3 harg3 arg4 harg4 arg5 harg5 x0 x1).2.2.1 (ix2 a b))
          ((words c i arg2 harg2 arg3 harg3 arg4 harg4 arg5 harg5 x0 x1).2.2.2.1 (ix2 a b)) := by
  rw [← red_apply (x0 := x0) (arg2 := arg2) (harg2 := harg2) a b, ← green_apply (x0 := x0) (arg2 := arg2) (harg2 := harg2) a b,
    ← blue_apply (x0 := x0) (arg2 := arg2) (harg2 := harg2) a b]
  unfold out0_A_3 kernelRun0_A
  dsimp only
  refine (View.read_writes_cons_unit_of_not_mem _ _ _ _ _ _ rfl (1 : Fin 4) (Or.inl (by show 1 < 2; omega))).trans ?_
  refine (View.read_writes_cons_unit_of_mem _ _ _ _ _ _ (ix4 0 0 a b) rfl (by intro d; fin_cases d <;> simp [ix4])).trans ?_
  sl_unfold_words
  change _ = pixel _ _ _ _ _ _ _ _ _ _
  generalize hS : words c i arg2 harg2 arg3 harg3 arg4 harg4 arg5 harg5 x0 x1 = S
  unfold words red green blue at hS
  rw [hS]
  clear hS
  unfold_payloads
  pointwise
  refine (show _ = pixel _ _ _ _ _ _ _ _ _ _ from rfl).trans ?_
  refine pixel_congr ?_ ?_ ?_ ?_
  · exact scalar_apply 0 (by decide) _ _
  · exact scalar_apply 8 (by decide) _ _
  · exact scalar_apply 2 (by decide) _ _
  · exact scalar_apply 5 (by decide) _ _

/-- Channel 2 of the block that the kernel stores, at a pixel. -/
theorem stored_blue (a : Fin 8) (b : Fin 1024) :
    out0_A_3 c i arg2 harg2 arg3 harg3 arg4 harg4 arg5 harg5 x0 x1 x2 (ix4 0 2 a b)
      = pixel (x2 (ix2 (rowOf i) 0)) (x2 (ix2 (rowOf i) 9))
          (x2 (ix2 (rowOf i) 3)) (x2 (ix2 (rowOf i) 6)) (x0 (ix4 0 2 a b))
          (fracOf (x0 (ix4 0 0 a b))) (fracOf (x0 (ix4 0 1 a b))) (fracOf (x0 (ix4 0 2 a b)))
          ((words c i arg2 harg2 arg3 harg3 arg4 harg4 arg5 harg5 x0 x1).2.2.2.2.1 (ix2 a b))
          ((words c i arg2 harg2 arg3 harg3 arg4 harg4 arg5 harg5 x0 x1).2.2.2.2.2 (ix2 a b)) := by
  rw [← red_apply (x0 := x0) (arg2 := arg2) (harg2 := harg2) a b, ← green_apply (x0 := x0) (arg2 := arg2) (harg2 := harg2) a b,
    ← blue_apply (x0 := x0) (arg2 := arg2) (harg2 := harg2) a b]
  unfold out0_A_3 kernelRun0_A
  dsimp only
  refine (View.read_writes_cons_unit_of_mem _ _ _ _ _ _ (ix4 0 0 a b) rfl (by intro d; fin_cases d <;> simp [ix4])).trans ?_
  sl_unfold_words
  change _ = pixel _ _ _ _ _ _ _ _ _ _
  generalize hS : words c i arg2 harg2 arg3 harg3 arg4 harg4 arg5 harg5 x0 x1 = S
  unfold words red green blue at hS
  rw [hS]
  clear hS
  unfold_payloads
  pointwise
  refine (show _ = pixel _ _ _ _ _ _ _ _ _ _ from rfl).trans ?_
  refine pixel_congr ?_ ?_ ?_ ?_
  · exact scalar_apply 0 (by decide) _ _
  · exact scalar_apply 9 (by decide) _ _
  · exact scalar_apply 3 (by decide) _ _
  · exact scalar_apply 6 (by decide) _ _

/-- The place of a pixel's lower cell corner in the table, from its three values. -/
def lutIndex (r g b : Ideal .f32) : Nat := ((cellWord b).toNat * 33 + (cellWord g).toNat) * 33 + (cellWord r).toNat

/-- The packed word that the table block holds at place `n` of channel `ch`. -/
def wordAt (T : S3x284x1x128.Idx → BitVec 32) (ch : Fin 3) (n : Nat) (hn : n < 36352) : BitVec 32 :=
  T (ix4 ch ⟨n / 128, by omega⟩ 0 ⟨n % 128, by omega⟩)

theorem lutIndex_lt {r g b : Ideal .f32} (hr : (cellWord r).toNat ≤ 31) (hg : (cellWord g).toNat ≤ 31) (hb : (cellWord b).toNat ≤ 31) :
    lutIndex r g b + 1089 < 36352 := by
  unfold lutIndex; omega

/-- The table index of three cell words, computed in words. -/
theorem index_word (B G R : BitVec 32) :
    IntOp.addi (IntOp.muli (IntOp.addi (IntOp.muli B 33#32) G) 33#32) R
      = BitVec.ofNat 32 ((B.toNat * 33 + G.toNat) * 33 + R.toNat) := by
  apply BitVec.eq_of_toNat_eq
  simp [IntOp.addi, IntOp.muli]

/-- The window of a table index: the index divided by 128. -/
theorem window_word (n : Nat) (hn : n < 36352) : (IntOp.shrsi ArithUnit.vector (BitVec.ofNat 32 n) 7#32).toNat = n / 128 := by
  have hm : (BitVec.ofNat 32 n).msb = false := by
    rw [BitVec.msb_eq_false_iff_two_mul_lt, BitVec.toNat_ofNat]; omega
  have : IntOp.shrsi ArithUnit.vector (BitVec.ofNat 32 n) 7#32 = (BitVec.ofNat 32 n).sshiftRight 7 := by
    simp [IntOp.shrsi]
  rw [this, BitVec.sshiftRight_eq_of_msb_false hm, BitVec.toNat_ushiftRight, BitVec.toNat_ofNat, Nat.shiftRight_eq_div_pow]
  omega

/-- The lane of a table index: the index modulo 128. -/
theorem lane_word (n : Nat) (hn : n < 36352) : (IntOp.andi (BitVec.ofNat 32 n) 127#32).toNat = n % 128 := by
  show (BitVec.ofNat 32 n &&& 127#32).toNat = _
  rw [BitVec.toNat_and, BitVec.toNat_ofNat]
  have := Nat.and_two_pow_sub_one_eq_mod (n % 2 ^ 32) 7
  simp at this ⊢
  omega

/-- After the loop the six words of a pixel are the table's words at the lower corner and at the one a plane further. -/
theorem words_apply (a : Fin 8) (b : Fin 1024) (hr : (cellWord (x0 (ix4 0 0 a b))).toNat ≤ 31)
    (hg : (cellWord (x0 (ix4 0 1 a b))).toNat ≤ 31) (hb : (cellWord (x0 (ix4 0 2 a b))).toNat ≤ 31) :
    Held x1 ⟨lutIndex (x0 (ix4 0 0 a b)) (x0 (ix4 0 1 a b)) (x0 (ix4 0 2 a b)), by have := lutIndex_lt hr hg hb; omega⟩
      ⟨lutIndex (x0 (ix4 0 0 a b)) (x0 (ix4 0 1 a b)) (x0 (ix4 0 2 a b)) + 1089, lutIndex_lt hr hg hb⟩ 71 (ix2 a b)
      (words c i arg2 harg2 arg3 harg3 arg4 harg4 arg5 harg5 x0 x1) := by
  have h0 : (k0_pay160 (F := Ideal) (red arg2 harg2 x0) (green arg2 harg2 x0) (blue arg2 harg2 x0) (ix2 a b))
      = BitVec.ofNat 32 (lutIndex (x0 (ix4 0 0 a b)) (x0 (ix4 0 1 a b)) (x0 (ix4 0 2 a b))) := by
    rw [← red_apply (x0 := x0) (arg2 := arg2) (harg2 := harg2) a b, ← green_apply (x0 := x0) (arg2 := arg2) (harg2 := harg2) a b,
      ← blue_apply (x0 := x0) (arg2 := arg2) (harg2 := harg2) a b]
    generalize red arg2 harg2 x0 = R
    generalize green arg2 harg2 x0 = G
    generalize blue arg2 harg2 x0 = B
    unfold_payloads
    pointwise
    rw [index_word]
    rfl
  have h1 : (k0_pay161 (F := Ideal) (red arg2 harg2 x0) (green arg2 harg2 x0) (blue arg2 harg2 x0) (ix2 a b))
      = BitVec.ofNat 32 (lutIndex (x0 (ix4 0 0 a b)) (x0 (ix4 0 1 a b)) (x0 (ix4 0 2 a b)) + 1089) := by
    rw [BitVec.ofNat_add, ← h0]
    generalize red arg2 harg2 x0 = R
    generalize green arg2 harg2 x0 = G
    generalize blue arg2 harg2 x0 = B
    unfold_payloads
    pointwise
    rfl
  have hlt := lutIndex_lt hr hg hb
  unfold words
  generalize k0_pay160 (F := Ideal) (red arg2 harg2 x0) (green arg2 harg2 x0) (blue arg2 harg2 x0) = L0 at h0 ⊢
  generalize k0_pay161 (F := Ideal) (red arg2 harg2 x0) (green arg2 harg2 x0) (blue arg2 harg2 x0) = L1 at h1 ⊢
  refine loop_held x1 (harg3.read_unread x1) _ (ix2 a b) _ _ ?_ ?_ ?_ ?_ ?_ 71 (le_refl _)
  · rw [← window_word (lutIndex _ _ _) (by omega), ← h0]
    rfl
  · rw [← window_word (lutIndex _ _ _ + 1089) hlt, ← h1]
    rfl
  · rw [← lane_word (lutIndex _ _ _) (by omega), ← h0]
    unfold atLow k0_pay165
    dsimp only
    rw [concatenate_pair_apply_left (t := S16x1024) (s₁ := S8x1024) (s₂ := S8x1024) (0 : Fin 2) _ _ _ _ rfl (ix2 a b) (fun d => by fin_cases d <;> rfl)]
    rfl
  · rw [← lane_word (lutIndex _ _ _ + 1089) hlt, ← h1]
    unfold atHigh k0_pay165
    dsimp only
    rw [concatenate_pair_apply_right (t := S16x1024) (s₁ := S8x1024) (s₂ := S8x1024) (0 : Fin 2) _ _ _ _ rfl rfl (ix2 a b)
      (fun d hd => by fin_cases d <;> first | rfl | exact absurd rfl hd) (Nat.add_comm _ _)]
    rfl
  · unfold Held held
    simp
    rfl

end Cert.Lut
end
-- ==== Proof.Array.lean ====
module
public import proofs.«01_k».proof.Proof.Block
public import Idealize.ShloMosaic.Lib.Pipeline.ValueKit.Geometry
@[expose] public section
set_option maxRecDepth 16384
noncomputable section
namespace Cert.Lut
open Cert.KernelIdeal Cert.KernelIdeal.Gen Idealize.ShloMosaic Idealize.ShloMosaic.TcCoe Idealize.SL.Sem

/-- The packed word at place `n` of channel `ch`, zero past the table's end. -/
def tableAt (T : S3x284x1x128.Idx → BitVec 32) (ch : Fin 3) (n : Nat) : BitVec 32 :=
  if hn : n < 36352 then T (ix4 ch ⟨n / 128, by omega⟩ 0 ⟨n % 128, by omega⟩) else 0#32

theorem held_end (T : S3x284x1x128.Idx → BitVec 32) (ch : Fin 3) (n : Fin 36352) : held T ch n 71 = tableAt T ch n.val := by
  have hn := n.isLt
  unfold held tableAt
  rw [if_pos (by omega), dif_pos hn]

/-- A channel's column of the scalar table. -/
def colBias (ch : Fin 3) : Fin 10 := ⟨7 + ch.val, by omega⟩
def colOne (ch : Fin 3) : Fin 10 := ⟨1 + ch.val, by omega⟩
def colTwo (ch : Fin 3) : Fin 10 := ⟨4 + ch.val, by omega⟩

/-- The kernel's output at batch row `n`, channel `ch`, from the three channel values of the pixel. -/
def outAt (T : S3x284x1x128.Idx → BitVec 32) (P : S8x10.Idx → EReal) (n : Fin 8) (ch : Fin 3) (x r g b : EReal) : EReal :=
  pixel (P (ix2 n 0)) (P (ix2 n (colBias ch))) (P (ix2 n (colOne ch))) (P (ix2 n (colTwo ch))) x
    (fracOf r) (fracOf g) (fracOf b) (tableAt T ch (lutIndex r g b)) (tableAt T ch (lutIndex r g b + 1089))

section
variable {c : Dev nD} {i : grid0.Coords} {arg2 : Memref sig .tc .vmem S1x3x8x1024 .f32} {harg2 : arg2.IsWhole}
  {arg3 : Memref sig .tc .vmem S3x284x1x128 .i32} {harg3 : arg3.IsWhole} {arg4 : Memref sig .tc .smem S8x10 .f32}
  {harg4 : arg4.IsWhole} {arg5 : Memref sig .tc .vmem S1x3x8x1024 .f32} {harg5 : arg5.IsWhole}
  {x0 : Vec Ideal S1x3x8x1024 .f32} {x1 : Vec Ideal S3x284x1x128 .i32} {x2 : Vec Ideal S8x10 .f32}

/-- What a grid point stores, at every place of its block. -/
theorem stored_apply (ch : Fin 3) (a : Fin 8) (b : Fin 1024) (hc : ∀ ch, (cellWord (x0 (ix4 0 ch a b))).toNat ≤ 31) :
    out0_A_3 c i arg2 harg2 arg3 harg3 arg4 harg4 arg5 harg5 x0 x1 x2 (ix4 0 ch a b)
      = outAt x1 x2 (rowOf i) ch (x0 (ix4 0 ch a b)) (x0 (ix4 0 0 a b)) (x0 (ix4 0 1 a b)) (x0 (ix4 0 2 a b)) := by
  obtain ⟨h1, h2, h3, h4, h5, h6⟩ := words_apply (c := c) (i := i) (arg2 := arg2) (harg2 := harg2) (arg3 := arg3) (harg3 := harg3)
    (arg4 := arg4) (harg4 := harg4) (arg5 := arg5) (harg5 := harg5) (x0 := x0) (x1 := x1) a b (hc 0) (hc 1) (hc 2)
  rw [held_end] at h1 h2 h3 h4 h5 h6
  fin_cases ch
  · exact (stored_red a b).trans (by rw [h1, h2]; rfl)
  · exact (stored_green a b).trans (by rw [h3, h4]; rfl)
  · exact (stored_blue a b).trans (by rw [h5, h6]; rfl)
end

variable (m : (ℓ : Loc nD τ sig) → Buf (Elt Ideal) ℓ)

/-- The whole output image, of the image, the packed table and the scalar table. -/
def outImage (X : S8x3x1024x1024.Idx → EReal) (T : S3x284x1x128.Idx → BitVec 32) (P : S8x10.Idx → EReal) : S8x3x1024x1024.Idx → EReal :=
  fun j => outAt T P (j 0) (j 1) (X j) (X (ix4 (j 0) 0 (j 2) (j 3))) (X (ix4 (j 0) 1 (j 2) (j 3))) (X (ix4 (j 0) 2 (j 2) (j 3)))

theorem index3 : ∀ t : Fin cfg0.N, win0_3.index t = ![(grid0.coords t 0).val, 0, (grid0.coords t 1).val, 0] := by decide +kernel
theorem index0 : ∀ t : Fin cfg0.N, win0_0.index t = ![(grid0.coords t 0).val, 0, (grid0.coords t 1).val, 0] := by decide +kernel
theorem index1 : ∀ t : Fin cfg0.N, win0_1.index t = ![0, 0, 0, 0] := by decide +kernel
theorem index2 : ∀ t : Fin cfg0.N, win0_2.index t = ![0, 0] := by decide +kernel

/-- The image's block at a grid point. -/
theorem imageBlock (c : Dev nD) (t : Fin cfg0.N) (y : S1x3x8x1024.Idx) :
    iblk m c 0 t y = (V m c main_arg0 : S8x3x1024x1024.Idx → EReal) (((cfg0.win 3).blk t).view.emb y) := by
  blk_simp [iblk]
  refine congrArg (V m c main_arg0) (funext fun a => Fin.ext ?_)
  have e := index0 t
  have e' := index3 t
  fin_cases a <;> (blk_simp; rw [e, e'])

theorem tableBlock (c : Dev nD) (t : Fin cfg0.N) : iblk m c 1 t = (V m c main_v323 : S3x284x1x128.Idx → BitVec 32) := by
  funext y
  blk_simp [iblk]
  refine congrArg (V m c main_v323) (funext fun a => Fin.ext ?_)
  have e := index1 t
  fin_cases a <;> (blk_simp; rw [e]; simp)

theorem scalarBlock (c : Dev nD) (t : Fin cfg0.N) : iblk m c 2 t = (V m c main_v335 : S8x10.Idx → EReal) := by
  funext y
  blk_simp [iblk]
  refine congrArg (V m c main_v335) (funext fun a => Fin.ext ?_)
  have e := index2 t
  fin_cases a <;> (blk_simp; rw [e]; simp)

/-- The output array after the run. -/
theorem final_image (c : Dev nD) (hc : ∀ j, (cellWord ((V m c main_arg0 : S8x3x1024x1024.Idx → EReal) j)).toNat ≤ 31) :
    (dats m 0 c).arrAt 3 cfg0.N
      = outImage (V m c main_arg0 : S8x3x1024x1024.Idx → EReal) (V m c main_v323 : S3x284x1x128.Idx → BitVec 32) (V m c main_v335 : S8x10.Idx → EReal) := by
  have hcov : (cfg0.win 3).Covers := by decide +kernel
  refine (dats m 0 c).arrAt_eq_of_cover 3 _ (fun t ht => ?_) (Pipeline.Window.Covers.cover _ hcov (Memref.isWhole_whole _))
  refine (Value.flushed3_A m c t).trans ?_
  funext y
  change S1x3x8x1024.Idx at y
  have hy : y = ix4 0 (y 1) (y 2) (y 3) := by
    funext a
    fin_cases a
    · exact Fin.ext (by have : (y 0).val < 1 := (y 0).isLt; show (y 0).val = 0; omega)
    all_goals rfl
  have hx : ∀ ch a b, iblk m c 0 t (ix4 0 ch a b) = _ := fun ch a b => imageBlock m c t (ix4 0 ch a b)
  have e' := index3 t
  have hrow : ∀ ch, (((cfg0.win 3).blk t).view.emb (ix4 0 ch (y 2) (y 3) : S1x3x8x1024.Idx) : S8x3x1024x1024.Idx)
      = ix4 ((((cfg0.win 3).blk t).view.emb y : S8x3x1024x1024.Idx) 0) ch ((((cfg0.win 3).blk t).view.emb y : S8x3x1024x1024.Idx) 2)
          ((((cfg0.win 3).blk t).view.emb y : S8x3x1024x1024.Idx) 3) := by
    intro ch
    have y0 : (y 0).val = 0 := by have : (y 0).val < 1 := (y 0).isLt; omega
    refine funext fun a => Fin.ext ?_
    fin_cases a <;> (blk_simp; rw [e']; simp [ix4, e', y0])
  show out0_A_3 (F := Ideal) c (grid0.coords t) _ _ _ _ _ _ _ _ _ _ _ y = outImage _ _ _ (((cfg0.win 3).blk t).view.emb y)
  rw [hy]
  have h := stored_apply (c := c) (i := grid0.coords t) (arg2 := ms0_0 t) (harg2 := hs0_0 t) (arg3 := ms0_1 t) (harg3 := hs0_1 t)
    (arg4 := ms0_2 t) (harg4 := hs0_2 t) (arg5 := ms0_3 t) (harg5 := hs0_3 t) (x0 := iblk m c 0 t) (x1 := iblk m c 1 t) (x2 := iblk m c 2 t)
    (y 1) (y 2) (y 3) (fun ch => by rw [imageBlock]; exact hc _)
  refine h.trans ?_
  rw [tableBlock, scalarBlock, imageBlock, imageBlock, imageBlock, imageBlock, ← hy, hrow 0, hrow 1, hrow 2]
  have h0 : ((((cfg0.win 3).blk t).view.emb y : S8x3x1024x1024.Idx) 0) = rowOf (grid0.coords t) := by
    refine Fin.ext ?_
    have : (y 0).val < 1 := (y 0).isLt
    blk_simp; rw [e']; simp [rowOf]
  have h1 : ((((cfg0.win 3).blk t).view.emb y : S8x3x1024x1024.Idx) 1) = y 1 := by
    refine Fin.ext ?_
    blk_simp; rw [e']; simp
  unfold outImage
  rw [h0, h1]
  exact congrArg (fun z => outAt _ _ _ _ ((V m c main_arg0 : S8x3x1024x1024.Idx → EReal) (((cfg0.win 3).blk t).view.emb z)) _ _ _) hy.symm
-- ==== Proof.Finite.lean ====
module
public import proofs.«01_k».proof.Proof.Gen.ReferenceIdeal.Run
public import Idealize.ShloMosaic.Lib.IdealHost
@[expose] public section
set_option maxRecDepth 16384
noncomputable section
namespace Cert.Lut
open Idealize.ShloMosaic

/-- Every element is a real number. -/
def IsReal {s : Shape} (a : s.Idx → EReal) : Prop := ∀ i, ∃ r : ℝ, a i = (r : EReal)
/-- Every element is a real number, none negative. -/
def IsNonneg {s : Shape} (a : s.Idx → EReal) : Prop := ∀ i, ∃ r : ℝ, 0 ≤ r ∧ a i = (r : EReal)
/-- Every element is a positive real number. -/
def IsPos {s : Shape} (a : s.Idx → EReal) : Prop := ∀ i, ∃ r : ℝ, 0 < r ∧ a i = (r : EReal)

/-- Every array of a list has real elements only. -/
def AllReal (xs : List ((s : Shape) × (s.Idx → EReal))) : Prop := ∀ p ∈ xs, IsReal p.2
theorem AllReal.nil : AllReal [] := fun _ h => absurd h (List.not_mem_nil)
theorem AllReal.cons {s : Shape} {a : s.Idx → EReal} {xs : List ((s : Shape) × (s.Idx → EReal))} (ha : IsReal a) (h : AllReal xs) :
    AllReal (⟨s, a⟩ :: xs) := fun p hp => by
  rcases List.mem_cons.1 hp with e | e
  · rw [e]; exact ha
  · exact h p e

variable {s t u : Shape} {φ : FTy}

theorem IsPos.nonneg {a : s.Idx → EReal} (h : IsPos a) : IsNonneg a := fun i => by
  obtain ⟨r, hr, e⟩ := h i; exact ⟨r, hr.le, e⟩
theorem IsNonneg.real {a : s.Idx → EReal} (h : IsNonneg a) : IsReal a := fun i => by
  obtain ⟨r, hr, e⟩ := h i; exact ⟨r, e⟩
theorem IsPos.real {a : s.Idx → EReal} (h : IsPos a) : IsReal a := h.nonneg.real

theorem real_bits (b : BitVec 32) (h : (b.extractLsb' 23 8).toNat ≠ 255) : ∃ r : ℝ, Ideal.ofBits .f32 b = (r : EReal) := by
  show ∃ r : ℝ, Ideal.ieee 8 23 b = r
  have h' : ¬ (b.extractLsb' 23 8).toNat = 2 ^ 8 - 1 := h
  unfold Ideal.ieee
  simp only
  rw [if_neg h']
  split
  · exact ⟨_, rfl⟩
  · exact ⟨_, rfl⟩

theorem pos_bits (b : BitVec 32) (h : (b.extractLsb' 23 8).toNat ≠ 255) (h0 : (b.extractLsb' 23 8).toNat ≠ 0)
    (hs : (b.extractLsb' 31 1 == 1#1) = false) : ∃ r : ℝ, 0 < r ∧ Ideal.ofBits .f32 b = (r : EReal) := by
  show ∃ r : ℝ, 0 < r ∧ Ideal.ieee 8 23 b = r
  have h' : ¬ (b.extractLsb' 23 8).toNat = 2 ^ 8 - 1 := h
  have hs' : (b.extractLsb' (8 + 23) 1 == 1#1) = false := hs
  unfold Ideal.ieee
  simp only
  rw [if_neg h', if_neg h0, hs']
  refine ⟨_, ?_, rfl⟩
  simp only [Bool.false_eq_true, if_false, one_mul]
  positivity

theorem IsReal.constant (b : BitVec 32) (h : (b.extractLsb' 23 8).toNat ≠ 255) :
    IsReal (constant (F := Ideal) s .f32 b) := fun _ => real_bits b h
theorem IsPos.constant (b : BitVec 32) (h : (b.extractLsb' 23 8).toNat ≠ 255) (h0 : (b.extractLsb' 23 8).toNat ≠ 0)
    (hs : (b.extractLsb' 31 1 == 1#1) = false) : IsPos (constant (F := Ideal) s .f32 b) := fun _ => pos_bits b h h0 hs
theorem IsReal.sitofp {w : Nat} (x : IVec s w) : IsReal (sitofp (F := Ideal) φ x) := fun _ => ⟨_, rfl⟩
theorem IsReal.ident {a : s.Idx → EReal} (h : IsReal a) : IsReal (id a) := h
theorem IsPos.ident {a : s.Idx → EReal} (h : IsPos a) : IsPos (id a) := h

theorem IsReal.addf {a b : FVec Ideal s φ} (ha : IsReal a) (hb : IsReal b) : IsReal (addf a b) := fun i => by
  obtain ⟨x, hx⟩ := ha i; obtain ⟨y, hy⟩ := hb i
  exact ⟨x + y, by show a i + b i = _; rw [hx, hy, EReal.coe_add]⟩
theorem IsReal.subf {a b : FVec Ideal s φ} (ha : IsReal a) (hb : IsReal b) : IsReal (subf a b) := fun i => by
  obtain ⟨x, hx⟩ := ha i; obtain ⟨y, hy⟩ := hb i
  exact ⟨x - y, by show a i - b i = _; rw [hx, hy, EReal.coe_sub]⟩
theorem IsReal.mulf {a b : FVec Ideal s φ} (ha : IsReal a) (hb : IsReal b) : IsReal (mulf a b) := fun i => by
  obtain ⟨x, hx⟩ := ha i; obtain ⟨y, hy⟩ := hb i
  exact ⟨x * y, by show a i * b i = _; rw [hx, hy, EReal.coe_mul]⟩
theorem IsNonneg.square {a : FVec Ideal s φ} (ha : IsReal a) : IsNonneg (Idealize.ShloMosaic.mulf a a) := fun i => by
  obtain ⟨x, hx⟩ := ha i
  exact ⟨x * x, mul_self_nonneg x, by show a i * a i = _; rw [hx, EReal.coe_mul]⟩
theorem IsPos.add {a b : FVec Ideal s φ} (ha : IsNonneg a) (hb : IsPos b) : IsPos (Idealize.ShloMosaic.addf a b) := fun i => by
  obtain ⟨x, hx, ex⟩ := ha i; obtain ⟨y, hy, ey⟩ := hb i
  exact ⟨x + y, by linarith, by show a i + b i = _; rw [ex, ey, EReal.coe_add]⟩

theorem div_real (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]
theorem IsReal.divf {a b : FVec Ideal s φ} (ha : IsReal a) (hb : IsPos b) : IsReal (Host.divf a b) := fun i => by
  obtain ⟨x, hx⟩ := ha i; obtain ⟨y, hy, ey⟩ := hb i
  exact ⟨x / y, by show Ideal.div (a i) (b i) = _; rw [hx, ey, div_real x y hy]⟩
theorem IsNonneg.divf {a b : FVec Ideal s φ} (ha : IsNonneg a) (hb : IsPos b) : IsNonneg (Host.divf a b) := fun i => by
  obtain ⟨x, hx, ex⟩ := ha i; obtain ⟨y, hy, ey⟩ := hb i
  exact ⟨x / y, div_nonneg hx hy.le, by show Ideal.div (a i) (b i) = _; rw [ex, ey, div_real x y hy]⟩
theorem IsPos.sqrt {a : FVec Ideal s φ} (ha : IsPos a) : IsPos (Host.sqrt a) := fun i => by
  obtain ⟨x, hx, ex⟩ := ha i
  exact ⟨Real.sqrt x, Real.sqrt_pos.2 hx, by show Ideal.sqrt (a i) = _; rw [ex]; show (if x < 0 then _ else _) = _; rw [if_neg (by linarith)]⟩

theorem IsReal.shapeCast {a : s.Idx → EReal} (h) (ha : IsReal a) : IsReal (shapeCast t a h) := fun _ => ha _
theorem IsReal.broadcastInDim {a : s.Idx → EReal} (d) (h) (ha : IsReal a) : IsReal (broadcastInDim t d h a) := fun _ => ha _
theorem IsNonneg.broadcastInDim {a : s.Idx → EReal} (d) (h) (ha : IsNonneg a) : IsNonneg (broadcastInDim t d h a) := fun _ => ha _
theorem IsPos.broadcastInDim {a : s.Idx → EReal} (d) (h) (ha : IsPos a) : IsPos (broadcastInDim t d h a) := fun _ => ha _
theorem IsReal.transpose {a : s.Idx → EReal} (d) (h) (ha : IsReal a) : IsReal (transpose t d a h) := fun _ => ha _
theorem IsReal.extractStridedSlice {a : s.Idx → EReal} (d) (h) (ha : IsReal a) : IsReal (extractStridedSlice t d a h) := fun _ => ha _
theorem IsReal.slice {a : s.Idx → EReal} (d d') (h) (ha : IsReal a) : IsReal (Host.slice t d d' a h) := fun _ => ha _
theorem IsReal.pad {a : s.Idx → EReal} {v : u.Idx → EReal} (l l' l'') (h hu) (ha : IsReal a) (hv : IsReal v) :
    IsReal (pad t l l' l'' a v h hu) := fun j => by
  unfold Idealize.ShloMosaic.pad
  split
  · exact ha _
  · exact hv _
theorem IsReal.concatenate (d) (xs : List ((s : Shape) × (s.Idx → EReal))) (h) (hx : AllReal xs) :
    IsReal (concatenate t d xs h) := fun _ => hx _ (List.getElem_mem _) _
theorem IsReal.select {c : IVec s 1} {a b : s.Idx → EReal} (ha : IsReal a) (hb : IsReal b) : IsReal (select c a b) := fun i => by
  show ∃ r : ℝ, (if c i = 1#1 then a i else b i) = r
  split
  · exact ha _
  · exact hb _
theorem IsPos.select {c : IVec s 1} {a b : s.Idx → EReal} (ha : IsPos a) (hb : IsPos b) : IsPos (select c a b) := fun i => by
  show ∃ r : ℝ, 0 < r ∧ (if c i = 1#1 then a i else b i) = r
  split
  · exact ha _
  · exact hb _
theorem IsNonneg.select_true {c : IVec s 1} {a b : s.Idx → EReal} (hc : ∀ i, c i = 1#1) (ha : IsNonneg a) : IsNonneg (select c a b) := fun i => by
  show ∃ r : ℝ, 0 ≤ r ∧ (if c i = 1#1 then a i else b i) = r
  rw [if_pos (hc i)]; exact ha _

theorem zero_bits : Ideal.ofBits .f32 0x00000000#32 = 0 := by simp [Ideal.ofBits, Ideal.ieee]

/-- The comparison of a positive array with zero is true everywhere. -/
theorem mask_true {c : s.Idx → EReal} (hc : IsPos c) (d h) (i : t.Idx) :
    broadcastInDim t d h (cmpf (F := Ideal) (s := s) (φ := .f32) .ogt c (constant s .f32 0x00000000#32)) i = 1#1 := by
  show Ideal.cmp .ogt (c _) (Ideal.ofBits .f32 0x00000000#32) = _
  rw [zero_bits]
  obtain ⟨r, hr, e⟩ := hc _
  rw [e]
  simp [Ideal.cmp, hr]

theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]
theorem sum_real {ι : Type} (f : ι → EReal) (S : Finset ι) (hf : ∀ i, ∃ r : ℝ, f i = r) : ∃ r : ℝ, ∑ i ∈ S, f i = (r : EReal) := by
  choose g hg using hf
  exact ⟨∑ i ∈ S, g i, by rw [coe_sum]; exact Finset.sum_congr rfl fun i _ => hg i⟩
theorem sum_nonneg {ι : Type} (f : ι → EReal) (S : Finset ι) (hf : ∀ i, ∃ r : ℝ, 0 ≤ r ∧ f i = r) :
    ∃ r : ℝ, 0 ≤ r ∧ ∑ i ∈ S, f i = (r : EReal) := by
  choose g hg using hf
  exact ⟨∑ i ∈ S, g i, Finset.sum_nonneg fun i _ => (hg i).1, by rw [coe_sum]; exact Finset.sum_congr rfl fun i _ => (hg i).2⟩
theorem IsReal.reduceAdd {axes : List (Fin s.rank)} {x : FVec Ideal s φ} {v : FVec Ideal u φ} (h : s.ReducesTo axes t) (hu)
    (hx : IsReal x) (hv : IsReal v) : IsReal (Host.reduceAdd x v h hu) := fun j => by
  obtain ⟨a, ha⟩ := hv (Shape.Idx.first hu)
  obtain ⟨b, hb⟩ := sum_real x (Finset.univ.filter (fun i => h.drop i = j)) hx
  exact ⟨a + b, by show v _ + ∑ i ∈ _, x i = _; rw [ha, hb, EReal.coe_add]⟩
theorem IsNonneg.reduceAdd {axes : List (Fin s.rank)} {x : FVec Ideal s .f32} (h : s.ReducesTo axes t) (hu)
    (hx : IsNonneg x) : IsNonneg (Host.reduceAdd x (Idealize.ShloMosaic.constant (F := Ideal) u .f32 0x00000000#32) h hu) := fun j => by
  obtain ⟨b, hb, e⟩ := sum_nonneg x (Finset.univ.filter (fun i => h.drop i = j)) hx
  have z : Ideal.ofBits .f32 0x00000000#32 = 0 := by simp [Ideal.ofBits, Ideal.ieee]
  exact ⟨b, hb, by show Ideal.ofBits .f32 0x00000000#32 + ∑ i ∈ _, x i = _; rw [z, e, zero_add]⟩
theorem IsReal.dotGeneral {sl sr so : Shape} (d : DotDims sl sr so) (p) {φ₁ φ₂ : FTy} {a : FVec Ideal sl φ₁} {b : FVec Ideal sr φ₂}
    (ha : IsReal a) (hb : IsReal b) : IsReal (Host.dotGeneral (F := Ideal) d p a b) := fun j => by
  obtain ⟨r, hr⟩ := sum_real (fun k : d.contr.Idx => a (d.lhsIdx j k) * b (d.rhsIdx j k)) Finset.univ (fun k => by
    obtain ⟨x, hx⟩ := ha (d.lhsIdx j k); obtain ⟨y, hy⟩ := hb (d.rhsIdx j k)
    exact ⟨x * y, by rw [hx, hy, EReal.coe_mul]⟩)
  exact ⟨r, by show (0 : EReal) + ∑ k : d.contr.Idx, a (d.lhsIdx j k) * b (d.rhsIdx j k) = _; rw [hr, zero_add]⟩

/-! ## The image's weights -/

open Cert.ReferenceIdeal Cert.ReferenceIdeal.Gen Cert.ReferenceIdeal.Value

/-- Arguments with real elements only. -/
structure RealArgs (V0 : Valuation τ sig (Elt Ideal)) : Prop where
  a0 : IsReal (s := S8x3x1024x1024) (V0 (Proc.devRef .tc main_arg0))
  a1 : IsReal (s := S16x3x3x3) (V0 (Proc.devRef .tc main_arg1))
  a2 : IsReal (s := S32x16x3x3) (V0 (Proc.devRef .tc main_arg2))
  a3 : IsReal (s := S64x32x3x3) (V0 (Proc.devRef .tc main_arg3))
  a4 : IsReal (s := S128x64x3x3) (V0 (Proc.devRef .tc main_arg4))
  a5 : IsReal (s := S128x128x3x3) (V0 (Proc.devRef .tc main_arg5))
  a6 : IsReal (s := S16) (V0 (Proc.devRef .tc main_arg6))
  a7 : IsReal (s := S32) (V0 (Proc.devRef .tc main_arg7))
  a8 : IsReal (s := S64) (V0 (Proc.devRef .tc main_arg8))
  a9 : IsReal (s := S128) (V0 (Proc.devRef .tc main_arg9))
  a10 : IsReal (s := S128) (V0 (Proc.devRef .tc main_arg10))
  a11 : IsReal (s := S16) (V0 (Proc.devRef .tc main_arg11))
  a12 : IsReal (s := S32) (V0 (Proc.devRef .tc main_arg12))
  a13 : IsReal (s := S64) (V0 (Proc.devRef .tc main_arg13))
  a14 : IsReal (s := S128) (V0 (Proc.devRef .tc main_arg14))
  a15 : IsReal (s := S16) (V0 (Proc.devRef .tc main_arg15))
  a16 : IsReal (s := S32) (V0 (Proc.devRef .tc main_arg16))
  a17 : IsReal (s := S64) (V0 (Proc.devRef .tc main_arg17))
  a18 : IsReal (s := S128) (V0 (Proc.devRef .tc main_arg18))
  a19 : IsReal (s := S3x8192) (V0 (Proc.devRef .tc main_arg19))
  a20 : IsReal (s := S3) (V0 (Proc.devRef .tc main_arg20))
  a21 : IsReal (s := S107811x3) (V0 (Proc.devRef .tc main_arg21))

variable {V0 : Valuation τ sig (Elt Ideal)}

theorem real_main_v1 (h : RealArgs V0) : IsReal (s := S8x3x257x4x1024) (res_main_v1 (F := Ideal) V0) := by
  unfold res_main_v1
  refine IsReal.shapeCast _ ?_
  repeat' (first | exact h.a0 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v7 (h : RealArgs V0) : IsReal (s := S4x1) (res_main_v7 (F := Ideal) V0) := by
  unfold res_main_v7
  refine IsReal.shapeCast _ ?_
  repeat' (first | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v34 (h : RealArgs V0) : IsReal (s := S8x3x256x257x4) (res_main_v34 (F := Ideal) V0) := by
  unfold res_main_v34
  simp only [id_eq]
  refine IsReal.shapeCast _ ?_
  repeat' (first | exact real_main_v1 h | exact real_main_v7 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v39 (h : RealArgs V0) : IsReal (s := S4) (res_main_v39 (F := Ideal) V0) := by
  unfold res_main_v39
  repeat' (first | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v64 (h : RealArgs V0) : IsReal (s := S8x3x258x258) (res_main_v64 (F := Ideal) V0) := by
  unfold res_main_v64
  simp only [id_eq]
  repeat' (first | exact real_main_v34 h | exact real_main_v39 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v81 (h : RealArgs V0) : IsReal (s := S8x16x128x128) (res_main_v81 (F := Ideal) V0) := by
  unfold res_main_v81
  repeat' (first | exact real_main_v64 h | exact h.a1 | exact h.a6 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v86 (h : RealArgs V0) : IsReal (s := S8x16x128x128) (res_main_v86 (F := Ideal) V0) := by
  unfold res_main_v86
  repeat' (first | exact real_main_v81 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_call6_v5 (h : RealArgs V0) : IsReal (s := S8x16x128x128) (res_main_call6_v5 (F := Ideal) V0) := by
  unfold res_main_call6_v5
  repeat' (first | exact real_main_v86 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem pos_main_call6_v8 : IsPos (s := S_) (res_main_call6_v8 (F := Ideal) V0) := fun i => by
  obtain ⟨r, hr, e⟩ := pos_bits 0x46800000#32 (by decide) (by decide) (by decide)
  refine ⟨r - ((0#32).toInt : ℝ), by simpa using hr, ?_⟩
  unfold res_main_call6_v8
  rw [EReal.coe_sub, ← e]
  rfl

theorem real_main_v105 (h : RealArgs V0) : IsReal (s := S8x16x130x130) (res_main_v105 (F := Ideal) V0) := by
  unfold res_main_v105
  simp only [id_eq]
  repeat' (first | exact real_main_v86 h | exact real_main_call6_v5 h | exact h.a11 | exact h.a15 | exact pos_main_call6_v8 | exact fun i => mask_true pos_main_call6_v8 _ _ i | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v122 (h : RealArgs V0) : IsReal (s := S8x32x64x64) (res_main_v122 (F := Ideal) V0) := by
  unfold res_main_v122
  repeat' (first | exact real_main_v105 h | exact h.a2 | exact h.a7 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v127 (h : RealArgs V0) : IsReal (s := S8x32x64x64) (res_main_v127 (F := Ideal) V0) := by
  unfold res_main_v127
  repeat' (first | exact real_main_v122 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_call9_v5 (h : RealArgs V0) : IsReal (s := S8x32x64x64) (res_main_call9_v5 (F := Ideal) V0) := by
  unfold res_main_call9_v5
  repeat' (first | exact real_main_v127 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem pos_main_call9_v8 : IsPos (s := S_) (res_main_call9_v8 (F := Ideal) V0) := fun i => by
  obtain ⟨r, hr, e⟩ := pos_bits 0x45800000#32 (by decide) (by decide) (by decide)
  refine ⟨r - ((0#32).toInt : ℝ), by simpa using hr, ?_⟩
  unfold res_main_call9_v8
  rw [EReal.coe_sub, ← e]
  rfl

theorem real_main_v146 (h : RealArgs V0) : IsReal (s := S8x32x66x66) (res_main_v146 (F := Ideal) V0) := by
  unfold res_main_v146
  simp only [id_eq]
  repeat' (first | exact real_main_v127 h | exact real_main_call9_v5 h | exact h.a12 | exact h.a16 | exact pos_main_call9_v8 | exact fun i => mask_true pos_main_call9_v8 _ _ i | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v163 (h : RealArgs V0) : IsReal (s := S8x64x32x32) (res_main_v163 (F := Ideal) V0) := by
  unfold res_main_v163
  repeat' (first | exact real_main_v146 h | exact h.a3 | exact h.a8 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v168 (h : RealArgs V0) : IsReal (s := S8x64x32x32) (res_main_v168 (F := Ideal) V0) := by
  unfold res_main_v168
  repeat' (first | exact real_main_v163 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_call12_v5 (h : RealArgs V0) : IsReal (s := S8x64x32x32) (res_main_call12_v5 (F := Ideal) V0) := by
  unfold res_main_call12_v5
  repeat' (first | exact real_main_v168 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem pos_main_call12_v8 : IsPos (s := S_) (res_main_call12_v8 (F := Ideal) V0) := fun i => by
  obtain ⟨r, hr, e⟩ := pos_bits 0x44800000#32 (by decide) (by decide) (by decide)
  refine ⟨r - ((0#32).toInt : ℝ), by simpa using hr, ?_⟩
  unfold res_main_call12_v8
  rw [EReal.coe_sub, ← e]
  rfl

theorem real_main_v187 (h : RealArgs V0) : IsReal (s := S8x64x34x34) (res_main_v187 (F := Ideal) V0) := by
  unfold res_main_v187
  simp only [id_eq]
  repeat' (first | exact real_main_v168 h | exact real_main_call12_v5 h | exact h.a13 | exact h.a17 | exact pos_main_call12_v8 | exact fun i => mask_true pos_main_call12_v8 _ _ i | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v204 (h : RealArgs V0) : IsReal (s := S8x128x16x16) (res_main_v204 (F := Ideal) V0) := by
  unfold res_main_v204
  repeat' (first | exact real_main_v187 h | exact h.a4 | exact h.a9 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v209 (h : RealArgs V0) : IsReal (s := S8x128x16x16) (res_main_v209 (F := Ideal) V0) := by
  unfold res_main_v209
  repeat' (first | exact real_main_v204 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_call15_v5 (h : RealArgs V0) : IsReal (s := S8x128x16x16) (res_main_call15_v5 (F := Ideal) V0) := by
  unfold res_main_call15_v5
  repeat' (first | exact real_main_v209 h | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem pos_main_call15_v8 : IsPos (s := S_) (res_main_call15_v8 (F := Ideal) V0) := fun i => by
  obtain ⟨r, hr, e⟩ := pos_bits 0x43800000#32 (by decide) (by decide) (by decide)
  refine ⟨r - ((0#32).toInt : ℝ), by simpa using hr, ?_⟩
  unfold res_main_call15_v8
  rw [EReal.coe_sub, ← e]
  rfl

theorem real_main_v228 (h : RealArgs V0) : IsReal (s := S8x128x18x18) (res_main_v228 (F := Ideal) V0) := by
  unfold res_main_v228
  simp only [id_eq]
  repeat' (first | exact real_main_v209 h | exact real_main_call15_v5 h | exact h.a14 | exact h.a18 | exact pos_main_call15_v8 | exact fun i => mask_true pos_main_call15_v8 _ _ i | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v245 (h : RealArgs V0) : IsReal (s := S8x128x8x8) (res_main_v245 (F := Ideal) V0) := by
  unfold res_main_v245
  repeat' (first | exact real_main_v228 h | exact h.a5 | exact h.a10 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)

theorem real_main_v256 (h : RealArgs V0) : IsReal (s := S8x3) (res_main_v256 (F := Ideal) V0) := by
  unfold res_main_v256
  repeat' (first | exact real_main_v245 h | exact h.a19 | exact h.a20 | with_reducible apply IsReal.constant | with_reducible apply IsReal.addf | with_reducible apply IsReal.subf | with_reducible apply IsReal.mulf | with_reducible apply IsReal.shapeCast | with_reducible apply IsReal.broadcastInDim | with_reducible apply IsReal.transpose | with_reducible apply IsReal.extractStridedSlice | with_reducible apply IsReal.slice | with_reducible apply IsReal.pad | with_reducible apply IsReal.concatenate | with_reducible apply IsReal.select | with_reducible apply IsReal.reduceAdd | with_reducible apply IsReal.dotGeneral | with_reducible apply IsReal.divf | with_reducible apply IsReal.sitofp | with_reducible apply AllReal.cons | exact AllReal.nil | with_reducible apply IsPos.broadcastInDim | with_reducible apply IsPos.select | with_reducible apply IsPos.sqrt | with_reducible apply IsPos.add | with_reducible apply IsPos.constant | with_reducible apply IsNonneg.broadcastInDim | with_reducible apply IsNonneg.select_true | with_reducible apply IsNonneg.divf | with_reducible apply IsNonneg.reduceAdd | with_reducible apply IsNonneg.square | decide | refine IsPos.broadcastInDim _ _ ?_ | refine IsPos.constant _ ?_ ?_ ?_ | refine IsPos.sqrt ?_ | refine IsReal.broadcastInDim _ _ ?_)
-- ==== Proof.Pre.lean ====
module
public import proofs.«01_k».proof.Pre_pre
public import proofs.«01_k».proof.Proof.Finite
public import Idealize.ShloMosaic.Lib.ReduceAll
public import Idealize.ShloMosaic.Lib.Pipeline.Value
public import Idealize.ShloMosaic.Lib.ValueIdx
@[expose] public section
set_option maxRecDepth 16384
noncomputable section
namespace Cert.Lut
open Idealize.ShloMosaic Idealize.ShloMosaic.ValueIdx
namespace Pre
open Cert.Pre_pre

theorem bcast_S_S8x3x1024x1024 : S_.BroadcastsInDim S8x3x1024x1024 (![] : Fin 0 → Fin S8x3x1024x1024.rank) := by decide

theorem reducesTo_S8x3x1024x1024_S_d0_1_2_3 : S8x3x1024x1024.ReducesTo [0, 1, 2, 3] S_ := by decide

theorem h_S_ : 0 < S_.numel := by decide

theorem bcast_S_S16x3x3x3 : S_.BroadcastsInDim S16x3x3x3 (![] : Fin 0 → Fin S16x3x3x3.rank) := by decide

theorem reducesTo_S16x3x3x3_S_d0_1_2_3 : S16x3x3x3.ReducesTo [0, 1, 2, 3] S_ := by decide

theorem bcast_S_S32x16x3x3 : S_.BroadcastsInDim S32x16x3x3 (![] : Fin 0 → Fin S32x16x3x3.rank) := by decide

theorem reducesTo_S32x16x3x3_S_d0_1_2_3 : S32x16x3x3.ReducesTo [0, 1, 2, 3] S_ := by decide

theorem bcast_S_S64x32x3x3 : S_.BroadcastsInDim S64x32x3x3 (![] : Fin 0 → Fin S64x32x3x3.rank) := by decide

theorem reducesTo_S64x32x3x3_S_d0_1_2_3 : S64x32x3x3.ReducesTo [0, 1, 2, 3] S_ := by decide

theorem bcast_S_S128x64x3x3 : S_.BroadcastsInDim S128x64x3x3 (![] : Fin 0 → Fin S128x64x3x3.rank) := by decide

theorem reducesTo_S128x64x3x3_S_d0_1_2_3 : S128x64x3x3.ReducesTo [0, 1, 2, 3] S_ := by decide

theorem bcast_S_S128x128x3x3 : S_.BroadcastsInDim S128x128x3x3 (![] : Fin 0 → Fin S128x128x3x3.rank) := by decide

theorem reducesTo_S128x128x3x3_S_d0_1_2_3 : S128x128x3x3.ReducesTo [0, 1, 2, 3] S_ := by decide

theorem bcast_S_S16 : S_.BroadcastsInDim S16 (![] : Fin 0 → Fin S16.rank) := by decide

theorem reducesTo_S16_S_d0 : S16.ReducesTo [0] S_ := by decide

theorem bcast_S_S32 : S_.BroadcastsInDim S32 (![] : Fin 0 → Fin S32.rank) := by decide

theorem reducesTo_S32_S_d0 : S32.ReducesTo [0] S_ := by decide

theorem bcast_S_S64 : S_.BroadcastsInDim S64 (![] : Fin 0 → Fin S64.rank) := by decide

theorem reducesTo_S64_S_d0 : S64.ReducesTo [0] S_ := by decide

theorem bcast_S_S128 : S_.BroadcastsInDim S128 (![] : Fin 0 → Fin S128.rank) := by decide

theorem reducesTo_S128_S_d0 : S128.ReducesTo [0] S_ := by decide

theorem bcast_S_S3x8192 : S_.BroadcastsInDim S3x8192 (![] : Fin 0 → Fin S3x8192.rank) := by decide

theorem reducesTo_S3x8192_S_d0_1 : S3x8192.ReducesTo [0, 1] S_ := by decide

theorem bcast_S_S3 : S_.BroadcastsInDim S3 (![] : Fin 0 → Fin S3.rank) := by decide

theorem reducesTo_S3_S_d0 : S3.ReducesTo [0] S_ := by decide

theorem bcast_S_S107811x3 : S_.BroadcastsInDim S107811x3 (![] : Fin 0 → Fin S107811x3.rank) := by decide

theorem reducesTo_S107811x3_S_d0_1 : S107811x3.ReducesTo [0, 1] S_ := by decide

theorem bcast_S_S33 : S_.BroadcastsInDim S33 (![] : Fin 0 → Fin S33.rank) := by decide

theorem bcast_S33_S33x33x33_2 : S33.BroadcastsInDim S33x33x33 (![2] : Fin 1 → Fin S33x33x33.rank) := by decide

theorem bcast_S33_S33x1_0 : S33.BroadcastsInDim S33x1 (![0] : Fin 1 → Fin S33x1.rank) := by decide

theorem bcast_S33x1_S33x33x33_1_2 : S33x1.BroadcastsInDim S33x33x33 (![1, 2] : Fin 2 → Fin S33x33x33.rank) := by decide

theorem bcast_S33_S33x1x1_0 : S33.BroadcastsInDim S33x1x1 (![0] : Fin 1 → Fin S33x1x1.rank) := by decide

theorem bcast_S33x1x1_S33x33x33_0_1_2 : S33x1x1.BroadcastsInDim S33x33x33 (![0, 1, 2] : Fin 3 → Fin S33x33x33.rank) := by decide

theorem bcast_S33x33x33_S1x33x33x33_1_2_3 : S33x33x33.BroadcastsInDim S1x33x33x33 (![1, 2, 3] : Fin 3 → Fin S1x33x33x33.rank) := by decide

theorem concatenates_S1x33x33x33_S1x33x33x33_S1x33x33x33_S3x33x33x33_d0 : Shape.Concatenates [S1x33x33x33, S1x33x33x33, S1x33x33x33] S3x33x33x33 0 := by decide

theorem shapeCasts_S3x33x33x33_S107811 : S3x33x33x33.ShapeCasts S107811 := by decide

theorem slices_S107811x3_S107811x1_0_0 : S107811x3.Slices ![0, 0] S107811x1 := by decide

theorem shapeCasts_S107811x1_S107811 : S107811x1.ShapeCasts S107811 := by decide

theorem reducesTo_S107811_S_d0 : S107811.ReducesTo [0] S_ := by decide

theorem bcast_S33_S1x1x33_2 : S33.BroadcastsInDim S1x1x33 (![2] : Fin 1 → Fin S1x1x33.rank) := by decide

theorem bcast_S1x1x33_S1x3x33_0_1_2 : S1x1x33.BroadcastsInDim S1x3x33 (![0, 1, 2] : Fin 3 → Fin S1x3x33.rank) := by decide

theorem reducesTo_S1x3x33_S_d0_1_2 : S1x3x33.ReducesTo [0, 1, 2] S_ := by decide

/-- The shape relations the precondition's operations take. -/
theorem facts : Cert.Pre_pre.Facts where
  bcast_S_S8x3x1024x1024 := bcast_S_S8x3x1024x1024
  reducesTo_S8x3x1024x1024_S_d0_1_2_3 := reducesTo_S8x3x1024x1024_S_d0_1_2_3
  h_S_ := h_S_
  bcast_S_S16x3x3x3 := bcast_S_S16x3x3x3
  reducesTo_S16x3x3x3_S_d0_1_2_3 := reducesTo_S16x3x3x3_S_d0_1_2_3
  bcast_S_S32x16x3x3 := bcast_S_S32x16x3x3
  reducesTo_S32x16x3x3_S_d0_1_2_3 := reducesTo_S32x16x3x3_S_d0_1_2_3
  bcast_S_S64x32x3x3 := bcast_S_S64x32x3x3
  reducesTo_S64x32x3x3_S_d0_1_2_3 := reducesTo_S64x32x3x3_S_d0_1_2_3
  bcast_S_S128x64x3x3 := bcast_S_S128x64x3x3
  reducesTo_S128x64x3x3_S_d0_1_2_3 := reducesTo_S128x64x3x3_S_d0_1_2_3
  bcast_S_S128x128x3x3 := bcast_S_S128x128x3x3
  reducesTo_S128x128x3x3_S_d0_1_2_3 := reducesTo_S128x128x3x3_S_d0_1_2_3
  bcast_S_S16 := bcast_S_S16
  reducesTo_S16_S_d0 := reducesTo_S16_S_d0
  bcast_S_S32 := bcast_S_S32
  reducesTo_S32_S_d0 := reducesTo_S32_S_d0
  bcast_S_S64 := bcast_S_S64
  reducesTo_S64_S_d0 := reducesTo_S64_S_d0
  bcast_S_S128 := bcast_S_S128
  reducesTo_S128_S_d0 := reducesTo_S128_S_d0
  bcast_S_S3x8192 := bcast_S_S3x8192
  reducesTo_S3x8192_S_d0_1 := reducesTo_S3x8192_S_d0_1
  bcast_S_S3 := bcast_S_S3
  reducesTo_S3_S_d0 := reducesTo_S3_S_d0
  bcast_S_S107811x3 := bcast_S_S107811x3
  reducesTo_S107811x3_S_d0_1 := reducesTo_S107811x3_S_d0_1
  bcast_S_S33 := bcast_S_S33
  bcast_S33_S33x33x33_2 := bcast_S33_S33x33x33_2
  bcast_S33_S33x1_0 := bcast_S33_S33x1_0
  bcast_S33x1_S33x33x33_1_2 := bcast_S33x1_S33x33x33_1_2
  bcast_S33_S33x1x1_0 := bcast_S33_S33x1x1_0
  bcast_S33x1x1_S33x33x33_0_1_2 := bcast_S33x1x1_S33x33x33_0_1_2
  bcast_S33x33x33_S1x33x33x33_1_2_3 := bcast_S33x33x33_S1x33x33x33_1_2_3
  concatenates_S1x33x33x33_S1x33x33x33_S1x33x33x33_S3x33x33x33_d0 := concatenates_S1x33x33x33_S1x33x33x33_S1x33x33x33_S3x33x33x33_d0
  shapeCasts_S3x33x33x33_S107811 := shapeCasts_S3x33x33x33_S107811
  slices_S107811x3_S107811x1_0_0 := slices_S107811x3_S107811x1_0_0
  shapeCasts_S107811x1_S107811 := shapeCasts_S107811x1_S107811
  reducesTo_S107811_S_d0 := reducesTo_S107811_S_d0
  bcast_S33_S1x1x33_2 := bcast_S33_S1x1x33_2
  bcast_S1x1x33_S1x3x33_0_1_2 := bcast_S1x1x33_S1x3x33_0_1_2
  reducesTo_S1x3x33_S_d0_1_2 := reducesTo_S1x3x33_S_d0_1_2

end Pre
instance : Cert.Pre_pre.Facts := Pre.facts
open Cert.Pre_pre

theorem S_subsingleton (a b : S_.Idx) : a = b := funext fun d => d.elim0

/-- A conjunction that is true had both sides true. -/
theorem and_true {a b : IVec S_ 1} (h : andi a b = fun _ => 1#1) : a = (fun _ => 1#1) ∧ b = fun _ => 1#1 := by
  have key : ∀ x y : BitVec 1, x &&& y = 1#1 → x = 1#1 ∧ y = 1#1 := by decide
  exact ⟨funext fun i => (key _ _ (congrFun h i)).1, funext fun i => (key _ _ (congrFun h i)).2⟩

theorem all_true {s : Shape} {axes : List (Fin s.rank)} {x : IVec s 1} {v : IVec S_ 1} {h : s.ReducesTo axes S_} {hu}
    (e : Host.reduce IntOp.andi x v h hu = fun _ => 1#1) (i : s.Idx) : x i = 1#1 :=
  haveI : Subsingleton S_.Idx := ⟨S_subsingleton⟩
  Host.reduce_andi_all x v h hu ix0 (congrFun e _) i

/-- An array whose elements all lie below infinity in magnitude is real. -/
theorem real_of_all {s : Shape} {a : FVec Ideal s .f32} {b} (h : ∀ i, cmpf .olt (Host.absf a) (broadcastInDim s ![] b (constant S_ .f32 0x7F800000#32)) i = 1#1) :
    IsReal a := fun i => by
  have h' : Ideal.cmp .olt (max (a i) (-(a i))) (Ideal.ofBits .f32 0x7F800000#32) = 1#1 := h i
  have t : Ideal.ofBits .f32 0x7F800000#32 = ⊤ := by simp [Ideal.ofBits, Ideal.ieee]
  rw [t] at h'
  have h2 : max (a i) (-(a i)) < ⊤ := by
    by_contra hn
    simp only [Ideal.cmp, hn, decide_false] at h'
    exact absurd h' (by decide)
  obtain ⟨h3, h4⟩ := max_lt_iff.1 h2
  generalize a i = y at h3 h4
  induction y using EReal.rec with
  | bot => simp at h4
  | coe r => exact ⟨r, rfl⟩
  | top => simp at h3

theorem eq_of_cmp {x y : EReal} (h : Ideal.cmp .oeq x y = 1#1) : x = y := by
  by_contra hn
  simp only [Ideal.cmp, hn, decide_false] at h
  exact absurd h (by decide)

theorem le_of_cmp {x y : EReal} (h : Ideal.cmp .oge x y = 1#1) : y ≤ x := by
  by_contra hn
  simp only [Ideal.cmp, hn, decide_false] at h
  exact absurd h (by decide)

section
variable {a0 : FVec Ideal S8x3x1024x1024 .f32} {a1 : FVec Ideal S16x3x3x3 .f32} {a2 : FVec Ideal S32x16x3x3 .f32} {a3 : FVec Ideal S64x32x3x3 .f32} {a4 : FVec Ideal S128x64x3x3 .f32} {a5 : FVec Ideal S128x128x3x3 .f32} {a6 : FVec Ideal S16 .f32} {a7 : FVec Ideal S32 .f32} {a8 : FVec Ideal S64 .f32} {a9 : FVec Ideal S128 .f32} {a10 : FVec Ideal S128 .f32} {a11 : FVec Ideal S16 .f32} {a12 : FVec Ideal S32 .f32} {a13 : FVec Ideal S64 .f32} {a14 : FVec Ideal S128 .f32} {a15 : FVec Ideal S16 .f32} {a16 : FVec Ideal S32 .f32} {a17 : FVec Ideal S64 .f32} {a18 : FVec Ideal S128 .f32} {a19 : FVec Ideal S3x8192 .f32} {a20 : FVec Ideal S3 .f32} {a21 : FVec Ideal S107811x3 .f32} {a22 : FVec Ideal S1x3x33 .f32}

/-- The first conjunct: every argument but the vertices is real. -/
theorem pre_real (h : (Cert.Pre_pre.fn (F := Ideal) a0 a1 a2 a3 a4 a5 a6 a7 a8 a9 a10 a11 a12 a13 a14 a15 a16 a17 a18 a19 a20 a21 a22).1 = fun _ => 1#1) :
    IsReal a0 ∧ IsReal a1 ∧ IsReal a2 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ IsReal a21 := by
  unfold Cert.Pre_pre.fn Cert.Pre_pre.fn_part1 Cert.Pre_pre.fn_part2 Cert.Pre_pre.fn_part3 Cert.Pre_pre.fn_part4 Cert.Pre_pre.fn_part5 Cert.Pre_pre.fn_part6 Cert.Pre_pre.fn_part7 at h
  dsimp only at h
  obtain ⟨h, e21⟩ := and_true h
  obtain ⟨h, e20⟩ := and_true h
  obtain ⟨h, e19⟩ := and_true h
  obtain ⟨h, e18⟩ := and_true h
  obtain ⟨h, e17⟩ := and_true h
  obtain ⟨h, e16⟩ := and_true h
  obtain ⟨h, e15⟩ := and_true h
  obtain ⟨h, e14⟩ := and_true h
  obtain ⟨h, e13⟩ := and_true h
  obtain ⟨h, e12⟩ := and_true h
  obtain ⟨h, e11⟩ := and_true h
  obtain ⟨h, e10⟩ := and_true h
  obtain ⟨h, e9⟩ := and_true h
  obtain ⟨h, e8⟩ := and_true h
  obtain ⟨h, e7⟩ := and_true h
  obtain ⟨h, e6⟩ := and_true h
  obtain ⟨h, e5⟩ := and_true h
  obtain ⟨h, e4⟩ := and_true h
  obtain ⟨h, e3⟩ := and_true h
  obtain ⟨h, e2⟩ := and_true h
  obtain ⟨h, e1⟩ := and_true h
  exact ⟨real_of_all (all_true h), real_of_all (all_true e1), real_of_all (all_true e2), real_of_all (all_true e3), real_of_all (all_true e4), real_of_all (all_true e5), real_of_all (all_true e6), real_of_all (all_true e7), real_of_all (all_true e8), real_of_all (all_true e9), real_of_all (all_true e10), real_of_all (all_true e11), real_of_all (all_true e12), real_of_all (all_true e13), real_of_all (all_true e14), real_of_all (all_true e15), real_of_all (all_true e16), real_of_all (all_true e17), real_of_all (all_true e18), real_of_all (all_true e19), real_of_all (all_true e20), real_of_all (all_true e21)⟩

/-- The second: the image is nowhere negative. -/
theorem pre_nonneg (h : (Cert.Pre_pre.fn (F := Ideal) a0 a1 a2 a3 a4 a5 a6 a7 a8 a9 a10 a11 a12 a13 a14 a15 a16 a17 a18 a19 a20 a21 a22).2.1 = fun _ => 1#1) (i : S8x3x1024x1024.Idx) : 0 ≤ a0 i := by
  unfold Cert.Pre_pre.fn Cert.Pre_pre.fn_part1 Cert.Pre_pre.fn_part2 Cert.Pre_pre.fn_part3 Cert.Pre_pre.fn_part4 Cert.Pre_pre.fn_part5 Cert.Pre_pre.fn_part6 Cert.Pre_pre.fn_part7 at h
  dsimp only at h
  have e : Ideal.ofBits .f32 0x00000000#32 ≤ a0 i := le_of_cmp (x := a0 i) (all_true h i)
  rwa [zero_bits] at e

/-- The grid's coordinate `i / 32`. -/
theorem axis_apply (i : S33.Idx) : Host.divf (sitofp (F := Ideal) .f32 (iotaInDim S33 32 0)) (broadcastInDim S33 ![] Pre.bcast_S_S33 (constant S_ .f32 0x42000000#32)) i
    = (((i 0).val / 32 : ℝ) : EReal) := by
  have h32 : Ideal.ofBits .f32 0x42000000#32 = ((32 : ℝ) : EReal) := by
    simp [Ideal.ofBits, Ideal.ieee, -EReal.coe_mul]; norm_num
  have hi : (i 0).val < 33 := (i 0).isLt
  show Ideal.div ((((BitVec.ofNat 32 (i 0).val).toInt : ℝ)) : EReal) (Ideal.ofBits .f32 0x42000000#32) = _
  rw [h32, div_real _ _ (by norm_num)]
  have e : (BitVec.ofNat 32 (i 0).val).toInt = ((i 0).val : ℤ) := by
    rw [BitVec.toInt_eq_toNat_of_lt (by rw [BitVec.toNat_ofNat]; omega), BitVec.toNat_ofNat]
    omega
  rw [e, Int.cast_natCast]

/-- The fourth: every channel's vertices are the grid's coordinates. -/
theorem pre_vertices (h : (Cert.Pre_pre.fn (F := Ideal) a0 a1 a2 a3 a4 a5 a6 a7 a8 a9 a10 a11 a12 a13 a14 a15 a16 a17 a18 a19 a20 a21 a22).2.2.2 = fun _ => 1#1) (c : Fin 3) (i : Fin 33) : a22 (ix3 0 c i) = ((i.val / 32 : ℝ) : EReal) := by
  unfold Cert.Pre_pre.fn Cert.Pre_pre.fn_part1 Cert.Pre_pre.fn_part2 Cert.Pre_pre.fn_part3 Cert.Pre_pre.fn_part4 Cert.Pre_pre.fn_part5 Cert.Pre_pre.fn_part6 Cert.Pre_pre.fn_part7 at h
  dsimp only at h
  refine (eq_of_cmp (all_true h (ix3 0 c i))).trans ?_
  refine (broadcastInDim_apply _ _ _ _ (ix3 0 0 i) (fun a => by fin_cases a <;> rfl)).trans ?_
  refine (broadcastInDim_apply _ _ _ _ (ix1 i) (fun a => by fin_cases a; rfl)).trans ?_
  exact axis_apply (ix1 i)

/-- Three one-channel blocks put side by side. -/
theorem concat3 {α : Type} (x0 x1 x2 : S1x33x33x33.Idx → α) (h) (c : Fin 3) (ib ig ir : Fin 33) (v : α)
    (h0 : c = 0 → x0 (ix4 0 ib ig ir) = v) (h1 : c = 1 → x1 (ix4 0 ib ig ir) = v) (h2 : c = 2 → x2 (ix4 0 ib ig ir) = v) :
    concatenate S3x33x33x33 0 [⟨S1x33x33x33, x0⟩, ⟨S1x33x33x33, x1⟩, ⟨S1x33x33x33, x2⟩] h (ix4 c ib ig ir) = v := by
  have hb : ∀ b : Fin 4, b.cast (rfl : 4 = 4) ≠ (0 : Fin 4) → (ix4 (0 : Fin 1) ib ig ir b).val = (ix4 c ib ig ir b).val := by
    intro b hb
    fin_cases b <;> first | rfl | exact absurd rfl hb
  fin_cases c
  · exact (concatenate_apply_piece (t := S3x33x33x33) 0 [⟨S1x33x33x33, x0⟩, ⟨S1x33x33x33, x1⟩, ⟨S1x33x33x33, x2⟩] h _ 0 (show 0 < 3 by decide) S1x33x33x33 x0 rfl rfl 0 rfl (ix4 0 ib ig ir) hb rfl).trans (h0 rfl)
  · exact (concatenate_apply_piece (t := S3x33x33x33) 0 [⟨S1x33x33x33, x0⟩, ⟨S1x33x33x33, x1⟩, ⟨S1x33x33x33, x2⟩] h _ 1 (show 1 < 3 by decide) S1x33x33x33 x1 rfl rfl 1 rfl (ix4 0 ib ig ir) hb rfl).trans (h1 rfl)
  · exact (concatenate_apply_piece (t := S3x33x33x33) 0 [⟨S1x33x33x33, x0⟩, ⟨S1x33x33x33, x1⟩, ⟨S1x33x33x33, x2⟩] h _ 2 (show 2 < 3 by decide) S1x33x33x33 x2 rfl rfl 2 rfl (ix4 0 ib ig ir) hb rfl).trans (h2 rfl)

/-- The third: the first basis table is the identity. -/
theorem pre_identity (h : (Cert.Pre_pre.fn (F := Ideal) a0 a1 a2 a3 a4 a5 a6 a7 a8 a9 a10 a11 a12 a13 a14 a15 a16 a17 a18 a19 a20 a21 a22).2.2.1 = fun _ => 1#1) (c : Fin 3) (ib ig ir : Fin 33) :
    a21 (ix2 ⟨((c.val * 33 + ib.val) * 33 + ig.val) * 33 + ir.val, by omega⟩ 0) = (((![ir.val, ig.val, ib.val] c : ℕ) / 32 : ℝ) : EReal) := by
  unfold Cert.Pre_pre.fn Cert.Pre_pre.fn_part1 Cert.Pre_pre.fn_part2 Cert.Pre_pre.fn_part3 Cert.Pre_pre.fn_part4 Cert.Pre_pre.fn_part5 Cert.Pre_pre.fn_part6 Cert.Pre_pre.fn_part7 at h
  dsimp only at h
  have e := eq_of_cmp (all_true h (ix1 ⟨((c.val * 33 + ib.val) * 33 + ig.val) * 33 + ir.val, by omega⟩))
  have l : shapeCast S107811 (extractStridedSlice S107811x1 ![0, 0] a21 Pre.slices_S107811x3_S107811x1_0_0) Pre.shapeCasts_S107811x1_S107811
      (ix1 ⟨((c.val * 33 + ib.val) * 33 + ig.val) * 33 + ir.val, by omega⟩) = a21 (ix2 ⟨((c.val * 33 + ib.val) * 33 + ig.val) * 33 + ir.val, by omega⟩ 0) := by
    refine (shapeCast_apply _ _ _ (ix2 ⟨((c.val * 33 + ib.val) * 33 + ig.val) * 33 + ir.val, by omega⟩ 0) ?_).trans ?_
    · rw [Shape.rowMajor_val_two, Shape.rowMajor_val_one]; simp
    · refine extractStridedSlice_apply _ _ _ _ _ (fun a => ?_)
      fin_cases a <;> simp
  refine l.symm.trans (e.trans ?_)
  refine (shapeCast_apply _ _ _ (ix4 c ib ig ir) ?_).trans ?_
  · rw [Shape.rowMajor_val_four, Shape.rowMajor_val_one]; simp
  refine concat3 _ _ _ _ c ib ig ir _ (fun ec => ?_) (fun ec => ?_) (fun ec => ?_)
  · subst ec
    refine (broadcastInDim_apply _ _ _ _ (ix3 ib ig ir) (fun a => by fin_cases a <;> rfl)).trans ?_
    refine (broadcastInDim_apply _ _ _ _ (ix1 ir) (fun a => by fin_cases a; rfl)).trans ?_
    exact axis_apply (ix1 ir)
  · subst ec
    refine (broadcastInDim_apply _ _ _ _ (ix3 ib ig ir) (fun a => by fin_cases a <;> rfl)).trans ?_
    refine (broadcastInDim_apply _ _ _ _ (ix2 ig 0) (fun a => by fin_cases a <;> rfl)).trans ?_
    refine (broadcastInDim_apply _ _ _ _ (ix1 ig) (fun a => by fin_cases a; rfl)).trans ?_
    exact axis_apply (ix1 ig)
  · subst ec
    refine (broadcastInDim_apply _ _ _ _ (ix3 ib ig ir) (fun a => by fin_cases a <;> rfl)).trans ?_
    refine (broadcastInDim_apply _ _ _ _ (ix3 ib 0 0) (fun a => by fin_cases a <;> rfl)).trans ?_
    refine (broadcastInDim_apply _ _ _ _ (ix1 ib) (fun a => by fin_cases a; rfl)).trans ?_
    exact axis_apply (ix1 ib)
end
-- ==== Proof.Nibble.lean ====
/-
  Eight four-bit fields packed in one 32-bit word, each shifted to its place: the arithmetic right shift and the mask
  read each of them back.
-/
module

public import Idealize.ShloMosaic.Lib.Pointwise

@[expose] public section

namespace Cert.Lut

/-- A word below 16 has no bit from place 4 on. -/
theorem bit_high {n : BitVec 32} (h : n.toNat < 16) (i : ℕ) (hi : 4 ≤ i) : n.getLsbD i = false := by
  rw [BitVec.getLsbD]
  exact Nat.testBit_lt_two_pow (lt_of_lt_of_le h (by
    calc 16 = 2 ^ 4 := by norm_num
      _ ≤ 2 ^ i := Nat.pow_le_pow_right (by norm_num) hi))

/-- The eight fields of one word: field `j` at bits `4j … 4j + 3`. -/
def word (n : Fin 8 → BitVec 32) : BitVec 32 :=
  0#32 ||| n 0 <<< 0 ||| n 1 <<< 4 ||| n 2 <<< 8 ||| n 3 <<< 12 ||| n 4 <<< 16 ||| n 5 <<< 20 ||| n 6 <<< 24 ||| n 7 <<< 28

/-- Shifted down by `4j` with the sign and masked by 15, the word is its field `j`. -/
theorem word_field (n : Fin 8 → BitVec 32) (h : ∀ j, (n j).toNat < 16) (j : Fin 8) :
    (word n).sshiftRight (4 * j.val) &&& 15#32 = n j := by
  have hb : ∀ k i, 4 ≤ i → (n k).getLsbD i = false := fun k i hi => bit_high (h k) i hi
  have h15 : ∀ i : ℕ, i < 32 → (15#32).getLsbD i = decide (i < 4) := by decide
  apply BitVec.eq_of_getLsbD_eq
  intro i hi
  rw [BitVec.getLsbD_and, h15 i hi]
  by_cases h4 : i < 4
  · have hs : 4 * j.val + i < 32 := by omega
    rw [BitVec.getLsbD_sshiftRight, if_pos hs]
    simp only [h4, decide_true, Bool.and_true, word, BitVec.getLsbD_or, BitVec.getLsbD_shiftLeft, BitVec.getLsbD_zero]
    fin_cases j <;> interval_cases i <;> simp [-BitVec.getLsbD_eq_getElem, hb]
  · simp [h4, hb j i (by omega)]

end Cert.Lut
-- ==== Proof.Code.lean ====
module
public import proofs.«01_k».proof.Proof.Block
public import proofs.«01_k».proof.Proof.Nibble
public import proofs.«01_k».proof.Proof.Finite
@[expose] public section
noncomputable section
namespace Cert.Lut
open Idealize.ShloMosaic

/-- A table entry in steps of the quantiser, rounded to the nearest integer (ties to even) and held in [-7, 7]. -/
def codeOf (a s : EReal) : EReal :=
  min ((((7#32 : BitVec 32).toInt : ℤ) : ℝ) : EReal)
    (max ((((4294967289#32 : BitVec 32).toInt : ℤ) : ℝ) : EReal) (Ideal.liftRound Ideal.roundHalfEven (Ideal.div a s)))

theorem codeOf_int (a s : ℝ) (hs : 0 < s) : ∃ n : ℤ, -7 ≤ n ∧ n ≤ 7 ∧ codeOf a s = ((n : ℝ) : EReal) := by
  refine ⟨min 7 (max (-7) (Ideal.roundHalfEven (a / s))), ?_, ?_, ?_⟩
  · exact le_min (by norm_num) (le_max_left _ _)
  · exact min_le_left _ _
  · unfold codeOf
    rw [div_real a s hs]
    show min (((7 : ℤ) : ℝ) : EReal) (max (((-7 : ℤ) : ℝ) : EReal) (((Ideal.roundHalfEven (a / s) : ℤ) : ℝ) : EReal)) = _
    rw [← EReal.coe_strictMono.monotone.map_max, ← EReal.coe_strictMono.monotone.map_min, Int.cast_min, Int.cast_max]

/-- A small number held in a word, read signed. -/
theorem toInt_small (n : ℕ) (h : n < 2147483648) : (BitVec.ofNat 32 n).toInt = n := by
  have : (BitVec.ofNat 32 n).toNat = n := by rw [BitVec.toNat_ofNat]; omega
  rw [BitVec.toInt_eq_toNat_of_lt (by omega), this]

theorem eight_bits : Ideal.ofBits .f32 0x41000000#32 = ((8 : ℝ) : EReal) := by
  simp [Ideal.ofBits, Ideal.ieee]
  rw [← EReal.coe_mul]; norm_num
theorem minus_eight_bits : Ideal.ofBits .f32 0xC1000000#32 = ((-8 : ℝ) : EReal) := by
  simp [Ideal.ofBits, Ideal.ieee]
  rw [← EReal.coe_mul]; norm_num
theorem scale_bits : Ideal.ofBits .f32 1107296256#32 = ((32 : ℝ) : EReal) := by
  simp [Ideal.ofBits, Ideal.ieee]
  rw [← EReal.coe_mul]; norm_num
theorem one_bits : Ideal.ofBits .f32 0x3F800000#32 = ((1 : ℝ) : EReal) := by
  simp [Ideal.ofBits, Ideal.ieee]
  rw [← EReal.coe_mul, ← EReal.coe_one]; norm_num

/-- The stored code of an integer code. -/
theorem fptosi_int (n : ℤ) (h0 : 0 ≤ n) (h1 : n < 2147483648) :
    Ideal.fptosi 32 ((n : ℝ) : EReal) = BitVec.ofInt 32 n := by
  unfold Ideal.fptosi
  congr 1
  show max _ (min _ (if (0:ℝ) ≤ (n:ℝ) then ⌊(n:ℝ)⌋ else ⌈(n:ℝ)⌉)) = n
  rw [if_pos (by exact_mod_cast h0), Int.floor_intCast]
  norm_num
  omega

/-- An entry's stored code: its code plus 8, as a word. -/
def nibOf (a s : EReal) : BitVec 32 := Ideal.fptosi 32 (codeOf a s + Ideal.ofBits .f32 0x41000000#32)

theorem nibOf_spec (a s : ℝ) (hs : 0 < s) : (nibOf a s).toNat < 16 ∧ (((nibOf a s).toInt : ℝ) : EReal) = codeOf a s + ((8 : ℝ) : EReal) := by
  obtain ⟨n, h0, h1, h⟩ := codeOf_int a s hs
  have e : nibOf a s = BitVec.ofInt 32 (n + 8) := by
    unfold nibOf
    rw [h, eight_bits, ← EReal.coe_add, ← fptosi_int (n + 8) (by omega) (by omega)]
    push_cast; rfl
  have t : (nibOf a s).toInt = n + 8 := by
    rw [e, BitVec.toInt_ofInt, Int.bmod_eq_of_le] <;> norm_num <;> omega
  constructor
  · rw [e, BitVec.toNat_ofInt]; norm_num; omega
  · rw [t, h, ← EReal.coe_add]; push_cast; rfl

/-- A field of a packed word is the code stored there, as a number. -/
theorem field_word (n : Fin 8 → BitVec 32) (h : ∀ j, (n j).toNat < 16) (j : Fin 8) :
    field (word n) (BitVec.ofNat 32 (4 * j.val)) = (((n j).toInt : ℝ) : EReal) := by
  have e : IntOp.andi (IntOp.shrsi .vector (word n) (BitVec.ofNat 32 (4 * j.val))) 15#32 = n j := by
    rw [← word_field n h j]
    have hj := j.isLt
    fin_cases j <;> rfl
  unfold field
  rw [e]; rfl

/-- The vertex at or below a number in [0, ∞), as a natural number. -/
def cellOf (x : ℝ) : ℕ := min ⌊32 * x⌋₊ 31

theorem cellWord_real (x : ℝ) (hx : 0 ≤ x) : cellWord (x : EReal) = BitVec.ofNat 32 (cellOf x) := by
  unfold cellWord
  rw [scale_bits, ← EReal.coe_mul]
  have e : Ideal.fptosi 32 ((x * 32 : ℝ) : EReal) = BitVec.ofInt 32 (min 2147483647 ⌊32 * x⌋) := by
    unfold Ideal.fptosi
    congr 1
    show max _ (min _ (if (0:ℝ) ≤ x * 32 then ⌊x * 32⌋ else ⌈x * 32⌉)) = _
    rw [if_pos (by positivity), mul_comm x 32]
    have : 0 ≤ ⌊32 * x⌋ := Int.floor_nonneg.mpr (by positivity)
    norm_num
    omega
  show IntOp.minsi (Ideal.fptosi 32 ((x * 32 : ℝ) : EReal)) 31#32 = _
  rw [e]
  have h0 : 0 ≤ ⌊32 * x⌋ := Int.floor_nonneg.mpr (by positivity)
  have hn : (⌊32 * x⌋₊ : ℤ) = ⌊32 * x⌋ := Int.natCast_floor_eq_floor (by positivity)
  have t : (BitVec.ofInt 32 (min 2147483647 ⌊32 * x⌋)).toInt = min 2147483647 ⌊32 * x⌋ := by
    rw [BitVec.toInt_ofInt, Int.bmod_eq_of_le] <;> norm_num <;> omega
  unfold IntOp.minsi cellOf
  apply BitVec.eq_of_toInt_eq
  split_ifs with hc <;> simp only [BitVec.slt, decide_eq_true_eq] at hc
  all_goals
    rw [t] at hc
    have := hc
    rw [show (31#32 : BitVec 32).toInt = 31 from rfl] at this
  · rw [t, toInt_small _ (by omega)]; push_cast; omega
  · rw [show (31#32 : BitVec 32).toInt = 31 from rfl, toInt_small _ (by omega)]; push_cast; omega

theorem cellOf_le (x : ℝ) : cellOf x ≤ 31 := min_le_right _ _

theorem cellWord_toNat (x : ℝ) (hx : 0 ≤ x) : (cellWord (x : EReal)).toNat = cellOf x := by
  have := cellOf_le x
  rw [cellWord_real x hx, BitVec.toNat_ofNat]; omega

theorem fracOf_real (x : ℝ) (hx : 0 ≤ x) : fracOf (x : EReal) = ((32 * x - cellOf x : ℝ) : EReal) := by
  have := cellOf_le x
  unfold fracOf
  rw [cellWord_real x hx, scale_bits, ← EReal.coe_mul]
  show ((x * 32 : ℝ) : EReal) - ((((BitVec.ofNat 32 (cellOf x)).toInt : ℤ) : ℝ) : EReal) = _
  rw [← EReal.coe_sub, toInt_small _ (by omega)]
  rw [mul_comm x 32, Int.cast_natCast]
end Cert.Lut
-- ==== Proof.Table.lean ====
module
public import proofs.«01_k».proof.Proof.Tail
public import proofs.«01_k».proof.Proof.Array
public import proofs.«01_k».proof.Proof.Code
public import Idealize.ShloMosaic.Lib.KernelVsHost
@[expose] public section
set_option maxRecDepth 16384
noncomputable section
namespace Cert.Lut
open Cert.KernelIdeal Cert.KernelIdeal.Gen Idealize.ShloMosaic

/-- A table vertex's row in the basis array. -/
def lutRow (c : Fin 3) (ib ig ir : Fin 33) : Fin 107811 := ⟨((c.val*33+ib.val)*33+ig.val)*33+ir.val, by omega⟩

theorem lutRow_val (c : Fin 3) (ib ig ir : Fin 33) : (lutRow c ib ig ir).val = ((c.val*33+ib.val)*33+ig.val)*33+ir.val := rfl

theorem basis2_apply (a : FVec Ideal S107811x3 .f32) (k : Fin 2) (c : Fin 3) (ib ig ir : Fin 33) :
    basis2 a (ix5 k c ib ig ir) = a (ix2 (lutRow c ib ig ir) ⟨k.val + 1, by omega⟩) := by
  unfold basis2
  refine (shapeCast_apply _ _ _ (ix2 k (lutRow c ib ig ir)) (by
    rw [Shape.rowMajor_val_two, Shape.rowMajor_val_five]
    show k.val * 107811 + (lutRow c ib ig ir).val = (((k.val*3+c.val)*33+ib.val)*33+ig.val)*33+ir.val
    rw [lutRow_val]
    omega)).trans ?_
  refine (transpose_apply _ _ _ _ (ix2 (lutRow c ib ig ir) k) (fun b => by fin_cases b <;> rfl)).trans ?_
  refine extractStridedSlice_apply _ _ _ _ _ (fun b => ?_)
  fin_cases b
  · exact (Nat.zero_add _).symm
  · exact Nat.add_comm _ _

/-- The eight codes around a table vertex. -/
def around (n : IVec S2x3x33x34x34 32) (c : Fin 3) (ib ig ir : Fin 33) : Fin 8 → BitVec 32 := fun j =>
  n (ix5 ⟨j.val / 4, by omega⟩ c ib ⟨ig.val + j.val / 2 % 2, by omega⟩ ⟨ir.val + j.val % 2, by omega⟩)

theorem corner_apply (n : IVec S2x3x33x34x34 32) (off : Fin 5 → Nat) (h : S2x3x33x34x34.Slices off S1x3x33x33x33)
    (c : Fin 3) (ib ig ir : Fin 33) (k : S2x3x33x34x34.Idx)
    (hk : ∀ a, (k a).val = off a + (ix5 (0 : Fin 1) c ib ig ir a).val) :
    shapeCast S3x33x33x33 (extractStridedSlice S1x3x33x33x33 off n h) shapeCasts_S1x3x33x33x33_S3x33x33x33 (ix4 c ib ig ir) = n k := by
  refine (shapeCast_apply _ _ _ (ix5 (0 : Fin 1) c ib ig ir) (by
    rw [Shape.rowMajor_val_four, Shape.rowMajor_val_five]
    show (((0*3+c.val)*33+ib.val)*33+ig.val)*33+ir.val = ((c.val*33+ib.val)*33+ig.val)*33+ir.val
    omega)).trans ?_
  refine extractStridedSlice_apply _ _ _ _ _ hk

theorem wordsOf_apply (n : IVec S2x3x33x34x34 32) (c : Fin 3) (ib ig ir : Fin 33) :
    wordsOf n (ix4 c ib ig ir) = word (around n c ib ig ir) := by
  unfold wordsOf word
  have e : ∀ (j : Fin 8) (off : Fin 5 → Nat) (h : S2x3x33x34x34.Slices off S1x3x33x33x33), off = ![j.val / 4, 0, 0, j.val / 2 % 2, j.val % 2] →
      shapeCast S3x33x33x33 (extractStridedSlice S1x3x33x33x33 off n h) shapeCasts_S1x3x33x33x33_S3x33x33x33 (ix4 c ib ig ir) = around n c ib ig ir j := by
    rintro j off h rfl
    refine corner_apply n _ h c ib ig ir _ (fun a => ?_)
    fin_cases a
    · exact (Nat.add_zero _).symm
    · exact (Nat.zero_add _).symm
    · exact (Nat.zero_add _).symm
    · exact Nat.add_comm _ _
    · exact Nat.add_comm _ _
  rw [← e 0 ![0,0,0,0,0] slices_S2x3x33x34x34_S1x3x33x33x33_0_0_0_0_0 rfl, ← e 1 ![0,0,0,0,1] slices_S2x3x33x34x34_S1x3x33x33x33_0_0_0_0_1 rfl,
    ← e 2 ![0,0,0,1,0] slices_S2x3x33x34x34_S1x3x33x33x33_0_0_0_1_0 rfl, ← e 3 ![0,0,0,1,1] slices_S2x3x33x34x34_S1x3x33x33x33_0_0_0_1_1 rfl,
    ← e 4 ![1,0,0,0,0] slices_S2x3x33x34x34_S1x3x33x33x33_1_0_0_0_0 rfl, ← e 5 ![1,0,0,0,1] slices_S2x3x33x34x34_S1x3x33x33x33_1_0_0_0_1 rfl,
    ← e 6 ![1,0,0,1,0] slices_S2x3x33x34x34_S1x3x33x33x33_1_0_0_1_0 rfl, ← e 7 ![1,0,0,1,1] slices_S2x3x33x34x34_S1x3x33x33x33_1_0_0_1_1 rfl]
  rfl

/-- The packed table at a vertex's place. -/
theorem tableAt_pack (n : IVec S2x3x33x34x34 32) (c : Fin 3) (ib ig ir : Fin 33) :
    tableAt (packOf n) c ((ib.val*33+ig.val)*33+ir.val) = word (around n c ib ig ir) := by
  unfold tableAt packOf
  rw [dif_pos (by omega)]
  refine (shapeCast_apply _ _ _ (ix2 c (⟨(ib.val*33+ig.val)*33+ir.val, by omega⟩ : Fin 36352)) (by
    rw [Shape.rowMajor_val_two, Shape.rowMajor_val_four]
    show c.val * 36352 + ((ib.val*33+ig.val)*33+ir.val) = ((c.val*284+((ib.val*33+ig.val)*33+ir.val)/128)*1+0)*128+((ib.val*33+ig.val)*33+ir.val)%128
    omega)).trans ?_
  refine (pad_apply_of_inside _ _ _ _ _ _ _ _ (ix2 c (⟨(ib.val*33+ig.val)*33+ir.val, by omega⟩ : Fin 35937)) (fun a => ?_)).trans ?_
  · fin_cases a
    · show c.val = 0 + c.val * 1; omega
    · show (ib.val*33+ig.val)*33+ir.val = 0 + ((ib.val*33+ig.val)*33+ir.val) * 1; omega
  refine (shapeCast_apply _ _ _ (ix4 c ib ig ir) (by
    rw [Shape.rowMajor_val_two, Shape.rowMajor_val_four]
    show ((c.val*33+ib.val)*33+ig.val)*33+ir.val = c.val * 35937 + ((ib.val*33+ig.val)*33+ir.val)
    omega)).trans (wordsOf_apply n c ib ig ir)

theorem padded_apply (q : FVec Ideal S2x3x33x33x33 .f32) (k : Fin 2) (c : Fin 3) (ib ig ir : Fin 33) (jg jr : Fin 34) (hg : jg.val = ig.val) (hr : jr.val = ir.val) :
    padded q (ix5 k c ib jg jr) = nibs q (ix5 k c ib ig ir) := by
  unfold padded
  refine pad_apply_of_inside _ _ _ _ _ _ _ _ _ (fun a => ?_)
  fin_cases a
  · show k.val = 0 + k.val * 1; omega
  · show c.val = 0 + c.val * 1; omega
  · show ib.val = 0 + ib.val * 1; omega
  · show jg.val = 0 + ig.val * 1; omega
  · show jr.val = 0 + ir.val * 1; omega

theorem nibs_apply (a : FVec Ideal S107811x3 .f32) (k : Fin 2) (c : Fin 3) (ib ig ir : Fin 33) :
    nibs (ratio2 a) (ix5 k c ib ig ir) = nibOf (a (ix2 (lutRow c ib ig ir) ⟨k.val + 1, by omega⟩)) (scale2 a (ix2 k c)) := by
  rw [← basis2_apply a k c ib ig ir]
  have e : (broadcastInDim S2x3x33x33x33 ![0, 1, 2, 3, 4] bcast_S2x3x1x1x1_S2x3x33x33x33_0_1_2_3_4 (broadcastInDim S2x3x1x1x1 ![0, 1] bcast_S2x3_S2x3x1x1x1_0_1 (scale2 a))) (ix5 k c ib ig ir) = scale2 a (ix2 k c) := by
    refine (broadcastInDim_apply _ _ _ _ (ix5 k c 0 0 0) (fun b => by fin_cases b <;> rfl)).trans ?_
    exact broadcastInDim_apply _ _ _ _ (ix2 k c) (fun b => by fin_cases b <;> rfl)
  rw [← e]
  rfl

/-- The parameter row's entries. -/
theorem coefs_apply (w : FVec Ideal S8x3 .f32) (s : FVec Ideal S2x3 .f32) (n : Fin 8) (k : Fin 2) (c : Fin 3) :
    coefs w s (ix3 n k c) = w (ix2 n ⟨k.val + 1, by omega⟩) * s (ix2 k c) := by
  have e1 : broadcastInDim S8x2x3 ![0, 1, 2] bcast_S8x2x1_S8x2x3_0_1_2 (broadcastInDim S8x2x1 ![0, 1] bcast_S8x2_S8x2x1_0_1 (extractStridedSlice S8x2 ![0, 1] w slices_S8x3_S8x2_0_1)) (ix3 n k c) = w (ix2 n ⟨k.val + 1, by omega⟩) := by
    refine (broadcastInDim_apply _ _ _ _ (ix3 n k (0 : Fin 1)) (fun b => by fin_cases b <;> rfl)).trans ?_
    refine (broadcastInDim_apply _ _ _ _ (ix2 n k) (fun b => by fin_cases b <;> rfl)).trans ?_
    refine extractStridedSlice_apply _ _ _ _ _ (fun b => ?_)
    fin_cases b
    · exact (Nat.zero_add _).symm
    · exact Nat.add_comm _ _
  have e2 : broadcastInDim S8x2x3 ![0, 1, 2] bcast_S1x2x3_S8x2x3_0_1_2 (broadcastInDim S1x2x3 ![1, 2] bcast_S2x3_S1x2x3_1_2 s) (ix3 n k c) = s (ix2 k c) := by
    refine (broadcastInDim_apply _ _ _ _ (ix3 (0 : Fin 1) k c) (fun b => by fin_cases b <;> rfl)).trans ?_
    exact broadcastInDim_apply _ _ _ _ (ix2 k c) (fun b => by fin_cases b <;> rfl)
  rw [← e1, ← e2]; rfl

theorem coefs_sum (w : FVec Ideal S8x3 .f32) (s : FVec Ideal S2x3 .f32) (n : Fin 8) (c : Fin 3) :
    Host.reduceAdd (coefs w s) (constant S_ .f32 0x00000000#32) reducesTo_S8x2x3_S8x3_d1 h_S_ (ix2 n c)
      = 0 + (coefs w s (ix3 n 0 c) + coefs w s (ix3 n 1 c)) := by
  have hd : ∀ i : S8x2x3.Idx, reducesTo_S8x2x3_S8x3_d1.drop i = ix2 (i 0) (i 2) := fun i => funext fun b => by fin_cases b <;> rfl
  have hf : (Finset.univ.filter fun i : S8x2x3.Idx => reducesTo_S8x2x3_S8x3_d1.drop i = ix2 n c) = {ix3 n 0 c, ix3 n 1 c} := by
    ext i
    simp only [Finset.mem_filter, Finset.mem_univ, true_and, Finset.mem_insert, Finset.mem_singleton, hd]
    constructor
    · intro h
      have h0 : i 0 = n := congrFun h 0
      have h2 : i 2 = c := congrFun h 1
      obtain h1 | h1 : i 1 = (0 : Fin 2) ∨ i 1 = (1 : Fin 2) := by
        have : ∀ z : Fin 2, z = 0 ∨ z = 1 := by decide
        exact this (i 1)
      · left; funext b; fin_cases b
        · exact h0
        · exact h1
        · exact h2
      · right; funext b; fin_cases b
        · exact h0
        · exact h1
        · exact h2
    · rintro (rfl | rfl) <;> rfl
  show Ideal.ofBits .f32 0x00000000#32 + ∑ i ∈ (Finset.univ.filter fun i : S8x2x3.Idx => reducesTo_S8x2x3_S8x3_d1.drop i = ix2 n c), coefs w s i = _
  rw [hf, zero_bits, Finset.sum_pair]
  intro h
  exact absurd (congrFun h 1) (by show ¬ ((0 : Fin 2) = 1); decide)

theorem params_zero (w : FVec Ideal S8x3 .f32) (s : FVec Ideal S2x3 .f32) (n : Fin 8) : paramsOf w s (ix2 n 0) = w (ix2 n 0) := by
  unfold paramsOf catS
  generalize shapeCast S8x6 (coefs w s) shapeCasts_S8x2x3_S8x6 = x
  generalize mulf (F := Ideal) (φ := .f32) _ _ = y
  refine (concatenate_apply_piece (t := S8x10) 1 [⟨S8x1, _⟩, ⟨S8x6, x⟩, ⟨S8x3, y⟩] _ (ix2 n 0) 0 (by show 0 < 3; omega) S8x1 _ rfl rfl 0 rfl (ix2 n (0 : Fin 1)) (fun b hb => ?_) rfl).trans ?_
  · fin_cases b
    · rfl
    · exact absurd rfl hb
  · refine extractStridedSlice_apply _ _ _ _ _ (fun b => ?_)
    fin_cases b
    · exact (Nat.zero_add _).symm
    · rfl

theorem params_mid (w : FVec Ideal S8x3 .f32) (s : FVec Ideal S2x3 .f32) (n : Fin 8) (k : Fin 2) (c : Fin 3) (q : Fin 10) (hq : q.val = 1 + (k.val * 3 + c.val)) :
    paramsOf w s (ix2 n q) = coefs w s (ix3 n k c) := by
  unfold paramsOf catS
  generalize extractStridedSlice S8x1 ![0, 0] w slices_S8x3_S8x1_0_0 = x
  generalize mulf (F := Ideal) (φ := .f32) _ _ = y
  refine (concatenate_apply_piece (t := S8x10) 1 [⟨S8x1, x⟩, ⟨S8x6, _⟩, ⟨S8x3, y⟩] _ (ix2 n q) 1 (by show 1 < 3; omega) S8x6 _ rfl rfl 1 rfl (ix2 n (⟨k.val * 3 + c.val, by omega⟩ : Fin 6)) (fun b hb => ?_) hq.symm).trans ?_
  · fin_cases b
    · rfl
    · exact absurd rfl hb
  · refine shapeCast_apply _ _ _ _ ?_
    rw [Shape.rowMajor_val_two, Shape.rowMajor_val_three]
    show (n.val * 2 + k.val) * 3 + c.val = n.val * 6 + (k.val * 3 + c.val)
    omega

theorem params_bias (w : FVec Ideal S8x3 .f32) (s : FVec Ideal S2x3 .f32) (n : Fin 8) (c : Fin 3) :
    paramsOf w s (ix2 n (colBias c)) = ((-8 : ℝ) : EReal) * (0 + (w (ix2 n 1) * s (ix2 0 c) + w (ix2 n 2) * s (ix2 1 c))) := by
  have e := coefs_sum w s n c
  rw [coefs_apply, coefs_apply] at e
  refine Eq.trans ?_ (congrArg (fun z => ((-8 : ℝ) : EReal) * z) e)
  unfold paramsOf catS
  generalize extractStridedSlice S8x1 ![0, 0] w slices_S8x3_S8x1_0_0 = x
  generalize shapeCast S8x6 (coefs w s) shapeCasts_S8x2x3_S8x6 = y
  refine (concatenate_apply_piece (t := S8x10) 1 [⟨S8x1, x⟩, ⟨S8x6, y⟩, ⟨S8x3, _⟩] _ (ix2 n (colBias c)) 2 (by show 2 < 3; omega) S8x3 _ rfl rfl 7 rfl (ix2 n c) (fun b hb => ?_) rfl).trans ?_
  · fin_cases b
    · rfl
    · exact absurd rfl hb
  · rw [← minus_eight_bits]; rfl

theorem params_one (w : FVec Ideal S8x3 .f32) (s : FVec Ideal S2x3 .f32) (n : Fin 8) (c : Fin 3) :
    paramsOf w s (ix2 n (colOne c)) = w (ix2 n 1) * s (ix2 0 c) :=
  (params_mid w s n 0 c _ (by show 1 + c.val = 1 + (0 * 3 + c.val); omega)).trans (coefs_apply w s n 0 c)
theorem params_two (w : FVec Ideal S8x3 .f32) (s : FVec Ideal S2x3 .f32) (n : Fin 8) (c : Fin 3) :
    paramsOf w s (ix2 n (colTwo c)) = w (ix2 n 2) * s (ix2 1 c) :=
  (params_mid w s n 1 c _ (by show 4 + c.val = 1 + (1 * 3 + c.val); omega)).trans (coefs_apply w s n 1 c)

/-! ## The quantiser's step -/

/-- A maximum reduction is at most `b` when its start and every entry over the place are. -/
theorem maxReduce_le {s t u : Shape} {axes : List (Fin s.rank)} (x : FVec Ideal s .f32) (v : FVec Ideal u .f32) (h : s.ReducesTo axes t) (hu) (j : t.Idx) (b : EReal) :
    Host.reduce (α := EReal) (FloatOps.maximumf (F := Ideal) (φ := .f32)) x v h hu j ≤ b ↔ v (Shape.Idx.first hu) ≤ b ∧ ∀ i, h.drop i = j → x i ≤ b := by
  show Host.reduce (α := EReal) max x v h hu j ≤ b ↔ _
  rw [Host.reduce_eq_fold, Finset.fold_max_le]
  simp

/-- The step from the largest absolute entry. -/
def stepOf (M : EReal) : EReal := max (Ideal.div M (Ideal.ofBits .f32 0x40E00000#32)) (Ideal.ofBits .f32 0x1E3CE508#32)

/-- `M` is the largest absolute entry of rank `k + 1`, channel `c`. -/
def LargestAbs (a : FVec Ideal S107811x3 .f32) (k : Fin 2) (c : Fin 3) (M : EReal) : Prop :=
  ∀ b : EReal, M ≤ b ↔ Ideal.ofBits .f32 0xFF800000#32 ≤ b ∧ ∀ ib ig ir : Fin 33,
    max (a (ix2 (lutRow c ib ig ir) ⟨k.val + 1, by omega⟩)) (-(a (ix2 (lutRow c ib ig ir) ⟨k.val + 1, by omega⟩))) ≤ b

theorem LargestAbs.unique {a : FVec Ideal S107811x3 .f32} {k : Fin 2} {c : Fin 3} {M M' : EReal} (h : LargestAbs a k c M) (h' : LargestAbs a k c M') : M = M' :=
  eq_of_forall_ge_iff fun b => (h b).trans (h' b).symm

theorem low_bits : Ideal.ofBits .f32 0xFF800000#32 = ⊥ := by simp [Ideal.ofBits, Ideal.ieee]

theorem LargestAbs.real {a : FVec Ideal S107811x3 .f32} (ha : IsReal a) {k : Fin 2} {c : Fin 3} {M : EReal} (h : LargestAbs a k c M) : ∃ r : ℝ, M = r := by
  choose g hg using ha
  obtain ⟨B, hB⟩ : ∃ B : ℝ, ∀ i, max (g i) (-(g i)) ≤ B := by
    obtain ⟨B, hB⟩ := (Set.finite_range fun i => max (g i) (-(g i))).bddAbove
    exact ⟨B, fun i => hB ⟨i, rfl⟩⟩
  have e : ∀ i, max (a i) (-(a i)) = ((max (g i) (-(g i)) : ℝ) : EReal) := fun i => by
    rw [hg, ← EReal.coe_neg, EReal.coe_strictMono.monotone.map_max]
  have hM : M ≤ (B : EReal) := (h B).2 ⟨by rw [low_bits]; exact bot_le, fun ib ig ir => by rw [e]; exact EReal.coe_le_coe_iff.2 (hB _)⟩
  have hm := ((h M).1 le_rfl).2 0 0 0
  rw [e] at hm
  induction M with
  | bot => exact absurd hm (by simp)
  | top => exact absurd hM (by simp)
  | coe r => exact ⟨r, rfl⟩

theorem seven_bits : Ideal.ofBits .f32 0x40E00000#32 = ((7 : ℝ) : EReal) := by
  simp [Ideal.ofBits, Ideal.ieee]
  rw [← EReal.coe_mul]; norm_num

theorem stepOf_pos (r : ℝ) : ∃ q : ℝ, 0 < q ∧ stepOf (r : EReal) = q := by
  obtain ⟨e, he, hb⟩ := pos_bits 0x1E3CE508#32 (by decide) (by decide) (by decide)
  unfold stepOf
  rw [seven_bits, div_real r 7 (by norm_num), hb, ← EReal.coe_strictMono.monotone.map_max]
  exact ⟨_, lt_max_of_lt_right he, rfl⟩

theorem scale2_largest (a : FVec Ideal S107811x3 .f32) (k : Fin 2) (c : Fin 3) : ∃ M, LargestAbs a k c M ∧ scale2 a (ix2 k c) = stepOf M := by
  refine ⟨_, ?_, rfl⟩
  intro b
  refine (maxReduce_le _ _ _ _ _ b).trans (and_congr Iff.rfl ?_)
  have hd : ∀ i : S2x3x33x33x33.Idx, reducesTo_S2x3x33x33x33_S2x3_d2_3_4.drop i = ix2 (i 0) (i 1) := fun i => funext fun b => by fin_cases b <;> rfl
  constructor
  · intro h ib ig ir
    have := h (ix5 k c ib ig ir) (hd _)
    rw [← basis2_apply a k c ib ig ir]
    exact this
  · intro h i hi
    rw [hd] at hi
    have e : i = ix5 k c (i 2) (i 3) (i 4) := by
      funext b
      fin_cases b
      · exact congrFun hi 0
      · exact congrFun hi 1
      · rfl
      · rfl
      · rfl
    rw [e]
    have := h (i 2) (i 3) (i 4)
    rw [← basis2_apply a k c (i 2) (i 3) (i 4)] at this
    exact this
end Cert.Lut
-- ==== Proof.Gathers.lean ====
module
public import proofs.«01_k».proof.Proof.Table
public import proofs.«01_k».proof.Proof.Gen.ReferenceIdeal.Run
@[expose] public section
set_option maxRecDepth 16384
noncomputable section
namespace Cert.Lut
open Cert.ReferenceIdeal Cert.ReferenceIdeal.Gen Cert.ReferenceIdeal.Value Idealize.ShloMosaic

/-- The reference's look-up of the vertex axis, read at an index. -/
theorem gather_axis {α : Type} (x : S8x3x33.Idx → α) (idx : IVec S8x3x1048576x1 32) (b : Fin 8) (c : Fin 3) (p : Fin 1048576) :
    Host.gather gather_S8x3x33_S8x3x1048576x1_S8x3x1048576_n_2_01_01_2_3_111 x idx (ix3 b c p)
      = x (ix3 b c ⟨min (idx (ix4 b c p 0)).toInt.toNat 32, by omega⟩) := by
  unfold Host.gather
  congr 1
  funext a
  refine Fin.ext ?_
  fin_cases a
  · show GatherDims.start _ _ idx 0 + GatherDims.batchCoord _ _ 0 + GatherDims.offCoord _ _ 0 = _
    rw [GatherDims.start_batching _ _ _ _ (show (0 : Fin 3) ∈ ([0, 1] : List (Fin 3)) by decide), GatherDims.offCoord_eq_zero _ _ _ (fun h => ((GatherDims.mem_sKept _ _).mp h).2 (show (0 : Fin 3) ∈ ([0, 1] : List (Fin 3)) by decide))]
    simp only [Nat.zero_add, Nat.add_zero]
    unfold GatherDims.batchCoord
    exact (dif_pos (show (0 : Fin 3) ∈ ([0, 1] : List (Fin 3)) by decide)).trans rfl
  · show GatherDims.start _ _ idx 1 + GatherDims.batchCoord _ _ 1 + GatherDims.offCoord _ _ 1 = _
    rw [GatherDims.start_batching _ _ _ _ (show (1 : Fin 3) ∈ ([0, 1] : List (Fin 3)) by decide), GatherDims.offCoord_eq_zero _ _ _ (fun h => ((GatherDims.mem_sKept _ _).mp h).2 (show (1 : Fin 3) ∈ ([0, 1] : List (Fin 3)) by decide))]
    simp only [Nat.zero_add, Nat.add_zero]
    unfold GatherDims.batchCoord
    exact (dif_pos (show (1 : Fin 3) ∈ ([0, 1] : List (Fin 3)) by decide)).trans rfl
  · show GatherDims.start _ _ idx 2 + GatherDims.batchCoord _ _ 2 + GatherDims.offCoord _ _ 2 = _
    rw [GatherDims.batchCoord_eq_zero _ _ _ (show (2 : Fin 3) ∉ ([0, 1] : List (Fin 3)) by decide), GatherDims.offCoord_eq_zero _ _ _ (fun h => ((GatherDims.mem_sKept _ _).mp h).1 (show (2 : Fin 3) ∈ ([2] : List (Fin 3)) by decide))]
    simp only [Nat.add_zero]
    unfold GatherDims.start
    refine (dif_pos (show (2 : Fin 3) ∈ ([2] : List (Fin 3)) by decide)).trans ?_
    have hsi : GatherDims.siIdx gather_S8x3x33_S8x3x1048576x1_S8x3x1048576_n_2_01_01_2_3_111 (ix3 b c p) ⟨List.idxOf (2 : Fin 3) ([2] : List (Fin 3)), List.idxOf_lt_length_iff.2 (by decide)⟩ = ix4 b c p 0 := by
      funext z
      refine Fin.ext ?_
      fin_cases z <;> rfl
    exact congrArg (fun z => min (idx z).toInt.toNat 32) hsi

/-- The reference's look-up of a table, read at an index. -/
theorem gather_table {α : Type} (x : S8x3x35937.Idx → α) (idx : IVec S8x1048576x1 32) (b : Fin 8) (c : Fin 3) (p : Fin 1048576) :
    Host.gather gather_S8x3x35937_S8x1048576x1_S8x3x1048576_1_2_0_0_2_2_131 x idx (ix3 b c p)
      = x (ix3 b c ⟨min (idx (ix3 b p 0)).toInt.toNat 35936, by omega⟩) := by
  unfold Host.gather
  congr 1
  funext a
  refine Fin.ext ?_
  fin_cases a
  · show GatherDims.start _ _ idx 0 + GatherDims.batchCoord _ _ 0 + GatherDims.offCoord _ _ 0 = _
    rw [GatherDims.start_batching _ _ _ _ (show (0 : Fin 3) ∈ ([0] : List (Fin 3)) by decide), GatherDims.offCoord_eq_zero _ _ _ (fun h => ((GatherDims.mem_sKept _ _).mp h).2 (show (0 : Fin 3) ∈ ([0] : List (Fin 3)) by decide))]
    simp only [Nat.zero_add, Nat.add_zero]
    unfold GatherDims.batchCoord
    exact (dif_pos (show (0 : Fin 3) ∈ ([0] : List (Fin 3)) by decide)).trans rfl
  · show GatherDims.start _ _ idx 1 + GatherDims.batchCoord _ _ 1 + GatherDims.offCoord _ _ 1 = _
    rw [GatherDims.batchCoord_eq_zero _ _ _ (show (1 : Fin 3) ∉ ([0] : List (Fin 3)) by decide)]
    rw [show GatherDims.start gather_S8x3x35937_S8x1048576x1_S8x3x1048576_1_2_0_0_2_2_131 (ix3 b c p) idx 1 = 0 from dif_neg (show (1 : Fin 3) ∉ ([2] : List (Fin 3)) by decide)]
    simp only [Nat.zero_add, Nat.add_zero]
    unfold GatherDims.offCoord
    exact (dif_pos ((GatherDims.mem_sKept _ _).mpr ⟨show (1 : Fin 3) ∉ ([2] : List (Fin 3)) by decide, show (1 : Fin 3) ∉ ([0] : List (Fin 3)) by decide⟩)).trans rfl
  · show GatherDims.start _ _ idx 2 + GatherDims.batchCoord _ _ 2 + GatherDims.offCoord _ _ 2 = _
    rw [GatherDims.batchCoord_eq_zero _ _ _ (show (2 : Fin 3) ∉ ([0] : List (Fin 3)) by decide), GatherDims.offCoord_eq_zero _ _ _ (fun h => ((GatherDims.mem_sKept _ _).mp h).1 (show (2 : Fin 3) ∈ ([2] : List (Fin 3)) by decide))]
    simp only [Nat.add_zero]
    unfold GatherDims.start
    refine (dif_pos (show (2 : Fin 3) ∈ ([2] : List (Fin 3)) by decide)).trans ?_
    have hsi : GatherDims.siIdx gather_S8x3x35937_S8x1048576x1_S8x3x1048576_1_2_0_0_2_2_131 (ix3 b c p) ⟨List.idxOf (2 : Fin 3) ([2] : List (Fin 3)), List.idxOf_lt_length_iff.2 (by decide)⟩ = ix3 b p 0 := by
      funext z
      refine Fin.ext ?_
      fin_cases z <;> rfl
    exact congrArg (fun z => min (idx z).toInt.toNat 35936) hsi

/-! ## The reference's tables -/

theorem v261_apply (V0 : Valuation τ sig (Elt Ideal)) (k c : Fin 3) (ib ig ir : Fin 33) (n : Fin 35937) (hn : n.val = (ib.val*33+ig.val)*33+ir.val) :
    res_main_v261 (F := Ideal) V0 (ix3 k c n) = V0 (Proc.devRef .tc main_arg21) (ix2 (lutRow c ib ig ir) k) := by
  unfold res_main_v261
  refine (shapeCast_apply (t := S3x3x35937) _ _ _ (ix2 k (lutRow c ib ig ir)) (by
    rw [Shape.rowMajor_val_two, Shape.rowMajor_val_three]
    show k.val * 107811 + (lutRow c ib ig ir).val = (k.val*3+c.val)*35937+n.val
    rw [lutRow_val, hn]
    omega)).trans ?_
  exact transpose_apply _ _ _ _ (ix2 (lutRow c ib ig ir) k) (fun b => by fin_cases b <;> rfl)

theorem v263_apply (V0 : Valuation τ sig (Elt Ideal)) (k : Fin 2) (c : Fin 3) (ib ig ir : Fin 33) (n : Fin 35937) (hn : n.val = (ib.val*33+ig.val)*33+ir.val) :
    res_main_v263 (F := Ideal) V0 (ix3 k c n) = V0 (Proc.devRef .tc main_arg21) (ix2 (lutRow c ib ig ir) ⟨k.val + 1, by omega⟩) := by
  unfold res_main_v263
  refine (extractStridedSlice_apply _ _ _ _ (ix3 (⟨k.val + 1, by omega⟩ : Fin 3) c n) (fun b => ?_)).trans (v261_apply V0 _ c ib ig ir n hn)
  fin_cases b
  · exact Nat.add_comm _ _
  · exact (Nat.zero_add _).symm
  · exact (Nat.zero_add _).symm

/-- The largest absolute entry of each rank and channel, as the reference takes it. -/
def rowMax (x : FVec Ideal S2x3x35937 .f32) : FVec Ideal S2x3 .f32 :=
  Host.reduce FloatOps.maximumf (Host.absf x) (constant S_ .f32 0xFF800000#32) reducesTo_S2x3x35937_S2x3_d2 h_S_

theorem v270_largest (V0 : Valuation τ sig (Elt Ideal)) (k : Fin 2) (c : Fin 3) :
    ∃ M, LargestAbs (V0 (Proc.devRef .tc main_arg21)) k c M ∧ res_main_v270 (F := Ideal) V0 (ix3 k c 0) = stepOf M := by
  refine ⟨rowMax (res_main_v263 (F := Ideal) V0) (ix2 k c), ?_, ?_⟩
  · intro b
    refine (maxReduce_le _ _ _ _ _ b).trans (and_congr Iff.rfl ?_)
    have hd : ∀ i : S2x3x35937.Idx, reducesTo_S2x3x35937_S2x3_d2.drop i = ix2 (i 0) (i 1) := fun i => funext fun b => by fin_cases b <;> rfl
    constructor
    · intro h ib ig ir
      have := h (ix3 k c ⟨(ib.val*33+ig.val)*33+ir.val, by omega⟩) (hd _)
      rw [← v263_apply V0 k c ib ig ir ⟨(ib.val*33+ig.val)*33+ir.val, by omega⟩ rfl]
      exact this
    · intro h i hi
      rw [hd] at hi
      have e : i = ix3 k c (i 2) := by
        funext b
        fin_cases b
        · exact congrFun hi 0
        · exact congrFun hi 1
        · rfl
      have h2 : (i 2).val < 35937 := (i 2).isLt
      have := h ⟨(i 2).val / 1089, by omega⟩ ⟨(i 2).val / 33 % 33, by omega⟩ ⟨(i 2).val % 33, by omega⟩
      rw [← v263_apply V0 k c _ _ _ (i 2) (by show (i 2).val = ((i 2).val / 1089 * 33 + (i 2).val / 33 % 33) * 33 + (i 2).val % 33; omega)] at this
      rw [e]
      exact this
  · have e : broadcastInDim S2x3x1 ![0, 1] bcast_S2x3_S2x3x1_0_1 (rowMax (res_main_v263 (F := Ideal) V0)) (ix3 k c 0) = _ :=
      broadcastInDim_apply _ _ _ _ (ix2 k c) (fun b => by fin_cases b <;> rfl)
    rw [← e]
    rfl

/-- The steps of the two programs are one number. -/
theorem v270_eq (V0 : Valuation τ sig (Elt Ideal)) (k : Fin 2) (c : Fin 3) :
    res_main_v270 (F := Ideal) V0 (ix3 k c 0) = scale2 (V0 (Proc.devRef .tc main_arg21)) (ix2 k c) := by
  obtain ⟨M, h, e⟩ := v270_largest V0 k c
  obtain ⟨M', h', e'⟩ := scale2_largest (V0 (Proc.devRef .tc main_arg21)) k c
  rw [e, e', h.unique h']
end Cert.Lut
-- ==== Proof.Cell.lean ====
/-
  One pixel, one colour, over the real numbers: the packed kernel's sum and the trilinear reading of the coarse table
  are one number. No program is mentioned here.
-/
module

public import Mathlib.Data.EReal.Operations
public import Mathlib.Tactic.Ring
public import Mathlib.Tactic.NormNum
public import Mathlib.Tactic.Push

@[expose] public section

namespace Cert.Lut

/-- Weight of the corner `(ob, og, or)` of a cell at the fractions `(dr, dg, db)`, the product taken in the order
    blue, green, red. -/
def corner (dr dg db : ℝ) (ob og orr : ℕ) : ℝ :=
  (if ob = 0 then 1 - db else db) * (if og = 0 then 1 - dg else dg) * (if orr = 0 then 1 - dr else dr)

/-- The sum over the eight corners, from zero, blue slowest and red fastest. -/
def corners (f : ℕ → ℕ → ℕ → ℝ) : ℝ :=
  0 + f 0 0 0 + f 0 0 1 + f 0 1 0 + f 0 1 1 + f 1 0 0 + f 1 0 1 + f 1 1 0 + f 1 1 1

/-- The kernel's sum of one rank's nibbles `n`: per blue plane a bilinear sum, the two planes then weighed. -/
def planes (dr dg db : ℝ) (n : ℕ → ℕ → ℕ → ℝ) : ℝ :=
  0 + (1 - db) * (0 + (1 - dg) * (1 - dr) * n 0 0 0 + (1 - dg) * dr * n 0 0 1 + dg * (1 - dr) * n 0 1 0 + dg * dr * n 0 1 1)
    + db * (0 + (1 - dg) * (1 - dr) * n 1 0 0 + (1 - dg) * dr * n 1 0 1 + dg * (1 - dr) * n 1 1 0 + dg * dr * n 1 1 1)

/-- The kernel's sum `w₀x + bias + c₁·Σ + c₂·Σ` over nibbles `q + 8` is the trilinear reading of the table whose corner
    value is `w₀·identity + w₁·(s₁q₁) + w₂·(s₂q₂)`, when the identity table's corner value is affine with the pixel's own
    value as its reading. -/
theorem cell (w0 w1 w2 s1 s2 x dr dg db a ar ag ab : ℝ) (q1 q2 : ℕ → ℕ → ℕ → ℝ)
    (hx : x = a + ar * dr + ag * dg + ab * db) :
    w0 * x + -8 * (0 + w1 * s1 + w2 * s2) + w1 * s1 * planes dr dg db (fun i j k => q1 i j k + 8)
        + w2 * s2 * planes dr dg db (fun i j k => q2 i j k + 8)
      = corners fun i j k => corner dr dg db i j k
          * (w0 * (a + ar * k + ag * j + ab * i) + w1 * (s1 * q1 i j k) + w2 * (s2 * q2 i j k)) := by
  simp only [planes, corners, corner, hx]
  norm_num
  ring

end Cert.Lut
-- ==== Proof.Coords.lean ====
module
public import proofs.«01_k».proof.Proof.Gathers
public import proofs.«01_k».proof.Proof.Cell
public import Idealize.ShloMosaic.Lib.StackMember
public import Idealize.ShloMosaic.Lib.IndicatorCount
@[expose] public section
set_option maxRecDepth 16384
noncomputable section
namespace Cert.Lut
open Cert.ReferenceIdeal Cert.ReferenceIdeal.Gen Cert.ReferenceIdeal.Value Idealize.ShloMosaic

/-- The reference's quantised tables: the identity table, and the two others with their codes times their steps. -/
def tablesR (V0 : Valuation τ sig (Elt Ideal)) : FVec Ideal S3x3x35937 .f32 :=
  concatenate S3x3x35937 0 [⟨S1x3x35937, (extractStridedSlice S1x3x35937 ![0, 0, 0] (res_main_v261 V0) slices_S3x3x35937_S1x3x35937_0_0_0)⟩, ⟨S2x3x35937, (mulf (broadcastInDim S2x3x35937 ![0, 1, 2] bcast_S2x3x1_S2x3x35937_0_1_2 (res_main_v270 V0)) (minimumf (broadcastInDim S2x3x35937 ![] bcast_S_S2x3x35937 (sitofp .f32 (constantI S_ 32 7#32))) (maximumf (broadcastInDim S2x3x35937 ![] bcast_S_S2x3x35937 (sitofp .f32 (constantI S_ 32 4294967289#32))) (Host.roundeven (Host.divf (res_main_v263 V0) (broadcastInDim S2x3x35937 ![0, 1, 2] bcast_S2x3x1_S2x3x35937_0_1_2 (res_main_v270 V0)))))))⟩] concatenates_S1x3x35937_S2x3x35937_S3x3x35937_d0

theorem tablesR_zero (V0 : Valuation τ sig (Elt Ideal)) (c : Fin 3) (ib ig ir : Fin 33) (n : Fin 35937) (hn : n.val = (ib.val*33+ig.val)*33+ir.val) :
    tablesR V0 (ix3 0 c n) = V0 (Proc.devRef .tc main_arg21) (ix2 (lutRow c ib ig ir) 0) := by
  unfold tablesR
  generalize mulf (F := Ideal) (φ := .f32) _ _ = y
  refine (concatenate_apply_piece (t := S3x3x35937) 0 [⟨S1x3x35937, _⟩, ⟨S2x3x35937, y⟩] _ (ix3 0 c n) 0 (by show 0 < 2; omega) S1x3x35937 _ rfl rfl 0 rfl (ix3 (0 : Fin 1) c n) (fun b hb => ?_) rfl).trans ?_
  · fin_cases b
    · exact absurd rfl hb
    · rfl
    · rfl
  · refine (extractStridedSlice_apply _ _ _ _ (ix3 (0 : Fin 3) c n) (fun b => ?_)).trans (v261_apply V0 0 c ib ig ir n hn)
    fin_cases b
    · rfl
    · exact (Nat.zero_add _).symm
    · exact (Nat.zero_add _).symm

theorem tablesR_code (V0 : Valuation τ sig (Elt Ideal)) (k : Fin 2) (c : Fin 3) (ib ig ir : Fin 33) (n : Fin 35937) (hn : n.val = (ib.val*33+ig.val)*33+ir.val) (a : FVec Ideal S107811x3 .f32) (ha : V0 (Proc.devRef .tc main_arg21) = a) :
    tablesR V0 (ix3 ⟨k.val + 1, by omega⟩ c n) = scale2 a (ix2 k c) * codeOf (a (ix2 (lutRow c ib ig ir) ⟨k.val + 1, by omega⟩)) (scale2 a (ix2 k c)) := by
  have e1 := v263_apply V0 k c ib ig ir n hn
  have e2 := v270_eq V0 k c
  rw [ha] at e1 e2
  have e3 : broadcastInDim S2x3x35937 ![0, 1, 2] bcast_S2x3x1_S2x3x35937_0_1_2 (res_main_v270 (F := Ideal) V0) (ix3 k c n) = scale2 a (ix2 k c) :=
    (broadcastInDim_apply _ _ _ _ (ix3 k c (0 : Fin 1)) (fun b => by fin_cases b <;> rfl)).trans e2
  rw [← e1, ← e3]
  unfold tablesR
  generalize extractStridedSlice S1x3x35937 _ _ _ = x
  refine (concatenate_apply_piece (t := S3x3x35937) 0 [⟨S1x3x35937, x⟩, ⟨S2x3x35937, _⟩] _ (ix3 ⟨k.val + 1, by omega⟩ c n) 1 (by show 1 < 2; omega) S2x3x35937 _ rfl rfl 1 rfl (ix3 k c n) (fun b hb => ?_) (Nat.add_comm _ _)).trans ?_
  · fin_cases b
    · exact absurd rfl hb
    · rfl
    · rfl
  · rfl

theorem v312_apply (V0 : Valuation τ sig (Elt Ideal)) (b : Fin 8) (c : Fin 3) (ib ig ir : Fin 33) (n : Fin 35937) (hn : n.val = (ib.val*33+ig.val)*33+ir.val)
    (a : FVec Ideal S107811x3 .f32) (ha : V0 (Proc.devRef .tc main_arg21) = a) (w : FVec Ideal S8x3 .f32) (hw : res_main_v256 (F := Ideal) V0 = w) :
    res_main_v312 (F := Ideal) V0 (ix3 b c n) = w (ix2 b 0) * a (ix2 (lutRow c ib ig ir) 0)
      + w (ix2 b 1) * (scale2 a (ix2 0 c) * codeOf (a (ix2 (lutRow c ib ig ir) 1)) (scale2 a (ix2 0 c)))
      + w (ix2 b 2) * (scale2 a (ix2 1 c) * codeOf (a (ix2 (lutRow c ib ig ir) 2)) (scale2 a (ix2 1 c))) := by
  have t0 := tablesR_zero V0 c ib ig ir n hn
  have t1 := tablesR_code V0 0 c ib ig ir n hn a ha
  have t2 := tablesR_code V0 1 c ib ig ir n hn a ha
  rw [ha] at t0
  have hs : ∀ k : Fin 3, shapeCast S3x107811 (tablesR V0) shapeCasts_S3x3x35937_S3x107811 (ix2 k (lutRow c ib ig ir)) = tablesR V0 (ix3 k c n) := fun k =>
    shapeCast_apply _ _ _ _ (by
      rw [Shape.rowMajor_val_two, Shape.rowMajor_val_three]
      show (k.val*3+c.val)*35937+n.val = k.val * 107811 + (lutRow c ib ig ir).val
      rw [lutRow_val, hn]; omega)
  have hd := Idealize.ShloMosaic.StackMember.dotGeneral_plain_apply (m := 8) (k := 3) (n := 107811) none w (shapeCast S3x107811 (tablesR V0) shapeCasts_S3x3x35937_S3x107811) b (lutRow c ib ig ir)
  rw [Fin.sum_univ_three] at hd
  refine Eq.trans ?_ (hd.trans ?_)
  · rw [← hw]
    unfold res_main_v312
    refine (shapeCast_apply (t := S8x3x35937) (s := S8x3x33x33x33) _ _ _ (ix5 b c ib ig ir) (by
      rw [Shape.rowMajor_val_three, Shape.rowMajor_val_five]
      show (((b.val*3+c.val)*33+ib.val)*33+ig.val)*33+ir.val = (b.val*3+c.val)*35937+n.val
      rw [hn]; omega)).trans ?_
    refine (shapeCast_apply (t := S8x3x33x33x33) (s := S8x107811) _ _ _ (ix2 b (lutRow c ib ig ir)) (by
      rw [Shape.rowMajor_val_two, Shape.rowMajor_val_five]
      show b.val * 107811 + (lutRow c ib ig ir).val = (((b.val*3+c.val)*33+ib.val)*33+ig.val)*33+ir.val
      rw [lutRow_val]; omega)).trans ?_
    rfl
  · exact congrArg₂ (· + ·) (congrArg₂ (· + ·) (congrArg (w (ix2 b 0) * ·) ((hs 0).trans t0)) (congrArg (w (ix2 b 1) * ·) ((hs 1).trans t1))) (congrArg (w (ix2 b 2) * ·) ((hs 2).trans t2))

/-! ## The reference's coordinates -/

/-- The number of vertices at or below a number in [0, ∞). -/
theorem card_le (x : ℝ) (hx : 0 ≤ x) : (Finset.univ.filter fun i : Fin 33 => ((i.val / 32 : ℝ)) ≤ x).card = min (⌊32 * x⌋₊ + 1) 33 := by
  have e : (Finset.univ.filter fun i : Fin 33 => ((i.val / 32 : ℝ)) ≤ x) = Finset.univ.filter fun i : Fin 33 => i.val < min (⌊32 * x⌋₊ + 1) 33 := by
    ext i
    simp only [Finset.mem_filter, Finset.mem_univ, true_and]
    have h1 : (i.val / 32 : ℝ) ≤ x ↔ i.val ≤ ⌊32 * x⌋₊ := by
      rw [Nat.le_floor_iff (by positivity), div_le_iff₀ (by norm_num), mul_comm]
    have := i.isLt
    rw [h1]; omega
  rw [e, Fin.card_filter_val_lt]
  omega

theorem v281_apply (V0 : Valuation τ sig (Elt Ideal)) (v : FVec Ideal S1x3x33 .f32) (hv : V0 (Proc.devRef .tc main_arg22) = v) (b : Fin 8) (c : Fin 3) (i : Fin 33) :
    res_main_v281 (F := Ideal) V0 (ix3 b c i) = v (ix3 0 c i) := by
  unfold res_main_v281
  rw [hv]
  exact broadcastInDim_apply _ _ _ _ (ix3 (0 : Fin 1) c i) (fun b => by fin_cases b <;> rfl)

/-- A pixel's place in a flattened image. -/
def pix (y z : Fin 1024) : Fin 1048576 := ⟨y.val * 1024 + z.val, by omega⟩
theorem pix_val (y z : Fin 1024) : (pix y z).val = y.val * 1024 + z.val := rfl

theorem v282_apply (V0 : Valuation τ sig (Elt Ideal)) (X : FVec Ideal S8x3x1024x1024 .f32) (hX : V0 (Proc.devRef .tc main_arg0) = X) (b : Fin 8) (c : Fin 3) (y z : Fin 1024) :
    res_main_v282 (F := Ideal) V0 (ix3 b c (pix y z)) = X (ix4 b c y z) := by
  unfold res_main_v282
  rw [hX]
  refine shapeCast_apply (t := S8x3x1048576) (s := S8x3x1024x1024) _ _ _ _ ?_
  rw [Shape.rowMajor_val_three, Shape.rowMajor_val_four]
  show ((b.val*3+c.val)*1024+y.val)*1024+z.val = (b.val*3+c.val)*1048576+(pix y z).val
  rw [pix_val]; omega

theorem toInt_le_31 (n : ℕ) (h : n ≤ 40) : (BitVec.ofNat 32 n).toInt = n := toInt_small n (by omega)

theorem v292_apply (V0 : Valuation τ sig (Elt Ideal)) (v : FVec Ideal S1x3x33 .f32) (hv : V0 (Proc.devRef .tc main_arg22) = v) (b : Fin 8) (c : Fin 3) (p : Fin 1048576)
    (hvx : ∀ i : Fin 33, v (ix3 0 c i) = ((i.val / 32 : ℝ) : EReal)) (x : ℝ) (hx : 0 ≤ x) (hX : res_main_v282 (F := Ideal) V0 (ix3 b c p) = (x : EReal)) :
    res_main_v292 (F := Ideal) V0 (ix3 b c p) = BitVec.ofNat 32 (cellOf x) := by
  have hcount : Host.reduce IntOp.addi (extui 32 (cmpf .ole (broadcastInDim S8x3x33x1048576 ![0, 1, 2, 3] bcast_S8x3x33x1_S8x3x33x1048576_0_1_2_3 (broadcastInDim S8x3x33x1 ![0, 1, 2] bcast_S8x3x33_S8x3x33x1_0_1_2 (res_main_v281 V0))) (broadcastInDim S8x3x33x1048576 ![0, 1, 2, 3] bcast_S8x3x1x1048576_S8x3x33x1048576_0_1_2_3 (broadcastInDim S8x3x1x1048576 ![0, 1, 3] bcast_S8x3x1048576_S8x3x1x1048576_0_1_3 (res_main_v282 (F := Ideal) V0)))) natLt_1_32) (constantI S_ 32 0#32) reducesTo_S8x3x33x1048576_S8x3x1048576_d2 h_S_ (ix3 b c p) = BitVec.ofNat 32 (min (⌊32 * x⌋₊ + 1) 33) := by
    rw [Host.reduce_eq_fold]
    refine (IndicatorCount.fold_addi_setWidth_eq_card _ _).trans (congrArg _ ?_)
    rw [← card_le x hx]
    have hd : ∀ i : S8x3x33x1048576.Idx, reducesTo_S8x3x33x1048576_S8x3x1048576_d2.drop i = ix3 (i 0) (i 1) (i 3) := fun i => funext fun b => by fin_cases b <;> rfl
    have hp : ∀ i : Fin 33, cmpf .ole (broadcastInDim S8x3x33x1048576 ![0, 1, 2, 3] bcast_S8x3x33x1_S8x3x33x1048576_0_1_2_3 (broadcastInDim S8x3x33x1 ![0, 1, 2] bcast_S8x3x33_S8x3x33x1_0_1_2 (res_main_v281 V0))) (broadcastInDim S8x3x33x1048576 ![0, 1, 2, 3] bcast_S8x3x1x1048576_S8x3x33x1048576_0_1_2_3 (broadcastInDim S8x3x1x1048576 ![0, 1, 3] bcast_S8x3x1048576_S8x3x1x1048576_0_1_3 (res_main_v282 (F := Ideal) V0))) (ix4 b c i p) = 1#1 ↔ (i.val / 32 : ℝ) ≤ x := by
      intro i
      have e1 : broadcastInDim S8x3x33x1048576 ![0, 1, 2, 3] bcast_S8x3x33x1_S8x3x33x1048576_0_1_2_3 (broadcastInDim S8x3x33x1 ![0, 1, 2] bcast_S8x3x33_S8x3x33x1_0_1_2 (res_main_v281 (F := Ideal) V0)) (ix4 b c i p) = ((i.val / 32 : ℝ) : EReal) := by
        refine (broadcastInDim_apply _ _ _ _ (ix4 b c i (0 : Fin 1)) (fun b => by fin_cases b <;> rfl)).trans ?_
        refine (broadcastInDim_apply _ _ _ _ (ix3 b c i) (fun b => by fin_cases b <;> rfl)).trans ?_
        rw [v281_apply V0 v hv, hvx]
      have e2 : broadcastInDim S8x3x33x1048576 ![0, 1, 2, 3] bcast_S8x3x1x1048576_S8x3x33x1048576_0_1_2_3 (broadcastInDim S8x3x1x1048576 ![0, 1, 3] bcast_S8x3x1048576_S8x3x1x1048576_0_1_3 (res_main_v282 (F := Ideal) V0)) (ix4 b c i p) = (x : EReal) := by
        refine (broadcastInDim_apply _ _ _ _ (ix4 b c (0 : Fin 1) p) (fun b => by fin_cases b <;> rfl)).trans ?_
        exact (broadcastInDim_apply _ _ _ _ (ix3 b c p) (fun b => by fin_cases b <;> rfl)).trans hX
      show Ideal.cmp .ole _ _ = 1#1 ↔ _
      rw [e1, e2]
      unfold Ideal.cmp
      by_cases h : (i.val / 32 : ℝ) ≤ x <;> simp [BitVec.ofBool, h]
    symm
    refine Finset.card_bij (fun i _ => ix4 b c i p) (fun i hi => ?_) (fun i _ j _ h => congrFun h 2) (fun k hk => ?_)
    · rw [Finset.mem_filter] at hi
      rw [Finset.mem_filter, Finset.mem_filter]
      exact ⟨⟨Finset.mem_univ _, hd _⟩, (hp i).2 hi.2⟩
    · rw [Finset.mem_filter, Finset.mem_filter] at hk
      have hk1 := hk.1.2
      rw [hd] at hk1
      have e : ix4 b c (k 2) p = k := by
        funext z
        fin_cases z
        · exact (congrFun hk1 0).symm
        · exact (congrFun hk1 1).symm
        · rfl
        · exact (congrFun hk1 2).symm
      exact ⟨k 2, Finset.mem_filter.2 ⟨Finset.mem_univ _, (hp (k 2)).1 ((congrArg _ e).trans hk.2)⟩, e⟩
  unfold res_main_v292
  show IntOp.minsi 31#32 (IntOp.maxsi 0#32 (IntOp.subi (Host.reduce IntOp.addi _ _ _ _ (ix3 b c p)) 1#32)) = _
  rw [hcount]
  have hsub : IntOp.subi (BitVec.ofNat 32 (min (⌊32 * x⌋₊ + 1) 33)) 1#32 = BitVec.ofNat 32 (min ⌊32 * x⌋₊ 32) := by
    apply BitVec.eq_of_toNat_eq
    show (BitVec.ofNat 32 _ - 1#32).toNat = _
    rw [BitVec.toNat_sub, BitVec.toNat_ofNat, BitVec.toNat_ofNat, BitVec.toNat_ofNat]
    omega
  rw [hsub]
  unfold cellOf
  obtain ⟨m, hm⟩ : ∃ m, m = ⌊32 * x⌋₊ := ⟨_, rfl⟩
  rw [← hm]
  obtain h | h : min m 32 ≤ 31 ∨ min m 32 = 32 := by omega
  · have e : min m 31 = min m 32 := by omega
    rw [e]
    generalize min m 32 = r at h
    interval_cases r <;> rfl
  · have e : min m 31 = 31 := by omega
    rw [e, h]; rfl

/-- The vertex axis looked up at a word below 33. -/
theorem axis_look (x : FVec Ideal S8x3x33 .f32) (u : IVec S8x3x1048576 32) (b : Fin 8) (c : Fin 3) (p : Fin 1048576) (n : Fin 33) (hu : u (ix3 b c p) = BitVec.ofNat 32 n.val) :
    Host.gather gather_S8x3x33_S8x3x1048576x1_S8x3x1048576_n_2_01_01_2_3_111 x (shapeCast _ (select (cmpi .slt u (broadcastInDim S8x3x1048576 ![] bcast_S_S8x3x1048576 (constantI S_ 32 0#32))) (addi u (broadcastInDim S8x3x1048576 ![] bcast_S_S8x3x1048576 (constantI S_ 32 33#32))) u) shapeCasts_S8x3x1048576_S8x3x1048576x1) (ix3 b c p) = x (ix3 b c n) := by
  have hi : (BitVec.ofNat 32 n.val).toInt = n.val := toInt_small _ (by omega)
  have e : shapeCast S8x3x1048576x1 (select (cmpi .slt u (broadcastInDim S8x3x1048576 ![] bcast_S_S8x3x1048576 (constantI S_ 32 0#32))) (addi u (broadcastInDim S8x3x1048576 ![] bcast_S_S8x3x1048576 (constantI S_ 32 33#32))) u) shapeCasts_S8x3x1048576_S8x3x1048576x1 (ix4 b c p 0) = BitVec.ofNat 32 n.val := by
    refine (shapeCast_apply _ _ _ (ix3 b c p) (by
      rw [Shape.rowMajor_val_three, Shape.rowMajor_val_four]
      show (b.val*3+c.val)*1048576+p.val = ((b.val*3+c.val)*1048576+p.val)*1+0
      omega)).trans ?_
    have hf : IntOp.cmpi .slt (u (ix3 b c p)) 0#32 = 0#1 := by
      rw [hu]
      show BitVec.ofBool ((BitVec.ofNat 32 n.val).slt 0#32) = 0#1
      rw [BitVec.slt, hi, decide_eq_false (by show ¬ ((n.val : ℤ) < 0); omega)]
      rfl
    exact (if_neg (fun h => absurd (hf.symm.trans h) (by decide))).trans hu
  refine (gather_axis _ _ b c p).trans (congrArg (fun z => x (ix3 b c z)) (Fin.ext ?_))
  refine (congrArg (fun z : BitVec 32 => min z.toInt.toNat 32) e).trans ?_
  rw [hi]
  show min (n.val : ℤ).toNat 32 = n.val
  omega

/-- A table looked up at a word below its length. -/
theorem table_look (x : FVec Ideal S8x3x35937 .f32) (u : IVec S8x1x1048576 32) (b : Fin 8) (c : Fin 3) (p : Fin 1048576) (n : Fin 35937) (hu : u (ix3 b 0 p) = BitVec.ofNat 32 n.val) :
    Host.gather gather_S8x3x35937_S8x1048576x1_S8x3x1048576_1_2_0_0_2_2_131 x (shapeCast _ (select (cmpi .slt u (broadcastInDim S8x1x1048576 ![] bcast_S_S8x1x1048576 (constantI S_ 32 0#32))) (addi u (broadcastInDim S8x1x1048576 ![] bcast_S_S8x1x1048576 (constantI S_ 32 35937#32))) u) shapeCasts_S8x1x1048576_S8x1048576x1) (ix3 b c p) = x (ix3 b c n) := by
  have hi : (BitVec.ofNat 32 n.val).toInt = n.val := toInt_small _ (by omega)
  have e : shapeCast S8x1048576x1 (select (cmpi .slt u (broadcastInDim S8x1x1048576 ![] bcast_S_S8x1x1048576 (constantI S_ 32 0#32))) (addi u (broadcastInDim S8x1x1048576 ![] bcast_S_S8x1x1048576 (constantI S_ 32 35937#32))) u) shapeCasts_S8x1x1048576_S8x1048576x1 (ix3 b p 0) = BitVec.ofNat 32 n.val := by
    refine (shapeCast_apply _ _ _ (ix3 b 0 p) (by
      rw [Shape.rowMajor_val_three, Shape.rowMajor_val_three]
      show (b.val*1+0)*1048576+p.val = (b.val*1048576+p.val)*1+0
      omega)).trans ?_
    have hf : IntOp.cmpi .slt (u (ix3 b 0 p)) 0#32 = 0#1 := by
      rw [hu]
      show BitVec.ofBool ((BitVec.ofNat 32 n.val).slt 0#32) = 0#1
      rw [BitVec.slt, hi, decide_eq_false (by show ¬ ((n.val : ℤ) < 0); omega)]
      rfl
    exact (if_neg (fun h => absurd (hf.symm.trans h) (by decide))).trans hu
  refine (gather_table _ _ b c p).trans (congrArg (fun z => x (ix3 b c z)) (Fin.ext ?_))
  refine (congrArg (fun z : BitVec 32 => min z.toInt.toNat 35936) e).trans ?_
  rw [hi]
  show min (n.val : ℤ).toNat 35936 = n.val
  omega

/-- The reference's position within the cell. -/
theorem v299_apply (V0 : Valuation τ sig (Elt Ideal)) (v : FVec Ideal S1x3x33 .f32) (hv : V0 (Proc.devRef .tc main_arg22) = v) (b : Fin 8) (c : Fin 3) (p : Fin 1048576)
    (hvx : ∀ i : Fin 33, v (ix3 0 c i) = ((i.val / 32 : ℝ) : EReal)) (x : ℝ) (hx : 0 ≤ x) (hX : res_main_v282 (F := Ideal) V0 (ix3 b c p) = (x : EReal)) :
    res_main_v299 (F := Ideal) V0 (ix3 b c p) = ((32 * x - cellOf x : ℝ) : EReal) := by
  have h1 := v292_apply V0 v hv b c p hvx x hx hX
  have hc := cellOf_le x
  have h2 : res_main_v295 (F := Ideal) V0 (ix3 b c p) = BitVec.ofNat 32 (cellOf x + 1) := by
    unfold res_main_v295
    show IntOp.addi (res_main_v292 (F := Ideal) V0 (ix3 b c p)) 1#32 = _
    rw [h1]
    exact (BitVec.ofNat_add _ _).symm
  have g1 : res_main_v293 (F := Ideal) V0 (ix3 b c p) = ((cellOf x / 32 : ℝ) : EReal) := by
    unfold res_main_v293
    refine (axis_look _ _ b c p ⟨cellOf x, by omega⟩ h1).trans ?_
    rw [v281_apply V0 v hv, hvx]
  have g2 : Host.gather gather_S8x3x33_S8x3x1048576x1_S8x3x1048576_n_2_01_01_2_3_111 (res_main_v281 (F := Ideal) V0) (shapeCast _ (select (cmpi .slt (res_main_v295 V0) (broadcastInDim S8x3x1048576 ![] bcast_S_S8x3x1048576 (constantI S_ 32 0#32))) (addi (res_main_v295 V0) (broadcastInDim S8x3x1048576 ![] bcast_S_S8x3x1048576 (constantI S_ 32 33#32))) (res_main_v295 V0)) shapeCasts_S8x3x1048576_S8x3x1048576x1) (ix3 b c p) = (((cellOf x + 1 : ℕ) / 32 : ℝ) : EReal) := by
    refine (axis_look _ _ b c p ⟨cellOf x + 1, by omega⟩ h2).trans ?_
    rw [v281_apply V0 v hv, hvx]
  unfold res_main_v299
  refine (congrArg₂ Ideal.div (congrArg₂ (fun s t : EReal => s - t) hX g1) (congrArg₂ (fun s t : EReal => s - t) g2 g1)).trans ?_
  show Ideal.div ((x : EReal) - ((cellOf x / 32 : ℝ) : EReal)) ((((cellOf x + 1 : ℕ) / 32 : ℝ) : EReal) - ((cellOf x / 32 : ℝ) : EReal)) = _
  rw [← EReal.coe_sub, ← EReal.coe_sub, div_real _ _ (by push_cast; ring_nf; norm_num)]
  refine congrArg (fun r : ℝ => (r : EReal)) ?_
  rw [Nat.cast_add, Nat.cast_one]
  field_simp
  ring

/-- A corner's place in a table, as the reference counts it. -/
def cornerIndex (B G R : IVec S8x1048576 32) (kb kg kr : BitVec 32) : IVec S8x1x1048576 32 :=
  broadcastInDim S8x1x1048576 ![0, 2] bcast_S8x1048576_S8x1x1048576_0_2 (addi (muli (addi (muli (addi B (broadcastInDim S8x1048576 ![] bcast_S_S8x1048576 (constantI S_ 32 kb))) (broadcastInDim S8x1048576 ![] bcast_S_S8x1048576 (constantI S_ 32 33#32))) (addi G (broadcastInDim S8x1048576 ![] bcast_S_S8x1048576 (constantI S_ 32 kg)))) (broadcastInDim S8x1048576 ![] bcast_S_S8x1048576 (constantI S_ 32 33#32))) (addi R (broadcastInDim S8x1048576 ![] bcast_S_S8x1048576 (constantI S_ 32 kr))))

theorem cornerIndex_apply (B G R : IVec S8x1048576 32) (kb kg kr ib ig ir : ℕ) (b : Fin 8) (p : Fin 1048576)
    (hB : B (ix2 b p) = BitVec.ofNat 32 ib) (hG : G (ix2 b p) = BitVec.ofNat 32 ig) (hR : R (ix2 b p) = BitVec.ofNat 32 ir) :
    cornerIndex B G R (BitVec.ofNat 32 kb) (BitVec.ofNat 32 kg) (BitVec.ofNat 32 kr) (ix3 b 0 p) = BitVec.ofNat 32 (((ib + kb) * 33 + (ig + kg)) * 33 + (ir + kr)) := by
  unfold cornerIndex
  refine (broadcastInDim_apply _ _ _ _ (ix2 b p) (fun b => by fin_cases b <;> rfl)).trans ?_
  show ((((B (ix2 b p) + BitVec.ofNat 32 kb) * BitVec.ofNat 32 33) + (G (ix2 b p) + BitVec.ofNat 32 kg)) * BitVec.ofNat 32 33) + (R (ix2 b p) + BitVec.ofNat 32 kr) = _
  rw [hB, hG, hR]
  simp only [BitVec.ofNat_add, BitVec.ofNat_mul]

/-- One corner's share of the reference's image. -/
def cornerTerm (wb wg wr : FVec Ideal S8x1048576 .f32) (T : FVec Ideal S8x3x35937 .f32) (u : IVec S8x1x1048576 32) : FVec Ideal S8x3x1048576 .f32 :=
  mulf (broadcastInDim S8x3x1048576 ![0, 1, 2] bcast_S8x1x1048576_S8x3x1048576_0_1_2 (broadcastInDim S8x1x1048576 ![0, 2] bcast_S8x1048576_S8x1x1048576_0_2 (mulf (mulf wb wg) wr))) (Host.gather gather_S8x3x35937_S8x1048576x1_S8x3x1048576_1_2_0_0_2_2_131 T (shapeCast _ (select (cmpi .slt u (broadcastInDim S8x1x1048576 ![] bcast_S_S8x1x1048576 (constantI S_ 32 0#32))) (addi u (broadcastInDim S8x1x1048576 ![] bcast_S_S8x1x1048576 (constantI S_ 32 35937#32))) u) shapeCasts_S8x1x1048576_S8x1048576x1))

theorem cornerTerm_apply (wb wg wr : FVec Ideal S8x1048576 .f32) (T : FVec Ideal S8x3x35937 .f32) (u : IVec S8x1x1048576 32) (b : Fin 8) (c : Fin 3) (p : Fin 1048576) (n : Fin 35937) (hu : u (ix3 b 0 p) = BitVec.ofNat 32 n.val) :
    cornerTerm wb wg wr T u (ix3 b c p) = wb (ix2 b p) * wg (ix2 b p) * wr (ix2 b p) * T (ix3 b c n) := by
  have e : broadcastInDim S8x3x1048576 ![0, 1, 2] bcast_S8x1x1048576_S8x3x1048576_0_1_2 (broadcastInDim S8x1x1048576 ![0, 2] bcast_S8x1048576_S8x1x1048576_0_2 (mulf (mulf wb wg) wr)) (ix3 b c p) = wb (ix2 b p) * wg (ix2 b p) * wr (ix2 b p) := by
    refine (broadcastInDim_apply _ _ _ _ (ix3 b (0 : Fin 1) p) (fun b => by fin_cases b <;> rfl)).trans ?_
    exact broadcastInDim_apply _ _ _ _ (ix2 b p) (fun b => by fin_cases b <;> rfl)
  exact congrArg₂ (fun s t : EReal => s * t) e (table_look T u b c p n hu)

/-- One minus a position. -/
def rest (d : FVec Ideal S8x1048576 .f32) : FVec Ideal S8x1048576 .f32 :=
  subf (broadcastInDim S8x1048576 ![] bcast_S_S8x1048576 (constant S_ .f32 0x3F800000#32)) d

theorem rest_apply (d : FVec Ideal S8x1048576 .f32) (j : S8x1048576.Idx) (r : ℝ) (h : d j = (r : EReal)) : rest d j = ((1 - r : ℝ) : EReal) := by
  refine (congrArg₂ (fun s t : EReal => s - t) one_bits h).trans ?_
  exact (EReal.coe_sub _ _).symm

/-- The reference's image, corner by corner. -/
def cornersR (B G R : IVec S8x1048576 32) (db dg dr : FVec Ideal S8x1048576 .f32) (T : FVec Ideal S8x3x35937 .f32) : FVec Ideal S8x3x1048576 .f32 :=
  addf (addf (addf (addf (addf (addf (addf (addf (broadcastInDim S8x3x1048576 ![] bcast_S_S8x3x1048576 (constant S_ .f32 0x00000000#32))
    (cornerTerm (rest db) (rest dg) (rest dr) T (cornerIndex B G R 0#32 0#32 0#32)))
    (cornerTerm (rest db) (rest dg) dr T (cornerIndex B G R 0#32 0#32 1#32)))
    (cornerTerm (rest db) dg (rest dr) T (cornerIndex B G R 0#32 1#32 0#32)))
    (cornerTerm (rest db) dg dr T (cornerIndex B G R 0#32 1#32 1#32)))
    (cornerTerm db (rest dg) (rest dr) T (cornerIndex B G R 1#32 0#32 0#32)))
    (cornerTerm db (rest dg) dr T (cornerIndex B G R 1#32 0#32 1#32)))
    (cornerTerm db dg (rest dr) T (cornerIndex B G R 1#32 1#32 0#32)))
    (cornerTerm db dg dr T (cornerIndex B G R 1#32 1#32 1#32))

theorem cornersR_apply (B G R : IVec S8x1048576 32) (db dg dr : FVec Ideal S8x1048576 .f32) (T : FVec Ideal S8x3x35937 .f32) (ib ig ir : ℕ) (hib : ib ≤ 31) (hig : ig ≤ 31) (hir : ir ≤ 31) (b : Fin 8) (c : Fin 3) (p : Fin 1048576)
    (hB : B (ix2 b p) = BitVec.ofNat 32 ib) (hG : G (ix2 b p) = BitVec.ofNat 32 ig) (hR : R (ix2 b p) = BitVec.ofNat 32 ir)
    (xb xg xr : ℝ) (hb : db (ix2 b p) = (xb : EReal)) (hg : dg (ix2 b p) = (xg : EReal)) (hr : dr (ix2 b p) = (xr : EReal))
    (t : ℕ → ℕ → ℕ → ℝ) (ht : ∀ i j k : Fin 2, ∀ n : Fin 35937, n.val = ((ib + i.val) * 33 + (ig + j.val)) * 33 + (ir + k.val) → T (ix3 b c n) = (t i.val j.val k.val : EReal)) :
    cornersR B G R db dg dr T (ix3 b c p) = ((corners fun i j k => corner xr xg xb i j k * t i j k : ℝ) : EReal) := by
  have term : ∀ (wb wg wr : FVec Ideal S8x1048576 .f32) (rb rg rr : ℝ) (i j k : Fin 2), wb (ix2 b p) = (rb : EReal) → wg (ix2 b p) = (rg : EReal) → wr (ix2 b p) = (rr : EReal) →
      cornerTerm wb wg wr T (cornerIndex B G R (BitVec.ofNat 32 i.val) (BitVec.ofNat 32 j.val) (BitVec.ofNat 32 k.val)) (ix3 b c p) = ((rb * rg * rr * t i.val j.val k.val : ℝ) : EReal) := by
    intro wb wg wr rb rg rr i j k h1 h2 h3
    rw [cornerTerm_apply wb wg wr T _ b c p ⟨((ib + i.val) * 33 + (ig + j.val)) * 33 + (ir + k.val), by omega⟩ (cornerIndex_apply B G R _ _ _ ib ig ir b p hB hG hR), ht i j k _ rfl, h1, h2, h3]
    rw [← EReal.coe_mul, ← EReal.coe_mul, ← EReal.coe_mul]
  have nb := rest_apply db _ _ hb
  have ng := rest_apply dg _ _ hg
  have nr := rest_apply dr _ _ hr
  show Ideal.ofBits .f32 0x00000000#32
    + cornerTerm (rest db) (rest dg) (rest dr) T (cornerIndex B G R (BitVec.ofNat 32 (0 : Fin 2).val) (BitVec.ofNat 32 (0 : Fin 2).val) (BitVec.ofNat 32 (0 : Fin 2).val)) (ix3 b c p)
    + cornerTerm (rest db) (rest dg) dr T (cornerIndex B G R (BitVec.ofNat 32 (0 : Fin 2).val) (BitVec.ofNat 32 (0 : Fin 2).val) (BitVec.ofNat 32 (1 : Fin 2).val)) (ix3 b c p)
    + cornerTerm (rest db) dg (rest dr) T (cornerIndex B G R (BitVec.ofNat 32 (0 : Fin 2).val) (BitVec.ofNat 32 (1 : Fin 2).val) (BitVec.ofNat 32 (0 : Fin 2).val)) (ix3 b c p)
    + cornerTerm (rest db) dg dr T (cornerIndex B G R (BitVec.ofNat 32 (0 : Fin 2).val) (BitVec.ofNat 32 (1 : Fin 2).val) (BitVec.ofNat 32 (1 : Fin 2).val)) (ix3 b c p)
    + cornerTerm db (rest dg) (rest dr) T (cornerIndex B G R (BitVec.ofNat 32 (1 : Fin 2).val) (BitVec.ofNat 32 (0 : Fin 2).val) (BitVec.ofNat 32 (0 : Fin 2).val)) (ix3 b c p)
    + cornerTerm db (rest dg) dr T (cornerIndex B G R (BitVec.ofNat 32 (1 : Fin 2).val) (BitVec.ofNat 32 (0 : Fin 2).val) (BitVec.ofNat 32 (1 : Fin 2).val)) (ix3 b c p)
    + cornerTerm db dg (rest dr) T (cornerIndex B G R (BitVec.ofNat 32 (1 : Fin 2).val) (BitVec.ofNat 32 (1 : Fin 2).val) (BitVec.ofNat 32 (0 : Fin 2).val)) (ix3 b c p)
    + cornerTerm db dg dr T (cornerIndex B G R (BitVec.ofNat 32 (1 : Fin 2).val) (BitVec.ofNat 32 (1 : Fin 2).val) (BitVec.ofNat 32 (1 : Fin 2).val)) (ix3 b c p) = _
  rw [term _ _ _ _ _ _ 0 0 0 nb ng nr, term _ _ _ _ _ _ 0 0 1 nb ng hr, term _ _ _ _ _ _ 0 1 0 nb hg nr, term _ _ _ _ _ _ 0 1 1 nb hg hr,
    term _ _ _ _ _ _ 1 0 0 hb ng nr, term _ _ _ _ _ _ 1 0 1 hb ng hr, term _ _ _ _ _ _ 1 1 0 hb hg nr, term _ _ _ _ _ _ 1 1 1 hb hg hr, zero_bits]
  rw [← EReal.coe_zero]
  simp only [← EReal.coe_add]
  rfl
end Cert.Lut
-- ==== Proof.Image.lean ====
module
public import proofs.«01_k».proof.Proof.Coords
@[expose] public section
set_option maxRecDepth 16384
noncomputable section
namespace Cert.Lut
open Idealize.ShloMosaic
open Cert.KernelIdeal (S107811x3 S8x3 S8x3x1024x1024 S8x10 S3x284x1x128 S1x3x33)

/-- A table vertex's row, from plain numbers. -/
def rowN (c : Fin 3) (ib ig ir : ℕ) : Fin 107811 := ⟨(((c.val*33+ib)*33+ig)*33+ir) % 107811, Nat.mod_lt _ (by norm_num)⟩

theorem rowN_eq (c : Fin 3) (ib ig ir : Fin 33) : rowN c ib.val ig.val ir.val = lutRow c ib ig ir := by
  apply Fin.ext
  show (((c.val*33+ib.val)*33+ig.val)*33+ir.val) % 107811 = _
  rw [lutRow_val, Nat.mod_eq_of_lt]
  omega

/-- The step of rank `k + 1`, channel `c`, as a real number. -/
def stepN (a : FVec Ideal S107811x3 .f32) (k : Fin 2) (c : Fin 3) : ℝ := (scale2 a (ix2 k c)).toReal

/-- The code of an entry as a real number. -/
def codeN (a : FVec Ideal S107811x3 .f32) (k : Fin 2) (c : Fin 3) (ib ig ir : ℕ) : ℝ :=
  (codeOf (a (ix2 (rowN c ib ig ir) ⟨k.val + 1, by omega⟩)) (scale2 a (ix2 k c))).toReal

/-- An image's weight as a real number. -/
def weightN (w : FVec Ideal S8x3 .f32) (n : Fin 8) (k : Fin 3) : ℝ := (w (ix2 n k)).toReal

theorem coe_toReal_of {x : EReal} (h : ∃ r : ℝ, x = r) : x = ((x.toReal : ℝ) : EReal) := by
  obtain ⟨r, rfl⟩ := h
  rw [EReal.toReal_coe]

theorem scale_real {a : FVec Ideal S107811x3 .f32} (ha : IsReal a) (k : Fin 2) (c : Fin 3) : ∃ r : ℝ, 0 < r ∧ scale2 a (ix2 k c) = r := by
  obtain ⟨M, h, e⟩ := scale2_largest a k c
  obtain ⟨r, rfl⟩ := h.real ha
  obtain ⟨q, hq, e'⟩ := stepOf_pos r
  exact ⟨q, hq, e.trans e'⟩

theorem step_eq {a : FVec Ideal S107811x3 .f32} (ha : IsReal a) (k : Fin 2) (c : Fin 3) : scale2 a (ix2 k c) = (stepN a k c : EReal) := by
  obtain ⟨r, _, e⟩ := scale_real ha k c
  exact coe_toReal_of ⟨r, e⟩

theorem weight_eq {w : FVec Ideal S8x3 .f32} (hw : IsReal w) (n : Fin 8) (k : Fin 3) : w (ix2 n k) = (weightN w n k : EReal) := coe_toReal_of (hw _)

theorem code_eq {a : FVec Ideal S107811x3 .f32} (ha : IsReal a) (k : Fin 2) (c : Fin 3) (ib ig ir : ℕ) :
    codeOf (a (ix2 (rowN c ib ig ir) ⟨k.val + 1, by omega⟩)) (scale2 a (ix2 k c)) = (codeN a k c ib ig ir : EReal) := by
  obtain ⟨s, hs, e⟩ := scale_real ha k c
  obtain ⟨r, e'⟩ := ha (ix2 (rowN c ib ig ir) ⟨k.val + 1, by omega⟩)
  refine coe_toReal_of ?_
  rw [e, e']
  obtain ⟨n, _, _, h⟩ := codeOf_int r s hs
  exact ⟨_, h⟩

/-- A field of the packed word at a vertex: the code one step along green and red, plus 8. -/
theorem field_around {a : FVec Ideal S107811x3 .f32} (ha : IsReal a) (c : Fin 3) (ib ig ir : ℕ) (hb : ib ≤ 32) (hg : ig ≤ 31) (hr : ir ≤ 31) (k dg dr : Fin 2) :
    field (word (around (padded (ratio2 a)) c ⟨ib, by omega⟩ ⟨ig, by omega⟩ ⟨ir, by omega⟩)) (BitVec.ofNat 32 (4 * (4 * k.val + 2 * dg.val + dr.val)))
      = ((codeN a k c ib (ig + dg.val) (ir + dr.val) + 8 : ℝ) : EReal) := by
  have key : ∀ j : Fin 8, around (padded (ratio2 a)) c ⟨ib, by omega⟩ ⟨ig, by omega⟩ ⟨ir, by omega⟩ j
      = nibOf (a (ix2 (rowN c ib (ig + j.val / 2 % 2) (ir + j.val % 2)) ⟨j.val / 4 + 1, by omega⟩)) (scale2 a (ix2 ⟨j.val / 4, by omega⟩ c)) := by
    intro j
    refine (padded_apply _ _ c ⟨ib, by omega⟩ ⟨ig + j.val / 2 % 2, by omega⟩ ⟨ir + j.val % 2, by omega⟩ _ _ rfl rfl).trans ?_
    rw [nibs_apply, ← rowN_eq]
  have spec : ∀ (q : Fin 2) (x y z : ℕ), (nibOf (a (ix2 (rowN c x y z) ⟨q.val + 1, by omega⟩)) (scale2 a (ix2 q c))).toNat < 16
      ∧ (((nibOf (a (ix2 (rowN c x y z) ⟨q.val + 1, by omega⟩)) (scale2 a (ix2 q c))).toInt : ℝ) : EReal) = ((codeN a q c x y z + 8 : ℝ) : EReal) := by
    intro q x y z
    obtain ⟨s, hs, e⟩ := scale_real ha q c
    obtain ⟨r, e'⟩ := ha (ix2 (rowN c x y z) ⟨q.val + 1, by omega⟩)
    have h := code_eq ha q c x y z
    rw [e, e'] at h ⊢
    refine ⟨(nibOf_spec r s hs).1, (nibOf_spec r s hs).2.trans ?_⟩
    rw [h, ← EReal.coe_add]
  have hj : 4 * k.val + 2 * dg.val + dr.val < 8 := by omega
  refine (field_word _ (fun j => ?_) ⟨4 * k.val + 2 * dg.val + dr.val, hj⟩).trans ?_
  · rw [key]; exact (spec ⟨j.val / 4, by omega⟩ _ _ _).1
  · rw [key]
    have at_ : ∀ (q y z : ℕ) (hq : q < 2), q = k.val → y = ig + dg.val → z = ir + dr.val →
        (((nibOf (a (ix2 (rowN c ib y z) ⟨q + 1, by omega⟩)) (scale2 a (ix2 ⟨q, hq⟩ c))).toInt : ℝ) : EReal) = ((codeN a k c ib (ig + dg.val) (ir + dr.val) + 8 : ℝ) : EReal) := by
      rintro q y z hq rfl rfl rfl
      exact (spec k _ _ _).2
    have hk := k.isLt
    have hd := dg.isLt
    have he := dr.isLt
    exact at_ ((4 * k.val + 2 * dg.val + dr.val) / 4) (ig + (4 * k.val + 2 * dg.val + dr.val) / 2 % 2) (ir + (4 * k.val + 2 * dg.val + dr.val) % 2) (by omega) (by omega) (by omega) (by omega)

/-- The identity table's entry. -/
def identN (c : Fin 3) (ib ig ir : ℕ) : ℝ := ((![ir, ig, ib] c : ℕ) : ℝ) / 32

/-- An image's own table entry: the identity and the two quantised tables, weighed. -/
def entryN (a : FVec Ideal S107811x3 .f32) (w : FVec Ideal S8x3 .f32) (n : Fin 8) (c : Fin 3) (ib ig ir : ℕ) : ℝ :=
  weightN w n 0 * identN c ib ig ir + weightN w n 1 * (stepN a 0 c * codeN a 0 c ib ig ir) + weightN w n 2 * (stepN a 1 c * codeN a 1 c ib ig ir)

/-- The identity entry along a cell's corners, and the pixel's own value as its reading. -/
theorem ident_affine (c : Fin 3) (xr xg xb : ℝ) (ib ig ir : ℕ) :
    ∃ a0 ar ag ab : ℝ, (![xr, xg, xb] c) = a0 + ar * (32 * xr - ir) + ag * (32 * xg - ig) + ab * (32 * xb - ib)
      ∧ ∀ i j k : ℕ, identN c (ib + i) (ig + j) (ir + k) = a0 + ar * k + ag * j + ab * i := by
  unfold identN
  fin_cases c
  · refine ⟨ir / 32, 1 / 32, 0, 0, ?_, fun i j k => ?_⟩
    · show xr = _; ring
    · show ((ir + k : ℕ) : ℝ) / 32 = ir / 32 + 1 / 32 * k + 0 * j + 0 * i; rw [Nat.cast_add]; ring
  · refine ⟨ig / 32, 0, 1 / 32, 0, ?_, fun i j k => ?_⟩
    · show xg = _; ring
    · show ((ig + j : ℕ) : ℝ) / 32 = ig / 32 + 0 * k + 1 / 32 * j + 0 * i; rw [Nat.cast_add]; ring
  · refine ⟨ib / 32, 0, 0, 1 / 32, ?_, fun i j k => ?_⟩
    · show xb = _; ring
    · show ((ib + i : ℕ) : ℝ) / 32 = ib / 32 + 0 * k + 0 * j + 1 / 32 * i; rw [Nat.cast_add]; ring

theorem plane4_real (dg dr : ℝ) (w s0 s1 s2 s3 : BitVec 32) (f0 f1 f2 f3 : ℝ) (h0 : field w s0 = f0) (h1 : field w s1 = f1) (h2 : field w s2 = f2) (h3 : field w s3 = f3) :
    plane4 (dg : EReal) (dr : EReal) w s0 s1 s2 s3 = (((1 - dg) * (1 - dr) * f0 + (1 - dg) * dr * f1 + dg * (1 - dr) * f2 + dg * dr * f3 : ℝ) : EReal) := by
  unfold plane4
  rw [h0, h1, h2, h3]
  simp only [← EReal.coe_one, ← EReal.coe_sub, ← EReal.coe_mul, ← EReal.coe_add]

theorem pixel_coe (w0 bias c1 c2 x dr dg db p0 p1 p2 p3 : ℝ) (P0 P1 : BitVec 32)
    (h0 : plane4 (dg : EReal) (dr : EReal) P0 0#32 4#32 8#32 12#32 = p0) (h1 : plane4 (dg : EReal) (dr : EReal) P1 0#32 4#32 8#32 12#32 = p1)
    (h2 : plane4 (dg : EReal) (dr : EReal) P0 16#32 20#32 24#32 28#32 = p2) (h3 : plane4 (dg : EReal) (dr : EReal) P1 16#32 20#32 24#32 28#32 = p3) :
    pixel w0 bias c1 c2 x dr dg db P0 P1 = ((w0 * x + bias + c1 * ((1 - db) * p0 + db * p1) + c2 * ((1 - db) * p2 + db * p3) : ℝ) : EReal) := by
  unfold pixel
  rw [h0, h1, h2, h3]
  simp only [← EReal.coe_one, ← EReal.coe_sub, ← EReal.coe_mul, ← EReal.coe_add]

/-- The kernel's pixel is the trilinear reading of the image's own table. -/
theorem outAt_real {a : FVec Ideal S107811x3 .f32} (ha : IsReal a) {w : FVec Ideal S8x3 .f32} (hw : IsReal w) (n : Fin 8) (c : Fin 3) (xr xg xb : ℝ) (hr : 0 ≤ xr) (hg : 0 ≤ xg) (hb : 0 ≤ xb) :
    outAt (packOf (padded (ratio2 a))) (paramsOf w (scale2 a)) n c ((![xr, xg, xb] c : ℝ) : EReal) (xr : EReal) (xg : EReal) (xb : EReal)
      = ((corners fun i j k => corner (32 * xr - cellOf xr) (32 * xg - cellOf xg) (32 * xb - cellOf xb) i j k * entryN a w n c (cellOf xb + i) (cellOf xg + j) (cellOf xr + k) : ℝ) : EReal) := by
  have lr := cellOf_le xr
  have lg := cellOf_le xg
  have lb := cellOf_le xb
  obtain ⟨a0, ar, ag, ab, hx, hid⟩ := ident_affine c xr xg xb (cellOf xb) (cellOf xg) (cellOf xr)
  have hcell := cell (weightN w n 0) (weightN w n 1) (weightN w n 2) (stepN a 0 c) (stepN a 1 c) _ (32 * xr - cellOf xr) (32 * xg - cellOf xg) (32 * xb - cellOf xb) a0 ar ag ab
    (fun i j k => codeN a 0 c (cellOf xb + i) (cellOf xg + j) (cellOf xr + k)) (fun i j k => codeN a 1 c (cellOf xb + i) (cellOf xg + j) (cellOf xr + k)) hx
  have hL : lutIndex (xr : EReal) (xg : EReal) (xb : EReal) = (cellOf xb * 33 + cellOf xg) * 33 + cellOf xr := by
    unfold lutIndex
    rw [cellWord_toNat xr hr, cellWord_toNat xg hg, cellWord_toNat xb hb]
  have hP0 : tableAt (packOf (padded (ratio2 a))) c (lutIndex (xr : EReal) (xg : EReal) (xb : EReal)) = word (around (padded (ratio2 a)) c ⟨cellOf xb, by omega⟩ ⟨cellOf xg, by omega⟩ ⟨cellOf xr, by omega⟩) := by
    rw [hL]
    exact tableAt_pack (padded (ratio2 a)) c ⟨cellOf xb, by omega⟩ ⟨cellOf xg, by omega⟩ ⟨cellOf xr, by omega⟩
  have hP1 : tableAt (packOf (padded (ratio2 a))) c (lutIndex (xr : EReal) (xg : EReal) (xb : EReal) + 1089) = word (around (padded (ratio2 a)) c ⟨cellOf xb + 1, by omega⟩ ⟨cellOf xg, by omega⟩ ⟨cellOf xr, by omega⟩) := by
    rw [hL, show (cellOf xb * 33 + cellOf xg) * 33 + cellOf xr + 1089 = ((cellOf xb + 1) * 33 + cellOf xg) * 33 + cellOf xr by omega]
    exact tableAt_pack (padded (ratio2 a)) c ⟨cellOf xb + 1, by omega⟩ ⟨cellOf xg, by omega⟩ ⟨cellOf xr, by omega⟩
  have F0 := field_around ha c (cellOf xb) (cellOf xg) (cellOf xr) (by omega) lg lr
  have F1 := field_around ha c (cellOf xb + 1) (cellOf xg) (cellOf xr) (by omega) lg lr
  have q0 := plane4_real (32 * xg - cellOf xg) (32 * xr - cellOf xr) _ 0#32 4#32 8#32 12#32 _ _ _ _ (F0 0 0 0) (F0 0 0 1) (F0 0 1 0) (F0 0 1 1)
  have q1 := plane4_real (32 * xg - cellOf xg) (32 * xr - cellOf xr) _ 0#32 4#32 8#32 12#32 _ _ _ _ (F1 0 0 0) (F1 0 0 1) (F1 0 1 0) (F1 0 1 1)
  have q2 := plane4_real (32 * xg - cellOf xg) (32 * xr - cellOf xr) _ 16#32 20#32 24#32 28#32 _ _ _ _ (F0 1 0 0) (F0 1 0 1) (F0 1 1 0) (F0 1 1 1)
  have q3 := plane4_real (32 * xg - cellOf xg) (32 * xr - cellOf xr) _ 16#32 20#32 24#32 28#32 _ _ _ _ (F1 1 0 0) (F1 1 0 1) (F1 1 1 0) (F1 1 1 1)
  unfold outAt
  rw [hP0, hP1, params_zero, params_bias, params_one, params_two, fracOf_real xr hr, fracOf_real xg hg, fracOf_real xb hb,
    weight_eq hw, weight_eq hw, weight_eq hw, step_eq ha, step_eq ha]
  have hbias : ((-8 : ℝ) : EReal) * (0 + ((weightN w n 1 : EReal) * (stepN a 0 c : EReal) + (weightN w n 2 : EReal) * (stepN a 1 c : EReal))) = ((-8 * (0 + weightN w n 1 * stepN a 0 c + weightN w n 2 * stepN a 1 c) : ℝ) : EReal) := by
    rw [zero_add, zero_add]
    simp only [← EReal.coe_mul, ← EReal.coe_add]
  rw [hbias, ← EReal.coe_mul, ← EReal.coe_mul]
  refine (pixel_coe _ _ _ _ _ _ _ _ _ _ _ _ _ _ q0 q1 q2 q3).trans (congrArg (fun r : ℝ => (r : EReal)) ?_)
  have e : ∀ i j k : ℕ, entryN a w n c (cellOf xb + i) (cellOf xg + j) (cellOf xr + k) = weightN w n 0 * (a0 + ar * k + ag * j + ab * i) + weightN w n 1 * (stepN a 0 c * codeN a 0 c (cellOf xb + i) (cellOf xg + j) (cellOf xr + k)) + weightN w n 2 * (stepN a 1 c * codeN a 1 c (cellOf xb + i) (cellOf xg + j) (cellOf xr + k)) := by
    intro i j k
    unfold entryN
    rw [hid]
  simp only [e]
  rw [← hcell]
  simp only [planes, Fin.val_zero, Fin.val_one, Nat.add_zero]
  ring
end Cert.Lut
-- ==== Proof.Joined.lean ====
module
public import proofs.«01_k».proof.Proof.Image
@[expose] public section
set_option maxRecDepth 16384
noncomputable section
namespace Cert.Lut
open Cert.ReferenceIdeal Cert.ReferenceIdeal.Gen Cert.ReferenceIdeal.Value Idealize.ShloMosaic

/-- One channel of a row of coordinates. -/
theorem channel_apply {α : Type} (x : S8x3x1048576.Idx → α) (off : Fin 3 → Nat) (h : S8x3x1048576.Slices off S8x1x1048576) (c : Fin 3) (hoff : off = ![0, c.val, 0]) (b : Fin 8) (p : Fin 1048576) :
    shapeCast S8x1048576 (extractStridedSlice S8x1x1048576 off x h) shapeCasts_S8x1x1048576_S8x1048576 (ix2 b p) = x (ix3 b c p) := by
  subst hoff
  refine (shapeCast_apply _ _ _ (ix3 b (0 : Fin 1) p) (by
    rw [Shape.rowMajor_val_two, Shape.rowMajor_val_three]
    show (b.val*1+0)*1048576+p.val = b.val*1048576+p.val
    omega)).trans ?_
  refine extractStridedSlice_apply _ _ _ _ (ix3 b c p) (fun z => ?_)
  fin_cases z
  · exact (Nat.zero_add _).symm
  · rfl
  · exact (Nat.zero_add _).symm

/-- The reference's image from its parts. -/
def imageR (V0 : Valuation τ sig (Elt Ideal)) : FVec Ideal S8x3x1024x1024 .f32 :=
  shapeCast S8x3x1024x1024 (cornersR (res_main_v305 V0) (res_main_v303 V0) (res_main_v301 V0) (res_main_v311 V0) (res_main_v309 V0) (res_main_v307 V0) (res_main_v312 V0)) shapeCasts_S8x3x1048576_S8x3x1024x1024

theorem imageR_eq (V0 : Valuation τ sig (Elt Ideal)) (X : FVec Ideal S8x3x1024x1024 .f32) (hX : V0 (Proc.devRef .tc main_arg0) = X)
    (a : FVec Ideal S107811x3 .f32) (ha : V0 (Proc.devRef .tc main_arg21) = a) (v : FVec Ideal S1x3x33 .f32) (hv : V0 (Proc.devRef .tc main_arg22) = v)
    (w : FVec Ideal S8x3 .f32) (hw : res_main_v256 (F := Ideal) V0 = w)
    (rX : IsReal X) (pX : ∀ i, 0 ≤ X i) (ra : IsReal a) (rw_ : IsReal w)
    (hid : ∀ (c : Fin 3) (ib ig ir : Fin 33), a (ix2 (lutRow c ib ig ir) 0) = (identN c ib.val ig.val ir.val : EReal))
    (hvx : ∀ (c : Fin 3) (i : Fin 33), v (ix3 0 c i) = ((i.val / 32 : ℝ) : EReal)) :
    imageR V0 = outImage X (packOf (padded (ratio2 a))) (paramsOf w (scale2 a)) := by
  funext j
  obtain ⟨n, c, y, z, rfl⟩ : ∃ (n : Fin 8) (c : Fin 3) (y z : Fin 1024), j = ix4 n c y z := ⟨j 0, j 1, j 2, j 3, by funext b; fin_cases b <;> rfl⟩
  choose g hg using rX
  have g0 : ∀ i, 0 ≤ g i := fun i => by
    have := pX i
    rw [hg] at this
    exact EReal.coe_nonneg.1 this
  have hx : ∀ c : Fin 3, res_main_v282 (F := Ideal) V0 (ix3 n c (pix y z)) = (g (ix4 n c y z) : EReal) := fun c => (v282_apply V0 X hX n c y z).trans (hg _)
  have i292 : ∀ c : Fin 3, res_main_v292 (F := Ideal) V0 (ix3 n c (pix y z)) = BitVec.ofNat 32 (cellOf (g (ix4 n c y z))) := fun c =>
    v292_apply V0 v hv n c (pix y z) (hvx c) _ (g0 _) (hx c)
  have i299 : ∀ c : Fin 3, res_main_v299 (F := Ideal) V0 (ix3 n c (pix y z)) = ((32 * g (ix4 n c y z) - cellOf (g (ix4 n c y z)) : ℝ) : EReal) := fun c =>
    v299_apply V0 v hv n c (pix y z) (hvx c) _ (g0 _) (hx c)
  have hK := outAt_real ra rw_ n c (g (ix4 n 0 y z)) (g (ix4 n 1 y z)) (g (ix4 n 2 y z)) (g0 _) (g0 _) (g0 _)
  have hR := cornersR_apply (res_main_v305 V0) (res_main_v303 V0) (res_main_v301 V0) (res_main_v311 V0) (res_main_v309 V0) (res_main_v307 V0) (res_main_v312 V0)
    (cellOf (g (ix4 n 2 y z))) (cellOf (g (ix4 n 1 y z))) (cellOf (g (ix4 n 0 y z))) (cellOf_le _) (cellOf_le _) (cellOf_le _) n c (pix y z)
    ((channel_apply _ _ _ 2 rfl n _).trans (i292 2)) ((channel_apply _ _ _ 1 rfl n _).trans (i292 1)) ((channel_apply _ _ _ 0 rfl n _).trans (i292 0))
    _ _ _ ((channel_apply _ _ _ 2 rfl n _).trans (i299 2)) ((channel_apply _ _ _ 1 rfl n _).trans (i299 1)) ((channel_apply _ _ _ 0 rfl n _).trans (i299 0))
    (fun i j k => entryN a w n c (cellOf (g (ix4 n 2 y z)) + i) (cellOf (g (ix4 n 1 y z)) + j) (cellOf (g (ix4 n 0 y z)) + k))
    (by
      intro i j k ν hν
      have l2 := cellOf_le (g (ix4 n 2 y z))
      have l1 := cellOf_le (g (ix4 n 1 y z))
      have l0 := cellOf_le (g (ix4 n 0 y z))
      refine (v312_apply V0 n c ⟨cellOf (g (ix4 n 2 y z)) + i.val, by omega⟩ ⟨cellOf (g (ix4 n 1 y z)) + j.val, by omega⟩ ⟨cellOf (g (ix4 n 0 y z)) + k.val, by omega⟩ ν hν a ha w hw).trans ?_
      rw [hid, ← rowN_eq]
      have k1 := code_eq ra 0 c (cellOf (g (ix4 n 2 y z)) + i.val) (cellOf (g (ix4 n 1 y z)) + j.val) (cellOf (g (ix4 n 0 y z)) + k.val)
      have k2 := code_eq ra 1 c (cellOf (g (ix4 n 2 y z)) + i.val) (cellOf (g (ix4 n 1 y z)) + j.val) (cellOf (g (ix4 n 0 y z)) + k.val)
      refine (congrArg₂ (· + ·) (congrArg₂ (· + ·) rfl (congrArg (fun t : EReal => w (ix2 n 1) * (scale2 a (ix2 0 c) * t)) k1)) (congrArg (fun t : EReal => w (ix2 n 2) * (scale2 a (ix2 1 c) * t)) k2)).trans ?_
      rw [weight_eq rw_, weight_eq rw_, weight_eq rw_, step_eq ra, step_eq ra]
      simp only [← EReal.coe_mul, ← EReal.coe_add]
      rfl)
  have e1 : imageR V0 (ix4 n c y z) = cornersR (res_main_v305 V0) (res_main_v303 V0) (res_main_v301 V0) (res_main_v311 V0) (res_main_v309 V0) (res_main_v307 V0) (res_main_v312 V0) (ix3 n c (pix y z)) := by
    unfold imageR
    refine shapeCast_apply _ _ _ _ ?_
    rw [Shape.rowMajor_val_three, Shape.rowMajor_val_four]
    show (n.val*3+c.val)*1048576+(pix y z).val = ((n.val*3+c.val)*1024+y.val)*1024+z.val
    rw [pix_val]; omega
  refine e1.trans (hR.trans (hK.symm.trans ?_))
  have hc : ((![g (ix4 n 0 y z), g (ix4 n 1 y z), g (ix4 n 2 y z)] c : ℝ) : EReal) = X (ix4 n c y z) := by
    rw [hg]
    fin_cases c <;> rfl
  rw [hc, ← hg, ← hg, ← hg]
  rfl
end Cert.Lut
-- ==== Proof.Values.lean ====
module
public import proofs.«01_k».proof.Proof.Prefix
public import proofs.«01_k».proof.Proof.Array
public import proofs.«01_k».proof.Proof.Finite
public import proofs.«01_k».proof.Proof.Pre
public import proofs.«01_k».proof.Proof.Joined
public import proofs.«01_k».proof.Proof.Gen.KernelIdeal.Value
@[expose] public section
set_option maxRecDepth 16384
set_option maxHeartbeats 4000000
noncomputable section
namespace Cert.Lut
open Idealize.ShloMosaic Idealize.ShloMosaic.TcCoe Idealize.ShloMosaic.StableHlo

section
open Cert.ReferenceIdeal Cert.ReferenceIdeal.Gen Cert.ReferenceIdeal.Value

/-- The reference's first result is its image. -/
theorem image_term (V0 : Valuation τ sig (Elt Ideal)) :
    (shapeCast S8x3x1024x1024 (addf (addf (addf (res_main_v433 V0) (mulf (broadcastInDim S8x3x1048576 ![0, 1, 2] bcast_S8x1x1048576_S8x3x1048576_0_1_2 (broadcastInDim S8x1x1048576 ![0, 2] bcast_S8x1048576_S8x1x1048576_0_2 (mulf (mulf (res_main_v311 V0) (subf (broadcastInDim S8x1048576 ![] bcast_S_S8x1048576 (constant S_ .f32 0x3F800000#32)) (res_main_v309 V0))) (res_main_v307 V0)))) (Host.gather gather_S8x3x35937_S8x1048576x1_S8x3x1048576_1_2_0_0_2_2_131 (res_main_v312 V0) (shapeCast _ (select (cmpi .slt (res_main_v450 V0) (broadcastInDim S8x1x1048576 ![] bcast_S_S8x1x1048576 (constantI S_ 32 0#32))) (addi (res_main_v450 V0) (broadcastInDim S8x1x1048576 ![] bcast_S_S8x1x1048576 (constantI S_ 32 35937#32))) (res_main_v450 V0)) shapeCasts_S8x1x1048576_S8x1048576x1)))) (mulf (broadcastInDim S8x3x1048576 ![0, 1, 2] bcast_S8x1x1048576_S8x3x1048576_0_1_2 (broadcastInDim S8x1x1048576 ![0, 2] bcast_S8x1048576_S8x1x1048576_0_2 (mulf (mulf (res_main_v311 V0) (res_main_v309 V0)) (subf (broadcastInDim S8x1048576 ![] bcast_S_S8x1048576 (constant S_ .f32 0x3F800000#32)) (res_main_v307 V0))))) (Host.gather gather_S8x3x35937_S8x1048576x1_S8x3x1048576_1_2_0_0_2_2_131 (res_main_v312 V0) (shapeCast _ (select (cmpi .slt (res_main_v472 V0) (broadcastInDim S8x1x1048576 ![] bcast_S_S8x1x1048576 (constantI S_ 32 0#32))) (addi (res_main_v472 V0) (broadcastInDim S8x1x1048576 ![] bcast_S_S8x1x1048576 (constantI S_ 32 35937#32))) (res_main_v472 V0)) shapeCasts_S8x1x1048576_S8x1048576x1)))) (mulf (broadcastInDim S8x3x1048576 ![0, 1, 2] bcast_S8x1x1048576_S8x3x1048576_0_1_2 (broadcastInDim S8x1x1048576 ![0, 2] bcast_S8x1048576_S8x1x1048576_0_2 (mulf (mulf (res_main_v311 V0) (res_main_v309 V0)) (res_main_v307 V0)))) (Host.gather gather_S8x3x35937_S8x1048576x1_S8x3x1048576_1_2_0_0_2_2_131 (res_main_v312 V0) (shapeCast _ (select (cmpi .slt (res_main_v492 V0) (broadcastInDim S8x1x1048576 ![] bcast_S_S8x1x1048576 (constantI S_ 32 0#32))) (addi (res_main_v492 V0) (broadcastInDim S8x1x1048576 ![] bcast_S_S8x1x1048576 (constantI S_ 32 35937#32))) (res_main_v492 V0)) shapeCasts_S8x1x1048576_S8x1048576x1)))) shapeCasts_S8x3x1048576_S8x3x1024x1024 : FVec Ideal S8x3x1024x1024 .f32) = imageR V0 := by
  unfold res_main_v433 imageR
  rfl
end

/-- An equation of arrays carries real entries over. -/
theorem real_of {s : Shape} {u x : FVec Ideal s .f32} (h : u = x) (q : IsReal x) : IsReal u := h ▸ q

/-- Both programs' memories hold the same arguments, which satisfy the precondition: what the kernel's program computes is what the reference does. -/
theorem values (m : (ℓ : Loc Cert.KernelIdeal.nD Cert.KernelIdeal.τ Cert.KernelIdeal.sig) → Buf (Elt Ideal) ℓ)
    (R : RV) (c : Dev Cert.KernelIdeal.nD)
    (x0 : Vec Ideal Cert.KernelIdeal.S8x3x1024x1024 .f32)
    (x1 : Vec Ideal Cert.KernelIdeal.S16x3x3x3 .f32)
    (x2 : Vec Ideal Cert.KernelIdeal.S32x16x3x3 .f32)
    (x3 : Vec Ideal Cert.KernelIdeal.S64x32x3x3 .f32)
    (x4 : Vec Ideal Cert.KernelIdeal.S128x64x3x3 .f32)
    (x5 : Vec Ideal Cert.KernelIdeal.S128x128x3x3 .f32)
    (x6 : Vec Ideal Cert.KernelIdeal.S16 .f32)
    (x7 : Vec Ideal Cert.KernelIdeal.S32 .f32)
    (x8 : Vec Ideal Cert.KernelIdeal.S64 .f32)
    (x9 : Vec Ideal Cert.KernelIdeal.S128 .f32)
    (x10 : Vec Ideal Cert.KernelIdeal.S128 .f32)
    (x11 : Vec Ideal Cert.KernelIdeal.S16 .f32)
    (x12 : Vec Ideal Cert.KernelIdeal.S32 .f32)
    (x13 : Vec Ideal Cert.KernelIdeal.S64 .f32)
    (x14 : Vec Ideal Cert.KernelIdeal.S128 .f32)
    (x15 : Vec Ideal Cert.KernelIdeal.S16 .f32)
    (x16 : Vec Ideal Cert.KernelIdeal.S32 .f32)
    (x17 : Vec Ideal Cert.KernelIdeal.S64 .f32)
    (x18 : Vec Ideal Cert.KernelIdeal.S128 .f32)
    (x19 : Vec Ideal Cert.KernelIdeal.S3x8192 .f32)
    (x20 : Vec Ideal Cert.KernelIdeal.S3 .f32)
    (x21 : Vec Ideal Cert.KernelIdeal.S107811x3 .f32)
    (x22 : Vec Ideal Cert.KernelIdeal.S1x3x33 .f32)
    (k0 : m ((c.tc : Thread Cert.KernelIdeal.nD Cert.KernelIdeal.τ).loc Cert.KernelIdeal.main_arg0) = x0) (r0 : R (rd Cert.ReferenceIdeal.main_arg0) = x0)
    (k1 : m ((c.tc : Thread Cert.KernelIdeal.nD Cert.KernelIdeal.τ).loc Cert.KernelIdeal.main_arg1) = x1) (r1 : R (rd Cert.ReferenceIdeal.main_arg1) = x1)
    (k2 : m ((c.tc : Thread Cert.KernelIdeal.nD Cert.KernelIdeal.τ).loc Cert.KernelIdeal.main_arg2) = x2) (r2 : R (rd Cert.ReferenceIdeal.main_arg2) = x2)
    (k3 : m ((c.tc : Thread Cert.KernelIdeal.nD Cert.KernelIdeal.τ).loc Cert.KernelIdeal.main_arg3) = x3) (r3 : R (rd Cert.ReferenceIdeal.main_arg3) = x3)
    (k4 : m ((c.tc : Thread Cert.KernelIdeal.nD Cert.KernelIdeal.τ).loc Cert.KernelIdeal.main_arg4) = x4) (r4 : R (rd Cert.ReferenceIdeal.main_arg4) = x4)
    (k5 : m ((c.tc : Thread Cert.KernelIdeal.nD Cert.KernelIdeal.τ).loc Cert.KernelIdeal.main_arg5) = x5) (r5 : R (rd Cert.ReferenceIdeal.main_arg5) = x5)
    (k6 : m ((c.tc : Thread Cert.KernelIdeal.nD Cert.KernelIdeal.τ).loc Cert.KernelIdeal.main_arg6) = x6) (r6 : R (rd Cert.ReferenceIdeal.main_arg6) = x6)
    (k7 : m ((c.tc : Thread Cert.KernelIdeal.nD Cert.KernelIdeal.τ).loc Cert.KernelIdeal.main_arg7) = x7) (r7 : R (rd Cert.ReferenceIdeal.main_arg7) = x7)
    (k8 : m ((c.tc : Thread Cert.KernelIdeal.nD Cert.KernelIdeal.τ).loc Cert.KernelIdeal.main_arg8) = x8) (r8 : R (rd Cert.ReferenceIdeal.main_arg8) = x8)
    (k9 : m ((c.tc : Thread Cert.KernelIdeal.nD Cert.KernelIdeal.τ).loc Cert.KernelIdeal.main_arg9) = x9) (r9 : R (rd Cert.ReferenceIdeal.main_arg9) = x9)
    (k10 : m ((c.tc : Thread Cert.KernelIdeal.nD Cert.KernelIdeal.τ).loc Cert.KernelIdeal.main_arg10) = x10) (r10 : R (rd Cert.ReferenceIdeal.main_arg10) = x10)
    (k11 : m ((c.tc : Thread Cert.KernelIdeal.nD Cert.KernelIdeal.τ).loc Cert.KernelIdeal.main_arg11) = x11) (r11 : R (rd Cert.ReferenceIdeal.main_arg11) = x11)
    (k12 : m ((c.tc : Thread Cert.KernelIdeal.nD Cert.KernelIdeal.τ).loc Cert.KernelIdeal.main_arg12) = x12) (r12 : R (rd Cert.ReferenceIdeal.main_arg12) = x12)
    (k13 : m ((c.tc : Thread Cert.KernelIdeal.nD Cert.KernelIdeal.τ).loc Cert.KernelIdeal.main_arg13) = x13) (r13 : R (rd Cert.ReferenceIdeal.main_arg13) = x13)
    (k14 : m ((c.tc : Thread Cert.KernelIdeal.nD Cert.KernelIdeal.τ).loc Cert.KernelIdeal.main_arg14) = x14) (r14 : R (rd Cert.ReferenceIdeal.main_arg14) = x14)
    (k15 : m ((c.tc : Thread Cert.KernelIdeal.nD Cert.KernelIdeal.τ).loc Cert.KernelIdeal.main_arg15) = x15) (r15 : R (rd Cert.ReferenceIdeal.main_arg15) = x15)
    (k16 : m ((c.tc : Thread Cert.KernelIdeal.nD Cert.KernelIdeal.τ).loc Cert.KernelIdeal.main_arg16) = x16) (r16 : R (rd Cert.ReferenceIdeal.main_arg16) = x16)
    (k17 : m ((c.tc : Thread Cert.KernelIdeal.nD Cert.KernelIdeal.τ).loc Cert.KernelIdeal.main_arg17) = x17) (r17 : R (rd Cert.ReferenceIdeal.main_arg17) = x17)
    (k18 : m ((c.tc : Thread Cert.KernelIdeal.nD Cert.KernelIdeal.τ).loc Cert.KernelIdeal.main_arg18) = x18) (r18 : R (rd Cert.ReferenceIdeal.main_arg18) = x18)
    (k19 : m ((c.tc : Thread Cert.KernelIdeal.nD Cert.KernelIdeal.τ).loc Cert.KernelIdeal.main_arg19) = x19) (r19 : R (rd Cert.ReferenceIdeal.main_arg19) = x19)
    (k20 : m ((c.tc : Thread Cert.KernelIdeal.nD Cert.KernelIdeal.τ).loc Cert.KernelIdeal.main_arg20) = x20) (r20 : R (rd Cert.ReferenceIdeal.main_arg20) = x20)
    (k21 : m ((c.tc : Thread Cert.KernelIdeal.nD Cert.KernelIdeal.τ).loc Cert.KernelIdeal.main_arg21) = x21) (r21 : R (rd Cert.ReferenceIdeal.main_arg21) = x21)
    (r22 : R (rd Cert.ReferenceIdeal.main_arg22) = x22)
    (p0 : (Cert.Pre_pre.fn (F := Ideal) x0 x1 x2 x3 x4 x5 x6 x7 x8 x9 x10 x11 x12 x13 x14 x15 x16 x17 x18 x19 x20 x21 x22).1 = fun _ => 1#1)
    (p1 : (Cert.Pre_pre.fn (F := Ideal) x0 x1 x2 x3 x4 x5 x6 x7 x8 x9 x10 x11 x12 x13 x14 x15 x16 x17 x18 x19 x20 x21 x22).2.1 = fun _ => 1#1)
    (p2 : (Cert.Pre_pre.fn (F := Ideal) x0 x1 x2 x3 x4 x5 x6 x7 x8 x9 x10 x11 x12 x13 x14 x15 x16 x17 x18 x19 x20 x21 x22).2.2.1 = fun _ => 1#1)
    (p3 : (Cert.Pre_pre.fn (F := Ideal) x0 x1 x2 x3 x4 x5 x6 x7 x8 x9 x10 x11 x12 x13 x14 x15 x16 x17 x18 x19 x20 x21 x22).2.2.2 = fun _ => 1#1)
    : (Cert.KernelIdeal.Gen.dats m 0 c).arrAt 3 Cert.KernelIdeal.cfg0.N = imageR R
      ∧ Cert.KernelIdeal.Gen.V m c Cert.KernelIdeal.main_v256 = Cert.ReferenceIdeal.Value.res_main_v256 (F := Ideal) R
      ∧ Cert.KernelIdeal.Gen.V m c Cert.KernelIdeal.main_v259 = lutsOf (Cert.ReferenceIdeal.Value.res_main_v256 (F := Ideal) R) x21 := by
  obtain ⟨q0, q1, q2, q3, q4, q5, q6, q7, q8, q9, q10, q11, q12, q13, q14, q15, q16, q17, q18, q19, q20, q21⟩ := pre_real p0
  have hr : RealArgs R := ⟨real_of r0 q0, real_of r1 q1, real_of r2 q2, real_of r3 q3, real_of r4 q4, real_of r5 q5, real_of r6 q6, real_of r7 q7, real_of r8 q8, real_of r9 q9, real_of r10 q10, real_of r11 q11, real_of r12 q12, real_of r13 q13, real_of r14 q14, real_of r15 q15, real_of r16 q16, real_of r17 q17, real_of r18 q18, real_of r19 q19, real_of r20 q20, real_of r21 q21⟩
  have hw := real_main_v256 hr
  obtain ⟨e0, e1, e2, e3⟩ := hostValues (fun b => m (c, b)) R x0 x1 x2 x3 x4 x5 x6 x7 x8 x9 x10 x11 x12 x13 x14 x15 x16 x17 x18 x19 x20 x21 k0 r0 k1 r1 k2 r2 k3 r3 k4 r4 k5 r5 k6 r6 k7 r7 k8 r8 k9 r9 k10 r10 k11 r11 k12 r12 k13 r13 k14 r14 k15 r15 k16 r16 k17 r17 k18 r18 k19 r19 k20 r20 k21 r21 (Cert.ReferenceIdeal.Value.res_main_v256 (F := Ideal) R) rfl
    (after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44]) (fun b => m (c, b))) (stages _)
  refine ⟨?_, e0, e1⟩
  have eX : Cert.KernelIdeal.Gen.V m c Cert.KernelIdeal.main_arg0 = x0 := (Cert.KernelIdeal.Gen.V_main_arg0 m c).trans k0
  have n0 := pre_nonneg p1
  refine (final_image m c ?_).trans ?_
  · intro j
    obtain ⟨g, hg⟩ := q0 j
    have gn : 0 ≤ g := by
      have := n0 j
      rw [hg] at this
      exact EReal.coe_nonneg.1 this
    have e : (Cert.KernelIdeal.Gen.V m c Cert.KernelIdeal.main_arg0 : FVec Ideal Cert.KernelIdeal.S8x3x1024x1024 .f32) j = (g : EReal) := (congrFun eX j).trans hg
    rw [e, cellWord_toNat g gn]
    exact cellOf_le g
  · refine Eq.trans ?_ (imageR_eq R x0 r0 x21 r21 x22 r22 _ rfl q0 n0 q21 hw ?_ ?_).symm
    · rw [eX, show Cert.KernelIdeal.Gen.V m c Cert.KernelIdeal.main_v323 = _ from e2, show Cert.KernelIdeal.Gen.V m c Cert.KernelIdeal.main_v335 = _ from e3]
    · exact fun c ib ig ir => pre_identity p2 c ib ig ir
    · exact fun c i => pre_vertices p3 c i

end Cert.Lut
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init
public import proofs.«01_k».proof.Proof.Values

@[expose] public section

noncomputable section

namespace Cert.Proof

open Idealize.ShloMosaic Idealize.SL.Sem Cert.Kernel

/-- The reference leaves its arguments as they were; it declares no semaphore. -/
theorem frameRI : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The two idealized programs compute the same four results. -/
theorem algebraic : Cert.algebraic_KernelIdeal_ReferenceIdeal_pre_pre (hPre_pre := Cert.Lut.Pre.facts) := by
  intro m g m' g' hp hm
  have hv : ∀ c : Dev Cert.KernelIdeal.nD, _ := fun c => by
    obtain ⟨p0, p1, p2, p3⟩ := hp c
    obtain ⟨h0, h1, h2, h3, h4, h5, h6, h7, h8, h9, h10, h11, h12, h13, h14, h15, h16, h17, h18, h19, h20, h21, h22⟩ := hm c
    exact Cert.Lut.values m (StableHlo.launchContents m' c) c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) rfl h0 rfl h1 rfl h2 rfl h3 rfl h4 rfl h5 rfl h6 rfl h7 rfl h8 rfl h9 rfl h10 rfl h11 rfl h12 rfl h13 rfl h14 rfl h15 rfl h16 rfl h17 rfl h18 rfl h19 rfl h20 rfl h21 h22 p0 p1 p2 p3
  refine ⟨fun c => Cert.Lut.imageR (StableHlo.launchContents m' c),
    fun c => Cert.ReferenceIdeal.Value.res_main_v256 (F := Ideal) (StableHlo.launchContents m' c),
    fun c => Cert.Lut.lutsOf (Cert.ReferenceIdeal.Value.res_main_v256 (F := Ideal) (StableHlo.launchContents m' c)) (m ((c.tc : Thread Cert.KernelIdeal.nD Cert.KernelIdeal.τ).loc Cert.KernelIdeal.main_arg21)),
    fun c => m ((c.tc : Thread Cert.KernelIdeal.nD Cert.KernelIdeal.τ).loc Cert.KernelIdeal.main_arg22), ?_, ?_⟩
  · refine (θ_run Cert.KernelIdeal.defs _ _).mono (fun r h c => ?_) (Cert.KernelIdeal.Gen.run_main m g)
    have e256 := (h c).2 Cert.KernelIdeal.main_v256 (Pipeline.mem_restRefs_of Cert.KernelIdeal.main_v256 (by decide) (by decide))
    have e259 := (h c).2 Cert.KernelIdeal.main_v259 (Pipeline.mem_restRefs_of Cert.KernelIdeal.main_v259 (by decide) (by decide))
    exact ⟨(Cert.KernelIdeal.Value.post3 m r h c).trans (hv c).1, e256.trans (hv c).2.1, e259.trans (hv c).2.2,
        Cert.KernelIdeal.Value.kept_main_arg22 m r h c,
        Cert.KernelIdeal.Value.kept_main_arg0 m r h c,
        Cert.KernelIdeal.Value.kept_main_arg1 m r h c,
        Cert.KernelIdeal.Value.kept_main_arg2 m r h c,
        Cert.KernelIdeal.Value.kept_main_arg3 m r h c,
        Cert.KernelIdeal.Value.kept_main_arg4 m r h c,
        Cert.KernelIdeal.Value.kept_main_arg5 m r h c,
        Cert.KernelIdeal.Value.kept_main_arg6 m r h c,
        Cert.KernelIdeal.Value.kept_main_arg7 m r h c,
        Cert.KernelIdeal.Value.kept_main_arg8 m r h c,
        Cert.KernelIdeal.Value.kept_main_arg9 m r h c,
        Cert.KernelIdeal.Value.kept_main_arg10 m r h c,
        Cert.KernelIdeal.Value.kept_main_arg11 m r h c,
        Cert.KernelIdeal.Value.kept_main_arg12 m r h c,
        Cert.KernelIdeal.Value.kept_main_arg13 m r h c,
        Cert.KernelIdeal.Value.kept_main_arg14 m r h c,
        Cert.KernelIdeal.Value.kept_main_arg15 m r h c,
        Cert.KernelIdeal.Value.kept_main_arg16 m r h c,
        Cert.KernelIdeal.Value.kept_main_arg17 m r h c,
        Cert.KernelIdeal.Value.kept_main_arg18 m r h c,
        Cert.KernelIdeal.Value.kept_main_arg19 m r h c,
        Cert.KernelIdeal.Value.kept_main_arg20 m r h c,
        Cert.KernelIdeal.Value.kept_main_arg21 m r h c,
        Cert.KernelIdeal.Value.kept_main_arg22 m r h c⟩
  · refine (θ_run Cert.ReferenceIdeal.defs _ _).mono (fun r h c => ?_) (Cert.ReferenceIdeal.Value.run (F := Ideal) m' g')
    obtain ⟨k0, k1, k2, k3, ks⟩ := h c
    obtain ⟨h0, h1, h2, h3, h4, h5, h6, h7, h8, h9, h10, h11, h12, h13, h14, h15, h16, h17, h18, h19, h20, h21, h22⟩ := hm c
    refine ⟨k0.trans (Cert.Lut.image_term _), k1, k2.trans ?_, k3.trans h22, ks⟩
    exact congrArg (Cert.Lut.lutsOf (Cert.ReferenceIdeal.Value.res_main_v256 (F := Ideal) (StableHlo.launchContents m' c))) h21

/-- The kernel's idealized program runs to the end under the precondition too. -/
theorem framePI_pre : Cert.quiescent_KernelIdeal_pre_pre (hPre_pre := Cert.Lut.Pre.facts) := fun m ρ _ => Cert.KernelIdeal.Gen.frame m ρ

/-- The reference runs to the end under the precondition too. -/
theorem frameRI_pre : Cert.quiescent_ReferenceIdeal_pre_pre (hPre_pre := Cert.Lut.Pre.facts) := fun m ρ _ => frameRI m ρ trivial

/-- Everything the statement claims. -/
theorem claim : Cert.Claim :=
  ⟨Cert.Kernel.Gen.facts, Cert.KernelIdeal.Gen.facts, Cert.ReferenceIdeal.Gen.facts, Cert.Lut.Pre.facts,
    fun m ρ _ => Cert.Kernel.Gen.frame m ρ, fun m ρ _ => Cert.KernelIdeal.Gen.frame m ρ, framePI_pre, frameRI, frameRI_pre, trivial, algebraic⟩

end Cert.Proof

end
